-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_entries [hPre_real_entries : Cert.Pre_real_entries.Facts] (m : (ℓ : Loc Cert.KernelIdeal.nD Cert.KernelIdeal.τ Cert.KernelIdeal.sig) → Buf (Elt Ideal) ℓ) : Prop :=
  ∀ c : Dev Cert.KernelIdeal.nD,
    (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_entries [hPre_real_entries : Cert.Pre_real_entries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_TailOdd (m : (ℓ : Loc Cert.TailOdd.nD Cert.TailOdd.τ Cert.TailOdd.sig) → Buf (Elt Bits) ℓ) : Prop :=
  True

def Pre_TailOddIdeal (m : (ℓ : Loc Cert.TailOddIdeal.nD Cert.TailOddIdeal.τ Cert.TailOddIdeal.sig) → Buf (Elt Ideal) ℓ) : Prop :=
  True

def Pre_RefTailOddIdeal (m : (ℓ : Loc Cert.RefTailOddIdeal.nD Cert.RefTailOddIdeal.τ Cert.RefTailOddIdeal.sig) → Buf (Elt Ideal) ℓ) : Prop :=
  True

def Pre_TailEven (m : (ℓ : Loc Cert.TailEven.nD Cert.TailEven.τ Cert.TailEven.sig) → Buf (Elt Bits) ℓ) : Prop :=
  True

def Pre_TailEvenIdeal (m : (ℓ : Loc Cert.TailEvenIdeal.nD Cert.TailEvenIdeal.τ Cert.TailEvenIdeal.sig) → Buf (Elt Ideal) ℓ) : Prop :=
  True

def Pre_RefTailEvenIdeal (m : (ℓ : Loc Cert.RefTailEvenIdeal.nD Cert.RefTailEvenIdeal.τ Cert.RefTailEvenIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_InProjSplit (m : (ℓ : Loc Cert.InProjSplit.nD Cert.InProjSplit.τ Cert.InProjSplit.sig) → Buf (Elt Bits) ℓ) : Prop :=
  True

def Pre_InProjSplitIdeal (m : (ℓ : Loc Cert.InProjSplitIdeal.nD Cert.InProjSplitIdeal.τ Cert.InProjSplitIdeal.sig) → Buf (Elt Ideal) ℓ) : Prop :=
  True

def Pre_RefInProjSplitIdeal (m : (ℓ : Loc Cert.RefInProjSplitIdeal.nD Cert.RefInProjSplitIdeal.τ Cert.RefInProjSplitIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_real_entries [hKernelIdeal : Cert.KernelIdeal.Facts] [hPre_real_entries : Cert.Pre_real_entries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_entries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_real_entries [hReferenceIdeal : Cert.ReferenceIdeal.Facts] [hPre_real_entries : Cert.Pre_real_entries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_entries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_TailOdd [hTailOdd : Cert.TailOdd.Facts] : Prop :=
  ∀ (m : (ℓ : Loc Cert.TailOdd.nD Cert.TailOdd.τ Cert.TailOdd.sig) → Buf (Elt Bits) ℓ) (g : Dev Cert.TailOdd.nD → PrngReg), Pre_TailOdd m →
    θ_run (Cert.TailOdd.defs (F := Bits)) (onTc (τ := Cert.TailOdd.τ) (Cert.TailOdd.main (F := Bits))) ⟨m, fun _ => 0, g⟩ (fun r => (∀ c : Dev Cert.TailOdd.nD,
      r.2.mem ((c.tc : Thread Cert.TailOdd.nD Cert.TailOdd.τ).loc Cert.TailOdd.main_arg0) = m ((c.tc : Thread Cert.TailOdd.nD Cert.TailOdd.τ).loc Cert.TailOdd.main_arg0)
      ∧ r.2.mem ((c.tc : Thread Cert.TailOdd.nD Cert.TailOdd.τ).loc Cert.TailOdd.main_arg1) = m ((c.tc : Thread Cert.TailOdd.nD Cert.TailOdd.τ).loc Cert.TailOdd.main_arg1)
      ∧ r.2.mem ((c.tc : Thread Cert.TailOdd.nD Cert.TailOdd.τ).loc Cert.TailOdd.main_arg2) = m ((c.tc : Thread Cert.TailOdd.nD Cert.TailOdd.τ).loc Cert.TailOdd.main_arg2)
      ∧ r.2.mem ((c.tc : Thread Cert.TailOdd.nD Cert.TailOdd.τ).loc Cert.TailOdd.main_arg3) = m ((c.tc : Thread Cert.TailOdd.nD Cert.TailOdd.τ).loc Cert.TailOdd.main_arg3)
      ∧ r.2.mem ((c.tc : Thread Cert.TailOdd.nD Cert.TailOdd.τ).loc Cert.TailOdd.main_arg4) = m ((c.tc : Thread Cert.TailOdd.nD Cert.TailOdd.τ).loc Cert.TailOdd.main_arg4)
      ∧ r.2.mem ((c.tc : Thread Cert.TailOdd.nD Cert.TailOdd.τ).loc Cert.TailOdd.main_arg5) = m ((c.tc : Thread Cert.TailOdd.nD Cert.TailOdd.τ).loc Cert.TailOdd.main_arg5)
      ∧ r.2.mem ((c.tc : Thread Cert.TailOdd.nD Cert.TailOdd.τ).loc Cert.TailOdd.main_arg6) = m ((c.tc : Thread Cert.TailOdd.nD Cert.TailOdd.τ).loc Cert.TailOdd.main_arg6)
      ∧ r.2.mem ((c.tc : Thread Cert.TailOdd.nD Cert.TailOdd.τ).loc Cert.TailOdd.main_arg7) = m ((c.tc : Thread Cert.TailOdd.nD Cert.TailOdd.τ).loc Cert.TailOdd.main_arg7)
      ∧ r.2.mem ((c.tc : Thread Cert.TailOdd.nD Cert.TailOdd.τ).loc Cert.TailOdd.main_arg8) = m ((c.tc : Thread Cert.TailOdd.nD Cert.TailOdd.τ).loc Cert.TailOdd.main_arg8))
      ∧ r.2.sem = fun _ => 0)

def quiescent_TailOddIdeal [hTailOddIdeal : Cert.TailOddIdeal.Facts] : Prop :=
  ∀ (m : (ℓ : Loc Cert.TailOddIdeal.nD Cert.TailOddIdeal.τ Cert.TailOddIdeal.sig) → Buf (Elt Ideal) ℓ) (g : Dev Cert.TailOddIdeal.nD → PrngReg), Pre_TailOddIdeal m →
    θ_run (Cert.TailOddIdeal.defs (F := Ideal)) (onTc (τ := Cert.TailOddIdeal.τ) (Cert.TailOddIdeal.main (F := Ideal))) ⟨m, fun _ => 0, g⟩ (fun r => (∀ c : Dev Cert.TailOddIdeal.nD,
      r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
      ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
      ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
      ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
      ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
      ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
      ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
      ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
      ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8))
      ∧ r.2.sem = fun _ => 0)

def quiescent_RefTailOddIdeal [hRefTailOddIdeal : Cert.RefTailOddIdeal.Facts] : Prop :=
  ∀ (m : (ℓ : Loc Cert.RefTailOddIdeal.nD Cert.RefTailOddIdeal.τ Cert.RefTailOddIdeal.sig) → Buf (Elt Ideal) ℓ) (g : Dev Cert.RefTailOddIdeal.nD → PrngReg), Pre_RefTailOddIdeal m →
    θ_run (Cert.RefTailOddIdeal.defs (F := Ideal)) (onTc (τ := Cert.RefTailOddIdeal.τ) (Cert.RefTailOddIdeal.main (F := Ideal))) ⟨m, fun _ => 0, g⟩ (fun r => (∀ c : Dev Cert.RefTailOddIdeal.nD,
      r.2.mem ((c.tc : Thread Cert.RefTailOddIdeal.nD Cert.RefTailOddIdeal.τ).loc Cert.RefTailOddIdeal.main_arg0) = m ((c.tc : Thread Cert.RefTailOddIdeal.nD Cert.RefTailOddIdeal.τ).loc Cert.RefTailOddIdeal.main_arg0)
      ∧ r.2.mem ((c.tc : Thread Cert.RefTailOddIdeal.nD Cert.RefTailOddIdeal.τ).loc Cert.RefTailOddIdeal.main_arg1) = m ((c.tc : Thread Cert.RefTailOddIdeal.nD Cert.RefTailOddIdeal.τ).loc Cert.RefTailOddIdeal.main_arg1)
      ∧ r.2.mem ((c.tc : Thread Cert.RefTailOddIdeal.nD Cert.RefTailOddIdeal.τ).loc Cert.RefTailOddIdeal.main_arg2) = m ((c.tc : Thread Cert.RefTailOddIdeal.nD Cert.RefTailOddIdeal.τ).loc Cert.RefTailOddIdeal.main_arg2)
      ∧ r.2.mem ((c.tc : Thread Cert.RefTailOddIdeal.nD Cert.RefTailOddIdeal.τ).loc Cert.RefTailOddIdeal.main_arg3) = m ((c.tc : Thread Cert.RefTailOddIdeal.nD Cert.RefTailOddIdeal.τ).loc Cert.RefTailOddIdeal.main_arg3)
      ∧ r.2.mem ((c.tc : Thread Cert.RefTailOddIdeal.nD Cert.RefTailOddIdeal.τ).loc Cert.RefTailOddIdeal.main_arg4) = m ((c.tc : Thread Cert.RefTailOddIdeal.nD Cert.RefTailOddIdeal.τ).loc Cert.RefTailOddIdeal.main_arg4)
      ∧ r.2.mem ((c.tc : Thread Cert.RefTailOddIdeal.nD Cert.RefTailOddIdeal.τ).loc Cert.RefTailOddIdeal.main_arg5) = m ((c.tc : Thread Cert.RefTailOddIdeal.nD Cert.RefTailOddIdeal.τ).loc Cert.RefTailOddIdeal.main_arg5)
      ∧ r.2.mem ((c.tc : Thread Cert.RefTailOddIdeal.nD Cert.RefTailOddIdeal.τ).loc Cert.RefTailOddIdeal.main_arg6) = m ((c.tc : Thread Cert.RefTailOddIdeal.nD Cert.RefTailOddIdeal.τ).loc Cert.RefTailOddIdeal.main_arg6)
      ∧ r.2.mem ((c.tc : Thread Cert.RefTailOddIdeal.nD Cert.RefTailOddIdeal.τ).loc Cert.RefTailOddIdeal.main_arg7) = m ((c.tc : Thread Cert.RefTailOddIdeal.nD Cert.RefTailOddIdeal.τ).loc Cert.RefTailOddIdeal.main_arg7)
      ∧ r.2.mem ((c.tc : Thread Cert.RefTailOddIdeal.nD Cert.RefTailOddIdeal.τ).loc Cert.RefTailOddIdeal.main_arg8) = m ((c.tc : Thread Cert.RefTailOddIdeal.nD Cert.RefTailOddIdeal.τ).loc Cert.RefTailOddIdeal.main_arg8))
      ∧ r.2.sem = fun _ => 0)

def quiescent_TailEven [hTailEven : Cert.TailEven.Facts] : Prop :=
  ∀ (m : (ℓ : Loc Cert.TailEven.nD Cert.TailEven.τ Cert.TailEven.sig) → Buf (Elt Bits) ℓ) (g : Dev Cert.TailEven.nD → PrngReg), Pre_TailEven m →
    θ_run (Cert.TailEven.defs (F := Bits)) (onTc (τ := Cert.TailEven.τ) (Cert.TailEven.main (F := Bits))) ⟨m, fun _ => 0, g⟩ (fun r => (∀ c : Dev Cert.TailEven.nD,
      r.2.mem ((c.tc : Thread Cert.TailEven.nD Cert.TailEven.τ).loc Cert.TailEven.main_arg0) = m ((c.tc : Thread Cert.TailEven.nD Cert.TailEven.τ).loc Cert.TailEven.main_arg0)
      ∧ r.2.mem ((c.tc : Thread Cert.TailEven.nD Cert.TailEven.τ).loc Cert.TailEven.main_arg1) = m ((c.tc : Thread Cert.TailEven.nD Cert.TailEven.τ).loc Cert.TailEven.main_arg1)
      ∧ r.2.mem ((c.tc : Thread Cert.TailEven.nD Cert.TailEven.τ).loc Cert.TailEven.main_arg2) = m ((c.tc : Thread Cert.TailEven.nD Cert.TailEven.τ).loc Cert.TailEven.main_arg2)
      ∧ r.2.mem ((c.tc : Thread Cert.TailEven.nD Cert.TailEven.τ).loc Cert.TailEven.main_arg3) = m ((c.tc : Thread Cert.TailEven.nD Cert.TailEven.τ).loc Cert.TailEven.main_arg3)
      ∧ r.2.mem ((c.tc : Thread Cert.TailEven.nD Cert.TailEven.τ).loc Cert.TailEven.main_arg4) = m ((c.tc : Thread Cert.TailEven.nD Cert.TailEven.τ).loc Cert.TailEven.main_arg4)
      ∧ r.2.mem ((c.tc : Thread Cert.TailEven.nD Cert.TailEven.τ).loc Cert.TailEven.main_arg5) = m ((c.tc : Thread Cert.TailEven.nD Cert.TailEven.τ).loc Cert.TailEven.main_arg5)
      ∧ r.2.mem ((c.tc : Thread Cert.TailEven.nD Cert.TailEven.τ).loc Cert.TailEven.main_arg6) = m ((c.tc : Thread Cert.TailEven.nD Cert.TailEven.τ).loc Cert.TailEven.main_arg6)
      ∧ r.2.mem ((c.tc : Thread Cert.TailEven.nD Cert.TailEven.τ).loc Cert.TailEven.main_arg7) = m ((c.tc : Thread Cert.TailEven.nD Cert.TailEven.τ).loc Cert.TailEven.main_arg7)
      ∧ r.2.mem ((c.tc : Thread Cert.TailEven.nD Cert.TailEven.τ).loc Cert.TailEven.main_arg8) = m ((c.tc : Thread Cert.TailEven.nD Cert.TailEven.τ).loc Cert.TailEven.main_arg8)
      ∧ r.2.mem ((c.tc : Thread Cert.TailEven.nD Cert.TailEven.τ).loc Cert.TailEven.main_arg9) = m ((c.tc : Thread Cert.TailEven.nD Cert.TailEven.τ).loc Cert.TailEven.main_arg9)
      ∧ r.2.mem ((c.tc : Thread Cert.TailEven.nD Cert.TailEven.τ).loc Cert.TailEven.main_arg10) = m ((c.tc : Thread Cert.TailEven.nD Cert.TailEven.τ).loc Cert.TailEven.main_arg10)
      ∧ r.2.mem ((c.tc : Thread Cert.TailEven.nD Cert.TailEven.τ).loc Cert.TailEven.main_arg11) = m ((c.tc : Thread Cert.TailEven.nD Cert.TailEven.τ).loc Cert.TailEven.main_arg11)
      ∧ r.2.mem ((c.tc : Thread Cert.TailEven.nD Cert.TailEven.τ).loc Cert.TailEven.main_arg12) = m ((c.tc : Thread Cert.TailEven.nD Cert.TailEven.τ).loc Cert.TailEven.main_arg12)
      ∧ r.2.mem ((c.tc : Thread Cert.TailEven.nD Cert.TailEven.τ).loc Cert.TailEven.main_arg13) = m ((c.tc : Thread Cert.TailEven.nD Cert.TailEven.τ).loc Cert.TailEven.main_arg13))
      ∧ r.2.sem = fun _ => 0)

def quiescent_TailEvenIdeal [hTailEvenIdeal : Cert.TailEvenIdeal.Facts] : Prop :=
  ∀ (m : (ℓ : Loc Cert.TailEvenIdeal.nD Cert.TailEvenIdeal.τ Cert.TailEvenIdeal.sig) → Buf (Elt Ideal) ℓ) (g : Dev Cert.TailEvenIdeal.nD → PrngReg), Pre_TailEvenIdeal m →
    θ_run (Cert.TailEvenIdeal.defs (F := Ideal)) (onTc (τ := Cert.TailEvenIdeal.τ) (Cert.TailEvenIdeal.main (F := Ideal))) ⟨m, fun _ => 0, g⟩ (fun r => (∀ c : Dev Cert.TailEvenIdeal.nD,
      r.2.mem ((c.tc : Thread Cert.TailEvenIdeal.nD Cert.TailEvenIdeal.τ).loc Cert.TailEvenIdeal.main_arg0) = m ((c.tc : Thread Cert.TailEvenIdeal.nD Cert.TailEvenIdeal.τ).loc Cert.TailEvenIdeal.main_arg0)
      ∧ r.2.mem ((c.tc : Thread Cert.TailEvenIdeal.nD Cert.TailEvenIdeal.τ).loc Cert.TailEvenIdeal.main_arg1) = m ((c.tc : Thread Cert.TailEvenIdeal.nD Cert.TailEvenIdeal.τ).loc Cert.TailEvenIdeal.main_arg1)
      ∧ r.2.mem ((c.tc : Thread Cert.TailEvenIdeal.nD Cert.TailEvenIdeal.τ).loc Cert.TailEvenIdeal.main_arg2) = m ((c.tc : Thread Cert.TailEvenIdeal.nD Cert.TailEvenIdeal.τ).loc Cert.TailEvenIdeal.main_arg2)
      ∧ r.2.mem ((c.tc : Thread Cert.TailEvenIdeal.nD Cert.TailEvenIdeal.τ).loc Cert.TailEvenIdeal.main_arg3) = m ((c.tc : Thread Cert.TailEvenIdeal.nD Cert.TailEvenIdeal.τ).loc Cert.TailEvenIdeal.main_arg3)
      ∧ r.2.mem ((c.tc : Thread Cert.TailEvenIdeal.nD Cert.TailEvenIdeal.τ).loc Cert.TailEvenIdeal.main_arg4) = m ((c.tc : Thread Cert.TailEvenIdeal.nD Cert.TailEvenIdeal.τ).loc Cert.TailEvenIdeal.main_arg4)
      ∧ r.2.mem ((c.tc : Thread Cert.TailEvenIdeal.nD Cert.TailEvenIdeal.τ).loc Cert.TailEvenIdeal.main_arg5) = m ((c.tc : Thread Cert.TailEvenIdeal.nD Cert.TailEvenIdeal.τ).loc Cert.TailEvenIdeal.main_arg5)
      ∧ r.2.mem ((c.tc : Thread Cert.TailEvenIdeal.nD Cert.TailEvenIdeal.τ).loc Cert.TailEvenIdeal.main_arg6) = m ((c.tc : Thread Cert.TailEvenIdeal.nD Cert.TailEvenIdeal.τ).loc Cert.TailEvenIdeal.main_arg6)
      ∧ r.2.mem ((c.tc : Thread Cert.TailEvenIdeal.nD Cert.TailEvenIdeal.τ).loc Cert.TailEvenIdeal.main_arg7) = m ((c.tc : Thread Cert.TailEvenIdeal.nD Cert.TailEvenIdeal.τ).loc Cert.TailEvenIdeal.main_arg7)
      ∧ r.2.mem ((c.tc : Thread Cert.TailEvenIdeal.nD Cert.TailEvenIdeal.τ).loc Cert.TailEvenIdeal.main_arg8) = m ((c.tc : Thread Cert.TailEvenIdeal.nD Cert.TailEvenIdeal.τ).loc Cert.TailEvenIdeal.main_arg8)
      ∧ r.2.mem ((c.tc : Thread Cert.TailEvenIdeal.nD Cert.TailEvenIdeal.τ).loc Cert.TailEvenIdeal.main_arg9) = m ((c.tc : Thread Cert.TailEvenIdeal.nD Cert.TailEvenIdeal.τ).loc Cert.TailEvenIdeal.main_arg9)
      ∧ r.2.mem ((c.tc : Thread Cert.TailEvenIdeal.nD Cert.TailEvenIdeal.τ).loc Cert.TailEvenIdeal.main_arg10) = m ((c.tc : Thread Cert.TailEvenIdeal.nD Cert.TailEvenIdeal.τ).loc Cert.TailEvenIdeal.main_arg10)
      ∧ r.2.mem ((c.tc : Thread Cert.TailEvenIdeal.nD Cert.TailEvenIdeal.τ).loc Cert.TailEvenIdeal.main_arg11) = m ((c.tc : Thread Cert.TailEvenIdeal.nD Cert.TailEvenIdeal.τ).loc Cert.TailEvenIdeal.main_arg11)
      ∧ r.2.mem ((c.tc : Thread Cert.TailEvenIdeal.nD Cert.TailEvenIdeal.τ).loc Cert.TailEvenIdeal.main_arg12) = m ((c.tc : Thread Cert.TailEvenIdeal.nD Cert.TailEvenIdeal.τ).loc Cert.TailEvenIdeal.main_arg12)
      ∧ r.2.mem ((c.tc : Thread Cert.TailEvenIdeal.nD Cert.TailEvenIdeal.τ).loc Cert.TailEvenIdeal.main_arg13) = m ((c.tc : Thread Cert.TailEvenIdeal.nD Cert.TailEvenIdeal.τ).loc Cert.TailEvenIdeal.main_arg13))
      ∧ r.2.sem = fun _ => 0)

def quiescent_RefTailEvenIdeal [hRefTailEvenIdeal : Cert.RefTailEvenIdeal.Facts] : Prop :=
  ∀ (m : (ℓ : Loc Cert.RefTailEvenIdeal.nD Cert.RefTailEvenIdeal.τ Cert.RefTailEvenIdeal.sig) → Buf (Elt Ideal) ℓ) (g : Dev Cert.RefTailEvenIdeal.nD → PrngReg), Pre_RefTailEvenIdeal m →
    θ_run (Cert.RefTailEvenIdeal.defs (F := Ideal)) (onTc (τ := Cert.RefTailEvenIdeal.τ) (Cert.RefTailEvenIdeal.main (F := Ideal))) ⟨m, fun _ => 0, g⟩ (fun r => (∀ c : Dev Cert.RefTailEvenIdeal.nD,
      r.2.mem ((c.tc : Thread Cert.RefTailEvenIdeal.nD Cert.RefTailEvenIdeal.τ).loc Cert.RefTailEvenIdeal.main_arg0) = m ((c.tc : Thread Cert.RefTailEvenIdeal.nD Cert.RefTailEvenIdeal.τ).loc Cert.RefTailEvenIdeal.main_arg0)
      ∧ r.2.mem ((c.tc : Thread Cert.RefTailEvenIdeal.nD Cert.RefTailEvenIdeal.τ).loc Cert.RefTailEvenIdeal.main_arg1) = m ((c.tc : Thread Cert.RefTailEvenIdeal.nD Cert.RefTailEvenIdeal.τ).loc Cert.RefTailEvenIdeal.main_arg1)
      ∧ r.2.mem ((c.tc : Thread Cert.RefTailEvenIdeal.nD Cert.RefTailEvenIdeal.τ).loc Cert.RefTailEvenIdeal.main_arg2) = m ((c.tc : Thread Cert.RefTailEvenIdeal.nD Cert.RefTailEvenIdeal.τ).loc Cert.RefTailEvenIdeal.main_arg2)
      ∧ r.2.mem ((c.tc : Thread Cert.RefTailEvenIdeal.nD Cert.RefTailEvenIdeal.τ).loc Cert.RefTailEvenIdeal.main_arg3) = m ((c.tc : Thread Cert.RefTailEvenIdeal.nD Cert.RefTailEvenIdeal.τ).loc Cert.RefTailEvenIdeal.main_arg3)
      ∧ r.2.mem ((c.tc : Thread Cert.RefTailEvenIdeal.nD Cert.RefTailEvenIdeal.τ).loc Cert.RefTailEvenIdeal.main_arg4) = m ((c.tc : Thread Cert.RefTailEvenIdeal.nD Cert.RefTailEvenIdeal.τ).loc Cert.RefTailEvenIdeal.main_arg4)
      ∧ r.2.mem ((c.tc : Thread Cert.RefTailEvenIdeal.nD Cert.RefTailEvenIdeal.τ).loc Cert.RefTailEvenIdeal.main_arg5) = m ((c.tc : Thread Cert.RefTailEvenIdeal.nD Cert.RefTailEvenIdeal.τ).loc Cert.RefTailEvenIdeal.main_arg5)
      ∧ r.2.mem ((c.tc : Thread Cert.RefTailEvenIdeal.nD Cert.RefTailEvenIdeal.τ).loc Cert.RefTailEvenIdeal.main_arg6) = m ((c.tc : Thread Cert.RefTailEvenIdeal.nD Cert.RefTailEvenIdeal.τ).loc Cert.RefTailEvenIdeal.main_arg6)
      ∧ r.2.mem ((c.tc : Thread Cert.RefTailEvenIdeal.nD Cert.RefTailEvenIdeal.τ).loc Cert.RefTailEvenIdeal.main_arg7) = m ((c.tc : Thread Cert.RefTailEvenIdeal.nD Cert.RefTailEvenIdeal.τ).loc Cert.RefTailEvenIdeal.main_arg7)
      ∧ r.2.mem ((c.tc : Thread Cert.RefTailEvenIdeal.nD Cert.RefTailEvenIdeal.τ).loc Cert.RefTailEvenIdeal.main_arg8) = m ((c.tc : Thread Cert.RefTailEvenIdeal.nD Cert.RefTailEvenIdeal.τ).loc Cert.RefTailEvenIdeal.main_arg8)
      ∧ r.2.mem ((c.tc : Thread Cert.RefTailEvenIdeal.nD Cert.RefTailEvenIdeal.τ).loc Cert.RefTailEvenIdeal.main_arg9) = m ((c.tc : Thread Cert.RefTailEvenIdeal.nD Cert.RefTailEvenIdeal.τ).loc Cert.RefTailEvenIdeal.main_arg9)
      ∧ r.2.mem ((c.tc : Thread Cert.RefTailEvenIdeal.nD Cert.RefTailEvenIdeal.τ).loc Cert.RefTailEvenIdeal.main_arg10) = m ((c.tc : Thread Cert.RefTailEvenIdeal.nD Cert.RefTailEvenIdeal.τ).loc Cert.RefTailEvenIdeal.main_arg10)
      ∧ r.2.mem ((c.tc : Thread Cert.RefTailEvenIdeal.nD Cert.RefTailEvenIdeal.τ).loc Cert.RefTailEvenIdeal.main_arg11) = m ((c.tc : Thread Cert.RefTailEvenIdeal.nD Cert.RefTailEvenIdeal.τ).loc Cert.RefTailEvenIdeal.main_arg11)
      ∧ r.2.mem ((c.tc : Thread Cert.RefTailEvenIdeal.nD Cert.RefTailEvenIdeal.τ).loc Cert.RefTailEvenIdeal.main_arg12) = m ((c.tc : Thread Cert.RefTailEvenIdeal.nD Cert.RefTailEvenIdeal.τ).loc Cert.RefTailEvenIdeal.main_arg12)
      ∧ r.2.mem ((c.tc : Thread Cert.RefTailEvenIdeal.nD Cert.RefTailEvenIdeal.τ).loc Cert.RefTailEvenIdeal.main_arg13) = m ((c.tc : Thread Cert.RefTailEvenIdeal.nD Cert.RefTailEvenIdeal.τ).loc Cert.RefTailEvenIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1))
      ∧ r.2.sem = fun _ => 0)

def quiescent_InProjSplit [hInProjSplit : Cert.InProjSplit.Facts] : Prop :=
  ∀ (m : (ℓ : Loc Cert.InProjSplit.nD Cert.InProjSplit.τ Cert.InProjSplit.sig) → Buf (Elt Bits) ℓ) (g : Dev Cert.InProjSplit.nD → PrngReg), Pre_InProjSplit m →
    θ_run (Cert.InProjSplit.defs (F := Bits)) (onTc (τ := Cert.InProjSplit.τ) (Cert.InProjSplit.main (F := Bits))) ⟨m, fun _ => 0, g⟩ (fun r => (∀ c : Dev Cert.InProjSplit.nD,
      r.2.mem ((c.tc : Thread Cert.InProjSplit.nD Cert.InProjSplit.τ).loc Cert.InProjSplit.main_arg0) = m ((c.tc : Thread Cert.InProjSplit.nD Cert.InProjSplit.τ).loc Cert.InProjSplit.main_arg0)
      ∧ r.2.mem ((c.tc : Thread Cert.InProjSplit.nD Cert.InProjSplit.τ).loc Cert.InProjSplit.main_arg1) = m ((c.tc : Thread Cert.InProjSplit.nD Cert.InProjSplit.τ).loc Cert.InProjSplit.main_arg1))
      ∧ r.2.sem = fun _ => 0)

def quiescent_InProjSplitIdeal [hInProjSplitIdeal : Cert.InProjSplitIdeal.Facts] : Prop :=
  ∀ (m : (ℓ : Loc Cert.InProjSplitIdeal.nD Cert.InProjSplitIdeal.τ Cert.InProjSplitIdeal.sig) → Buf (Elt Ideal) ℓ) (g : Dev Cert.InProjSplitIdeal.nD → PrngReg), Pre_InProjSplitIdeal m →
    θ_run (Cert.InProjSplitIdeal.defs (F := Ideal)) (onTc (τ := Cert.InProjSplitIdeal.τ) (Cert.InProjSplitIdeal.main (F := Ideal))) ⟨m, fun _ => 0, g⟩ (fun r => (∀ c : Dev Cert.InProjSplitIdeal.nD,
      r.2.mem ((c.tc : Thread Cert.InProjSplitIdeal.nD Cert.InProjSplitIdeal.τ).loc Cert.InProjSplitIdeal.main_arg0) = m ((c.tc : Thread Cert.InProjSplitIdeal.nD Cert.InProjSplitIdeal.τ).loc Cert.InProjSplitIdeal.main_arg0)
      ∧ r.2.mem ((c.tc : Thread Cert.InProjSplitIdeal.nD Cert.InProjSplitIdeal.τ).loc Cert.InProjSplitIdeal.main_arg1) = m ((c.tc : Thread Cert.InProjSplitIdeal.nD Cert.InProjSplitIdeal.τ).loc Cert.InProjSplitIdeal.main_arg1))
      ∧ r.2.sem = fun _ => 0)

def quiescent_RefInProjSplitIdeal [hRefInProjSplitIdeal : Cert.RefInProjSplitIdeal.Facts] : Prop :=
  ∀ (m : (ℓ : Loc Cert.RefInProjSplitIdeal.nD Cert.RefInProjSplitIdeal.τ Cert.RefInProjSplitIdeal.sig) → Buf (Elt Ideal) ℓ) (g : Dev Cert.RefInProjSplitIdeal.nD → PrngReg), Pre_RefInProjSplitIdeal m →
    θ_run (Cert.RefInProjSplitIdeal.defs (F := Ideal)) (onTc (τ := Cert.RefInProjSplitIdeal.τ) (Cert.RefInProjSplitIdeal.main (F := Ideal))) ⟨m, fun _ => 0, g⟩ (fun r => (∀ c : Dev Cert.RefInProjSplitIdeal.nD,
      r.2.mem ((c.tc : Thread Cert.RefInProjSplitIdeal.nD Cert.RefInProjSplitIdeal.τ).loc Cert.RefInProjSplitIdeal.main_arg0) = m ((c.tc : Thread Cert.RefInProjSplitIdeal.nD Cert.RefInProjSplitIdeal.τ).loc Cert.RefInProjSplitIdeal.main_arg0)
      ∧ r.2.mem ((c.tc : Thread Cert.RefInProjSplitIdeal.nD Cert.RefInProjSplitIdeal.τ).loc Cert.RefInProjSplitIdeal.main_arg1) = m ((c.tc : Thread Cert.RefInProjSplitIdeal.nD Cert.RefInProjSplitIdeal.τ).loc Cert.RefInProjSplitIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_real_entries [hKernelIdeal : Cert.KernelIdeal.Facts] [hReferenceIdeal : Cert.ReferenceIdeal.Facts] [hPre_real_entries : Cert.Pre_real_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_entries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_TailOdd_TailOddIdeal : Prop :=
  True

def algebraic_TailOddIdeal_RefTailOddIdeal [hTailOddIdeal : Cert.TailOddIdeal.Facts] [hRefTailOddIdeal : Cert.RefTailOddIdeal.Facts] : Prop :=
  ∀ (m : (ℓ : Loc Cert.TailOddIdeal.nD Cert.TailOddIdeal.τ Cert.TailOddIdeal.sig) → Buf (Elt Ideal) ℓ) (g : Dev Cert.TailOddIdeal.nD → PrngReg)
    (m' : (ℓ : Loc Cert.RefTailOddIdeal.nD Cert.RefTailOddIdeal.τ Cert.RefTailOddIdeal.sig) → Buf (Elt Ideal) ℓ) (g' : Dev Cert.RefTailOddIdeal.nD → PrngReg), Pre_TailOddIdeal m →
    (∀ c : Dev Cert.TailOddIdeal.nD,
      m' ((c.tc : Thread Cert.RefTailOddIdeal.nD Cert.RefTailOddIdeal.τ).loc Cert.RefTailOddIdeal.main_arg0) = m ((c.tc : Thread Cert.TailOddIdeal.nD Cert.TailOddIdeal.τ).loc Cert.TailOddIdeal.main_arg0)
      ∧ m' ((c.tc : Thread Cert.RefTailOddIdeal.nD Cert.RefTailOddIdeal.τ).loc Cert.RefTailOddIdeal.main_arg1) = m ((c.tc : Thread Cert.TailOddIdeal.nD Cert.TailOddIdeal.τ).loc Cert.TailOddIdeal.main_arg1)
      ∧ m' ((c.tc : Thread Cert.RefTailOddIdeal.nD Cert.RefTailOddIdeal.τ).loc Cert.RefTailOddIdeal.main_arg2) = m ((c.tc : Thread Cert.TailOddIdeal.nD Cert.TailOddIdeal.τ).loc Cert.TailOddIdeal.main_arg2)
      ∧ m' ((c.tc : Thread Cert.RefTailOddIdeal.nD Cert.RefTailOddIdeal.τ).loc Cert.RefTailOddIdeal.main_arg3) = m ((c.tc : Thread Cert.TailOddIdeal.nD Cert.TailOddIdeal.τ).loc Cert.TailOddIdeal.main_arg3)
      ∧ m' ((c.tc : Thread Cert.RefTailOddIdeal.nD Cert.RefTailOddIdeal.τ).loc Cert.RefTailOddIdeal.main_arg4) = m ((c.tc : Thread Cert.TailOddIdeal.nD Cert.TailOddIdeal.τ).loc Cert.TailOddIdeal.main_arg4)
      ∧ m' ((c.tc : Thread Cert.RefTailOddIdeal.nD Cert.RefTailOddIdeal.τ).loc Cert.RefTailOddIdeal.main_arg5) = m ((c.tc : Thread Cert.TailOddIdeal.nD Cert.TailOddIdeal.τ).loc Cert.TailOddIdeal.main_arg5)
      ∧ m' ((c.tc : Thread Cert.RefTailOddIdeal.nD Cert.RefTailOddIdeal.τ).loc Cert.RefTailOddIdeal.main_arg6) = m ((c.tc : Thread Cert.TailOddIdeal.nD Cert.TailOddIdeal.τ).loc Cert.TailOddIdeal.main_arg6)
      ∧ m' ((c.tc : Thread Cert.RefTailOddIdeal.nD Cert.RefTailOddIdeal.τ).loc Cert.RefTailOddIdeal.main_arg7) = m ((c.tc : Thread Cert.TailOddIdeal.nD Cert.TailOddIdeal.τ).loc Cert.TailOddIdeal.main_arg7)
      ∧ m' ((c.tc : Thread Cert.RefTailOddIdeal.nD Cert.RefTailOddIdeal.τ).loc Cert.RefTailOddIdeal.main_arg8) = m ((c.tc : Thread Cert.TailOddIdeal.nD Cert.TailOddIdeal.τ).loc Cert.TailOddIdeal.main_arg8)) →
    ∃ (v0 : (c : Dev Cert.TailOddIdeal.nD) → Buf (Elt Ideal) ((c.tc : Thread Cert.TailOddIdeal.nD Cert.TailOddIdeal.τ).loc Cert.TailOddIdeal.main_v7)),
      θ_run (Cert.TailOddIdeal.defs (F := Ideal)) (onTc (τ := Cert.TailOddIdeal.τ) (Cert.TailOddIdeal.main (F := Ideal))) ⟨m, fun _ => 0, g⟩ (fun r => ∀ c : Dev Cert.TailOddIdeal.nD,
          r.2.mem ((c.tc : Thread Cert.TailOddIdeal.nD Cert.TailOddIdeal.τ).loc Cert.TailOddIdeal.main_v7) = v0 c
          ∧ r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
          ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
          ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
          ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
          ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
          ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
          ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
          ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
          ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8))
      ∧ θ_run (Cert.RefTailOddIdeal.defs (F := Ideal)) (onTc (τ := Cert.RefTailOddIdeal.τ) (Cert.RefTailOddIdeal.main (F := Ideal))) ⟨m', fun _ => 0, g'⟩ (fun r => ∀ c : Dev Cert.RefTailOddIdeal.nD,
          r.2.mem ((c.tc : Thread Cert.RefTailOddIdeal.nD Cert.RefTailOddIdeal.τ).loc Cert.RefTailOddIdeal.main_v59) = v0 c
          ∧ r.2.mem ((c.tc : Thread Cert.RefTailOddIdeal.nD Cert.RefTailOddIdeal.τ).loc Cert.RefTailOddIdeal.main_arg0) = m' ((c.tc : Thread Cert.RefTailOddIdeal.nD Cert.RefTailOddIdeal.τ).loc Cert.RefTailOddIdeal.main_arg0)
          ∧ r.2.mem ((c.tc : Thread Cert.RefTailOddIdeal.nD Cert.RefTailOddIdeal.τ).loc Cert.RefTailOddIdeal.main_arg1) = m' ((c.tc : Thread Cert.RefTailOddIdeal.nD Cert.RefTailOddIdeal.τ).loc Cert.RefTailOddIdeal.main_arg1)
          ∧ r.2.mem ((c.tc : Thread Cert.RefTailOddIdeal.nD Cert.RefTailOddIdeal.τ).loc Cert.RefTailOddIdeal.main_arg2) = m' ((c.tc : Thread Cert.RefTailOddIdeal.nD Cert.RefTailOddIdeal.τ).loc Cert.RefTailOddIdeal.main_arg2)
          ∧ r.2.mem ((c.tc : Thread Cert.RefTailOddIdeal.nD Cert.RefTailOddIdeal.τ).loc Cert.RefTailOddIdeal.main_arg3) = m' ((c.tc : Thread Cert.RefTailOddIdeal.nD Cert.RefTailOddIdeal.τ).loc Cert.RefTailOddIdeal.main_arg3)
          ∧ r.2.mem ((c.tc : Thread Cert.RefTailOddIdeal.nD Cert.RefTailOddIdeal.τ).loc Cert.RefTailOddIdeal.main_arg4) = m' ((c.tc : Thread Cert.RefTailOddIdeal.nD Cert.RefTailOddIdeal.τ).loc Cert.RefTailOddIdeal.main_arg4)
          ∧ r.2.mem ((c.tc : Thread Cert.RefTailOddIdeal.nD Cert.RefTailOddIdeal.τ).loc Cert.RefTailOddIdeal.main_arg5) = m' ((c.tc : Thread Cert.RefTailOddIdeal.nD Cert.RefTailOddIdeal.τ).loc Cert.RefTailOddIdeal.main_arg5)
          ∧ r.2.mem ((c.tc : Thread Cert.RefTailOddIdeal.nD Cert.RefTailOddIdeal.τ).loc Cert.RefTailOddIdeal.main_arg6) = m' ((c.tc : Thread Cert.RefTailOddIdeal.nD Cert.RefTailOddIdeal.τ).loc Cert.RefTailOddIdeal.main_arg6)
          ∧ r.2.mem ((c.tc : Thread Cert.RefTailOddIdeal.nD Cert.RefTailOddIdeal.τ).loc Cert.RefTailOddIdeal.main_arg7) = m' ((c.tc : Thread Cert.RefTailOddIdeal.nD Cert.RefTailOddIdeal.τ).loc Cert.RefTailOddIdeal.main_arg7)
          ∧ r.2.mem ((c.tc : Thread Cert.RefTailOddIdeal.nD Cert.RefTailOddIdeal.τ).loc Cert.RefTailOddIdeal.main_arg8) = m' ((c.tc : Thread Cert.RefTailOddIdeal.nD Cert.RefTailOddIdeal.τ).loc Cert.RefTailOddIdeal.main_arg8))

def preserves_TailEven_TailEvenIdeal : Prop :=
  True

def algebraic_TailEvenIdeal_RefTailEvenIdeal [hTailEvenIdeal : Cert.TailEvenIdeal.Facts] [hRefTailEvenIdeal : Cert.RefTailEvenIdeal.Facts] : Prop :=
  ∀ (m : (ℓ : Loc Cert.TailEvenIdeal.nD Cert.TailEvenIdeal.τ Cert.TailEvenIdeal.sig) → Buf (Elt Ideal) ℓ) (g : Dev Cert.TailEvenIdeal.nD → PrngReg)
    (m' : (ℓ : Loc Cert.RefTailEvenIdeal.nD Cert.RefTailEvenIdeal.τ Cert.RefTailEvenIdeal.sig) → Buf (Elt Ideal) ℓ) (g' : Dev Cert.RefTailEvenIdeal.nD → PrngReg), Pre_TailEvenIdeal m →
    (∀ c : Dev Cert.TailEvenIdeal.nD,
      m' ((c.tc : Thread Cert.RefTailEvenIdeal.nD Cert.RefTailEvenIdeal.τ).loc Cert.RefTailEvenIdeal.main_arg0) = m ((c.tc : Thread Cert.TailEvenIdeal.nD Cert.TailEvenIdeal.τ).loc Cert.TailEvenIdeal.main_arg0)
      ∧ m' ((c.tc : Thread Cert.RefTailEvenIdeal.nD Cert.RefTailEvenIdeal.τ).loc Cert.RefTailEvenIdeal.main_arg1) = m ((c.tc : Thread Cert.TailEvenIdeal.nD Cert.TailEvenIdeal.τ).loc Cert.TailEvenIdeal.main_arg1)
      ∧ m' ((c.tc : Thread Cert.RefTailEvenIdeal.nD Cert.RefTailEvenIdeal.τ).loc Cert.RefTailEvenIdeal.main_arg2) = m ((c.tc : Thread Cert.TailEvenIdeal.nD Cert.TailEvenIdeal.τ).loc Cert.TailEvenIdeal.main_arg2)
      ∧ m' ((c.tc : Thread Cert.RefTailEvenIdeal.nD Cert.RefTailEvenIdeal.τ).loc Cert.RefTailEvenIdeal.main_arg3) = m ((c.tc : Thread Cert.TailEvenIdeal.nD Cert.TailEvenIdeal.τ).loc Cert.TailEvenIdeal.main_arg3)
      ∧ m' ((c.tc : Thread Cert.RefTailEvenIdeal.nD Cert.RefTailEvenIdeal.τ).loc Cert.RefTailEvenIdeal.main_arg4) = m ((c.tc : Thread Cert.TailEvenIdeal.nD Cert.TailEvenIdeal.τ).loc Cert.TailEvenIdeal.main_arg4)
      ∧ m' ((c.tc : Thread Cert.RefTailEvenIdeal.nD Cert.RefTailEvenIdeal.τ).loc Cert.RefTailEvenIdeal.main_arg5) = m ((c.tc : Thread Cert.TailEvenIdeal.nD Cert.TailEvenIdeal.τ).loc Cert.TailEvenIdeal.main_arg5)
      ∧ m' ((c.tc : Thread Cert.RefTailEvenIdeal.nD Cert.RefTailEvenIdeal.τ).loc Cert.RefTailEvenIdeal.main_arg6) = m ((c.tc : Thread Cert.TailEvenIdeal.nD Cert.TailEvenIdeal.τ).loc Cert.TailEvenIdeal.main_arg6)
      ∧ m' ((c.tc : Thread Cert.RefTailEvenIdeal.nD Cert.RefTailEvenIdeal.τ).loc Cert.RefTailEvenIdeal.main_arg7) = m ((c.tc : Thread Cert.TailEvenIdeal.nD Cert.TailEvenIdeal.τ).loc Cert.TailEvenIdeal.main_arg7)
      ∧ m' ((c.tc : Thread Cert.RefTailEvenIdeal.nD Cert.RefTailEvenIdeal.τ).loc Cert.RefTailEvenIdeal.main_arg8) = m ((c.tc : Thread Cert.TailEvenIdeal.nD Cert.TailEvenIdeal.τ).loc Cert.TailEvenIdeal.main_arg8)
      ∧ m' ((c.tc : Thread Cert.RefTailEvenIdeal.nD Cert.RefTailEvenIdeal.τ).loc Cert.RefTailEvenIdeal.main_arg9) = m ((c.tc : Thread Cert.TailEvenIdeal.nD Cert.TailEvenIdeal.τ).loc Cert.TailEvenIdeal.main_arg9)
      ∧ m' ((c.tc : Thread Cert.RefTailEvenIdeal.nD Cert.RefTailEvenIdeal.τ).loc Cert.RefTailEvenIdeal.main_arg10) = m ((c.tc : Thread Cert.TailEvenIdeal.nD Cert.TailEvenIdeal.τ).loc Cert.TailEvenIdeal.main_arg10)
      ∧ m' ((c.tc : Thread Cert.RefTailEvenIdeal.nD Cert.RefTailEvenIdeal.τ).loc Cert.RefTailEvenIdeal.main_arg11) = m ((c.tc : Thread Cert.TailEvenIdeal.nD Cert.TailEvenIdeal.τ).loc Cert.TailEvenIdeal.main_arg11)
      ∧ m' ((c.tc : Thread Cert.RefTailEvenIdeal.nD Cert.RefTailEvenIdeal.τ).loc Cert.RefTailEvenIdeal.main_arg12) = m ((c.tc : Thread Cert.TailEvenIdeal.nD Cert.TailEvenIdeal.τ).loc Cert.TailEvenIdeal.main_arg12)
      ∧ m' ((c.tc : Thread Cert.RefTailEvenIdeal.nD Cert.RefTailEvenIdeal.τ).loc Cert.RefTailEvenIdeal.main_arg13) = m ((c.tc : Thread Cert.TailEvenIdeal.nD Cert.TailEvenIdeal.τ).loc Cert.TailEvenIdeal.main_arg13)) →
    ∃ (v0 : (c : Dev Cert.TailEvenIdeal.nD) → Buf (Elt Ideal) ((c.tc : Thread Cert.TailEvenIdeal.nD Cert.TailEvenIdeal.τ).loc Cert.TailEvenIdeal.main_v10)),
      θ_run (Cert.TailEvenIdeal.defs (F := Ideal)) (onTc (τ := Cert.TailEvenIdeal.τ) (Cert.TailEvenIdeal.main (F := Ideal))) ⟨m, fun _ => 0, g⟩ (fun r => ∀ c : Dev Cert.TailEvenIdeal.nD,
          r.2.mem ((c.tc : Thread Cert.TailEvenIdeal.nD Cert.TailEvenIdeal.τ).loc Cert.TailEvenIdeal.main_v10) = v0 c
          ∧ r.2.mem ((c.tc : Thread Cert.TailEvenIdeal.nD Cert.TailEvenIdeal.τ).loc Cert.TailEvenIdeal.main_arg0) = m ((c.tc : Thread Cert.TailEvenIdeal.nD Cert.TailEvenIdeal.τ).loc Cert.TailEvenIdeal.main_arg0)
          ∧ r.2.mem ((c.tc : Thread Cert.TailEvenIdeal.nD Cert.TailEvenIdeal.τ).loc Cert.TailEvenIdeal.main_arg1) = m ((c.tc : Thread Cert.TailEvenIdeal.nD Cert.TailEvenIdeal.τ).loc Cert.TailEvenIdeal.main_arg1)
          ∧ r.2.mem ((c.tc : Thread Cert.TailEvenIdeal.nD Cert.TailEvenIdeal.τ).loc Cert.TailEvenIdeal.main_arg2) = m ((c.tc : Thread Cert.TailEvenIdeal.nD Cert.TailEvenIdeal.τ).loc Cert.TailEvenIdeal.main_arg2)
          ∧ r.2.mem ((c.tc : Thread Cert.TailEvenIdeal.nD Cert.TailEvenIdeal.τ).loc Cert.TailEvenIdeal.main_arg3) = m ((c.tc : Thread Cert.TailEvenIdeal.nD Cert.TailEvenIdeal.τ).loc Cert.TailEvenIdeal.main_arg3)
          ∧ r.2.mem ((c.tc : Thread Cert.TailEvenIdeal.nD Cert.TailEvenIdeal.τ).loc Cert.TailEvenIdeal.main_arg4) = m ((c.tc : Thread Cert.TailEvenIdeal.nD Cert.TailEvenIdeal.τ).loc Cert.TailEvenIdeal.main_arg4)
          ∧ r.2.mem ((c.tc : Thread Cert.TailEvenIdeal.nD Cert.TailEvenIdeal.τ).loc Cert.TailEvenIdeal.main_arg5) = m ((c.tc : Thread Cert.TailEvenIdeal.nD Cert.TailEvenIdeal.τ).loc Cert.TailEvenIdeal.main_arg5)
          ∧ r.2.mem ((c.tc : Thread Cert.TailEvenIdeal.nD Cert.TailEvenIdeal.τ).loc Cert.TailEvenIdeal.main_arg6) = m ((c.tc : Thread Cert.TailEvenIdeal.nD Cert.TailEvenIdeal.τ).loc Cert.TailEvenIdeal.main_arg6)
          ∧ r.2.mem ((c.tc : Thread Cert.TailEvenIdeal.nD Cert.TailEvenIdeal.τ).loc Cert.TailEvenIdeal.main_arg7) = m ((c.tc : Thread Cert.TailEvenIdeal.nD Cert.TailEvenIdeal.τ).loc Cert.TailEvenIdeal.main_arg7)
          ∧ r.2.mem ((c.tc : Thread Cert.TailEvenIdeal.nD Cert.TailEvenIdeal.τ).loc Cert.TailEvenIdeal.main_arg8) = m ((c.tc : Thread Cert.TailEvenIdeal.nD Cert.TailEvenIdeal.τ).loc Cert.TailEvenIdeal.main_arg8)
          ∧ r.2.mem ((c.tc : Thread Cert.TailEvenIdeal.nD Cert.TailEvenIdeal.τ).loc Cert.TailEvenIdeal.main_arg9) = m ((c.tc : Thread Cert.TailEvenIdeal.nD Cert.TailEvenIdeal.τ).loc Cert.TailEvenIdeal.main_arg9)
          ∧ r.2.mem ((c.tc : Thread Cert.TailEvenIdeal.nD Cert.TailEvenIdeal.τ).loc Cert.TailEvenIdeal.main_arg10) = m ((c.tc : Thread Cert.TailEvenIdeal.nD Cert.TailEvenIdeal.τ).loc Cert.TailEvenIdeal.main_arg10)
          ∧ r.2.mem ((c.tc : Thread Cert.TailEvenIdeal.nD Cert.TailEvenIdeal.τ).loc Cert.TailEvenIdeal.main_arg11) = m ((c.tc : Thread Cert.TailEvenIdeal.nD Cert.TailEvenIdeal.τ).loc Cert.TailEvenIdeal.main_arg11)
          ∧ r.2.mem ((c.tc : Thread Cert.TailEvenIdeal.nD Cert.TailEvenIdeal.τ).loc Cert.TailEvenIdeal.main_arg12) = m ((c.tc : Thread Cert.TailEvenIdeal.nD Cert.TailEvenIdeal.τ).loc Cert.TailEvenIdeal.main_arg12)
          ∧ r.2.mem ((c.tc : Thread Cert.TailEvenIdeal.nD Cert.TailEvenIdeal.τ).loc Cert.TailEvenIdeal.main_arg13) = m ((c.tc : Thread Cert.TailEvenIdeal.nD Cert.TailEvenIdeal.τ).loc Cert.TailEvenIdeal.main_arg13))
      ∧ θ_run (Cert.RefTailEvenIdeal.defs (F := Ideal)) (onTc (τ := Cert.RefTailEvenIdeal.τ) (Cert.RefTailEvenIdeal.main (F := Ideal))) ⟨m', fun _ => 0, g'⟩ (fun r => ∀ c : Dev Cert.RefTailEvenIdeal.nD,
          r.2.mem ((c.tc : Thread Cert.RefTailEvenIdeal.nD Cert.RefTailEvenIdeal.τ).loc Cert.RefTailEvenIdeal.main_v88) = v0 c
          ∧ r.2.mem ((c.tc : Thread Cert.RefTailEvenIdeal.nD Cert.RefTailEvenIdeal.τ).loc Cert.RefTailEvenIdeal.main_arg0) = m' ((c.tc : Thread Cert.RefTailEvenIdeal.nD Cert.RefTailEvenIdeal.τ).loc Cert.RefTailEvenIdeal.main_arg0)
          ∧ r.2.mem ((c.tc : Thread Cert.RefTailEvenIdeal.nD Cert.RefTailEvenIdeal.τ).loc Cert.RefTailEvenIdeal.main_arg1) = m' ((c.tc : Thread Cert.RefTailEvenIdeal.nD Cert.RefTailEvenIdeal.τ).loc Cert.RefTailEvenIdeal.main_arg1)
          ∧ r.2.mem ((c.tc : Thread Cert.RefTailEvenIdeal.nD Cert.RefTailEvenIdeal.τ).loc Cert.RefTailEvenIdeal.main_arg2) = m' ((c.tc : Thread Cert.RefTailEvenIdeal.nD Cert.RefTailEvenIdeal.τ).loc Cert.RefTailEvenIdeal.main_arg2)
          ∧ r.2.mem ((c.tc : Thread Cert.RefTailEvenIdeal.nD Cert.RefTailEvenIdeal.τ).loc Cert.RefTailEvenIdeal.main_arg3) = m' ((c.tc : Thread Cert.RefTailEvenIdeal.nD Cert.RefTailEvenIdeal.τ).loc Cert.RefTailEvenIdeal.main_arg3)
          ∧ r.2.mem ((c.tc : Thread Cert.RefTailEvenIdeal.nD Cert.RefTailEvenIdeal.τ).loc Cert.RefTailEvenIdeal.main_arg4) = m' ((c.tc : Thread Cert.RefTailEvenIdeal.nD Cert.RefTailEvenIdeal.τ).loc Cert.RefTailEvenIdeal.main_arg4)
          ∧ r.2.mem ((c.tc : Thread Cert.RefTailEvenIdeal.nD Cert.RefTailEvenIdeal.τ).loc Cert.RefTailEvenIdeal.main_arg5) = m' ((c.tc : Thread Cert.RefTailEvenIdeal.nD Cert.RefTailEvenIdeal.τ).loc Cert.RefTailEvenIdeal.main_arg5)
          ∧ r.2.mem ((c.tc : Thread Cert.RefTailEvenIdeal.nD Cert.RefTailEvenIdeal.τ).loc Cert.RefTailEvenIdeal.main_arg6) = m' ((c.tc : Thread Cert.RefTailEvenIdeal.nD Cert.RefTailEvenIdeal.τ).loc Cert.RefTailEvenIdeal.main_arg6)
          ∧ r.2.mem ((c.tc : Thread Cert.RefTailEvenIdeal.nD Cert.RefTailEvenIdeal.τ).loc Cert.RefTailEvenIdeal.main_arg7) = m' ((c.tc : Thread Cert.RefTailEvenIdeal.nD Cert.RefTailEvenIdeal.τ).loc Cert.RefTailEvenIdeal.main_arg7)
          ∧ r.2.mem ((c.tc : Thread Cert.RefTailEvenIdeal.nD Cert.RefTailEvenIdeal.τ).loc Cert.RefTailEvenIdeal.main_arg8) = m' ((c.tc : Thread Cert.RefTailEvenIdeal.nD Cert.RefTailEvenIdeal.τ).loc Cert.RefTailEvenIdeal.main_arg8)
          ∧ r.2.mem ((c.tc : Thread Cert.RefTailEvenIdeal.nD Cert.RefTailEvenIdeal.τ).loc Cert.RefTailEvenIdeal.main_arg9) = m' ((c.tc : Thread Cert.RefTailEvenIdeal.nD Cert.RefTailEvenIdeal.τ).loc Cert.RefTailEvenIdeal.main_arg9)
          ∧ r.2.mem ((c.tc : Thread Cert.RefTailEvenIdeal.nD Cert.RefTailEvenIdeal.τ).loc Cert.RefTailEvenIdeal.main_arg10) = m' ((c.tc : Thread Cert.RefTailEvenIdeal.nD Cert.RefTailEvenIdeal.τ).loc Cert.RefTailEvenIdeal.main_arg10)
          ∧ r.2.mem ((c.tc : Thread Cert.RefTailEvenIdeal.nD Cert.RefTailEvenIdeal.τ).loc Cert.RefTailEvenIdeal.main_arg11) = m' ((c.tc : Thread Cert.RefTailEvenIdeal.nD Cert.RefTailEvenIdeal.τ).loc Cert.RefTailEvenIdeal.main_arg11)
          ∧ r.2.mem ((c.tc : Thread Cert.RefTailEvenIdeal.nD Cert.RefTailEvenIdeal.τ).loc Cert.RefTailEvenIdeal.main_arg12) = m' ((c.tc : Thread Cert.RefTailEvenIdeal.nD Cert.RefTailEvenIdeal.τ).loc Cert.RefTailEvenIdeal.main_arg12)
          ∧ r.2.mem ((c.tc : Thread Cert.RefTailEvenIdeal.nD Cert.RefTailEvenIdeal.τ).loc Cert.RefTailEvenIdeal.main_arg13) = m' ((c.tc : Thread Cert.RefTailEvenIdeal.nD Cert.RefTailEvenIdeal.τ).loc Cert.RefTailEvenIdeal.main_arg13))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v1) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1))

def preserves_InProjSplit_InProjSplitIdeal : Prop :=
  True

def algebraic_InProjSplitIdeal_RefInProjSplitIdeal [hInProjSplitIdeal : Cert.InProjSplitIdeal.Facts] [hRefInProjSplitIdeal : Cert.RefInProjSplitIdeal.Facts] : Prop :=
  ∀ (m : (ℓ : Loc Cert.InProjSplitIdeal.nD Cert.InProjSplitIdeal.τ Cert.InProjSplitIdeal.sig) → Buf (Elt Ideal) ℓ) (g : Dev Cert.InProjSplitIdeal.nD → PrngReg)
    (m' : (ℓ : Loc Cert.RefInProjSplitIdeal.nD Cert.RefInProjSplitIdeal.τ Cert.RefInProjSplitIdeal.sig) → Buf (Elt Ideal) ℓ) (g' : Dev Cert.RefInProjSplitIdeal.nD → PrngReg), Pre_InProjSplitIdeal m →
    (∀ c : Dev Cert.InProjSplitIdeal.nD,
      m' ((c.tc : Thread Cert.RefInProjSplitIdeal.nD Cert.RefInProjSplitIdeal.τ).loc Cert.RefInProjSplitIdeal.main_arg0) = m ((c.tc : Thread Cert.InProjSplitIdeal.nD Cert.InProjSplitIdeal.τ).loc Cert.InProjSplitIdeal.main_arg0)
      ∧ m' ((c.tc : Thread Cert.RefInProjSplitIdeal.nD Cert.RefInProjSplitIdeal.τ).loc Cert.RefInProjSplitIdeal.main_arg1) = m ((c.tc : Thread Cert.InProjSplitIdeal.nD Cert.InProjSplitIdeal.τ).loc Cert.InProjSplitIdeal.main_arg1)) →
    ∃ (v0 : (c : Dev Cert.InProjSplitIdeal.nD) → Buf (Elt Ideal) ((c.tc : Thread Cert.InProjSplitIdeal.nD Cert.InProjSplitIdeal.τ).loc Cert.InProjSplitIdeal.main_v1_0)) (v1 : (c : Dev Cert.InProjSplitIdeal.nD) → Buf (Elt Ideal) ((c.tc : Thread Cert.InProjSplitIdeal.nD Cert.InProjSplitIdeal.τ).loc Cert.InProjSplitIdeal.main_v1_1)),
      θ_run (Cert.InProjSplitIdeal.defs (F := Ideal)) (onTc (τ := Cert.InProjSplitIdeal.τ) (Cert.InProjSplitIdeal.main (F := Ideal))) ⟨m, fun _ => 0, g⟩ (fun r => ∀ c : Dev Cert.InProjSplitIdeal.nD,
          r.2.mem ((c.tc : Thread Cert.InProjSplitIdeal.nD Cert.InProjSplitIdeal.τ).loc Cert.InProjSplitIdeal.main_v1_0) = v0 c
          ∧ r.2.mem ((c.tc : Thread Cert.InProjSplitIdeal.nD Cert.InProjSplitIdeal.τ).loc Cert.InProjSplitIdeal.main_v1_1) = v1 c
          ∧ r.2.mem ((c.tc : Thread Cert.InProjSplitIdeal.nD Cert.InProjSplitIdeal.τ).loc Cert.InProjSplitIdeal.main_arg0) = m ((c.tc : Thread Cert.InProjSplitIdeal.nD Cert.InProjSplitIdeal.τ).loc Cert.InProjSplitIdeal.main_arg0)
          ∧ r.2.mem ((c.tc : Thread Cert.InProjSplitIdeal.nD Cert.InProjSplitIdeal.τ).loc Cert.InProjSplitIdeal.main_arg1) = m ((c.tc : Thread Cert.InProjSplitIdeal.nD Cert.InProjSplitIdeal.τ).loc Cert.InProjSplitIdeal.main_arg1))
      ∧ θ_run (Cert.RefInProjSplitIdeal.defs (F := Ideal)) (onTc (τ := Cert.RefInProjSplitIdeal.τ) (Cert.RefInProjSplitIdeal.main (F := Ideal))) ⟨m', fun _ => 0, g'⟩ (fun r => ∀ c : Dev Cert.RefInProjSplitIdeal.nD,
          r.2.mem ((c.tc : Thread Cert.RefInProjSplitIdeal.nD Cert.RefInProjSplitIdeal.τ).loc Cert.RefInProjSplitIdeal.main_v2) = v0 c
          ∧ r.2.mem ((c.tc : Thread Cert.RefInProjSplitIdeal.nD Cert.RefInProjSplitIdeal.τ).loc Cert.RefInProjSplitIdeal.main_v3) = v1 c
          ∧ r.2.mem ((c.tc : Thread Cert.RefInProjSplitIdeal.nD Cert.RefInProjSplitIdeal.τ).loc Cert.RefInProjSplitIdeal.main_arg0) = m' ((c.tc : Thread Cert.RefInProjSplitIdeal.nD Cert.RefInProjSplitIdeal.τ).loc Cert.RefInProjSplitIdeal.main_arg0)
          ∧ r.2.mem ((c.tc : Thread Cert.RefInProjSplitIdeal.nD Cert.RefInProjSplitIdeal.τ).loc Cert.RefInProjSplitIdeal.main_arg1) = m' ((c.tc : Thread Cert.RefInProjSplitIdeal.nD Cert.RefInProjSplitIdeal.τ).loc Cert.RefInProjSplitIdeal.main_arg1))

def Claim : Prop :=
  ∃ (hKernel : Cert.Kernel.Facts) (hKernelIdeal : Cert.KernelIdeal.Facts) (hReferenceIdeal : Cert.ReferenceIdeal.Facts) (hTailOdd : Cert.TailOdd.Facts) (hTailOddIdeal : Cert.TailOddIdeal.Facts) (hRefTailOddIdeal : Cert.RefTailOddIdeal.Facts) (hTailEven : Cert.TailEven.Facts) (hTailEvenIdeal : Cert.TailEvenIdeal.Facts) (hRefTailEvenIdeal : Cert.RefTailEvenIdeal.Facts) (hInProj : Cert.InProj.Facts) (hInProjIdeal : Cert.InProjIdeal.Facts) (hRefInProjIdeal : Cert.RefInProjIdeal.Facts) (hInProjSplit : Cert.InProjSplit.Facts) (hInProjSplitIdeal : Cert.InProjSplitIdeal.Facts) (hRefInProjSplitIdeal : Cert.RefInProjSplitIdeal.Facts) (hPre_real_entries : Cert.Pre_real_entries.Facts),
    quiescent_Kernel (hKernel := hKernel)
    ∧ quiescent_KernelIdeal (hKernelIdeal := hKernelIdeal)
    ∧ quiescent_KernelIdeal_pre_real_entries (hKernelIdeal := hKernelIdeal) (hPre_real_entries := hPre_real_entries)
    ∧ quiescent_ReferenceIdeal (hReferenceIdeal := hReferenceIdeal)
    ∧ quiescent_ReferenceIdeal_pre_real_entries (hReferenceIdeal := hReferenceIdeal) (hPre_real_entries := hPre_real_entries)
    ∧ quiescent_TailOdd (hTailOdd := hTailOdd)
    ∧ quiescent_TailOddIdeal (hTailOddIdeal := hTailOddIdeal)
    ∧ quiescent_RefTailOddIdeal (hRefTailOddIdeal := hRefTailOddIdeal)
    ∧ quiescent_TailEven (hTailEven := hTailEven)
    ∧ quiescent_TailEvenIdeal (hTailEvenIdeal := hTailEvenIdeal)
    ∧ quiescent_RefTailEvenIdeal (hRefTailEvenIdeal := hRefTailEvenIdeal)
    ∧ quiescent_InProj (hInProj := hInProj)
    ∧ quiescent_InProjIdeal (hInProjIdeal := hInProjIdeal)
    ∧ quiescent_RefInProjIdeal (hRefInProjIdeal := hRefInProjIdeal)
    ∧ quiescent_InProjSplit (hInProjSplit := hInProjSplit)
    ∧ quiescent_InProjSplitIdeal (hInProjSplitIdeal := hInProjSplitIdeal)
    ∧ quiescent_RefInProjSplitIdeal (hRefInProjSplitIdeal := hRefInProjSplitIdeal)
    ∧ preserves_Kernel_KernelIdeal
    ∧ algebraic_KernelIdeal_ReferenceIdeal_pre_real_entries (hKernelIdeal := hKernelIdeal) (hReferenceIdeal := hReferenceIdeal) (hPre_real_entries := hPre_real_entries)
    ∧ preserves_TailOdd_TailOddIdeal
    ∧ algebraic_TailOddIdeal_RefTailOddIdeal (hTailOddIdeal := hTailOddIdeal) (hRefTailOddIdeal := hRefTailOddIdeal)
    ∧ preserves_TailEven_TailEvenIdeal
    ∧ algebraic_TailEvenIdeal_RefTailEvenIdeal (hTailEvenIdeal := hTailEvenIdeal) (hRefTailEvenIdeal := hRefTailEvenIdeal)
    ∧ preserves_InProj_InProjIdeal
    ∧ algebraic_InProjIdeal_RefInProjIdeal (hInProjIdeal := hInProjIdeal) (hRefInProjIdeal := hRefInProjIdeal)
    ∧ preserves_InProjSplit_InProjSplitIdeal
    ∧ algebraic_InProjSplitIdeal_RefInProjSplitIdeal (hInProjSplitIdeal := hInProjSplitIdeal) (hRefInProjSplitIdeal := hRefInProjSplitIdeal)
-- ==== Pre_real_entries.lean ====
abbrev S4x4096x1536 : Shape := ⟨3, ![4, 4096, 1536]⟩
abbrev S8x2x256x256 : Shape := ⟨4, ![8, 2, 256, 256]⟩
abbrev S_ : Shape := ⟨0, ![]⟩

class Facts : Prop where
  bitsLt_bf16_f32 : FTy.bits .bf16 < FTy.bits .f32
  bcast_S_S4x4096x1536 : S_.BroadcastsInDim S4x4096x1536 (![] : Fin 0 → Fin S4x4096x1536.rank)
  reducesTo_S4x4096x1536_S_d0_1_2 : S4x4096x1536.ReducesTo [0, 1, 2] S_
  h_S_ : 0 < S_.numel
  bcast_S_S8x2x256x256 : S_.BroadcastsInDim S8x2x256x256 (![] : Fin 0 → Fin S8x2x256x256.rank)
  reducesTo_S8x2x256x256_S_d0_1_2_3 : S8x2x256x256.ReducesTo [0, 1, 2, 3] S_

variable [Facts]

def fn {F : FTy → Type} [FloatOps F] (main_arg0 : FVec F S4x4096x1536 .bf16) (main_arg1 : FVec F S8x2x256x256 .f32) : IVec S_ 1 :=
  let main_v0 : FVec F S4x4096x1536 .f32 := (extf .f32 · bitsLt_bf16_f32) main_arg0
  let main_v1 : FVec F S4x4096x1536 .f32 := Host.absf main_v0
  let main_cst : FVec F S_ .f32 := constant S_ .f32 0x7F800000#32
  let main_v2 : FVec F S4x4096x1536 .f32 := broadcastInDim S4x4096x1536 ![] bcast_S_S4x4096x1536 main_cst
  let main_v3 : IVec S4x4096x1536 1 := cmpf .olt main_v1 main_v2
  let main_c : IVec S_ 1 := constantI S_ 1 1#1
  let main_v4 : IVec S_ 1 := (fun x v => Host.reduce IntOp.andi x v reducesTo_S4x4096x1536_S_d0_1_2 h_S_) main_v3 main_c
  let main_v5 : FVec F S8x2x256x256 .f32 := Host.absf main_arg1
  let main_cst_0 : FVec F S_ .f32 := constant S_ .f32 0x7F800000#32
  let main_v6 : FVec F S8x2x256x256 .f32 := broadcastInDim S8x2x256x256 ![] bcast_S_S8x2x256x256 main_cst_0
  let main_v7 : IVec S8x2x256x256 1 := cmpf .olt main_v5 main_v6
  let main_c_1 : IVec S_ 1 := constantI S_ 1 1#1
  let main_v8 : IVec S_ 1 := (fun x v => Host.reduce IntOp.andi x v reducesTo_S8x2x256x256_S_d0_1_2_3 h_S_) main_v7 main_c_1
  let main_v9 : IVec S_ 1 := andi main_v4 main_v8
  main_v9
-- ==== Kernel.lean ====
abbrev S4x4096x1536 : Shape := ⟨3, ![4, 4096, 1536]⟩
abbrev S8x2x256x256 : Shape := ⟨4, ![8, 2, 256, 256]⟩
abbrev S4x4096x512 : Shape := ⟨3, ![4, 4096, 512]⟩
abbrev S1x256x512 : Shape := ⟨3, ![1, 256, 512]⟩
abbrev S1x4096x512 : Shape := ⟨3, ![1, 4096, 512]⟩
abbrev S4x16x128 : Shape := ⟨3, ![4, 16, 128]⟩
abbrev S4x2x17x256x128 : Shape := ⟨5, ![4, 2, 17, 256, 128]⟩
abbrev S4x17x128x256 : Shape := ⟨4, ![4, 17, 128, 256]⟩
abbrev S4x2x256x512 : Shape := ⟨4, ![4, 2, 256, 512]⟩
abbrev S4x2x128x256 : Shape := ⟨4, ![4, 2, 128, 256]⟩
abbrev S4x2x64x256 : Shape := ⟨4, ![4, 2, 64, 256]⟩
abbrev S256x64 : Shape := ⟨2, ![256, 64]⟩
abbrev S1x1x1x256x64 : Shape := ⟨5, ![1, 1, 1, 256, 64]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x1x128x256 : Shape := ⟨4, ![1, 1, 128, 256]⟩
abbrev S16x256 : Shape := ⟨2, ![16, 256]⟩
abbrev S48x256 : Shape := ⟨2, ![48, 256]⟩
abbrev S1x16x64 : Shape := ⟨3, ![1, 16, 64]⟩
abbrev S16x64 : Shape := ⟨2, ![16, 64]⟩
abbrev S64x256 : Shape := ⟨2, ![64, 256]⟩
abbrev S256 : Shape := ⟨1, ![256]⟩
abbrev S1x256 : Shape := ⟨2, ![1, 256]⟩
abbrev S1x1x1x256x128 : Shape := ⟨5, ![1, 1, 1, 256, 128]⟩
abbrev S512x128 : Shape := ⟨2, ![512, 128]⟩
abbrev S512x256 : Shape := ⟨2, ![512, 256]⟩
abbrev S1x1x256x256 : Shape := ⟨4, ![1, 1, 256, 256]⟩
abbrev S256x256 : Shape := ⟨2, ![256, 256]⟩
abbrev S1x1x64x256 : Shape := ⟨4, ![1, 1, 64, 256]⟩
abbrev S64x512 : Shape := ⟨2, ![64, 512]⟩

abbrev nBuf : Space → Nat
  | .hbm => 3
  | .vmem => 16
  | .smem => 0
  | _ => 0

abbrev bufTy : (tb : Table) → Fin (tcTables nBuf tb) → BufTy
  | .hbm, ⟨0, _⟩ => ⟨S4x4096x1536, .bf16⟩
  | .hbm, ⟨1, _⟩ => ⟨S8x2x256x256, .f32⟩
  | .hbm, ⟨2, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S8x2x256x256, .f32⟩
  | .local _ .vmem, ⟨7, _⟩ => ⟨S1x256x512, .bf16⟩
  | .local _ .vmem, ⟨8, _⟩ => ⟨S1x256x512, .bf16⟩
  | .local _ .vmem, ⟨9, _⟩ => ⟨S4x16x128, .f32⟩
  | .local _ .vmem, ⟨10, _⟩ => ⟨S4x2x17x256x128, .bf16⟩
  | .local _ .vmem, ⟨11, _⟩ => ⟨S4x17x128x256, .bf16⟩
  | .local _ .vmem, ⟨12, _⟩ => ⟨S4x2x256x512, .f32⟩
  | .local _ .vmem, ⟨13, _⟩ => ⟨S4x2x256x512, .f32⟩
  | .local _ .vmem, ⟨14, _⟩ => ⟨S4x2x128x256, .bf16⟩
  | .local _ .vmem, ⟨15, _⟩ => ⟨S4x2x64x256, .f32⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 16], ![false, false, false]⟩

def k0_off1 (i : grid0.Coords) : Fin 5 → Nat :=
  let c0_289 : Index := 0#32
  let c0_290 : Index := 0#32
  let arg2 : BitVec 32 := BitVec.ofNat 32 (i 2).val
  let v683 : Index := Scalar.indexCast arg2
  let c0_291 : Index := 0#32
  let c0_292 : Index := 0#32
  ![0, 0, v683.toNat, 0, 0]
def k0_off2 (i : grid0.Coords) : Fin 5 → Nat :=
  let c0_293 : Index := 0#32
  let c0_294 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v686 : Index := Scalar.indexCast v682
  let c0_295 : Index := 0#32
  let c0_296 : Index := 0#32
  ![0, 0, v686.toNat, 0, 0]
def k0_off3 (i : grid0.Coords) : Fin 5 → Nat :=
  let c0_319 : Index := 0#32
  let c1_320 : Index := 1#32
  let arg2 : BitVec 32 := BitVec.ofNat 32 (i 2).val
  let v709 : Index := Scalar.indexCast arg2
  let c0_321 : Index := 0#32
  let c0_322 : Index := 0#32
  ![0, 1, v709.toNat, 0, 0]
def k0_off4 (i : grid0.Coords) : Fin 5 → Nat :=
  let c0_323 : Index := 0#32
  let c1_324 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v712 : Index := Scalar.indexCast v682
  let c0_325 : Index := 0#32
  let c0_326 : Index := 0#32
  ![0, 1, v712.toNat, 0, 0]
def k0_off5 (i : grid0.Coords) : Fin 5 → Nat :=
  let c1_349 : Index := 1#32
  let c0_350 : Index := 0#32
  let arg2 : BitVec 32 := BitVec.ofNat 32 (i 2).val
  let v735 : Index := Scalar.indexCast arg2
  let c0_351 : Index := 0#32
  let c0_352 : Index := 0#32
  ![1, 0, v735.toNat, 0, 0]
def k0_off6 (i : grid0.Coords) : Fin 5 → Nat :=
  let c1_353 : Index := 1#32
  let c0_354 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v738 : Index := Scalar.indexCast v682
  let c0_355 : Index := 0#32
  let c0_356 : Index := 0#32
  ![1, 0, v738.toNat, 0, 0]
def k0_off7 (i : grid0.Coords) : Fin 5 → Nat :=
  let c1_379 : Index := 1#32
  let c1_380 : Index := 1#32
  let arg2 : BitVec 32 := BitVec.ofNat 32 (i 2).val
  let v761 : Index := Scalar.indexCast arg2
  let c0_381 : Index := 0#32
  let c0_382 : Index := 0#32
  ![1, 1, v761.toNat, 0, 0]
def k0_off8 (i : grid0.Coords) : Fin 5 → Nat :=
  let c1_383 : Index := 1#32
  let c1_384 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v764 : Index := Scalar.indexCast v682
  let c0_385 : Index := 0#32
  let c0_386 : Index := 0#32
  ![1, 1, v764.toNat, 0, 0]
def k0_off9 (i : grid0.Coords) : Fin 5 → Nat :=
  let c2_409 : Index := 2#32
  let c0_410 : Index := 0#32
  let arg2 : BitVec 32 := BitVec.ofNat 32 (i 2).val
  let v787 : Index := Scalar.indexCast arg2
  let c0_411 : Index := 0#32
  let c0_412 : Index := 0#32
  ![2, 0, v787.toNat, 0, 0]
def k0_off10 (i : grid0.Coords) : Fin 5 → Nat :=
  let c2_413 : Index := 2#32
  let c0_414 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v790 : Index := Scalar.indexCast v682
  let c0_415 : Index := 0#32
  let c0_416 : Index := 0#32
  ![2, 0, v790.toNat, 0, 0]
def k0_off11 (i : grid0.Coords) : Fin 5 → Nat :=
  let c2_438 : Index := 2#32
  let c1_439 : Index := 1#32
  let arg2 : BitVec 32 := BitVec.ofNat 32 (i 2).val
  let v813 : Index := Scalar.indexCast arg2
  let c0_440 : Index := 0#32
  let c0_441 : Index := 0#32
  ![2, 1, v813.toNat, 0, 0]
def k0_off12 (i : grid0.Coords) : Fin 5 → Nat :=
  let c2_442 : Index := 2#32
  let c1_443 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v816 : Index := Scalar.indexCast v682
  let c0_444 : Index := 0#32
  let c0_445 : Index := 0#32
  ![2, 1, v816.toNat, 0, 0]
def k0_off13 (i : grid0.Coords) : Fin 5 → Nat :=
  let c3_467 : Index := 3#32
  let c0_468 : Index := 0#32
  let arg2 : BitVec 32 := BitVec.ofNat 32 (i 2).val
  let v839 : Index := Scalar.indexCast arg2
  let c0_469 : Index := 0#32
  let c0_470 : Index := 0#32
  ![3, 0, v839.toNat, 0, 0]
def k0_off14 (i : grid0.Coords) : Fin 5 → Nat :=
  let c3_471 : Index := 3#32
  let c0_472 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v842 : Index := Scalar.indexCast v682
  let c0_473 : Index := 0#32
  let c0_474 : Index := 0#32
  ![3, 0, v842.toNat, 0, 0]
def k0_off15 (i : grid0.Coords) : Fin 5 → Nat :=
  let c3_496 : Index := 3#32
  let c1_497 : Index := 1#32
  let arg2 : BitVec 32 := BitVec.ofNat 32 (i 2).val
  let v865 : Index := Scalar.indexCast arg2
  let c0_498 : Index := 0#32
  let c0_499 : Index := 0#32
  ![3, 1, v865.toNat, 0, 0]
def k0_off16 (i : grid0.Coords) : Fin 5 → Nat :=
  let c3_500 : Index := 3#32
  let c1_501 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v868 : Index := Scalar.indexCast v682
  let c0_502 : Index := 0#32
  let c0_503 : Index := 0#32
  ![3, 1, v868.toNat, 0, 0]
def k0_off17 (i : grid0.Coords) (c0_i32_525 : BitVec 32) (c0_i32_526 : BitVec 32) : Fin 5 → Nat :=
  let c0_531 : Index := 0#32
  let c0_532 : Index := 0#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v895 : Index := Scalar.indexCast v892
  let c0_533 : Index := 0#32
  let c0_534 : Index := 0#32
  ![0, 0, v895.toNat, 0, 0]
def k0_off17_at (r : Fin 2) : BitVec 32 × BitVec 32 :=
  if r.val < 1 then
    (0#32, 0#32)
  else
    (1#32, 1#32)
def k0_off18 (i : grid0.Coords) (c0_i32_525 : BitVec 32) (c0_i32_526 : BitVec 32) : Fin 5 → Nat :=
  let c0_553 : Index := 0#32
  let c1_554 : Index := 1#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v915 : Index := Scalar.indexCast v892
  let c0_555 : Index := 0#32
  let c0_556 : Index := 0#32
  ![0, 1, v915.toNat, 0, 0]
def k0_off18_at (r : Fin 2) : BitVec 32 × BitVec 32 :=
  if r.val < 1 then
    (0#32, 0#32)
  else
    (1#32, 1#32)
def k0_off19 (i : grid0.Coords) (c0_i32_525 : BitVec 32) (c0_i32_526 : BitVec 32) : Fin 5 → Nat :=
  let c1_575 : Index := 1#32
  let c0_576 : Index := 0#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v935 : Index := Scalar.indexCast v892
  let c0_577 : Index := 0#32
  let c0_578 : Index := 0#32
  ![1, 0, v935.toNat, 0, 0]
def k0_off19_at (r : Fin 2) : BitVec 32 × BitVec 32 :=
  if r.val < 1 then
    (0#32, 0#32)
  else
    (1#32, 1#32)
def k0_off20 (i : grid0.Coords) (c0_i32_525 : BitVec 32) (c0_i32_526 : BitVec 32) : Fin 5 → Nat :=
  let c1_597 : Index := 1#32
  let c1_598 : Index := 1#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v955 : Index := Scalar.indexCast v892
  let c0_599 : Index := 0#32
  let c0_600 : Index := 0#32
  ![1, 1, v955.toNat, 0, 0]
def k0_off20_at (r : Fin 2) : BitVec 32 × BitVec 32 :=
  if r.val < 1 then
    (0#32, 0#32)
  else
    (1#32, 1#32)
def k0_off21 (i : grid0.Coords) (c0_i32_525 : BitVec 32) (c0_i32_526 : BitVec 32) : Fin 5 → Nat :=
  let c2_619 : Index := 2#32
  let c0_620 : Index := 0#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v975 : Index := Scalar.indexCast v892
  let c0_621 : Index := 0#32
  let c0_622 : Index := 0#32
  ![2, 0, v975.toNat, 0, 0]
def k0_off21_at (r : Fin 2) : BitVec 32 × BitVec 32 :=
  if r.val < 1 then
    (0#32, 0#32)
  else
    (1#32, 1#32)
def k0_off22 (i : grid0.Coords) (c0_i32_525 : BitVec 32) (c0_i32_526 : BitVec 32) : Fin 5 → Nat :=
  let c2_641 : Index := 2#32
  let c1_642 : Index := 1#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v995 : Index := Scalar.indexCast v892
  let c0_643 : Index := 0#32
  let c0_644 : Index := 0#32
  ![2, 1, v995.toNat, 0, 0]
def k0_off22_at (r : Fin 2) : BitVec 32 × BitVec 32 :=
  if r.val < 1 then
    (0#32, 0#32)
  else
    (1#32, 1#32)
def k0_off23 (i : grid0.Coords) (c0_i32_525 : BitVec 32) (c0_i32_526 : BitVec 32) : Fin 5 → Nat :=
  let c3_663 : Index := 3#32
  let c0_664 : Index := 0#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v1015 : Index := Scalar.indexCast v892
  let c0_665 : Index := 0#32
  let c0_666 : Index := 0#32
  ![3, 0, v1015.toNat, 0, 0]
def k0_off23_at (r : Fin 2) : BitVec 32 × BitVec 32 :=
  if r.val < 1 then
    (0#32, 0#32)
  else
    (1#32, 1#32)
def k0_off24 (i : grid0.Coords) (c0_i32_525 : BitVec 32) (c0_i32_526 : BitVec 32) : Fin 5 → Nat :=
  let c3_685 : Index := 3#32
  let c1_686 : Index := 1#32
  let arg2 : BitVec 32 := BitVec.ofNat 32 (i 2).val
  let c1_i32 : BitVec 32 := 1#32
  let v661 : BitVec 32 := Scalar.subi arg2 c1_i32
  let v891 : BitVec 1 := Scalar.cmpi .sgt v661 c0_i32_525
  let c16_i32_527 : BitVec 32 := 16#32
  let v892 : BitVec 32 := Scalar.select v891 c0_i32_526 c16_i32_527
  let v1035 : Index := Scalar.indexCast v892
  let c0_687 : Index := 0#32
  let c0_688 : Index := 0#32
  ![3, 1, v1035.toNat, 0, 0]
def k0_off24_at (r : Fin 2) : BitVec 32 × BitVec 32 :=
  if r.val < 1 then
    (0#32, 0#32)
  else
    (1#32, 1#32)
def k0_off25 (i : grid0.Coords) : Fin 4 → Nat :=
  let c0_717 : Index := 0#32
  let arg2 : BitVec 32 := BitVec.ofNat 32 (i 2).val
  let v1070 : Index := Scalar.indexCast arg2
  let c0_718 : Index := 0#32
  let c0_719 : Index := 0#32
  ![0, v1070.toNat, 0, 0]
def k0_off26 (i : grid0.Coords) : Fin 4 → Nat :=
  let c0_720 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1073 : Index := Scalar.indexCast v682
  let c0_721 : Index := 0#32
  let c0_722 : Index := 0#32
  ![0, v1073.toNat, 0, 0]
def k0_off27 (i : grid0.Coords) : Fin 4 → Nat :=
  let c0_738 : Index := 0#32
  let arg2 : BitVec 32 := BitVec.ofNat 32 (i 2).val
  let v1099 : Index := Scalar.indexCast arg2
  let c64_739 : Index := 64#32
  let c0_740 : Index := 0#32
  ![0, v1099.toNat, 64, 0]
def k0_off28 (i : grid0.Coords) : Fin 4 → Nat :=
  let c0_741 : Index := 0#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1102 : Index := Scalar.indexCast v682
  let c64_742 : Index := 64#32
  let c0_743 : Index := 0#32
  ![0, v1102.toNat, 64, 0]
def k0_off29 (i : grid0.Coords) : Fin 4 → Nat :=
  let c1_759 : Index := 1#32
  let arg2 : BitVec 32 := BitVec.ofNat 32 (i 2).val
  let v1128 : Index := Scalar.indexCast arg2
  let c0_760 : Index := 0#32
  let c0_761 : Index := 0#32
  ![1, v1128.toNat, 0, 0]
def k0_off30 (i : grid0.Coords) : Fin 4 → Nat :=
  let c1_762 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1131 : Index := Scalar.indexCast v682
  let c0_763 : Index := 0#32
  let c0_764 : Index := 0#32
  ![1, v1131.toNat, 0, 0]
def k0_off31 (i : grid0.Coords) : Fin 4 → Nat :=
  let c1_780 : Index := 1#32
  let arg2 : BitVec 32 := BitVec.ofNat 32 (i 2).val
  let v1157 : Index := Scalar.indexCast arg2
  let c64_781 : Index := 64#32
  let c0_782 : Index := 0#32
  ![1, v1157.toNat, 64, 0]
def k0_off32 (i : grid0.Coords) : Fin 4 → Nat :=
  let c1_783 : Index := 1#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1160 : Index := Scalar.indexCast v682
  let c64_784 : Index := 64#32
  let c0_785 : Index := 0#32
  ![1, v1160.toNat, 64, 0]
def k0_off33 (i : grid0.Coords) : Fin 4 → Nat :=
  let c2_801 : Index := 2#32
  let arg2 : BitVec 32 := BitVec.ofNat 32 (i 2).val
  let v1186 : Index := Scalar.indexCast arg2
  let c0_802 : Index := 0#32
  let c0_803 : Index := 0#32
  ![2, v1186.toNat, 0, 0]
def k0_off34 (i : grid0.Coords) : Fin 4 → Nat :=
  let c2_804 : Index := 2#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1189 : Index := Scalar.indexCast v682
  let c0_805 : Index := 0#32
  let c0_806 : Index := 0#32
  ![2, v1189.toNat, 0, 0]
def k0_off35 (i : grid0.Coords) : Fin 4 → Nat :=
  let c2_822 : Index := 2#32
  let arg2 : BitVec 32 := BitVec.ofNat 32 (i 2).val
  let v1215 : Index := Scalar.indexCast arg2
  let c64_823 : Index := 64#32
  let c0_824 : Index := 0#32
  ![2, v1215.toNat, 64, 0]
def k0_off36 (i : grid0.Coords) : Fin 4 → Nat :=
  let c2_825 : Index := 2#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1218 : Index := Scalar.indexCast v682
  let c64_826 : Index := 64#32
  let c0_827 : Index := 0#32
  ![2, v1218.toNat, 64, 0]
def k0_off37 (i : grid0.Coords) : Fin 4 → Nat :=
  let c3_843 : Index := 3#32
  let arg2 : BitVec 32 := BitVec.ofNat 32 (i 2).val
  let v1244 : Index := Scalar.indexCast arg2
  let c0_844 : Index := 0#32
  let c0_845 : Index := 0#32
  ![3, v1244.toNat, 0, 0]
def k0_off38 (i : grid0.Coords) : Fin 4 → Nat :=
  let c3_846 : Index := 3#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1247 : Index := Scalar.indexCast v682
  let c0_847 : Index := 0#32
  let c0_848 : Index := 0#32
  ![3, v1247.toNat, 0, 0]
def k0_off39 (i : grid0.Coords) : Fin 4 → Nat :=
  let c3_864 : Index := 3#32
  let arg2 : BitVec 32 := BitVec.ofNat 32 (i 2).val
  let v1273 : Index := Scalar.indexCast arg2
  let c64_865 : Index := 64#32
  let c0_866 : Index := 0#32
  ![3, v1273.toNat, 64, 0]
def k0_off40 (i : grid0.Coords) : Fin 4 → Nat :=
  let c3_867 : Index := 3#32
  let arg2 : BitVec 32 := BitVec.ofNat 32 (i 2).val
  let c0_i32_286 : BitVec 32 := 0#32
  let v680 : BitVec 1 := Scalar.cmpi .sgt arg2 c0_i32_286
  let c1_i32_287 : BitVec 32 := 1#32
  let v681 : BitVec 32 := Scalar.subi arg2 c1_i32_287
  let c16_i32_288 : BitVec 32 := 16#32
  let v682 : BitVec 32 := Scalar.select v680 v681 c16_i32_288
  let v1276 : Index := Scalar.indexCast v682
  let c64_868 : Index := 64#32
  let c0_869 : Index := 0#32
  ![3, v1276.toNat, 64, 0]
@[reducible] def k0_t1_loop (i : grid0.Coords) : Scf.Loop 32 :=
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_884 : BitVec 32 := 1#32
  ⟨c0_i32_882, v1308, c1_i32_884⟩
def k0_off41 (i : grid0.Coords) (k0_t1 : Fin (k0_t1_loop i).trips) : Fin 5 → Nat :=
  let c0_949 : Index := 0#32
  let c0_950 : Index := 0#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1394 : Index := Scalar.indexCast v1387
  let c0_951 : Index := 0#32
  let c0_952 : Index := 0#32
  ![0, 0, v1394.toNat, 0, 0]
def k0_off42 (i : grid0.Coords) (k0_t1 : Fin (k0_t1_loop i).trips) : Fin 5 → Nat :=
  let c0_953 : Index := 0#32
  let c0_954 : Index := 0#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1397 : Index := Scalar.indexCast v1393
  let c0_955 : Index := 0#32
  let c0_956 : Index := 0#32
  ![0, 0, v1397.toNat, 0, 0]
def k0_off43 (i : grid0.Coords) (k0_t1 : Fin (k0_t1_loop i).trips) : Fin 5 → Nat :=
  let c0_971 : Index := 0#32
  let c1_972 : Index := 1#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1414 : Index := Scalar.indexCast v1387
  let c0_973 : Index := 0#32
  let c0_974 : Index := 0#32
  ![0, 1, v1414.toNat, 0, 0]
def k0_off44 (i : grid0.Coords) (k0_t1 : Fin (k0_t1_loop i).trips) : Fin 5 → Nat :=
  let c0_975 : Index := 0#32
  let c1_976 : Index := 1#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1417 : Index := Scalar.indexCast v1393
  let c0_977 : Index := 0#32
  let c0_978 : Index := 0#32
  ![0, 1, v1417.toNat, 0, 0]
def k0_off45 (i : grid0.Coords) (k0_t1 : Fin (k0_t1_loop i).trips) : Fin 5 → Nat :=
  let c1_993 : Index := 1#32
  let c0_994 : Index := 0#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1434 : Index := Scalar.indexCast v1387
  let c0_995 : Index := 0#32
  let c0_996 : Index := 0#32
  ![1, 0, v1434.toNat, 0, 0]
def k0_off46 (i : grid0.Coords) (k0_t1 : Fin (k0_t1_loop i).trips) : Fin 5 → Nat :=
  let c1_997 : Index := 1#32
  let c0_998 : Index := 0#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1437 : Index := Scalar.indexCast v1393
  let c0_999 : Index := 0#32
  let c0_1000 : Index := 0#32
  ![1, 0, v1437.toNat, 0, 0]
def k0_off47 (i : grid0.Coords) (k0_t1 : Fin (k0_t1_loop i).trips) : Fin 5 → Nat :=
  let c1_1015 : Index := 1#32
  let c1_1016 : Index := 1#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1454 : Index := Scalar.indexCast v1387
  let c0_1017 : Index := 0#32
  let c0_1018 : Index := 0#32
  ![1, 1, v1454.toNat, 0, 0]
def k0_off48 (i : grid0.Coords) (k0_t1 : Fin (k0_t1_loop i).trips) : Fin 5 → Nat :=
  let c1_1019 : Index := 1#32
  let c1_1020 : Index := 1#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1457 : Index := Scalar.indexCast v1393
  let c0_1021 : Index := 0#32
  let c0_1022 : Index := 0#32
  ![1, 1, v1457.toNat, 0, 0]
def k0_off49 (i : grid0.Coords) (k0_t1 : Fin (k0_t1_loop i).trips) : Fin 5 → Nat :=
  let c2_1037 : Index := 2#32
  let c0_1038 : Index := 0#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1474 : Index := Scalar.indexCast v1387
  let c0_1039 : Index := 0#32
  let c0_1040 : Index := 0#32
  ![2, 0, v1474.toNat, 0, 0]
def k0_off50 (i : grid0.Coords) (k0_t1 : Fin (k0_t1_loop i).trips) : Fin 5 → Nat :=
  let c2_1041 : Index := 2#32
  let c0_1042 : Index := 0#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1477 : Index := Scalar.indexCast v1393
  let c0_1043 : Index := 0#32
  let c0_1044 : Index := 0#32
  ![2, 0, v1477.toNat, 0, 0]
def k0_off51 (i : grid0.Coords) (k0_t1 : Fin (k0_t1_loop i).trips) : Fin 5 → Nat :=
  let c2_1059 : Index := 2#32
  let c1_1060 : Index := 1#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1494 : Index := Scalar.indexCast v1387
  let c0_1061 : Index := 0#32
  let c0_1062 : Index := 0#32
  ![2, 1, v1494.toNat, 0, 0]
def k0_off52 (i : grid0.Coords) (k0_t1 : Fin (k0_t1_loop i).trips) : Fin 5 → Nat :=
  let c2_1063 : Index := 2#32
  let c1_1064 : Index := 1#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1497 : Index := Scalar.indexCast v1393
  let c0_1065 : Index := 0#32
  let c0_1066 : Index := 0#32
  ![2, 1, v1497.toNat, 0, 0]
def k0_off53 (i : grid0.Coords) (k0_t1 : Fin (k0_t1_loop i).trips) : Fin 5 → Nat :=
  let c3_1081 : Index := 3#32
  let c0_1082 : Index := 0#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1514 : Index := Scalar.indexCast v1387
  let c0_1083 : Index := 0#32
  let c0_1084 : Index := 0#32
  ![3, 0, v1514.toNat, 0, 0]
def k0_off54 (i : grid0.Coords) (k0_t1 : Fin (k0_t1_loop i).trips) : Fin 5 → Nat :=
  let c3_1085 : Index := 3#32
  let c0_1086 : Index := 0#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1517 : Index := Scalar.indexCast v1393
  let c0_1087 : Index := 0#32
  let c0_1088 : Index := 0#32
  ![3, 0, v1517.toNat, 0, 0]
def k0_off55 (i : grid0.Coords) (k0_t1 : Fin (k0_t1_loop i).trips) : Fin 5 → Nat :=
  let c3_1103 : Index := 3#32
  let c1_1104 : Index := 1#32
  let c2_i32_941 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let arg2 : BitVec 32 := BitVec.ofNat 32 (i 2).val
  let c1_i32 : BitVec 32 := 1#32
  let v661 : BitVec 32 := Scalar.subi arg2 c1_i32
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1534 : Index := Scalar.indexCast v1387
  let c0_1105 : Index := 0#32
  let c0_1106 : Index := 0#32
  ![3, 1, v1534.toNat, 0, 0]
def k0_off56 (i : grid0.Coords) (k0_t1 : Fin (k0_t1_loop i).trips) : Fin 5 → Nat :=
  let c3_1107 : Index := 3#32
  let c1_1108 : Index := 1#32
  let c2_i32_944 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let arg2 : BitVec 32 := BitVec.ofNat 32 (i 2).val
  let c1_i32 : BitVec 32 := 1#32
  let v661 : BitVec 32 := Scalar.subi arg2 c1_i32
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1537 : Index := Scalar.indexCast v1393
  let c0_1109 : Index := 0#32
  let c0_1110 : Index := 0#32
  ![3, 1, v1537.toNat, 0, 0]
def k0_off57 (i : grid0.Coords) (k0_t1 : Fin (k0_t1_loop i).trips) : Fin 4 → Nat :=
  let c0_1144 : Index := 0#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1581 : Index := Scalar.indexCast v1558
  let c0_1145 : Index := 0#32
  let c0_1146 : Index := 0#32
  ![0, v1581.toNat, 0, 0]
def k0_off58 (i : grid0.Coords) (k0_t1 : Fin (k0_t1_loop i).trips) : Fin 4 → Nat :=
  let c0_1147 : Index := 0#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1584 : Index := Scalar.indexCast v1564
  let c0_1148 : Index := 0#32
  let c0_1149 : Index := 0#32
  ![0, v1584.toNat, 0, 0]
def k0_off59 (i : grid0.Coords) (k0_t1 : Fin (k0_t1_loop i).trips) : Fin 4 → Nat :=
  let c0_1169 : Index := 0#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1620 : Index := Scalar.indexCast v1558
  let c64_1170 : Index := 64#32
  let c0_1171 : Index := 0#32
  ![0, v1620.toNat, 64, 0]
def k0_off60 (i : grid0.Coords) (k0_t1 : Fin (k0_t1_loop i).trips) : Fin 4 → Nat :=
  let c0_1172 : Index := 0#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1623 : Index := Scalar.indexCast v1564
  let c64_1173 : Index := 64#32
  let c0_1174 : Index := 0#32
  ![0, v1623.toNat, 64, 0]
def k0_off61 (i : grid0.Coords) (k0_t1 : Fin (k0_t1_loop i).trips) : Fin 4 → Nat :=
  let c1_1194 : Index := 1#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1659 : Index := Scalar.indexCast v1558
  let c0_1195 : Index := 0#32
  let c0_1196 : Index := 0#32
  ![1, v1659.toNat, 0, 0]
def k0_off62 (i : grid0.Coords) (k0_t1 : Fin (k0_t1_loop i).trips) : Fin 4 → Nat :=
  let c1_1197 : Index := 1#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1662 : Index := Scalar.indexCast v1564
  let c0_1198 : Index := 0#32
  let c0_1199 : Index := 0#32
  ![1, v1662.toNat, 0, 0]
def k0_off63 (i : grid0.Coords) (k0_t1 : Fin (k0_t1_loop i).trips) : Fin 4 → Nat :=
  let c1_1219 : Index := 1#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1698 : Index := Scalar.indexCast v1558
  let c64_1220 : Index := 64#32
  let c0_1221 : Index := 0#32
  ![1, v1698.toNat, 64, 0]
def k0_off64 (i : grid0.Coords) (k0_t1 : Fin (k0_t1_loop i).trips) : Fin 4 → Nat :=
  let c1_1222 : Index := 1#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1701 : Index := Scalar.indexCast v1564
  let c64_1223 : Index := 64#32
  let c0_1224 : Index := 0#32
  ![1, v1701.toNat, 64, 0]
def k0_off65 (i : grid0.Coords) (k0_t1 : Fin (k0_t1_loop i).trips) : Fin 4 → Nat :=
  let c2_1244 : Index := 2#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1737 : Index := Scalar.indexCast v1558
  let c0_1245 : Index := 0#32
  let c0_1246 : Index := 0#32
  ![2, v1737.toNat, 0, 0]
def k0_off66 (i : grid0.Coords) (k0_t1 : Fin (k0_t1_loop i).trips) : Fin 4 → Nat :=
  let c2_1247 : Index := 2#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1740 : Index := Scalar.indexCast v1564
  let c0_1248 : Index := 0#32
  let c0_1249 : Index := 0#32
  ![2, v1740.toNat, 0, 0]
def k0_off67 (i : grid0.Coords) (k0_t1 : Fin (k0_t1_loop i).trips) : Fin 4 → Nat :=
  let c2_1269 : Index := 2#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1776 : Index := Scalar.indexCast v1558
  let c64_1270 : Index := 64#32
  let c0_1271 : Index := 0#32
  ![2, v1776.toNat, 64, 0]
def k0_off68 (i : grid0.Coords) (k0_t1 : Fin (k0_t1_loop i).trips) : Fin 4 → Nat :=
  let c2_1272 : Index := 2#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1779 : Index := Scalar.indexCast v1564
  let c64_1273 : Index := 64#32
  let c0_1274 : Index := 0#32
  ![2, v1779.toNat, 64, 0]
def k0_off69 (i : grid0.Coords) (k0_t1 : Fin (k0_t1_loop i).trips) : Fin 4 → Nat :=
  let c3_1294 : Index := 3#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1815 : Index := Scalar.indexCast v1558
  let c0_1295 : Index := 0#32
  let c0_1296 : Index := 0#32
  ![3, v1815.toNat, 0, 0]
def k0_off70 (i : grid0.Coords) (k0_t1 : Fin (k0_t1_loop i).trips) : Fin 4 → Nat :=
  let c3_1297 : Index := 3#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1818 : Index := Scalar.indexCast v1564
  let c0_1298 : Index := 0#32
  let c0_1299 : Index := 0#32
  ![3, v1818.toNat, 0, 0]
def k0_off71 (i : grid0.Coords) (k0_t1 : Fin (k0_t1_loop i).trips) : Fin 4 → Nat :=
  let c3_1319 : Index := 3#32
  let c2_i32_1126 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let arg2 : BitVec 32 := BitVec.ofNat 32 (i 2).val
  let c1_i32 : BitVec 32 := 1#32
  let v661 : BitVec 32 := Scalar.subi arg2 c1_i32
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1854 : Index := Scalar.indexCast v1558
  let c64_1320 : Index := 64#32
  let c0_1321 : Index := 0#32
  ![3, v1854.toNat, 64, 0]
def k0_off72 (i : grid0.Coords) (k0_t1 : Fin (k0_t1_loop i).trips) : Fin 4 → Nat :=
  let c3_1322 : Index := 3#32
  let c2_i32_1129 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let arg2 : BitVec 32 := BitVec.ofNat 32 (i 2).val
  let c1_i32 : BitVec 32 := 1#32
  let v661 : BitVec 32 := Scalar.subi arg2 c1_i32
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1857 : Index := Scalar.indexCast v1564
  let c64_1323 : Index := 64#32
  let c0_1324 : Index := 0#32
  ![3, v1857.toNat, 64, 0]
def k0_off73 (i : grid0.Coords) (k0_t1 : Fin (k0_t1_loop i).trips) : Fin 5 → Nat :=
  let c0_1342 : Index := 0#32
  let c0_1343 : Index := 0#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1887 : Index := Scalar.indexCast v1880
  let c0_1344 : Index := 0#32
  let c0_1345 : Index := 0#32
  ![0, 0, v1887.toNat, 0, 0]
def k0_off74 (i : grid0.Coords) (k0_t1 : Fin (k0_t1_loop i).trips) : Fin 5 → Nat :=
  let c0_1346 : Index := 0#32
  let c0_1347 : Index := 0#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1890 : Index := Scalar.indexCast v1886
  let c0_1348 : Index := 0#32
  let c0_1349 : Index := 0#32
  ![0, 0, v1890.toNat, 0, 0]
def k0_off75 (i : grid0.Coords) (k0_t1 : Fin (k0_t1_loop i).trips) : Fin 5 → Nat :=
  let c0_1364 : Index := 0#32
  let c1_1365 : Index := 1#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1907 : Index := Scalar.indexCast v1880
  let c0_1366 : Index := 0#32
  let c0_1367 : Index := 0#32
  ![0, 1, v1907.toNat, 0, 0]
def k0_off76 (i : grid0.Coords) (k0_t1 : Fin (k0_t1_loop i).trips) : Fin 5 → Nat :=
  let c0_1368 : Index := 0#32
  let c1_1369 : Index := 1#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1910 : Index := Scalar.indexCast v1886
  let c0_1370 : Index := 0#32
  let c0_1371 : Index := 0#32
  ![0, 1, v1910.toNat, 0, 0]
def k0_off77 (i : grid0.Coords) (k0_t1 : Fin (k0_t1_loop i).trips) : Fin 5 → Nat :=
  let c1_1386 : Index := 1#32
  let c0_1387 : Index := 0#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1927 : Index := Scalar.indexCast v1880
  let c0_1388 : Index := 0#32
  let c0_1389 : Index := 0#32
  ![1, 0, v1927.toNat, 0, 0]
def k0_off78 (i : grid0.Coords) (k0_t1 : Fin (k0_t1_loop i).trips) : Fin 5 → Nat :=
  let c1_1390 : Index := 1#32
  let c0_1391 : Index := 0#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1930 : Index := Scalar.indexCast v1886
  let c0_1392 : Index := 0#32
  let c0_1393 : Index := 0#32
  ![1, 0, v1930.toNat, 0, 0]
def k0_off79 (i : grid0.Coords) (k0_t1 : Fin (k0_t1_loop i).trips) : Fin 5 → Nat :=
  let c1_1408 : Index := 1#32
  let c1_1409 : Index := 1#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1947 : Index := Scalar.indexCast v1880
  let c0_1410 : Index := 0#32
  let c0_1411 : Index := 0#32
  ![1, 1, v1947.toNat, 0, 0]
def k0_off80 (i : grid0.Coords) (k0_t1 : Fin (k0_t1_loop i).trips) : Fin 5 → Nat :=
  let c1_1412 : Index := 1#32
  let c1_1413 : Index := 1#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1950 : Index := Scalar.indexCast v1886
  let c0_1414 : Index := 0#32
  let c0_1415 : Index := 0#32
  ![1, 1, v1950.toNat, 0, 0]
def k0_off81 (i : grid0.Coords) (k0_t1 : Fin (k0_t1_loop i).trips) : Fin 5 → Nat :=
  let c2_1430 : Index := 2#32
  let c0_1431 : Index := 0#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1967 : Index := Scalar.indexCast v1880
  let c0_1432 : Index := 0#32
  let c0_1433 : Index := 0#32
  ![2, 0, v1967.toNat, 0, 0]
def k0_off82 (i : grid0.Coords) (k0_t1 : Fin (k0_t1_loop i).trips) : Fin 5 → Nat :=
  let c2_1434 : Index := 2#32
  let c0_1435 : Index := 0#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1970 : Index := Scalar.indexCast v1886
  let c0_1436 : Index := 0#32
  let c0_1437 : Index := 0#32
  ![2, 0, v1970.toNat, 0, 0]
def k0_off83 (i : grid0.Coords) (k0_t1 : Fin (k0_t1_loop i).trips) : Fin 5 → Nat :=
  let c2_1452 : Index := 2#32
  let c1_1453 : Index := 1#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1987 : Index := Scalar.indexCast v1880
  let c0_1454 : Index := 0#32
  let c0_1455 : Index := 0#32
  ![2, 1, v1987.toNat, 0, 0]
def k0_off84 (i : grid0.Coords) (k0_t1 : Fin (k0_t1_loop i).trips) : Fin 5 → Nat :=
  let c2_1456 : Index := 2#32
  let c1_1457 : Index := 1#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1990 : Index := Scalar.indexCast v1886
  let c0_1458 : Index := 0#32
  let c0_1459 : Index := 0#32
  ![2, 1, v1990.toNat, 0, 0]
def k0_off85 (i : grid0.Coords) (k0_t1 : Fin (k0_t1_loop i).trips) : Fin 5 → Nat :=
  let c3_1474 : Index := 3#32
  let c0_1475 : Index := 0#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v2007 : Index := Scalar.indexCast v1880
  let c0_1476 : Index := 0#32
  let c0_1477 : Index := 0#32
  ![3, 0, v2007.toNat, 0, 0]
def k0_off86 (i : grid0.Coords) (k0_t1 : Fin (k0_t1_loop i).trips) : Fin 5 → Nat :=
  let c3_1478 : Index := 3#32
  let c0_1479 : Index := 0#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v2010 : Index := Scalar.indexCast v1886
  let c0_1480 : Index := 0#32
  let c0_1481 : Index := 0#32
  ![3, 0, v2010.toNat, 0, 0]
def k0_off87 (i : grid0.Coords) (k0_t1 : Fin (k0_t1_loop i).trips) : Fin 5 → Nat :=
  let c3_1496 : Index := 3#32
  let c1_1497 : Index := 1#32
  let c2_i32_1334 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let arg2 : BitVec 32 := BitVec.ofNat 32 (i 2).val
  let c1_i32 : BitVec 32 := 1#32
  let v661 : BitVec 32 := Scalar.subi arg2 c1_i32
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v2027 : Index := Scalar.indexCast v1880
  let c0_1498 : Index := 0#32
  let c0_1499 : Index := 0#32
  ![3, 1, v2027.toNat, 0, 0]
def k0_off88 (i : grid0.Coords) (k0_t1 : Fin (k0_t1_loop i).trips) : Fin 5 → Nat :=
  let c3_1500 : Index := 3#32
  let c1_1501 : Index := 1#32
  let c2_i32_1337 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let arg2 : BitVec 32 := BitVec.ofNat 32 (i 2).val
  let c1_i32 : BitVec 32 := 1#32
  let v661 : BitVec 32 := Scalar.subi arg2 c1_i32
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v2030 : Index := Scalar.indexCast v1886
  let c0_1502 : Index := 0#32
  let c0_1503 : Index := 0#32
  ![3, 1, v2030.toNat, 0, 0]
def k0_off89 (i : grid0.Coords) (k0_t1 : Fin (k0_t1_loop i).trips) : Fin 4 → Nat :=
  let c0_1537 : Index := 0#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2074 : Index := Scalar.indexCast v2051
  let c0_1538 : Index := 0#32
  let c0_1539 : Index := 0#32
  ![0, v2074.toNat, 0, 0]
def k0_off90 (i : grid0.Coords) (k0_t1 : Fin (k0_t1_loop i).trips) : Fin 4 → Nat :=
  let c0_1540 : Index := 0#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2077 : Index := Scalar.indexCast v2057
  let c0_1541 : Index := 0#32
  let c0_1542 : Index := 0#32
  ![0, v2077.toNat, 0, 0]
def k0_off91 (i : grid0.Coords) (k0_t1 : Fin (k0_t1_loop i).trips) : Fin 4 → Nat :=
  let c0_1562 : Index := 0#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2113 : Index := Scalar.indexCast v2051
  let c64_1563 : Index := 64#32
  let c0_1564 : Index := 0#32
  ![0, v2113.toNat, 64, 0]
def k0_off92 (i : grid0.Coords) (k0_t1 : Fin (k0_t1_loop i).trips) : Fin 4 → Nat :=
  let c0_1565 : Index := 0#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2116 : Index := Scalar.indexCast v2057
  let c64_1566 : Index := 64#32
  let c0_1567 : Index := 0#32
  ![0, v2116.toNat, 64, 0]
def k0_off93 (i : grid0.Coords) (k0_t1 : Fin (k0_t1_loop i).trips) : Fin 4 → Nat :=
  let c1_1587 : Index := 1#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2152 : Index := Scalar.indexCast v2051
  let c0_1588 : Index := 0#32
  let c0_1589 : Index := 0#32
  ![1, v2152.toNat, 0, 0]
def k0_off94 (i : grid0.Coords) (k0_t1 : Fin (k0_t1_loop i).trips) : Fin 4 → Nat :=
  let c1_1590 : Index := 1#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2155 : Index := Scalar.indexCast v2057
  let c0_1591 : Index := 0#32
  let c0_1592 : Index := 0#32
  ![1, v2155.toNat, 0, 0]
def k0_off95 (i : grid0.Coords) (k0_t1 : Fin (k0_t1_loop i).trips) : Fin 4 → Nat :=
  let c1_1612 : Index := 1#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2191 : Index := Scalar.indexCast v2051
  let c64_1613 : Index := 64#32
  let c0_1614 : Index := 0#32
  ![1, v2191.toNat, 64, 0]
def k0_off96 (i : grid0.Coords) (k0_t1 : Fin (k0_t1_loop i).trips) : Fin 4 → Nat :=
  let c1_1615 : Index := 1#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2194 : Index := Scalar.indexCast v2057
  let c64_1616 : Index := 64#32
  let c0_1617 : Index := 0#32
  ![1, v2194.toNat, 64, 0]
def k0_off97 (i : grid0.Coords) (k0_t1 : Fin (k0_t1_loop i).trips) : Fin 4 → Nat :=
  let c2_1637 : Index := 2#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2230 : Index := Scalar.indexCast v2051
  let c0_1638 : Index := 0#32
  let c0_1639 : Index := 0#32
  ![2, v2230.toNat, 0, 0]
def k0_off98 (i : grid0.Coords) (k0_t1 : Fin (k0_t1_loop i).trips) : Fin 4 → Nat :=
  let c2_1640 : Index := 2#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2233 : Index := Scalar.indexCast v2057
  let c0_1641 : Index := 0#32
  let c0_1642 : Index := 0#32
  ![2, v2233.toNat, 0, 0]
def k0_off99 (i : grid0.Coords) (k0_t1 : Fin (k0_t1_loop i).trips) : Fin 4 → Nat :=
  let c2_1662 : Index := 2#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2269 : Index := Scalar.indexCast v2051
  let c64_1663 : Index := 64#32
  let c0_1664 : Index := 0#32
  ![2, v2269.toNat, 64, 0]
def k0_off100 (i : grid0.Coords) (k0_t1 : Fin (k0_t1_loop i).trips) : Fin 4 → Nat :=
  let c2_1665 : Index := 2#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2272 : Index := Scalar.indexCast v2057
  let c64_1666 : Index := 64#32
  let c0_1667 : Index := 0#32
  ![2, v2272.toNat, 64, 0]
def k0_off101 (i : grid0.Coords) (k0_t1 : Fin (k0_t1_loop i).trips) : Fin 4 → Nat :=
  let c3_1687 : Index := 3#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2308 : Index := Scalar.indexCast v2051
  let c0_1688 : Index := 0#32
  let c0_1689 : Index := 0#32
  ![3, v2308.toNat, 0, 0]
def k0_off102 (i : grid0.Coords) (k0_t1 : Fin (k0_t1_loop i).trips) : Fin 4 → Nat :=
  let c3_1690 : Index := 3#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2311 : Index := Scalar.indexCast v2057
  let c0_1691 : Index := 0#32
  let c0_1692 : Index := 0#32
  ![3, v2311.toNat, 0, 0]
def k0_off103 (i : grid0.Coords) (k0_t1 : Fin (k0_t1_loop i).trips) : Fin 4 → Nat :=
  let c3_1712 : Index := 3#32
  let c2_i32_1519 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let arg2 : BitVec 32 := BitVec.ofNat 32 (i 2).val
  let c1_i32 : BitVec 32 := 1#32
  let v661 : BitVec 32 := Scalar.subi arg2 c1_i32
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2347 : Index := Scalar.indexCast v2051
  let c64_1713 : Index := 64#32
  let c0_1714 : Index := 0#32
  ![3, v2347.toNat, 64, 0]
def k0_off104 (i : grid0.Coords) (k0_t1 : Fin (k0_t1_loop i).trips) : Fin 4 → Nat :=
  let c3_1715 : Index := 3#32
  let c2_i32_1522 : BitVec 32 := 2#32
  let c2_i32_938 : BitVec 32 := 2#32
  let c0_i32_882 : BitVec 32 := 0#32
  let c1_i32_884 : BitVec 32 := 1#32
  let arg15 : BitVec 32 := Scf.iv c0_i32_882 c1_i32_884 k0_t1
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let arg2 : BitVec 32 := BitVec.ofNat 32 (i 2).val
  let c1_i32 : BitVec 32 := 1#32
  let v661 : BitVec 32 := Scalar.subi arg2 c1_i32
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2350 : Index := Scalar.indexCast v2057
  let c64_1716 : Index := 64#32
  let c0_1717 : Index := 0#32
  ![3, v2350.toNat, 64, 0]
@[reducible] def k0_t2_loop (i : grid0.Coords) : Scf.Loop 32 :=
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let v1305 : BitVec 32 := Scalar.addi c0_i32_882 v1304
  let c1_i32_885 : BitVec 32 := 1#32
  ⟨v1308, v1305, c1_i32_885⟩
def k0_off105 (i : grid0.Coords) (k0_t2 : Fin (k0_t2_loop i).trips) : Fin 5 → Nat :=
  let c0_949 : Index := 0#32
  let c0_950 : Index := 0#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1394 : Index := Scalar.indexCast v1387
  let c0_951 : Index := 0#32
  let c0_952 : Index := 0#32
  ![0, 0, v1394.toNat, 0, 0]
def k0_off106 (i : grid0.Coords) (k0_t2 : Fin (k0_t2_loop i).trips) : Fin 5 → Nat :=
  let c0_953 : Index := 0#32
  let c0_954 : Index := 0#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1397 : Index := Scalar.indexCast v1393
  let c0_955 : Index := 0#32
  let c0_956 : Index := 0#32
  ![0, 0, v1397.toNat, 0, 0]
def k0_off107 (i : grid0.Coords) (k0_t2 : Fin (k0_t2_loop i).trips) : Fin 5 → Nat :=
  let c0_971 : Index := 0#32
  let c1_972 : Index := 1#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1414 : Index := Scalar.indexCast v1387
  let c0_973 : Index := 0#32
  let c0_974 : Index := 0#32
  ![0, 1, v1414.toNat, 0, 0]
def k0_off108 (i : grid0.Coords) (k0_t2 : Fin (k0_t2_loop i).trips) : Fin 5 → Nat :=
  let c0_975 : Index := 0#32
  let c1_976 : Index := 1#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1417 : Index := Scalar.indexCast v1393
  let c0_977 : Index := 0#32
  let c0_978 : Index := 0#32
  ![0, 1, v1417.toNat, 0, 0]
def k0_off109 (i : grid0.Coords) (k0_t2 : Fin (k0_t2_loop i).trips) : Fin 5 → Nat :=
  let c1_993 : Index := 1#32
  let c0_994 : Index := 0#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1434 : Index := Scalar.indexCast v1387
  let c0_995 : Index := 0#32
  let c0_996 : Index := 0#32
  ![1, 0, v1434.toNat, 0, 0]
def k0_off110 (i : grid0.Coords) (k0_t2 : Fin (k0_t2_loop i).trips) : Fin 5 → Nat :=
  let c1_997 : Index := 1#32
  let c0_998 : Index := 0#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1437 : Index := Scalar.indexCast v1393
  let c0_999 : Index := 0#32
  let c0_1000 : Index := 0#32
  ![1, 0, v1437.toNat, 0, 0]
def k0_off111 (i : grid0.Coords) (k0_t2 : Fin (k0_t2_loop i).trips) : Fin 5 → Nat :=
  let c1_1015 : Index := 1#32
  let c1_1016 : Index := 1#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1454 : Index := Scalar.indexCast v1387
  let c0_1017 : Index := 0#32
  let c0_1018 : Index := 0#32
  ![1, 1, v1454.toNat, 0, 0]
def k0_off112 (i : grid0.Coords) (k0_t2 : Fin (k0_t2_loop i).trips) : Fin 5 → Nat :=
  let c1_1019 : Index := 1#32
  let c1_1020 : Index := 1#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1457 : Index := Scalar.indexCast v1393
  let c0_1021 : Index := 0#32
  let c0_1022 : Index := 0#32
  ![1, 1, v1457.toNat, 0, 0]
def k0_off113 (i : grid0.Coords) (k0_t2 : Fin (k0_t2_loop i).trips) : Fin 5 → Nat :=
  let c2_1037 : Index := 2#32
  let c0_1038 : Index := 0#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1474 : Index := Scalar.indexCast v1387
  let c0_1039 : Index := 0#32
  let c0_1040 : Index := 0#32
  ![2, 0, v1474.toNat, 0, 0]
def k0_off114 (i : grid0.Coords) (k0_t2 : Fin (k0_t2_loop i).trips) : Fin 5 → Nat :=
  let c2_1041 : Index := 2#32
  let c0_1042 : Index := 0#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1477 : Index := Scalar.indexCast v1393
  let c0_1043 : Index := 0#32
  let c0_1044 : Index := 0#32
  ![2, 0, v1477.toNat, 0, 0]
def k0_off115 (i : grid0.Coords) (k0_t2 : Fin (k0_t2_loop i).trips) : Fin 5 → Nat :=
  let c2_1059 : Index := 2#32
  let c1_1060 : Index := 1#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1494 : Index := Scalar.indexCast v1387
  let c0_1061 : Index := 0#32
  let c0_1062 : Index := 0#32
  ![2, 1, v1494.toNat, 0, 0]
def k0_off116 (i : grid0.Coords) (k0_t2 : Fin (k0_t2_loop i).trips) : Fin 5 → Nat :=
  let c2_1063 : Index := 2#32
  let c1_1064 : Index := 1#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1497 : Index := Scalar.indexCast v1393
  let c0_1065 : Index := 0#32
  let c0_1066 : Index := 0#32
  ![2, 1, v1497.toNat, 0, 0]
def k0_off117 (i : grid0.Coords) (k0_t2 : Fin (k0_t2_loop i).trips) : Fin 5 → Nat :=
  let c3_1081 : Index := 3#32
  let c0_1082 : Index := 0#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1514 : Index := Scalar.indexCast v1387
  let c0_1083 : Index := 0#32
  let c0_1084 : Index := 0#32
  ![3, 0, v1514.toNat, 0, 0]
def k0_off118 (i : grid0.Coords) (k0_t2 : Fin (k0_t2_loop i).trips) : Fin 5 → Nat :=
  let c3_1085 : Index := 3#32
  let c0_1086 : Index := 0#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1517 : Index := Scalar.indexCast v1393
  let c0_1087 : Index := 0#32
  let c0_1088 : Index := 0#32
  ![3, 0, v1517.toNat, 0, 0]
def k0_off119 (i : grid0.Coords) (k0_t2 : Fin (k0_t2_loop i).trips) : Fin 5 → Nat :=
  let c3_1103 : Index := 3#32
  let c1_1104 : Index := 1#32
  let c2_i32_941 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1384 : BitVec 32 := Scalar.muli c2_i32_941 v1382
  let v1385 : BitVec 1 := Scalar.cmpi .slt v1384 v661
  let c2_i32_942 : BitVec 32 := 2#32
  let v1386 : BitVec 32 := Scalar.muli c2_i32_942 v1382
  let c16_i32_943 : BitVec 32 := 16#32
  let v1387 : BitVec 32 := Scalar.select v1385 v1386 c16_i32_943
  let v1534 : Index := Scalar.indexCast v1387
  let c0_1105 : Index := 0#32
  let c0_1106 : Index := 0#32
  ![3, 1, v1534.toNat, 0, 0]
def k0_off120 (i : grid0.Coords) (k0_t2 : Fin (k0_t2_loop i).trips) : Fin 5 → Nat :=
  let c3_1107 : Index := 3#32
  let c1_1108 : Index := 1#32
  let c2_i32_944 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let v1388 : BitVec 32 := Scalar.muli c2_i32_944 v1382
  let c1_i32_945 : BitVec 32 := 1#32
  let v1389 : BitVec 32 := Scalar.addi v1388 c1_i32_945
  let v1390 : BitVec 1 := Scalar.cmpi .slt v1389 v661
  let c2_i32_946 : BitVec 32 := 2#32
  let v1391 : BitVec 32 := Scalar.muli c2_i32_946 v1382
  let c1_i32_947 : BitVec 32 := 1#32
  let v1392 : BitVec 32 := Scalar.addi v1391 c1_i32_947
  let c16_i32_948 : BitVec 32 := 16#32
  let v1393 : BitVec 32 := Scalar.select v1390 v1392 c16_i32_948
  let v1537 : Index := Scalar.indexCast v1393
  let c0_1109 : Index := 0#32
  let c0_1110 : Index := 0#32
  ![3, 1, v1537.toNat, 0, 0]
def k0_off121 (i : grid0.Coords) (k0_t2 : Fin (k0_t2_loop i).trips) : Fin 4 → Nat :=
  let c0_1144 : Index := 0#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1581 : Index := Scalar.indexCast v1558
  let c0_1145 : Index := 0#32
  let c0_1146 : Index := 0#32
  ![0, v1581.toNat, 0, 0]
def k0_off122 (i : grid0.Coords) (k0_t2 : Fin (k0_t2_loop i).trips) : Fin 4 → Nat :=
  let c0_1147 : Index := 0#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1584 : Index := Scalar.indexCast v1564
  let c0_1148 : Index := 0#32
  let c0_1149 : Index := 0#32
  ![0, v1584.toNat, 0, 0]
def k0_off123 (i : grid0.Coords) (k0_t2 : Fin (k0_t2_loop i).trips) : Fin 4 → Nat :=
  let c0_1169 : Index := 0#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1620 : Index := Scalar.indexCast v1558
  let c64_1170 : Index := 64#32
  let c0_1171 : Index := 0#32
  ![0, v1620.toNat, 64, 0]
def k0_off124 (i : grid0.Coords) (k0_t2 : Fin (k0_t2_loop i).trips) : Fin 4 → Nat :=
  let c0_1172 : Index := 0#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1623 : Index := Scalar.indexCast v1564
  let c64_1173 : Index := 64#32
  let c0_1174 : Index := 0#32
  ![0, v1623.toNat, 64, 0]
def k0_off125 (i : grid0.Coords) (k0_t2 : Fin (k0_t2_loop i).trips) : Fin 4 → Nat :=
  let c1_1194 : Index := 1#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1659 : Index := Scalar.indexCast v1558
  let c0_1195 : Index := 0#32
  let c0_1196 : Index := 0#32
  ![1, v1659.toNat, 0, 0]
def k0_off126 (i : grid0.Coords) (k0_t2 : Fin (k0_t2_loop i).trips) : Fin 4 → Nat :=
  let c1_1197 : Index := 1#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1662 : Index := Scalar.indexCast v1564
  let c0_1198 : Index := 0#32
  let c0_1199 : Index := 0#32
  ![1, v1662.toNat, 0, 0]
def k0_off127 (i : grid0.Coords) (k0_t2 : Fin (k0_t2_loop i).trips) : Fin 4 → Nat :=
  let c1_1219 : Index := 1#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1698 : Index := Scalar.indexCast v1558
  let c64_1220 : Index := 64#32
  let c0_1221 : Index := 0#32
  ![1, v1698.toNat, 64, 0]
def k0_off128 (i : grid0.Coords) (k0_t2 : Fin (k0_t2_loop i).trips) : Fin 4 → Nat :=
  let c1_1222 : Index := 1#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1701 : Index := Scalar.indexCast v1564
  let c64_1223 : Index := 64#32
  let c0_1224 : Index := 0#32
  ![1, v1701.toNat, 64, 0]
def k0_off129 (i : grid0.Coords) (k0_t2 : Fin (k0_t2_loop i).trips) : Fin 4 → Nat :=
  let c2_1244 : Index := 2#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1737 : Index := Scalar.indexCast v1558
  let c0_1245 : Index := 0#32
  let c0_1246 : Index := 0#32
  ![2, v1737.toNat, 0, 0]
def k0_off130 (i : grid0.Coords) (k0_t2 : Fin (k0_t2_loop i).trips) : Fin 4 → Nat :=
  let c2_1247 : Index := 2#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1740 : Index := Scalar.indexCast v1564
  let c0_1248 : Index := 0#32
  let c0_1249 : Index := 0#32
  ![2, v1740.toNat, 0, 0]
def k0_off131 (i : grid0.Coords) (k0_t2 : Fin (k0_t2_loop i).trips) : Fin 4 → Nat :=
  let c2_1269 : Index := 2#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1776 : Index := Scalar.indexCast v1558
  let c64_1270 : Index := 64#32
  let c0_1271 : Index := 0#32
  ![2, v1776.toNat, 64, 0]
def k0_off132 (i : grid0.Coords) (k0_t2 : Fin (k0_t2_loop i).trips) : Fin 4 → Nat :=
  let c2_1272 : Index := 2#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1779 : Index := Scalar.indexCast v1564
  let c64_1273 : Index := 64#32
  let c0_1274 : Index := 0#32
  ![2, v1779.toNat, 64, 0]
def k0_off133 (i : grid0.Coords) (k0_t2 : Fin (k0_t2_loop i).trips) : Fin 4 → Nat :=
  let c3_1294 : Index := 3#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1815 : Index := Scalar.indexCast v1558
  let c0_1295 : Index := 0#32
  let c0_1296 : Index := 0#32
  ![3, v1815.toNat, 0, 0]
def k0_off134 (i : grid0.Coords) (k0_t2 : Fin (k0_t2_loop i).trips) : Fin 4 → Nat :=
  let c3_1297 : Index := 3#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1818 : Index := Scalar.indexCast v1564
  let c0_1298 : Index := 0#32
  let c0_1299 : Index := 0#32
  ![3, v1818.toNat, 0, 0]
def k0_off135 (i : grid0.Coords) (k0_t2 : Fin (k0_t2_loop i).trips) : Fin 4 → Nat :=
  let c3_1319 : Index := 3#32
  let c2_i32_1126 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1555 : BitVec 32 := Scalar.muli c2_i32_1126 v1554
  let v1556 : BitVec 1 := Scalar.cmpi .slt v1555 v661
  let c2_i32_1127 : BitVec 32 := 2#32
  let v1557 : BitVec 32 := Scalar.muli c2_i32_1127 v1554
  let c16_i32_1128 : BitVec 32 := 16#32
  let v1558 : BitVec 32 := Scalar.select v1556 v1557 c16_i32_1128
  let v1854 : Index := Scalar.indexCast v1558
  let c64_1320 : Index := 64#32
  let c0_1321 : Index := 0#32
  ![3, v1854.toNat, 64, 0]
def k0_off136 (i : grid0.Coords) (k0_t2 : Fin (k0_t2_loop i).trips) : Fin 4 → Nat :=
  let c3_1322 : Index := 3#32
  let c2_i32_1129 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_1125 : BitVec 32 := 1#32
  let v1554 : BitVec 32 := Scalar.subi v1382 c1_i32_1125
  let v1559 : BitVec 32 := Scalar.muli c2_i32_1129 v1554
  let c1_i32_1130 : BitVec 32 := 1#32
  let v1560 : BitVec 32 := Scalar.addi v1559 c1_i32_1130
  let v1561 : BitVec 1 := Scalar.cmpi .slt v1560 v661
  let c2_i32_1131 : BitVec 32 := 2#32
  let v1562 : BitVec 32 := Scalar.muli c2_i32_1131 v1554
  let c1_i32_1132 : BitVec 32 := 1#32
  let v1563 : BitVec 32 := Scalar.addi v1562 c1_i32_1132
  let c16_i32_1133 : BitVec 32 := 16#32
  let v1564 : BitVec 32 := Scalar.select v1561 v1563 c16_i32_1133
  let v1857 : Index := Scalar.indexCast v1564
  let c64_1323 : Index := 64#32
  let c0_1324 : Index := 0#32
  ![3, v1857.toNat, 64, 0]
def k0_off137 (i : grid0.Coords) (k0_t2 : Fin (k0_t2_loop i).trips) : Fin 5 → Nat :=
  let c0_1342 : Index := 0#32
  let c0_1343 : Index := 0#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1887 : Index := Scalar.indexCast v1880
  let c0_1344 : Index := 0#32
  let c0_1345 : Index := 0#32
  ![0, 0, v1887.toNat, 0, 0]
def k0_off138 (i : grid0.Coords) (k0_t2 : Fin (k0_t2_loop i).trips) : Fin 5 → Nat :=
  let c0_1346 : Index := 0#32
  let c0_1347 : Index := 0#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1890 : Index := Scalar.indexCast v1886
  let c0_1348 : Index := 0#32
  let c0_1349 : Index := 0#32
  ![0, 0, v1890.toNat, 0, 0]
def k0_off139 (i : grid0.Coords) (k0_t2 : Fin (k0_t2_loop i).trips) : Fin 5 → Nat :=
  let c0_1364 : Index := 0#32
  let c1_1365 : Index := 1#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1907 : Index := Scalar.indexCast v1880
  let c0_1366 : Index := 0#32
  let c0_1367 : Index := 0#32
  ![0, 1, v1907.toNat, 0, 0]
def k0_off140 (i : grid0.Coords) (k0_t2 : Fin (k0_t2_loop i).trips) : Fin 5 → Nat :=
  let c0_1368 : Index := 0#32
  let c1_1369 : Index := 1#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1910 : Index := Scalar.indexCast v1886
  let c0_1370 : Index := 0#32
  let c0_1371 : Index := 0#32
  ![0, 1, v1910.toNat, 0, 0]
def k0_off141 (i : grid0.Coords) (k0_t2 : Fin (k0_t2_loop i).trips) : Fin 5 → Nat :=
  let c1_1386 : Index := 1#32
  let c0_1387 : Index := 0#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1927 : Index := Scalar.indexCast v1880
  let c0_1388 : Index := 0#32
  let c0_1389 : Index := 0#32
  ![1, 0, v1927.toNat, 0, 0]
def k0_off142 (i : grid0.Coords) (k0_t2 : Fin (k0_t2_loop i).trips) : Fin 5 → Nat :=
  let c1_1390 : Index := 1#32
  let c0_1391 : Index := 0#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1930 : Index := Scalar.indexCast v1886
  let c0_1392 : Index := 0#32
  let c0_1393 : Index := 0#32
  ![1, 0, v1930.toNat, 0, 0]
def k0_off143 (i : grid0.Coords) (k0_t2 : Fin (k0_t2_loop i).trips) : Fin 5 → Nat :=
  let c1_1408 : Index := 1#32
  let c1_1409 : Index := 1#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1947 : Index := Scalar.indexCast v1880
  let c0_1410 : Index := 0#32
  let c0_1411 : Index := 0#32
  ![1, 1, v1947.toNat, 0, 0]
def k0_off144 (i : grid0.Coords) (k0_t2 : Fin (k0_t2_loop i).trips) : Fin 5 → Nat :=
  let c1_1412 : Index := 1#32
  let c1_1413 : Index := 1#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1950 : Index := Scalar.indexCast v1886
  let c0_1414 : Index := 0#32
  let c0_1415 : Index := 0#32
  ![1, 1, v1950.toNat, 0, 0]
def k0_off145 (i : grid0.Coords) (k0_t2 : Fin (k0_t2_loop i).trips) : Fin 5 → Nat :=
  let c2_1430 : Index := 2#32
  let c0_1431 : Index := 0#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1967 : Index := Scalar.indexCast v1880
  let c0_1432 : Index := 0#32
  let c0_1433 : Index := 0#32
  ![2, 0, v1967.toNat, 0, 0]
def k0_off146 (i : grid0.Coords) (k0_t2 : Fin (k0_t2_loop i).trips) : Fin 5 → Nat :=
  let c2_1434 : Index := 2#32
  let c0_1435 : Index := 0#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1970 : Index := Scalar.indexCast v1886
  let c0_1436 : Index := 0#32
  let c0_1437 : Index := 0#32
  ![2, 0, v1970.toNat, 0, 0]
def k0_off147 (i : grid0.Coords) (k0_t2 : Fin (k0_t2_loop i).trips) : Fin 5 → Nat :=
  let c2_1452 : Index := 2#32
  let c1_1453 : Index := 1#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v1987 : Index := Scalar.indexCast v1880
  let c0_1454 : Index := 0#32
  let c0_1455 : Index := 0#32
  ![2, 1, v1987.toNat, 0, 0]
def k0_off148 (i : grid0.Coords) (k0_t2 : Fin (k0_t2_loop i).trips) : Fin 5 → Nat :=
  let c2_1456 : Index := 2#32
  let c1_1457 : Index := 1#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v1990 : Index := Scalar.indexCast v1886
  let c0_1458 : Index := 0#32
  let c0_1459 : Index := 0#32
  ![2, 1, v1990.toNat, 0, 0]
def k0_off149 (i : grid0.Coords) (k0_t2 : Fin (k0_t2_loop i).trips) : Fin 5 → Nat :=
  let c3_1474 : Index := 3#32
  let c0_1475 : Index := 0#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v2007 : Index := Scalar.indexCast v1880
  let c0_1476 : Index := 0#32
  let c0_1477 : Index := 0#32
  ![3, 0, v2007.toNat, 0, 0]
def k0_off150 (i : grid0.Coords) (k0_t2 : Fin (k0_t2_loop i).trips) : Fin 5 → Nat :=
  let c3_1478 : Index := 3#32
  let c0_1479 : Index := 0#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v2010 : Index := Scalar.indexCast v1886
  let c0_1480 : Index := 0#32
  let c0_1481 : Index := 0#32
  ![3, 0, v2010.toNat, 0, 0]
def k0_off151 (i : grid0.Coords) (k0_t2 : Fin (k0_t2_loop i).trips) : Fin 5 → Nat :=
  let c3_1496 : Index := 3#32
  let c1_1497 : Index := 1#32
  let c2_i32_1334 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1877 : BitVec 32 := Scalar.muli c2_i32_1334 v1383
  let v1878 : BitVec 1 := Scalar.cmpi .slt v1877 v661
  let c2_i32_1335 : BitVec 32 := 2#32
  let v1879 : BitVec 32 := Scalar.muli c2_i32_1335 v1383
  let c16_i32_1336 : BitVec 32 := 16#32
  let v1880 : BitVec 32 := Scalar.select v1878 v1879 c16_i32_1336
  let v2027 : Index := Scalar.indexCast v1880
  let c0_1498 : Index := 0#32
  let c0_1499 : Index := 0#32
  ![3, 1, v2027.toNat, 0, 0]
def k0_off152 (i : grid0.Coords) (k0_t2 : Fin (k0_t2_loop i).trips) : Fin 5 → Nat :=
  let c3_1500 : Index := 3#32
  let c1_1501 : Index := 1#32
  let c2_i32_1337 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let v1881 : BitVec 32 := Scalar.muli c2_i32_1337 v1383
  let c1_i32_1338 : BitVec 32 := 1#32
  let v1882 : BitVec 32 := Scalar.addi v1881 c1_i32_1338
  let v1883 : BitVec 1 := Scalar.cmpi .slt v1882 v661
  let c2_i32_1339 : BitVec 32 := 2#32
  let v1884 : BitVec 32 := Scalar.muli c2_i32_1339 v1383
  let c1_i32_1340 : BitVec 32 := 1#32
  let v1885 : BitVec 32 := Scalar.addi v1884 c1_i32_1340
  let c16_i32_1341 : BitVec 32 := 16#32
  let v1886 : BitVec 32 := Scalar.select v1883 v1885 c16_i32_1341
  let v2030 : Index := Scalar.indexCast v1886
  let c0_1502 : Index := 0#32
  let c0_1503 : Index := 0#32
  ![3, 1, v2030.toNat, 0, 0]
def k0_off153 (i : grid0.Coords) (k0_t2 : Fin (k0_t2_loop i).trips) : Fin 4 → Nat :=
  let c0_1537 : Index := 0#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2074 : Index := Scalar.indexCast v2051
  let c0_1538 : Index := 0#32
  let c0_1539 : Index := 0#32
  ![0, v2074.toNat, 0, 0]
def k0_off154 (i : grid0.Coords) (k0_t2 : Fin (k0_t2_loop i).trips) : Fin 4 → Nat :=
  let c0_1540 : Index := 0#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2077 : Index := Scalar.indexCast v2057
  let c0_1541 : Index := 0#32
  let c0_1542 : Index := 0#32
  ![0, v2077.toNat, 0, 0]
def k0_off155 (i : grid0.Coords) (k0_t2 : Fin (k0_t2_loop i).trips) : Fin 4 → Nat :=
  let c0_1562 : Index := 0#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2113 : Index := Scalar.indexCast v2051
  let c64_1563 : Index := 64#32
  let c0_1564 : Index := 0#32
  ![0, v2113.toNat, 64, 0]
def k0_off156 (i : grid0.Coords) (k0_t2 : Fin (k0_t2_loop i).trips) : Fin 4 → Nat :=
  let c0_1565 : Index := 0#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2116 : Index := Scalar.indexCast v2057
  let c64_1566 : Index := 64#32
  let c0_1567 : Index := 0#32
  ![0, v2116.toNat, 64, 0]
def k0_off157 (i : grid0.Coords) (k0_t2 : Fin (k0_t2_loop i).trips) : Fin 4 → Nat :=
  let c1_1587 : Index := 1#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2152 : Index := Scalar.indexCast v2051
  let c0_1588 : Index := 0#32
  let c0_1589 : Index := 0#32
  ![1, v2152.toNat, 0, 0]
def k0_off158 (i : grid0.Coords) (k0_t2 : Fin (k0_t2_loop i).trips) : Fin 4 → Nat :=
  let c1_1590 : Index := 1#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2155 : Index := Scalar.indexCast v2057
  let c0_1591 : Index := 0#32
  let c0_1592 : Index := 0#32
  ![1, v2155.toNat, 0, 0]
def k0_off159 (i : grid0.Coords) (k0_t2 : Fin (k0_t2_loop i).trips) : Fin 4 → Nat :=
  let c1_1612 : Index := 1#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2191 : Index := Scalar.indexCast v2051
  let c64_1613 : Index := 64#32
  let c0_1614 : Index := 0#32
  ![1, v2191.toNat, 64, 0]
def k0_off160 (i : grid0.Coords) (k0_t2 : Fin (k0_t2_loop i).trips) : Fin 4 → Nat :=
  let c1_1615 : Index := 1#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2194 : Index := Scalar.indexCast v2057
  let c64_1616 : Index := 64#32
  let c0_1617 : Index := 0#32
  ![1, v2194.toNat, 64, 0]
def k0_off161 (i : grid0.Coords) (k0_t2 : Fin (k0_t2_loop i).trips) : Fin 4 → Nat :=
  let c2_1637 : Index := 2#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2230 : Index := Scalar.indexCast v2051
  let c0_1638 : Index := 0#32
  let c0_1639 : Index := 0#32
  ![2, v2230.toNat, 0, 0]
def k0_off162 (i : grid0.Coords) (k0_t2 : Fin (k0_t2_loop i).trips) : Fin 4 → Nat :=
  let c2_1640 : Index := 2#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2233 : Index := Scalar.indexCast v2057
  let c0_1641 : Index := 0#32
  let c0_1642 : Index := 0#32
  ![2, v2233.toNat, 0, 0]
def k0_off163 (i : grid0.Coords) (k0_t2 : Fin (k0_t2_loop i).trips) : Fin 4 → Nat :=
  let c2_1662 : Index := 2#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2269 : Index := Scalar.indexCast v2051
  let c64_1663 : Index := 64#32
  let c0_1664 : Index := 0#32
  ![2, v2269.toNat, 64, 0]
def k0_off164 (i : grid0.Coords) (k0_t2 : Fin (k0_t2_loop i).trips) : Fin 4 → Nat :=
  let c2_1665 : Index := 2#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2272 : Index := Scalar.indexCast v2057
  let c64_1666 : Index := 64#32
  let c0_1667 : Index := 0#32
  ![2, v2272.toNat, 64, 0]
def k0_off165 (i : grid0.Coords) (k0_t2 : Fin (k0_t2_loop i).trips) : Fin 4 → Nat :=
  let c3_1687 : Index := 3#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2308 : Index := Scalar.indexCast v2051
  let c0_1688 : Index := 0#32
  let c0_1689 : Index := 0#32
  ![3, v2308.toNat, 0, 0]
def k0_off166 (i : grid0.Coords) (k0_t2 : Fin (k0_t2_loop i).trips) : Fin 4 → Nat :=
  let c3_1690 : Index := 3#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2311 : Index := Scalar.indexCast v2057
  let c0_1691 : Index := 0#32
  let c0_1692 : Index := 0#32
  ![3, v2311.toNat, 0, 0]
def k0_off167 (i : grid0.Coords) (k0_t2 : Fin (k0_t2_loop i).trips) : Fin 4 → Nat :=
  let c3_1712 : Index := 3#32
  let c2_i32_1519 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2048 : BitVec 32 := Scalar.muli c2_i32_1519 v2047
  let v2049 : BitVec 1 := Scalar.cmpi .slt v2048 v661
  let c2_i32_1520 : BitVec 32 := 2#32
  let v2050 : BitVec 32 := Scalar.muli c2_i32_1520 v2047
  let c16_i32_1521 : BitVec 32 := 16#32
  let v2051 : BitVec 32 := Scalar.select v2049 v2050 c16_i32_1521
  let v2347 : Index := Scalar.indexCast v2051
  let c64_1713 : Index := 64#32
  let c0_1714 : Index := 0#32
  ![3, v2347.toNat, 64, 0]
def k0_off168 (i : grid0.Coords) (k0_t2 : Fin (k0_t2_loop i).trips) : Fin 4 → Nat :=
  let c3_1715 : Index := 3#32
  let c2_i32_1522 : BitVec 32 := 2#32
  let c2_i32_938 : BitVec 32 := 2#32
  let c0_i32_882 : BitVec 32 := 0#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c0_i32_876 : BitVec 32 := 0#32
  let v1288 : BitVec 1 := Scalar.cmpi .sgt v679 c0_i32_876
  let v1289 : BitVec 32 := Scalar.extui v1288
  let c0_i32_877 : BitVec 32 := 0#32
  let v1290 : BitVec 1 := Scalar.cmpi .slt v679 c0_i32_877
  let v1291 : BitVec 32 := Scalar.extui v1290
  let v1292 : BitVec 32 := Scalar.subi v1289 v1291
  let c2_i32_875 : BitVec 32 := 2#32
  let c0_i32_878 : BitVec 32 := 0#32
  let v1293 : BitVec 1 := Scalar.cmpi .sgt c2_i32_875 c0_i32_878
  let v1294 : BitVec 32 := Scalar.extui v1293
  let c0_i32_879 : BitVec 32 := 0#32
  let v1295 : BitVec 1 := Scalar.cmpi .slt c2_i32_875 c0_i32_879
  let v1296 : BitVec 32 := Scalar.extui v1295
  let v1297 : BitVec 32 := Scalar.subi v1294 v1296
  let v1298 : BitVec 1 := Scalar.cmpi .ne v1292 v1297
  let v1299 : BitVec 32 := Scalar.remsi v679 c2_i32_875
  let c0_i32_880 : BitVec 32 := 0#32
  let v1300 : BitVec 1 := Scalar.cmpi .ne v1299 c0_i32_880
  let v1301 : BitVec 1 := Scalar.andi v1298 v1300
  let v1287 : BitVec 32 := Scalar.divsi v679 c2_i32_875
  let c1_i32_881 : BitVec 32 := 1#32
  let v1302 : BitVec 32 := Scalar.subi v1287 c1_i32_881
  let v1303 : BitVec 32 := Scalar.select v1301 v1302 v1287
  let v1304 : BitVec 32 := Scalar.subi v1303 c0_i32_882
  let c1_i32_883 : BitVec 32 := 1#32
  let v1306 : BitVec 32 := Scalar.divsi v1304 c1_i32_883
  let v1307 : BitVec 32 := Scalar.muli v1306 c1_i32_883
  let v1308 : BitVec 32 := Scalar.addi c0_i32_882 v1307
  let c1_i32_885 : BitVec 32 := 1#32
  let arg15 : BitVec 32 := Scf.iv v1308 c1_i32_885 k0_t2
  let v1381 : BitVec 32 := Scalar.muli c2_i32_938 arg15
  let c1_i32_939 : BitVec 32 := 1#32
  let v1382 : BitVec 32 := Scalar.addi v1381 c1_i32_939
  let c1_i32_940 : BitVec 32 := 1#32
  let v1383 : BitVec 32 := Scalar.addi v1382 c1_i32_940
  let c1_i32_1518 : BitVec 32 := 1#32
  let v2047 : BitVec 32 := Scalar.subi v1383 c1_i32_1518
  let v2052 : BitVec 32 := Scalar.muli c2_i32_1522 v2047
  let c1_i32_1523 : BitVec 32 := 1#32
  let v2053 : BitVec 32 := Scalar.addi v2052 c1_i32_1523
  let v2054 : BitVec 1 := Scalar.cmpi .slt v2053 v661
  let c2_i32_1524 : BitVec 32 := 2#32
  let v2055 : BitVec 32 := Scalar.muli c2_i32_1524 v2047
  let c1_i32_1525 : BitVec 32 := 1#32
  let v2056 : BitVec 32 := Scalar.addi v2055 c1_i32_1525
  let c16_i32_1526 : BitVec 32 := 16#32
  let v2057 : BitVec 32 := Scalar.select v2054 v2056 c16_i32_1526
  let v2350 : Index := Scalar.indexCast v2057
  let c64_1716 : Index := 64#32
  let c0_1717 : Index := 0#32
  ![3, v2350.toNat, 64, 0]
def k0_cond2 (i : grid0.Coords) : BitVec 1 :=
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c2_i32_886 : BitVec 32 := 2#32
  let c0_i32_887 : BitVec 32 := 0#32
  let v1311 : BitVec 1 := Scalar.cmpi .eq c2_i32_886 c0_i32_887
  let c1_i32_888 : BitVec 32 := 1#32
  let v1312 : BitVec 32 := Scalar.select v1311 c1_i32_888 c2_i32_886
  let v1313 : BitVec 32 := Scalar.remsi v679 v1312
  let c0_i32_890 : BitVec 32 := 0#32
  let v1315 : BitVec 1 := Scalar.cmpi .slt v1313 c0_i32_890
  let c0_i32_891 : BitVec 32 := 0#32
  let v1316 : BitVec 1 := Scalar.cmpi .slt v1312 c0_i32_891
  let v1317 : BitVec 1 := Scalar.xori v1315 v1316
  let c0_i32_889 : BitVec 32 := 0#32
  let v1314 : BitVec 1 := Scalar.cmpi .ne v1313 c0_i32_889
  let v1318 : BitVec 1 := Scalar.andi v1317 v1314
  let v1319 : BitVec 32 := Scalar.addi v1313 v1312
  let v1320 : BitVec 32 := Scalar.select v1318 v1319 v1313
  let c1_i32_892 : BitVec 32 := 1#32
  let v1321 : BitVec 1 := Scalar.cmpi .eq v1320 c1_i32_892
  let v1322 : BitVec 32 := Scalar.extui v1321
  let c0_i32_893 : BitVec 32 := 0#32
  let v1323 : BitVec 1 := Scalar.cmpi .ne v1322 c0_i32_893
  v1323

def k0_off169 (i : grid0.Coords) : Fin 4 → Nat :=
  let c0_957 : Index := 0#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1408 : Index := Scalar.indexCast v1385
  let c0_958 : Index := 0#32
  let c0_959 : Index := 0#32
  ![0, v1408.toNat, 0, 0]
def k0_off170 (i : grid0.Coords) : Fin 4 → Nat :=
  let c0_960 : Index := 0#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1411 : Index := Scalar.indexCast v1391
  let c0_961 : Index := 0#32
  let c0_962 : Index := 0#32
  ![0, v1411.toNat, 0, 0]
def k0_off171 (i : grid0.Coords) : Fin 4 → Nat :=
  let c0_982 : Index := 0#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1447 : Index := Scalar.indexCast v1385
  let c64_983 : Index := 64#32
  let c0_984 : Index := 0#32
  ![0, v1447.toNat, 64, 0]
def k0_off172 (i : grid0.Coords) : Fin 4 → Nat :=
  let c0_985 : Index := 0#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1450 : Index := Scalar.indexCast v1391
  let c64_986 : Index := 64#32
  let c0_987 : Index := 0#32
  ![0, v1450.toNat, 64, 0]
def k0_off173 (i : grid0.Coords) : Fin 4 → Nat :=
  let c1_1007 : Index := 1#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1486 : Index := Scalar.indexCast v1385
  let c0_1008 : Index := 0#32
  let c0_1009 : Index := 0#32
  ![1, v1486.toNat, 0, 0]
def k0_off174 (i : grid0.Coords) : Fin 4 → Nat :=
  let c1_1010 : Index := 1#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1489 : Index := Scalar.indexCast v1391
  let c0_1011 : Index := 0#32
  let c0_1012 : Index := 0#32
  ![1, v1489.toNat, 0, 0]
def k0_off175 (i : grid0.Coords) : Fin 4 → Nat :=
  let c1_1032 : Index := 1#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1525 : Index := Scalar.indexCast v1385
  let c64_1033 : Index := 64#32
  let c0_1034 : Index := 0#32
  ![1, v1525.toNat, 64, 0]
def k0_off176 (i : grid0.Coords) : Fin 4 → Nat :=
  let c1_1035 : Index := 1#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1528 : Index := Scalar.indexCast v1391
  let c64_1036 : Index := 64#32
  let c0_1037 : Index := 0#32
  ![1, v1528.toNat, 64, 0]
def k0_off177 (i : grid0.Coords) : Fin 4 → Nat :=
  let c2_1057 : Index := 2#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1564 : Index := Scalar.indexCast v1385
  let c0_1058 : Index := 0#32
  let c0_1059 : Index := 0#32
  ![2, v1564.toNat, 0, 0]
def k0_off178 (i : grid0.Coords) : Fin 4 → Nat :=
  let c2_1060 : Index := 2#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1567 : Index := Scalar.indexCast v1391
  let c0_1061 : Index := 0#32
  let c0_1062 : Index := 0#32
  ![2, v1567.toNat, 0, 0]
def k0_off179 (i : grid0.Coords) : Fin 4 → Nat :=
  let c2_1082 : Index := 2#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1603 : Index := Scalar.indexCast v1385
  let c64_1083 : Index := 64#32
  let c0_1084 : Index := 0#32
  ![2, v1603.toNat, 64, 0]
def k0_off180 (i : grid0.Coords) : Fin 4 → Nat :=
  let c2_1085 : Index := 2#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1606 : Index := Scalar.indexCast v1391
  let c64_1086 : Index := 64#32
  let c0_1087 : Index := 0#32
  ![2, v1606.toNat, 64, 0]
def k0_off181 (i : grid0.Coords) : Fin 4 → Nat :=
  let c3_1107 : Index := 3#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1642 : Index := Scalar.indexCast v1385
  let c0_1108 : Index := 0#32
  let c0_1109 : Index := 0#32
  ![3, v1642.toNat, 0, 0]
def k0_off182 (i : grid0.Coords) : Fin 4 → Nat :=
  let c3_1110 : Index := 3#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1645 : Index := Scalar.indexCast v1391
  let c0_1111 : Index := 0#32
  let c0_1112 : Index := 0#32
  ![3, v1645.toNat, 0, 0]
def k0_off183 (i : grid0.Coords) : Fin 4 → Nat :=
  let c3_1132 : Index := 3#32
  let c2_i32_939 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1382 : BitVec 32 := Scalar.muli c2_i32_939 v1381
  let v1383 : BitVec 1 := Scalar.cmpi .slt v1382 v661
  let c2_i32_940 : BitVec 32 := 2#32
  let v1384 : BitVec 32 := Scalar.muli c2_i32_940 v1381
  let c16_i32_941 : BitVec 32 := 16#32
  let v1385 : BitVec 32 := Scalar.select v1383 v1384 c16_i32_941
  let v1681 : Index := Scalar.indexCast v1385
  let c64_1133 : Index := 64#32
  let c0_1134 : Index := 0#32
  ![3, v1681.toNat, 64, 0]
def k0_off184 (i : grid0.Coords) : Fin 4 → Nat :=
  let c3_1135 : Index := 3#32
  let c2_i32_942 : BitVec 32 := 2#32
  let arg2 : BitVec 32 := BitVec.ofNat 32 (i 2).val
  let c1_i32 : BitVec 32 := 1#32
  let v661 : BitVec 32 := Scalar.subi arg2 c1_i32
  let c1_i32_279 : BitVec 32 := 1#32
  let v662 : BitVec 32 := Scalar.addi v661 c1_i32_279
  let c0_i32_280 : BitVec 32 := 0#32
  let v664 : BitVec 1 := Scalar.cmpi .sgt v662 c0_i32_280
  let v665 : BitVec 32 := Scalar.extui v664
  let c0_i32_281 : BitVec 32 := 0#32
  let v666 : BitVec 1 := Scalar.cmpi .slt v662 c0_i32_281
  let v667 : BitVec 32 := Scalar.extui v666
  let v668 : BitVec 32 := Scalar.subi v665 v667
  let c2_i32 : BitVec 32 := 2#32
  let c0_i32_282 : BitVec 32 := 0#32
  let v669 : BitVec 1 := Scalar.cmpi .sgt c2_i32 c0_i32_282
  let v670 : BitVec 32 := Scalar.extui v669
  let c0_i32_283 : BitVec 32 := 0#32
  let v671 : BitVec 1 := Scalar.cmpi .slt c2_i32 c0_i32_283
  let v672 : BitVec 32 := Scalar.extui v671
  let v673 : BitVec 32 := Scalar.subi v670 v672
  let v674 : BitVec 1 := Scalar.cmpi .ne v668 v673
  let v675 : BitVec 32 := Scalar.remsi v662 c2_i32
  let c0_i32_284 : BitVec 32 := 0#32
  let v676 : BitVec 1 := Scalar.cmpi .ne v675 c0_i32_284
  let v677 : BitVec 1 := Scalar.andi v674 v676
  let v663 : BitVec 32 := Scalar.divsi v662 c2_i32
  let c1_i32_285 : BitVec 32 := 1#32
  let v678 : BitVec 32 := Scalar.subi v663 c1_i32_285
  let v679 : BitVec 32 := Scalar.select v677 v678 v663
  let c1_i32_938 : BitVec 32 := 1#32
  let v1381 : BitVec 32 := Scalar.subi v679 c1_i32_938
  let v1386 : BitVec 32 := Scalar.muli c2_i32_942 v1381
  let c1_i32_943 : BitVec 32 := 1#32
  let v1387 : BitVec 32 := Scalar.addi v1386 c1_i32_943
  let v1388 : BitVec 1 := Scalar.cmpi .slt v1387 v661
  let c2_i32_944 : BitVec 32 := 2#32
  let v1389 : BitVec 32 := Scalar.muli c2_i32_944 v1381
  let c1_i32_945 : BitVec 32 := 1#32
  let v1390 : BitVec 32 := Scalar.addi v1389 c1_i32_945
  let c16_i32_946 : BitVec 32 := 16#32
  let v1391 : BitVec 32 := Scalar.select v1388 v1390 c16_i32_946
  let v1684 : Index := Scalar.indexCast v1391
  let c64_1136 : Index := 64#32
  let c0_1137 : Index := 0#32
  ![3, v1684.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x1536 : Shape := ⟨3, ![4, 4096, 1536]⟩
abbrev S8x2x256x256 : Shape := ⟨4, ![8, 2, 256, 256]⟩
abbrev S4x4096x3x8x64 : Shape := ⟨5, ![4, 4096, 3, 8, 64]⟩
abbrev S4x4096x1x8x64 : Shape := ⟨5, ![4, 4096, 1, 8, 64]⟩
abbrev S4x4096x8x64 : Shape := ⟨4, ![4, 4096, 8, 64]⟩
abbrev S_ : Shape := ⟨0, ![]⟩
abbrev S4x16x256x8x64 : Shape := ⟨5, ![4, 16, 256, 8, 64]⟩
abbrev S4x16x8x64 : Shape := ⟨4, ![4, 16, 8, 64]⟩
abbrev S16 : Shape := ⟨1, ![16]⟩
abbrev S16x1 : Shape := ⟨2, ![16, 1]⟩
abbrev S16x256 : Shape := ⟨2, ![16, 256]⟩
abbrev S4096x1 : Shape := ⟨2, ![4096, 1]⟩
abbrev S1x16 : Shape := ⟨2, ![1, 16]⟩
abbrev S4096x16 : Shape := ⟨2, ![4096, 16]⟩
abbrev S4x8x4096x16 : Shape := ⟨4, ![4, 8, 4096, 16]⟩
abbrev S4x8x4096x16x1 : Shape := ⟨5, ![4, 8, 4096, 16, 1]⟩
abbrev S4x8x4096x1x16 : Shape := ⟨5, ![4, 8, 4096, 1, 16]⟩
abbrev S4x8x4096x16x16 : Shape := ⟨5, ![4, 8, 4096, 16, 16]⟩
abbrev S16x16 : Shape := ⟨2, ![16, 16]⟩
abbrev S1x1x1x16x16 : Shape := ⟨5, ![1, 1, 1, 16, 16]⟩
abbrev S1x1x4096x16 : Shape := ⟨4, ![1, 1, 4096, 16]⟩
abbrev S4x8x4096x16x256 : Shape := ⟨5, ![4, 8, 4096, 16, 256]⟩
abbrev S4x8x4096x4096 : Shape := ⟨4, ![4, 8, 4096, 4096]⟩
abbrev S16x1x1x1 : Shape := ⟨4, ![16, 1, 1, 1]⟩
abbrev S8x1x256x256 : Shape := ⟨4, ![8, 1, 256, 256]⟩
abbrev S8x256x256 : Shape := ⟨3, ![8, 256, 256]⟩
abbrev S8x1x256x1x256 : Shape := ⟨5, ![8, 1, 256, 1, 256]⟩
abbrev S1x1x16x1 : Shape := ⟨4, ![1, 1, 16, 1]⟩
abbrev S16x1x16x1 : Shape := ⟨4, ![16, 1, 16, 1]⟩
abbrev S8x16x256x16x256 : Shape := ⟨5, ![8, 16, 256, 16, 256]⟩
abbrev S8x4096x4096 : Shape := ⟨3, ![8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x512 : Shape := ⟨3, ![4, 4096, 512]⟩

abbrev nBuf : Space → Nat
  | .hbm => 132
  | .vmem => 0
  | .smem => 0
  | _ => 0

abbrev hbmTy0_0 (i : Nat) : BufTy := match i % 128 with
  | 0 => ⟨S4x4096x1536, .bf16⟩
  | 1 => ⟨S8x2x256x256, .f32⟩
  | 2 => ⟨S4x4096x1536, .f32⟩
  | 3 => ⟨S4x4096x3x8x64, .f32⟩
  | 4 => ⟨S4x4096x1x8x64, .f32⟩
  | 5 => ⟨S4x4096x8x64, .f32⟩
  | 6 => ⟨S_, .f32⟩
  | 7 => ⟨S4x4096x8x64, .f32⟩
  | 8 => ⟨S4x4096x8x64, .f32⟩
  | 9 => ⟨S4x4096x1x8x64, .f32⟩
  | 10 => ⟨S4x4096x8x64, .f32⟩
  | 11 => ⟨S4x4096x1x8x64, .f32⟩
  | 12 => ⟨S4x4096x8x64, .f32⟩
  | 13 => ⟨S4x16x256x8x64, .f32⟩
  | 14 => ⟨S_, .f32⟩
  | 15 => ⟨S4x16x8x64, .f32⟩
  | 16 => ⟨S_, .f32⟩
  | 17 => ⟨S4x16x8x64, .f32⟩
  | 18 => ⟨S4x16x8x64, .f32⟩
  | 19 => ⟨S16, .i32⟩
  | 20 => ⟨S16x1, .i32⟩
  | 21 => ⟨S16x256, .i32⟩
  | 22 => ⟨S4096x1, .i32⟩
  | 23 => ⟨S1x16, .i32⟩
  | 24 => ⟨S4096x16, .i32⟩
  | 25 => ⟨S4096x16, .i32⟩
  | 26 => ⟨S4096x16, .i1⟩
  | 27 => ⟨S4x8x4096x16, .f32⟩
  | 28 => ⟨S4x8x4096x16, .i1⟩
  | 29 => ⟨S_, .f32⟩
  | 30 => ⟨S4x8x4096x16, .f32⟩
  | 31 => ⟨S4x8x4096x16, .f32⟩
  | 32 => ⟨S4x8x4096x16x1, .f32⟩
  | 33 => ⟨S4x8x4096x1x16, .f32⟩
  | 34 => ⟨S4x8x4096x16x16, .f32⟩
  | 35 => ⟨S4x8x4096x16x16, .f32⟩
  | 36 => ⟨S4x8x4096x16x16, .i1⟩
  | 37 => ⟨S4x8x4096x16x16, .f32⟩
  | 38 => ⟨S4x8x4096x16x16, .f32⟩
  | 39 => ⟨S4x8x4096x16x16, .i1⟩
  | 40 => ⟨S1x16, .i32⟩
  | 41 => ⟨S16x1, .i32⟩
  | 42 => ⟨S16x16, .i32⟩
  | 43 => ⟨S16x16, .i32⟩
  | 44 => ⟨S16x16, .i1⟩
  | 45 => ⟨S1x1x1x16x16, .i1⟩
  | 46 => ⟨S4x8x4096x16x16, .i1⟩
  | 47 => ⟨S4x8x4096x16x16, .i1⟩
  | 48 => ⟨S4x8x4096x16x16, .i1⟩
  | 49 => ⟨S_, .f32⟩
  | 50 => ⟨S4x8x4096x16x16, .f32⟩
  | 51 => ⟨S_, .f32⟩
  | 52 => ⟨S4x8x4096x16x16, .f32⟩
  | 53 => ⟨S4x8x4096x16x16, .f32⟩
  | 54 => ⟨S_, .f32⟩
  | 55 => ⟨S4x8x4096x16, .f32⟩
  | 56 => ⟨S_, .f32⟩
  | 57 => ⟨S4x8x4096x16, .f32⟩
  | 58 => ⟨S4x8x4096x16, .i1⟩
  | 59 => ⟨S1x1x4096x16, .i1⟩
  | 60 => ⟨S4x8x4096x16, .i1⟩
  | 61 => ⟨S4x8x4096x16, .i1⟩
  | 62 => ⟨S1x16, .i32⟩
  | 63 => ⟨S4096x16, .i32⟩
  | 64 => ⟨S4096x16, .i32⟩
  | 65 => ⟨S4096x16, .i1⟩
  | 66 => ⟨S1x1x4096x16, .i1⟩
  | 67 => ⟨S4x8x4096x16, .i1⟩
  | 68 => ⟨S4x8x4096x16, .i1⟩
  | 69 => ⟨S4x8x4096x16x1, .i1⟩
  | 70 => ⟨S4x8x4096x16x256, .i1⟩
  | 71 => ⟨S4x8x4096x4096, .i1⟩
  | 72 => ⟨S16x1x1x1, .i32⟩
  | 73 => ⟨S16x1, .i32⟩
  | 74 => ⟨S8x1x256x256, .f32⟩
  | 75 => ⟨S8x256x256, .f32⟩
  | 76 => ⟨S8x256x256, .f32⟩
  | 77 => ⟨S8x1x256x1x256, .f32⟩
  | 78 => ⟨S8x1x256x256, .f32⟩
  | 79 => ⟨S8x256x256, .f32⟩
  | 80 => ⟨S8x256x256, .f32⟩
  | 81 => ⟨S8x1x256x1x256, .f32⟩
  | 82 => ⟨S1x1x16x1, .i32⟩
  | 83 => ⟨S16x1x16x1, .i32⟩
  | 84 => ⟨S16x1x16x1, .i32⟩
  | 85 => ⟨S16x1x16x1, .i1⟩
  | 86 => ⟨S_, .i32⟩
  | 87 => ⟨S16x1, .i32⟩
  | 88 => ⟨S16x1, .i32⟩
  | 89 => ⟨S1x1x16x1, .i32⟩
  | 90 => ⟨S16x1x16x1, .i32⟩
  | 91 => ⟨S16x1x16x1, .i32⟩
  | 92 => ⟨S16x1x16x1, .i1⟩
  | 93 => ⟨S8x16x256x16x256, .i1⟩
  | 94 => ⟨S8x16x256x16x256, .f32⟩
  | 95 => ⟨S_, .f32⟩
  | 96 => ⟨S8x16x256x16x256, .f32⟩
  | 97 => ⟨S8x16x256x16x256, .f32⟩
  | 98 => ⟨S8x16x256x16x256, .i1⟩
  | 99 => ⟨S8x16x256x16x256, .f32⟩
  | 100 => ⟨S8x16x256x16x256, .f32⟩
  | 101 => ⟨S8x4096x4096, .f32⟩
  | 102 => ⟨S4x8x4096x4096, .f32⟩
  | 103 => ⟨S_, .f32⟩
  | 104 => ⟨S_, .f32⟩
  | 105 => ⟨S_, .f32⟩
  | 106 => ⟨S8x4096x4096, .f32⟩
  | 107 => ⟨S8x4096x4096, .f32⟩
  | 108 => ⟨S1x8x4096x4096, .f32⟩
  | 109 => ⟨S4x8x4096x4096, .f32⟩
  | 110 => ⟨S4x8x4096x4096, .f32⟩
  | 111 => ⟨S_, .f32⟩
  | 112 => ⟨S4x8x4096x4096, .f32⟩
  | 113 => ⟨S4x8x4096x4096, .f32⟩
  | 114 => ⟨S_, .f32⟩
  | 115 => ⟨S4x8x4096, .f32⟩
  | 116 => ⟨S_, .f32⟩
  | 117 => ⟨S4x8x4096, .f32⟩
  | 118 => ⟨S4x8x4096, .f32⟩
  | 119 => ⟨S4x8x4096x1, .f32⟩
  | 120 => ⟨S4x8x4096x4096, .f32⟩
  | 121 => ⟨S4x8x4096x4096, .f32⟩
  | 122 => ⟨S4x8x4096x4096, .f32⟩
  | 123 => ⟨S_, .f32⟩
  | 124 => ⟨S4x8x4096, .f32⟩
  | 125 => ⟨S4x8x4096x1, .f32⟩
  | 126 => ⟨S4x8x4096x4096, .f32⟩
  | 127 => ⟨S4x8x4096x4096, .f32⟩
  | _ => ⟨S4x4096x1536, .bf16⟩

abbrev hbmTy0_1 (i : Nat) : BufTy := match i % 128 with
  | 0 => ⟨S4x8x64x4096, .f32⟩
  | 1 => ⟨S4x4096x8x64, .f32⟩
  | 2 => ⟨S4x4096x512, .f32⟩
  | 3 => ⟨S4x4096x512, .bf16⟩
  | _ => ⟨S4x4096x1536, .bf16⟩

abbrev hbmTy (i : Nat) : BufTy := match i / 128 with
  | 0 => hbmTy0_0 i
  | 1 => hbmTy0_1 i
  | _ => ⟨S4x4096x1536, .bf16⟩

abbrev bufTy : (tb : Table) → Fin (tcTables nBuf tb) → BufTy
  | .hbm, ⟨i, _⟩ => hbmTy i
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_cst_11 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_12 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩

abbrev nD : Nat := 1
abbrev τ : Topo := Topo.v7x

variable {F : FTy → Type} [FloatOps F]
-- ==== TailOdd.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefTailOddIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== TailEven.lean ====
abbrev S16384x512 : Shape := ⟨2, ![16384, 512]⟩
abbrev S16384x1024 : Shape := ⟨2, ![16384, 1024]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1x512, .f32⟩
  | .hbm, ⟨15, _⟩ => ⟨S512x512, .bf16⟩
  | .hbm, ⟨16, _⟩ => ⟨S1x512, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x4096, .bf16⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefTailEvenIdeal.lean ====
abbrev S16384x512 : Shape := ⟨2, ![16384, 512]⟩
abbrev S16384x1024 : Shape := ⟨2, ![16384, 1024]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 123
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S_, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S16384x1024, .f32⟩
  | .hbm, ⟨110, _⟩ => ⟨S16384x1024, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S16384x1, .f32⟩
  | .hbm, ⟨115, _⟩ => ⟨S16384x1024, .f32⟩
  | .hbm, ⟨116, _⟩ => ⟨S16384x1024, .f32⟩
  | .hbm, ⟨117, _⟩ => ⟨S1x1024, .f32⟩
  | .hbm, ⟨118, _⟩ => ⟨S16384x1024, .f32⟩
  | .hbm, ⟨119, _⟩ => ⟨S16384x1024, .f32⟩
  | .hbm, ⟨120, _⟩ => ⟨S1x1024, .f32⟩
  | .hbm, ⟨121, _⟩ => ⟨S16384x1024, .f32⟩
  | .hbm, ⟨122, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call0_cst : Ref sig .tc := ⟨.hbm, 85, rfl⟩
abbrev main_call0_v0 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== InProj.lean ====
abbrev S16384x1024 : Shape := ⟨2, ![16384, 1024]⟩
abbrev S1024x4112 : Shape := ⟨2, ![1024, 4112]⟩
abbrev S_ : Shape := ⟨0, ![]⟩
abbrev S1024x4224 : Shape := ⟨2, ![1024, 4224]⟩
abbrev S16384x4224 : Shape := ⟨2, ![16384, 4224]⟩
abbrev S1024x1024 : Shape := ⟨2, ![1024, 1024]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4224, .f32⟩
  | .hbm, ⟨5, _⟩ => ⟨S1024x4224, .bf16⟩
  | .hbm, ⟨6, _⟩ => ⟨S16384x4224, .f32⟩
  | .local _ .vmem, ⟨0, _⟩ => ⟨S1024x1024, .f32⟩
  | .local _ .vmem, ⟨1, _⟩ => ⟨S1024x1024, .f32⟩
  | .local _ .vmem, ⟨2, _⟩ => ⟨S1024x4224, .bf16⟩
  | .local _ .vmem, ⟨3, _⟩ => ⟨S1024x4224, .f32⟩
  | .local _ .vmem, ⟨4, _⟩ => ⟨S1024x4224, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefInProjIdeal.lean ====
abbrev S16384x1024 : Shape := ⟨2, ![16384, 1024]⟩
abbrev S1024x4112 : Shape := ⟨2, ![1024, 4112]⟩
abbrev S16384x4112 : Shape := ⟨2, ![16384, 4112]⟩
abbrev S_ : Shape := ⟨0, ![]⟩
abbrev S16384x4224 : Shape := ⟨2, ![16384, 4224]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S16384x4112, .f32⟩
  | .hbm, ⟨3, _⟩ => ⟨S_, .i32⟩
  | .hbm, ⟨4, _⟩ => ⟨S_, .f32⟩
  | .hbm, ⟨5, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== InProjSplit.lean ====
abbrev S16384x1024 : Shape := ⟨2, ![16384, 1024]⟩
abbrev S1024x2048 : Shape := ⟨2, ![1024, 2048]⟩
abbrev S16384x1536 : Shape := ⟨2, ![16384, 1536]⟩
abbrev S16384x512 : Shape := ⟨2, ![16384, 512]⟩
abbrev S1024x1024 : Shape := ⟨2, ![1024, 1024]⟩
abbrev S1024x1536 : Shape := ⟨2, ![1024, 1536]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S1024x2048, .bf16⟩
  | .hbm, ⟨3, _⟩ => ⟨S16384x1536, .bf16⟩
  | .hbm, ⟨4, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x1536, .bf16⟩
  | .local _ .vmem, ⟨4, _⟩ => ⟨S1024x1536, .bf16⟩
  | .local _ .vmem, ⟨5, _⟩ => ⟨S1024x512, .f32⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefInProjSplitIdeal.lean ====
abbrev S16384x1024 : Shape := ⟨2, ![16384, 1024]⟩
abbrev S1024x2048 : Shape := ⟨2, ![1024, 2048]⟩
abbrev S16384x2048 : Shape := ⟨2, ![16384, 2048]⟩
abbrev S16384x1536 : Shape := ⟨2, ![16384, 1536]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1536, .f32⟩
  | .hbm, ⟨4, _⟩ => ⟨S16384x1536, .bf16⟩
  | .hbm, ⟨5, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Moba.Code.lean ====
/-
  Straight-line kernel code over a fixed family of buffers: a small syntax of rectangle loads and
  stores (`Code`), the program it stands for (`Code.toProg`), the function on buffer contents it
  computes (`Code.run`), and one theorem saying that the program computes the function (`Tri.code`).
  Kernel code that loops or branches is composed from such pieces by `Tri.bind`, `Tri.for` and
  `Tri.ite`, so that a run of a whole kernel body is one function from contents to contents.
-/
module

public import Idealize.ShloMosaic.Lib.Pipeline.FrameBody
public import Idealize.ShloMosaic.Lib.Tactic
public import Idealize.ShloMosaic.Lib.Scf

@[expose] public section

noncomputable section

namespace Moba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Overwriting a rectangle -/

/-- The contents `X` with the rectangle `r` overwritten by `w`. -/
def over {s : Shape} {α : Type} (r : Rect s) (w : r.shape.Idx → α) (X : s.Idx → α) : s.Idx → α :=
  fun y => if h : ∃ x, r.emb x = y then w h.choose else X y

theorem over_emb {s : Shape} {α : Type} (r : Rect s) (w : r.shape.Idx → α) (X : s.Idx → α) (x : r.shape.Idx) :
    over r w X (r.emb x) = w x := by
  have h : ∃ x', r.emb x' = r.emb x := ⟨x, rfl⟩
  unfold over
  rw [dif_pos h]
  exact congrArg w (r.emb.injective h.choose_spec)

theorem over_of_not {s : Shape} {α : Type} (r : Rect s) (w : r.shape.Idx → α) (X : s.Idx → α) (y : s.Idx)
    (h : ∀ x, r.emb x ≠ y) : over r w X y = X y := by
  unfold over
  rw [dif_neg (fun ⟨x, hx⟩ => h x hx)]

variable {nD : Nat} {τ : Topo} {sig : RefSig} {F : FTy → Type} {Λ₀ : Labels}

theorem read_slice_write_eq_over {κ : Kind} {sp : Space} {s : Shape} {e : EltTy} {Val : EltTy → Type}
    (v : View sig κ sp s e) (r : Rect s) (f : v.ty.Contents Val) (w : r.shape.Idx → Val e) :
    v.read Val ((v.slice r).write Val f w Finset.univ) = over r w (v.read Val f) := by
  funext y
  by_cases h : ∃ x, r.emb x = y
  · obtain ⟨x, rfl⟩ := h
    rw [over_emb]
    exact v.read_slice_write_emb r f w (Finset.mem_univ x)
  · rw [over_of_not r w _ y (fun x hx => h ⟨x, hx⟩)]
    refine v.read_slice_write_of_not_mem r f w Finset.univ ?_
    intro hm
    obtain ⟨x, -, hx⟩ := Finset.mem_map.mp hm
    exact h ⟨x, hx⟩

/-! ## The buffers and the code -/

/-- A family of buffers: their shapes and element types. -/
structure Bufs where
  /-- The names. -/
  B : Type
  fin : Fintype B
  dec : DecidableEq B
  /-- Each one's shape. -/
  shp : B → Shape
  /-- Each one's element type. -/
  ety : B → EltTy

instance (𝔅 : Bufs) : Fintype 𝔅.B := 𝔅.fin
instance (𝔅 : Bufs) : DecidableEq 𝔅.B := 𝔅.dec

/-- The contents of all the buffers. -/
abbrev St (F : FTy → Type) (𝔅 : Bufs) : Type := ∀ b : 𝔅.B, (𝔅.shp b).Idx → Elt F (𝔅.ety b)

/-- Straight-line code: rectangle loads and stores. -/
inductive Code (F : FTy → Type) (𝔅 : Bufs) (α : Type) : Type
  | ret (a : α) : Code F 𝔅 α
  | ld (b : 𝔅.B) (off size : Fin (𝔅.shp b).rank → Nat) (inb : ∀ a, off a + size a ≤ (𝔅.shp b).size a)
      (hn : 0 < (Rect.unit off size inb).shape.numel)
      (k : ((Rect.unit off size inb).shape.Idx → Elt F (𝔅.ety b)) → Code F 𝔅 α) : Code F 𝔅 α
  | st (b : 𝔅.B) (off size : Fin (𝔅.shp b).rank → Nat) (inb : ∀ a, off a + size a ≤ (𝔅.shp b).size a)
      (hn : 0 < (Rect.unit off size inb).shape.numel)
      (hp : (Rect.unit off size inb).PackedRows (𝔅.ety b).packing)
      (w : (Rect.unit off size inb).shape.Idx → Elt F (𝔅.ety b)) (k : Code F 𝔅 α) : Code F 𝔅 α

namespace Code

variable {𝔅 : Bufs} {α β : Type}

/-- One piece of code after another. -/
def bind : Code F 𝔅 α → (α → Code F 𝔅 β) → Code F 𝔅 β
  | ret a, f => f a
  | ld b off size inb hn k, f => ld b off size inb hn fun x => bind (k x) f
  | st b off size inb hn hp w k, f => st b off size inb hn hp w (bind k f)

instance : Monad (Code F 𝔅) where
  pure := ret
  bind := bind

/-- The program the code stands for, the buffers at the memrefs `mem`. -/
def toProg (mem : ∀ b, Memref sig .tc .vmem (𝔅.shp b) (𝔅.ety b)) (hmem : ∀ b, (mem b).IsWhole) :
    Code F 𝔅 α → Prog (TpuEff nD τ sig (Elt F) Λ₀ .tc) α
  | ret a => .ret a
  | ld b off size inb hn k =>
      .op (.load (mem b) (Rect.unit off size inb).toLoadRect (View.loadsAt_vmem hn)) fun x => toProg mem hmem (k x)
  | st b off size inb hn hp w k =>
      .op (.store (mem b) (Rect.unit off size inb) w Finset.univ
        (View.stores_vmem hn ((hmem b).storeExact_slice rfl _ hp) (fun _ => rfl)) (.inl rfl)) fun _ => toProg mem hmem k

/-- What the code computes, on the buffers' contents. -/
def run : Code F 𝔅 α → St F 𝔅 → α × St F 𝔅
  | ret a, σ => (a, σ)
  | ld b off size inb _ k, σ => run (k fun x => σ b ((Rect.unit off size inb).emb x)) σ
  | st b off size inb _ _ w k, σ => run k (Function.update σ b (over (Rect.unit off size inb) w (σ b)))

theorem run_bind (c : Code F 𝔅 α) (f : α → Code F 𝔅 β) (σ : St F 𝔅) :
    (c.bind f).run σ = (f (c.run σ).1).run (c.run σ).2 := by
  induction c generalizing σ with
  | ret a => rfl
  | ld b off size inb hn k ih => exact ih _ _
  | st b off size inb hn hp w k ih => exact ih _

theorem run_bind' (c : Code F 𝔅 α) (f : α → Code F 𝔅 β) (σ : St F 𝔅) :
    (c >>= f).run σ = (f (c.run σ).1).run (c.run σ).2 := run_bind c f σ

theorem toProg_bind (mem : ∀ b, Memref sig .tc .vmem (𝔅.shp b) (𝔅.ety b)) (hmem : ∀ b, (mem b).IsWhole)
    (c : Code F 𝔅 α) (f : α → Code F 𝔅 β) :
    ((c.bind f).toProg mem hmem : Prog (TpuEff nD τ sig (Elt F) Λ₀ .tc) β)
      = (c.toProg mem hmem).bind fun a => (f a).toProg mem hmem := by
  induction c with
  | ret a => rfl
  | ld b off size inb hn k ih => exact congrArg (Prog.op _) (funext fun x => ih x)
  | st b off size inb hn hp w k ih => exact congrArg (Prog.op _) (funext fun _ => ih)

end Code

/-! ## Programs that compute functions on the contents -/

section Tri

variable [FloatOps F]
variable {𝔅 : Bufs} {α β : Type}
local notation "𝕄" => MT nD τ sig Unit (Elt F) ℕ (UR sig nD τ) ℕ

/-- Core `c` owns every buffer, at the contents `σ`. -/
def ownAll (c : Thread nD τ) (mem : ∀ b : 𝔅.B, Memref sig c.2.kind .vmem (𝔅.shp b) (𝔅.ety b)) (σ : St F 𝔅) : sProp 𝕄 :=
  bigSep Finset.univ fun b => owns c (mem b) fullShare (σ b)

variable (defs : Defs nD τ sig (Elt F) Λ₀) (𝒱 : Variants) (c : Dev nD) (bd : Option 𝒱.V)
  (mem : ∀ b : 𝔅.B, Memref sig .tc .vmem (𝔅.shp b) (𝔅.ety b))

/-- The program computes `f`: from contents `σ` it yields `(f σ).1` and leaves `(f σ).2`. -/
def Tri (p : Prog (TpuEff nD τ sig (Elt F) Λ₀ .tc) α) (f : St F 𝔅 → α × St F 𝔅) : Prop :=
  ∀ σ : St F 𝔅, (ownAll (c : Thread nD τ) mem σ : sProp 𝕄)
    ⊢ wp frame (wpE defs 𝒱 (c : Thread nD τ) bd) Set.univ p fun x =>
        iprop(⌜x = (f σ).1⌝ ∗ ownAll (c : Thread nD τ) mem (f σ).2)

variable {defs 𝒱 c bd mem}

theorem Tri.ret (a : α) : Tri defs 𝒱 c bd mem (.ret a) fun σ => (a, σ) := by
  intro σ
  rw [wp_ret]
  iintro H
  imodintro
  isplitr
  · ipureintro; rfl
  · iexact H

theorem Tri.bind {p : Prog (TpuEff nD τ sig (Elt F) Λ₀ .tc) α} {k : α → Prog (TpuEff nD τ sig (Elt F) Λ₀ .tc) β}
    {f : St F 𝔅 → α × St F 𝔅} {g : α → St F 𝔅 → β × St F 𝔅}
    (hp : Tri defs 𝒱 c bd mem p f) (hk : ∀ a, Tri defs 𝒱 c bd mem (k a) (g a)) :
    Tri defs 𝒱 c bd mem (p >>= k) fun σ => g (f σ).1 (f σ).2 := by
  intro σ
  rw [wp_bind]
  refine (hp σ).trans (wp_mono _ _ _ fun a => ?_)
  iintro ⟨%h, H⟩
  subst h
  iapply (hk _ _)
  iexact H

theorem Tri.ite {P : Prop} [Decidable P] {p : P → Prog (TpuEff nD τ sig (Elt F) Λ₀ .tc) α}
    {q : ¬P → Prog (TpuEff nD τ sig (Elt F) Λ₀ .tc) α} {f g : St F 𝔅 → α × St F 𝔅}
    (hp : ∀ h, Tri defs 𝒱 c bd mem (p h) f) (hq : ∀ h, Tri defs 𝒱 c bd mem (q h) g) :
    Tri defs 𝒱 c bd mem (if h : P then p h else q h) fun σ => if P then f σ else g σ := by
  intro σ
  by_cases h : P
  · simp only [dif_pos h, if_pos h]; exact hp h σ
  · simp only [dif_neg h, if_neg h]; exact hq h σ

/-- The contents and carried values after the first trips `ks`. -/
def iter {n : Nat} (G : Fin n → β → St F 𝔅 → β × St F 𝔅) : List (Fin n) → β → St F 𝔅 → β × St F 𝔅
  | [], a, σ => (a, σ)
  | k :: ks, a, σ => iter G ks (G k a σ).1 (G k a σ).2

theorem Tri.forFrom {n : Nat} {body : Fin n → β → Prog (TpuEff nD τ sig (Elt F) Λ₀ .tc) β}
    {G : Fin n → β → St F 𝔅 → β × St F 𝔅} (hb : ∀ k a, Tri defs 𝒱 c bd mem (body k a) (G k a)) :
    ∀ (ks : List (Fin n)) (a : β), Tri defs 𝒱 c bd mem (Scf.forFrom body ks a) (iter G ks a)
  | [], a => Tri.ret a
  | k :: ks, a => Tri.bind (hb k a) fun a' => Tri.forFrom hb ks a'

theorem Tri.for {l : Scf.Loop 32} {hok : l.OK} {init : β} {body : Fin l.trips → β → Prog (TpuEff nD τ sig (Elt F) Λ₀ .tc) β}
    {G : Fin l.trips → β → St F 𝔅 → β × St F 𝔅} (hb : ∀ k a, Tri defs 𝒱 c bd mem (body k a) (G k a)) :
    Tri defs 𝒱 c bd mem (Scf.Loop.for l hok init body) (iter G (List.finRange l.trips) init) := by
  unfold Scf.Loop.for
  rw [Scf.for_eq]
  exact Tri.forFrom hb _ _

theorem ownAll_split (c : Thread nD τ) (mem : ∀ b : 𝔅.B, Memref sig c.2.kind .vmem (𝔅.shp b) (𝔅.ety b)) (b : 𝔅.B) (σ : St F 𝔅) :
    (ownAll c mem σ : sProp 𝕄)
      = iprop(owns c (mem b) fullShare (σ b) ∗ bigSep (Finset.univ.erase b) fun b => owns c (mem b) fullShare (σ b)) := by
  unfold ownAll
  exact bigSep_univ_split b

theorem ownAll_update (c : Thread nD τ) (mem : ∀ b : 𝔅.B, Memref sig c.2.kind .vmem (𝔅.shp b) (𝔅.ety b)) (b : 𝔅.B) (σ : St F 𝔅)
    (X : (𝔅.shp b).Idx → Elt F (𝔅.ety b)) :
    (ownAll c mem (Function.update σ b X) : sProp 𝕄)
      = iprop(owns c (mem b) fullShare X ∗ bigSep (Finset.univ.erase b) fun b => owns c (mem b) fullShare (σ b)) := by
  rw [ownAll_split c mem b, Function.update_self]
  congr 1
  refine bigSep_congr fun b' hb' => ?_
  rw [Function.update_of_ne (Finset.ne_of_mem_erase hb')]

/-- Code computes what it says. -/
theorem Tri.code (hmem : ∀ b, (mem b).IsWhole) (p : Code F 𝔅 α) :
    Tri defs 𝒱 c bd mem (p.toProg mem hmem) p.run := by
  induction p with
  | ret a => exact Tri.ret a
  | ld b off size inb hn k ih =>
    intro σ
    refine (Entails.of_eq (ownAll_split (c : Thread nD τ) mem b σ)).trans ?_
    unfold owns
    iintro ⟨⟨%f, %hf, H⟩, R⟩
    ihave K := (wp_load 𝒱 (c : Thread nD τ) bd Set.univ (m := mem b) (r := (Rect.unit off size inb).toLoadRect)
      (View.setOn_subset_set _ _)) $$ H
    iapply K
    iintro H
    have e : (mem b).view.readAt (Elt F) (Rect.unit off size inb).toLoadRect f
        = fun x => σ b ((Rect.unit off size inb).emb x) := by
      rw [← hf]; rfl
    rw [e]
    iapply (ih _ σ)
    rw [ownAll_split (c : Thread nD τ) mem b σ]
    isplitl [H]
    · unfold owns
      iexists f
      isplitr
      · ipureintro; exact hf
      · iexact H
    · iexact R
  | st b off size inb hn hp w k ih =>
    intro σ
    refine (Entails.of_eq (ownAll_split (c : Thread nD τ) mem b σ)).trans ?_
    unfold owns
    iintro ⟨⟨%f, %hf, H⟩, R⟩
    ihave K := (wp_store 𝒱 (c : Thread nD τ) bd Set.univ (m := mem b) (r := Rect.unit off size inb) (w := w)
      (Mk := Finset.univ) (Memref.setOn_access_subset _ _ _)) $$ H
    iapply K
    iintro H
    iapply (ih (Function.update σ b (over (Rect.unit off size inb) w (σ b))))
    rw [ownAll_update (c : Thread nD τ) mem b σ]
    isplitl [H]
    · unfold owns
      iexists ((mem b).access (Rect.unit off size inb)).write (Elt F) f w Finset.univ
      isplitr
      · ipureintro
        rw [← hf]
        exact read_slice_write_eq_over (mem b).view (Rect.unit off size inb) f w
      · iexact H
    · iexact R

end Tri

end Moba
-- ==== Proof.Moba.Kernel.lean ====
/-
  The block attention kernel's body as code over its twelve buffers, one definition per stage and
  head: the key/value scratch written at a sequence's first block, the gate of a head, a head's
  scores against two key blocks, the online-softmax step of a head over two value blocks, and the
  output. Every definition is over any value type `F` and over the two constants the body carries,
  the mask value `neg` and the base-two factor `lge`.
-/
module

public import proofs.«01_k».proof.Proof.Moba.Code

@[expose] public section

noncomputable section

namespace Moba

open Idealize.ShloMosaic Idealize.SL.Sem

/-! ## Shapes -/

abbrev S1x256x512 : Shape := ⟨3, ![1, 256, 512]⟩
abbrev S1x4096x512 : Shape := ⟨3, ![1, 4096, 512]⟩
abbrev S8x2x256x256 : Shape := ⟨4, ![8, 2, 256, 256]⟩
abbrev S4x16x128 : Shape := ⟨3, ![4, 16, 128]⟩
abbrev S4x2x17x256x128 : Shape := ⟨5, ![4, 2, 17, 256, 128]⟩
abbrev S4x17x128x256 : Shape := ⟨4, ![4, 17, 128, 256]⟩
abbrev S4x2x256x512 : Shape := ⟨4, ![4, 2, 256, 512]⟩
abbrev S4x2x128x256 : Shape := ⟨4, ![4, 2, 128, 256]⟩
abbrev S4x2x64x256 : Shape := ⟨4, ![4, 2, 64, 256]⟩
abbrev S1x256x128 : Shape := ⟨3, ![1, 256, 128]⟩
abbrev S1x1x256x256 : Shape := ⟨4, ![1, 1, 256, 256]⟩
abbrev S1x1x128 : Shape := ⟨3, ![1, 1, 128]⟩
abbrev S1x16x64 : Shape := ⟨3, ![1, 16, 64]⟩
abbrev S1x1x1x256x128 : Shape := ⟨5, ![1, 1, 1, 256, 128]⟩
abbrev S1x1x1x256x64 : Shape := ⟨5, ![1, 1, 1, 256, 64]⟩
abbrev S1x1x128x256 : Shape := ⟨4, ![1, 1, 128, 256]⟩
abbrev S1x1x64x256 : Shape := ⟨4, ![1, 1, 64, 256]⟩
abbrev S256x128 : Shape := ⟨2, ![256, 128]⟩
abbrev S128x256 : Shape := ⟨2, ![128, 256]⟩
abbrev S256x256 : Shape := ⟨2, ![256, 256]⟩
abbrev S512x128 : Shape := ⟨2, ![512, 128]⟩
abbrev S512x256 : Shape := ⟨2, ![512, 256]⟩
abbrev S64x512 : Shape := ⟨2, ![64, 512]⟩
abbrev S64x256 : Shape := ⟨2, ![64, 256]⟩
abbrev S16x256 : Shape := ⟨2, ![16, 256]⟩
abbrev S48x256 : Shape := ⟨2, ![48, 256]⟩
abbrev S16x64 : Shape := ⟨2, ![16, 64]⟩
abbrev S256x64 : Shape := ⟨2, ![256, 64]⟩
abbrev S1x256 : Shape := ⟨2, ![1, 256]⟩
abbrev S1x128 : Shape := ⟨2, ![1, 128]⟩
abbrev S256 : Shape := ⟨1, ![256]⟩
abbrev S128 : Shape := ⟨1, ![128]⟩

/-! ## The buffers -/

/-- The four staged arguments, the staged output and the seven scratch buffers. -/
inductive Buf
  | q | k | v | bias | out | km | kb | vt | s0 | s1 | wq | acc
  deriving DecidableEq

instance : Fintype Buf where
  elems := {.q, .k, .v, .bias, .out, .km, .kb, .vt, .s0, .s1, .wq, .acc}
  complete x := by cases x <;> decide

/-- Their shapes. -/
def Buf.shp : Buf → Shape
  | .q => S1x256x512 | .k => S1x4096x512 | .v => S1x4096x512 | .bias => S8x2x256x256 | .out => S1x256x512
  | .km => S4x16x128 | .kb => S4x2x17x256x128 | .vt => S4x17x128x256 | .s0 => S4x2x256x512 | .s1 => S4x2x256x512
  | .wq => S4x2x128x256 | .acc => S4x2x64x256

/-- Their element types. -/
def Buf.ety : Buf → EltTy
  | .q => .bf16 | .k => .bf16 | .v => .bf16 | .bias => .f32 | .out => .bf16
  | .km => .f32 | .kb => .bf16 | .vt => .bf16 | .s0 => .f32 | .s1 => .f32 | .wq => .bf16 | .acc => .f32

/-- The kernel's buffers. -/
abbrev 𝔅 : Bufs := ⟨Buf, inferInstance, inferInstance, Buf.shp, Buf.ety⟩

/-- The two score buffers. -/
inductive Slot | a | b

variable {F : FTy → Type} [FloatOps F]

/-! ## Loads and stores -/

/-- A block of a sequence's queries: a lane group. -/
def ldQ (g : Fin 4) : Code F 𝔅 (Vec F S1x256x128 .bf16) :=
  .ld (𝔅 := 𝔅) Buf.q (![0, 0, g * 128] : Fin 3 → Nat) S1x256x128.size
    (by intro a; have := g.2; fin_cases a <;> simp [Buf.shp] <;> omega) (by decide : 0 < S1x256x128.numel) .ret

def ldK (g : Fin 4) (j : Fin 16) : Code F 𝔅 (Vec F S1x256x128 .bf16) :=
  .ld (𝔅 := 𝔅) Buf.k (![0, j * 256, g * 128] : Fin 3 → Nat) S1x256x128.size
    (by intro a; have := g.2; have := j.2; fin_cases a <;> simp [Buf.shp] <;> omega) (by decide : 0 < S1x256x128.numel) .ret

def ldV (g : Fin 4) (j : Fin 16) : Code F 𝔅 (Vec F S1x256x128 .bf16) :=
  .ld (𝔅 := 𝔅) Buf.v (![0, j * 256, g * 128] : Fin 3 → Nat) S1x256x128.size
    (by intro a; have := g.2; have := j.2; fin_cases a <;> simp [Buf.shp] <;> omega) (by decide : 0 < S1x256x128.numel) .ret

def ldBias (h : Fin 8) (w : Fin 2) : Code F 𝔅 (Vec F S1x1x256x256 .f32) :=
  .ld (𝔅 := 𝔅) Buf.bias (![h, w, 0, 0] : Fin 4 → Nat) S1x1x256x256.size
    (by intro a; have := h.2; have := w.2; fin_cases a <;> simp [Buf.shp] <;> omega) (by decide : 0 < S1x1x256x256.numel) .ret

theorem inbOut (g : Fin 4) : ∀ a, (![0, 0, (g : Nat) * 128] : Fin 3 → Nat) a + S1x256x128.size a ≤ S1x256x512.size a := by
  intro a; have := g.2; fin_cases a <;> simp <;> omega

def stOut (g : Fin 4) (x : FVec F S1x256x128 .bf16) : Code F 𝔅 PUnit :=
  .ld (𝔅 := 𝔅) Buf.out (![0, 0, g * 128] : Fin 3 → Nat) S1x256x128.size (inbOut g) (by decide : 0 < S1x256x128.numel) fun _ =>
  .st (𝔅 := 𝔅) Buf.out (![0, 0, g * 128] : Fin 3 → Nat) S1x256x128.size (inbOut g) (by decide : 0 < S1x256x128.numel)
    (.inr ⟨by decide, rfl, .inl ⟨⟨0, rfl⟩, ⟨128, rfl⟩⟩⟩) x (.ret ⟨⟩)

def ldKmCols (g : Fin 4) (hh : Fin 2) : Code F 𝔅 (Vec F S1x16x64 .f32) :=
  .ld (𝔅 := 𝔅) Buf.km (![g, 0, hh * 64] : Fin 3 → Nat) S1x16x64.size
    (by intro a; have := g.2; have := hh.2; fin_cases a <;> simp [Buf.shp] <;> omega) (by decide : 0 < S1x16x64.numel) .ret

theorem inbKm (g : Fin 4) (j : Fin 16) :
    ∀ a, (![(g : Nat), (j : Nat), 0] : Fin 3 → Nat) a + S1x1x128.size a ≤ S4x16x128.size a := by
  intro a; have := g.2; have := j.2; fin_cases a <;> simp <;> omega

def stKm (g : Fin 4) (j : Fin 16) (x : FVec F S1x1x128 .f32) : Code F 𝔅 PUnit :=
  .ld (𝔅 := 𝔅) Buf.km (![g, j, 0] : Fin 3 → Nat) S1x1x128.size (inbKm g j) (by decide : 0 < S1x1x128.numel) fun _ =>
  .st (𝔅 := 𝔅) Buf.km (![g, j, 0] : Fin 3 → Nat) S1x1x128.size (inbKm g j) (by decide : 0 < S1x1x128.numel)
    (.inr ⟨by decide, rfl, .inl ⟨⟨j, (Nat.one_mul _).symm⟩, ⟨1, rfl⟩⟩⟩) x (.ret ⟨⟩)

theorem inbKbHalf (g : Fin 4) (hh : Fin 2) (j : Fin 17) (o : Fin 2) :
    ∀ a, (![(g : Nat), (hh : Nat), (j : Nat), 0, (o : Nat) * 64] : Fin 5 → Nat) a + S1x1x1x256x64.size a ≤ S4x2x17x256x128.size a := by
  intro a; have := g.2; have := hh.2; have := j.2; have := o.2; fin_cases a <;> simp <;> omega

/-- One half of a key block's lanes: the keys at `o = 0`, the block's one-hot row at `o = 1`. -/
def stKb (g : Fin 4) (hh : Fin 2) (j : Fin 17) (o : Fin 2) (x : FVec F S1x1x1x256x64 .bf16) : Code F 𝔅 PUnit :=
  .ld (𝔅 := 𝔅) Buf.kb (![g, hh, j, 0, o * 64] : Fin 5 → Nat) S1x1x1x256x64.size (inbKbHalf g hh j o) (by decide : 0 < S1x1x1x256x64.numel) fun _ =>
  .st (𝔅 := 𝔅) Buf.kb (![g, hh, j, 0, o * 64] : Fin 5 → Nat) S1x1x1x256x64.size (inbKbHalf g hh j o) (by decide : 0 < S1x1x1x256x64.numel)
    (.inr ⟨by decide, rfl, .inl ⟨⟨0, rfl⟩, ⟨128, rfl⟩⟩⟩) x (.ret ⟨⟩)

def ldKb (g : Fin 4) (hh : Fin 2) (j : Nat) (hj : j < 17) : Code F 𝔅 (Vec F S1x1x1x256x128 .bf16) :=
  .ld (𝔅 := 𝔅) Buf.kb (![g, hh, j, 0, 0] : Fin 5 → Nat) S1x1x1x256x128.size
    (by intro a; have := g.2; have := hh.2; fin_cases a <;> simp [Buf.shp] <;> omega) (by decide : 0 < S1x1x1x256x128.numel) .ret

theorem inbVt (g : Fin 4) (j : Fin 17) :
    ∀ a, (![(g : Nat), (j : Nat), 0, 0] : Fin 4 → Nat) a + S1x1x128x256.size a ≤ S4x17x128x256.size a := by
  intro a; have := g.2; have := j.2; fin_cases a <;> simp <;> omega

def stVt (g : Fin 4) (j : Fin 17) (x : FVec F S1x1x128x256 .bf16) : Code F 𝔅 PUnit :=
  .ld (𝔅 := 𝔅) Buf.vt (![g, j, 0, 0] : Fin 4 → Nat) S1x1x128x256.size (inbVt g j) (by decide : 0 < S1x1x128x256.numel) fun _ =>
  .st (𝔅 := 𝔅) Buf.vt (![g, j, 0, 0] : Fin 4 → Nat) S1x1x128x256.size (inbVt g j) (by decide : 0 < S1x1x128x256.numel)
    (.inr ⟨by decide, rfl, .inl ⟨⟨0, rfl⟩, ⟨64, rfl⟩⟩⟩) x (.ret ⟨⟩)

def ldVt (g : Fin 4) (hh : Fin 2) (j : Nat) (hj : j < 17) : Code F 𝔅 (Vec F S1x1x64x256 .bf16) :=
  .ld (𝔅 := 𝔅) Buf.vt (![g, j, hh * 64, 0] : Fin 4 → Nat) S1x1x64x256.size
    (by intro a; have := g.2; have := hh.2; fin_cases a <;> simp [Buf.shp] <;> omega) (by decide : 0 < S1x1x64x256.numel) .ret

theorem inbWq (g : Fin 4) (hh : Fin 2) :
    ∀ a, (![(g : Nat), (hh : Nat), 0, 0] : Fin 4 → Nat) a + S1x1x128x256.size a ≤ S4x2x128x256.size a := by
  intro a; have := g.2; have := hh.2; fin_cases a <;> simp <;> omega

def ldWq (g : Fin 4) (hh : Fin 2) : Code F 𝔅 (Vec F S1x1x128x256 .bf16) :=
  .ld (𝔅 := 𝔅) Buf.wq (![g, hh, 0, 0] : Fin 4 → Nat) S1x1x128x256.size (inbWq g hh) (by decide : 0 < S1x1x128x256.numel) .ret

def stWq (g : Fin 4) (hh : Fin 2) (x : FVec F S1x1x128x256 .bf16) : Code F 𝔅 PUnit :=
  .ld (𝔅 := 𝔅) Buf.wq (![g, hh, 0, 0] : Fin 4 → Nat) S1x1x128x256.size (inbWq g hh) (by decide : 0 < S1x1x128x256.numel) fun _ =>
  .st (𝔅 := 𝔅) Buf.wq (![g, hh, 0, 0] : Fin 4 → Nat) S1x1x128x256.size (inbWq g hh) (by decide : 0 < S1x1x128x256.numel)
    (.inr ⟨by decide, rfl, .inl ⟨⟨0, rfl⟩, ⟨64, rfl⟩⟩⟩) x (.ret ⟨⟩)

theorem inbS (g : Fin 4) (w : Fin 2) (hh : Fin 2) :
    ∀ a, (![(g : Nat), (w : Nat), 0, (hh : Nat) * 256] : Fin 4 → Nat) a + S1x1x256x256.size a ≤ S4x2x256x512.size a := by
  intro a; have := g.2; have := w.2; have := hh.2; fin_cases a <;> simp <;> omega

def ldS : Slot → (g : Fin 4) → (w hh : Fin 2) → Code F 𝔅 (Vec F S1x1x256x256 .f32)
  | .a, g, w, hh => .ld (𝔅 := 𝔅) Buf.s0 (![g, w, 0, hh * 256] : Fin 4 → Nat) S1x1x256x256.size (inbS g w hh) (by decide : 0 < S1x1x256x256.numel) .ret
  | .b, g, w, hh => .ld (𝔅 := 𝔅) Buf.s1 (![g, w, 0, hh * 256] : Fin 4 → Nat) S1x1x256x256.size (inbS g w hh) (by decide : 0 < S1x1x256x256.numel) .ret

def stS : Slot → (g : Fin 4) → (w hh : Fin 2) → FVec F S1x1x256x256 .f32 → Code F 𝔅 PUnit
  | .a, g, w, hh, x =>
    .ld (𝔅 := 𝔅) Buf.s0 (![g, w, 0, hh * 256] : Fin 4 → Nat) S1x1x256x256.size (inbS g w hh) (by decide : 0 < S1x1x256x256.numel) fun _ =>
    .st (𝔅 := 𝔅) Buf.s0 (![g, w, 0, hh * 256] : Fin 4 → Nat) S1x1x256x256.size (inbS g w hh) (by decide : 0 < S1x1x256x256.numel)
      (.inr ⟨by decide, rfl, .inl ⟨⟨0, rfl⟩, ⟨256, rfl⟩⟩⟩) x (.ret ⟨⟩)
  | .b, g, w, hh, x =>
    .ld (𝔅 := 𝔅) Buf.s1 (![g, w, 0, hh * 256] : Fin 4 → Nat) S1x1x256x256.size (inbS g w hh) (by decide : 0 < S1x1x256x256.numel) fun _ =>
    .st (𝔅 := 𝔅) Buf.s1 (![g, w, 0, hh * 256] : Fin 4 → Nat) S1x1x256x256.size (inbS g w hh) (by decide : 0 < S1x1x256x256.numel)
      (.inr ⟨by decide, rfl, .inl ⟨⟨0, rfl⟩, ⟨256, rfl⟩⟩⟩) x (.ret ⟨⟩)

theorem inbAcc (g : Fin 4) (hh : Fin 2) :
    ∀ a, (![(g : Nat), (hh : Nat), 0, 0] : Fin 4 → Nat) a + S1x1x64x256.size a ≤ S4x2x64x256.size a := by
  intro a; have := g.2; have := hh.2; fin_cases a <;> simp <;> omega

def ldAcc (g : Fin 4) (hh : Fin 2) : Code F 𝔅 (Vec F S1x1x64x256 .f32) :=
  .ld (𝔅 := 𝔅) Buf.acc (![g, hh, 0, 0] : Fin 4 → Nat) S1x1x64x256.size (inbAcc g hh) (by decide : 0 < S1x1x64x256.numel) .ret

def stAcc (g : Fin 4) (hh : Fin 2) (x : FVec F S1x1x64x256 .f32) : Code F 𝔅 PUnit :=
  .ld (𝔅 := 𝔅) Buf.acc (![g, hh, 0, 0] : Fin 4 → Nat) S1x1x64x256.size (inbAcc g hh) (by decide : 0 < S1x1x64x256.numel) fun _ =>
  .st (𝔅 := 𝔅) Buf.acc (![g, hh, 0, 0] : Fin 4 → Nat) S1x1x64x256.size (inbAcc g hh) (by decide : 0 < S1x1x64x256.numel)
    (.inr ⟨by decide, rfl, .inl ⟨⟨0, rfl⟩, ⟨64, rfl⟩⟩⟩) x (.ret ⟨⟩)

/-! ## Products -/

def dotGate : DotDims S16x64 S64x256 S16x256 where
  lhsContracting := [1]
  rhsContracting := [0]
  lhsNonContracting := [0]
  rhsNonContracting := [1]
  lhsBatch := []
  rhsBatch := []
  wf := by decide

def dotScore : DotDims S512x128 S128x256 S512x256 where
  lhsContracting := [1]
  rhsContracting := [0]
  lhsNonContracting := [0]
  rhsNonContracting := [1]
  lhsBatch := []
  rhsBatch := []
  wf := by decide

def dotOut : DotDims S64x512 S512x256 S64x256 where
  lhsContracting := [1]
  rhsContracting := [0]
  lhsNonContracting := [0]
  rhsNonContracting := [1]
  lhsBatch := []
  rhsBatch := []
  wf := by decide

/-! ## Concatenations -/

theorem catWq : Shape.Concatenates [S64x256, S16x256, S48x256] S128x256 0 := by decide

theorem catKb : Shape.Concatenates [S256x128, S256x128] S512x128 0 := by decide

theorem catS : Shape.Concatenates [S256x256, S256x256] S512x256 0 := by decide

theorem catVt : Shape.Concatenates [S64x256, S64x256] S64x512 1 := by decide

theorem catOut : Shape.Concatenates [S64x256, S64x256] S128x256 0 := by decide

/-! ## Eight heads -/

/-- Something for every head: two heads in each of four lane groups. -/
structure Heads (α : Type) where
  h0 : α
  h1 : α
  h2 : α
  h3 : α
  h4 : α
  h5 : α
  h6 : α
  h7 : α

/-- A head's. -/
def Heads.get {α : Type} (x : Heads α) (g : Fin 4) (hh : Fin 2) : α :=
  (![![x.h0, x.h1], ![x.h2, x.h3], ![x.h4, x.h5], ![x.h6, x.h7]] : Fin 4 → Fin 2 → α) g hh

/-- Code for every head in turn. -/
def forHeads {α : Type} (f : Fin 4 → Fin 2 → Code F 𝔅 α) : Code F 𝔅 (Heads α) :=
  (f 0 0).bind fun a0 => (f 0 1).bind fun a1 => (f 1 0).bind fun a2 => (f 1 1).bind fun a3 =>
  (f 2 0).bind fun a4 => (f 2 1).bind fun a5 => (f 3 0).bind fun a6 => (f 3 1).bind fun a7 =>
  .ret ⟨a0, a1, a2, a3, a4, a5, a6, a7⟩

/-! ## The key and value scratch -/

/-- Block `j`'s one-hot lanes. -/
def oneHot (j : Fin 17) : FVec F S256x64 .bf16 :=
  truncf .bf16 (select (cmpi .eq (iota .tc S256x64 32 [1] (by decide)) (broadcast S256x64 (BitVec.ofNat 32 j)))
    (broadcast S256x64 (Scalar.ofBits .f32 0x3F800000#32)) (broadcast S256x64 (Scalar.ofBits .f32 0x00000000#32))) (by decide)

/-- The one-hot lanes of a group's key block. -/
def fillHot (g : Fin 4) (j : Fin 17) : Code F 𝔅 PUnit :=
  (stKb g 0 j 1 (shapeCast S1x1x1x256x64 (oneHot j) (by decide))).bind fun _ =>
  stKb g 1 j 1 (shapeCast S1x1x1x256x64 (oneHot j) (by decide))

/-- A group's key block, its mean, and its transposed value block. -/
def fillBlock (g : Fin 4) (j : Fin 16) : Code F 𝔅 PUnit :=
  (ldK g j).bind fun kx =>
  let kj : FVec F S256x128 .f32 := extf .f32 (shapeCast S256x128 kx (by decide)) (by decide)
  (stKb g 0 j.castSucc 0 (shapeCast S1x1x1x256x64 (truncf .bf16 (extractStridedSlice S256x64 ![0, 0] kj (by decide)) (by decide)) (by decide))).bind fun _ =>
  (stKb g 1 j.castSucc 0 (shapeCast S1x1x1x256x64 (truncf .bf16 (extractStridedSlice S256x64 ![0, 64] kj (by decide)) (by decide)) (by decide))).bind fun _ =>
  (stKm g j (shapeCast S1x1x128 (divf (shapeCast S1x128 (multiReduction .add [0] S128 kj 0x00000000#32 (by decide) (.inl rfl) rfl) (by decide))
    (broadcast S1x128 (Scalar.ofBits .f32 0x43800000#32))) (by decide))).bind fun _ =>
  (ldV g j).bind fun vx =>
  stVt g j.castSucc (shapeCast S1x1x128x256 (truncf .bf16 (transpose S128x256 [1, 0]
    (extf .f32 (shapeCast S256x128 vx (by decide)) (by decide) : FVec F S256x128 .f32) (by decide)) (by decide)) (by decide))

/-- A group's padding block: zero keys and values. -/
def fillPad (g : Fin 4) : Code F 𝔅 PUnit :=
  (stKb g 0 16 0 (shapeCast S1x1x1x256x64 (broadcast S256x64 (Scalar.ofBits .bf16 0x0000#16 : F .bf16)) (by decide))).bind fun _ =>
  (stKb g 1 16 0 (shapeCast S1x1x1x256x64 (broadcast S256x64 (Scalar.ofBits .bf16 0x0000#16 : F .bf16)) (by decide))).bind fun _ =>
  stVt g 16 (shapeCast S1x1x128x256 (broadcast S128x256 (Scalar.ofBits .bf16 0x0000#16 : F .bf16)) (by decide))

/-- Code for each of a list's members in turn. -/
def each {ι : Type} (f : ι → Code F 𝔅 PUnit) : List ι → Code F 𝔅 PUnit
  | [] => .ret ⟨⟩
  | x :: xs => (f x).bind fun _ => each f xs

/-- A group's scratch. -/
def fillGroup (g : Fin 4) : Code F 𝔅 PUnit :=
  (each (fillHot g) [0, 1, 2, 3, 4, 5, 6, 7, 8, 9, 10, 11, 12, 13, 14, 15, 16]).bind fun _ =>
  (each (fillBlock g) [0, 1, 2, 3, 4, 5, 6, 7, 8, 9, 10, 11, 12, 13, 14, 15]).bind fun _ => fillPad g

/-- The whole scratch. -/
def fill : Code F 𝔅 PUnit :=
  (fillGroup 0).bind fun _ => (fillGroup 1).bind fun _ => (fillGroup 2).bind fun _ => fillGroup 3

/-! ## The gate -/

/-- The block numbers, down the rows. -/
def blkId : IVec S16x256 32 := iota .tc S16x256 32 [0] (by decide)

/-- The maxima of the columns, down the rows. -/
def colMax (gt : FVec F S16x256 .f32) : FVec F S16x256 .f32 :=
  broadcastTo S16x256 (shapeCast S1x256 (multiReduction .maximumf [0] S256 gt 0xFF800000#32 (by decide) (.inl rfl) rfl) (by decide)) (by decide)

/-- Where a round picks: each column's first finite maximum. -/
def pick (gt : FVec F S16x256 .f32) : IVec S16x256 1 :=
  cmpi .eq blkId (broadcastTo S16x256 (shapeCast S1x256 (multiReductionI .minsi [0] S256
    (select (andi (cmpf .oeq gt (colMax gt)) (cmpf .ogt gt (broadcast S16x256 (Scalar.ofBits .f32 0xFF800000#32))))
      blkId (broadcast S16x256 16#32)) 2147483647#32 (by decide) rfl) (by decide)) (by decide))

/-- A round: the picked entries marked, and removed. -/
def pickSel (gt sel : FVec F S16x256 .f32) : FVec F S16x256 .f32 :=
  select (pick gt) (broadcast S16x256 (Scalar.ofBits .f32 0x3F800000#32)) sel

def pickRest (gt : FVec F S16x256 .f32) : FVec F S16x256 .f32 :=
  select (pick gt) (broadcast S16x256 (Scalar.ofBits .f32 0xFF800000#32)) gt

theorem slicesQ (hh : Fin 2) : S128x256.Slices ![(hh : Nat) * 64, 0] S64x256 := by
  fin_cases hh <;> decide

/-- A head's gate scores over the past blocks. -/
def gateOf (qb : BitVec 32) (km : FVec F S16x64 .f32) (qh : FVec F S64x256 .f32) : FVec F S16x256 .f32 :=
  select (cmpi .slt blkId (broadcast S16x256 qb))
    (matmul dotGate (some .fp32) km qh (constant S16x256 .f32 0x00000000#32))
    (broadcast S16x256 (Scalar.ofBits .f32 0xFF800000#32))

/-- The marks after the three rounds. -/
def selOf (gt : FVec F S16x256 .f32) : FVec F S16x256 .f32 :=
  pickSel (pickRest (pickRest gt)) (pickSel (pickRest gt) (pickSel gt (broadcast S16x256 (Scalar.ofBits .f32 0x00000000#32))))

/-- A head's query columns extended by its block masks. -/
def wqOf (neg lge : F .f32) (qb : BitVec 32) (km : FVec F S16x64 .f32) (qh : FVec F S64x256 .f32) : FVec F S128x256 .bf16 :=
  truncf .bf16 (concatenate S128x256 0
    [⟨S64x256, mulf qh (broadcast S64x256 lge)⟩,
     ⟨S16x256, select (ori (cmpf .ogt (selOf (gateOf qb km qh)) (broadcast S16x256 (Scalar.ofBits .f32 0x00000000#32))) (cmpi .eq blkId (broadcast S16x256 qb)))
        (broadcast S16x256 (Scalar.ofBits .f32 0x00000000#32)) (broadcast S16x256 neg)⟩,
     ⟨S48x256, select (cmpi .eq (iota .tc S48x256 32 [0] (by decide)) (broadcast S48x256 0#32))
        (broadcast S48x256 neg) (broadcast S48x256 (Scalar.ofBits .f32 0x00000000#32))⟩] catWq) (by decide)

/-- A group's scaled queries, transposed. -/
def qtOf (x : FVec F S1x256x128 .bf16) : FVec F S128x256 .f32 :=
  transpose S128x256 [1, 0] (mulf (extf .f32 (shapeCast S256x128 x (by decide) : FVec F S256x128 .bf16) (by decide))
    (broadcast S256x128 (Scalar.ofBits .f32 0x3E000000#32))) (by decide)

/-- The gate of a head. -/
def gateHead (neg lge : F .f32) (qb : BitVec 32) (g : Fin 4) (hh : Fin 2) (qt : FVec F S128x256 .f32) : Code F 𝔅 PUnit :=
  (ldKmCols g hh).bind fun km =>
  stWq g hh (shapeCast S1x1x128x256 (wqOf neg lge qb (shapeCast S16x64 km (by decide))
    (extractStridedSlice S64x256 ![(hh : Nat) * 64, 0] qt (slicesQ hh))) (by decide))

/-- The gates of a group. -/
def gateGroup (neg lge : F .f32) (qb : BitVec 32) (g : Fin 4) : Code F 𝔅 PUnit :=
  (ldQ g).bind fun x => (gateHead neg lge qb g 0 (qtOf x)).bind fun _ => gateHead neg lge qb g 1 (qtOf x)

/-- All the gates. -/
def gates (neg lge : F .f32) (qb : BitVec 32) : Code F 𝔅 PUnit :=
  (gateGroup neg lge qb 0).bind fun _ => (gateGroup neg lge qb 1).bind fun _ =>
  (gateGroup neg lge qb 2).bind fun _ => gateGroup neg lge qb 3

/-! ## Scores -/

/-- A head's scores against two key blocks. -/
def scoreOf (ka kb : FVec F S1x1x1x256x128 .bf16) (wq : FVec F S1x1x128x256 .bf16) : FVec F S512x256 .f32 :=
  matmul dotScore none
    (concatenate S512x128 0 [⟨S256x128, shapeCast S256x128 ka (by decide)⟩, ⟨S256x128, shapeCast S256x128 kb (by decide)⟩] catKb)
    (shapeCast S128x256 wq (by decide)) (constant S512x256 .f32 0x00000000#32)

/-- Both windows of a score matrix stored, its column maxima returned. -/
def putScore (sl : Slot) (g : Fin 4) (hh : Fin 2) (st : FVec F S512x256 .f32) : Code F 𝔅 (FVec F S1x256 .f32) :=
  (stS sl g 0 hh (shapeCast S1x1x256x256 (extractStridedSlice S256x256 ![0, 0] st (by decide)) (by decide))).bind fun _ =>
  (stS sl g 1 hh (shapeCast S1x1x256x256 (extractStridedSlice S256x256 ![256, 0] st (by decide)) (by decide))).bind fun _ =>
  .ret (shapeCast S1x256 (multiReduction .maximumf [0] S256 st 0xFF800000#32 (by decide) (.inl rfl) rfl) (by decide))

/-- A head's scores against blocks `ja` and `jb`. -/
def scoreHead (sl : Slot) (ja jb : BitVec 32) (ha : ja.toNat < 17) (hb : jb.toNat < 17) (g : Fin 4) (hh : Fin 2) :
    Code F 𝔅 (FVec F S1x256 .f32) :=
  (ldKb g hh ja.toNat ha).bind fun ka => (ldKb g hh jb.toNat hb).bind fun kb => (ldWq g hh).bind fun wq =>
  putScore sl g hh (scoreOf ka kb wq)

/-- A head's number. -/
def headNo (g : Fin 4) (hh : Fin 2) : Fin 8 := ⟨g * 2 + hh, by omega⟩

/-- A head's scores against the query block itself and the one before, with the bias. -/
def scoreHeadB (sl : Slot) (ja jb : BitVec 32) (ha : ja.toNat < 17) (hb : jb.toNat < 17) (g : Fin 4) (hh : Fin 2) :
    Code F 𝔅 (FVec F S1x256 .f32) :=
  (ldKb g hh ja.toNat ha).bind fun ka => (ldKb g hh jb.toNat hb).bind fun kb => (ldWq g hh).bind fun wq =>
  (ldBias (headNo g hh) 0).bind fun b0 => (ldBias (headNo g hh) 1).bind fun b1 =>
  putScore sl g hh (addf (scoreOf ka kb wq)
    (concatenate S512x256 0 [⟨S256x256, shapeCast S256x256 b0 (by decide)⟩, ⟨S256x256, shapeCast S256x256 b1 (by decide)⟩] catS))

/-! ## The online softmax -/

/-- A window's weights. -/
def expOf (s : FVec F S1x1x256x256 .f32) (m : FVec F S1x256 .f32) : FVec F S256x256 .f32 :=
  exp2 (subf (shapeCast S256x256 s (by decide)) (broadcastTo S256x256 m (by decide)))

/-- The sums of a window's columns. -/
def colSum (p : FVec F S256x256 .f32) : FVec F S1x256 .f32 :=
  shapeCast S1x256 (multiReduction .add [0] S256 p 0x00000000#32 (by decide) (.inl rfl) rfl) (by decide)

/-- The weighted values of two blocks. -/
def pvOf (p0 p1 : FVec F S256x256 .f32) (va vb : FVec F S1x1x64x256 .bf16) : FVec F S64x256 .f32 :=
  matmul dotOut none
    (concatenate S64x512 1 [⟨S64x256, shapeCast S64x256 va (by decide)⟩, ⟨S64x256, shapeCast S64x256 vb (by decide)⟩] catVt)
    (concatenate S512x256 0 [⟨S256x256, truncf .bf16 p0 (by decide)⟩, ⟨S256x256, truncf .bf16 p1 (by decide)⟩] catS)
    (constant S64x256 .f32 0x00000000#32)

/-- The first softmax step of a head: its sum. -/
def attendHead0 (sl : Slot) (ja jb : BitVec 32) (ha : ja.toNat < 17) (hb : jb.toNat < 17) (cm : Heads (FVec F S1x256 .f32))
    (g : Fin 4) (hh : Fin 2) : Code F 𝔅 (FVec F S1x256 .f32) :=
  (ldS sl g 0 hh).bind fun s0 => (ldS sl g 1 hh).bind fun s1 =>
  (ldVt g hh ja.toNat ha).bind fun va => (ldVt g hh jb.toNat hb).bind fun vb =>
  (stAcc g hh (shapeCast S1x1x64x256 (pvOf (expOf s0 (cm.get g hh)) (expOf s1 (cm.get g hh)) va vb) (by decide))).bind fun _ =>
  .ret (addf (colSum (expOf s0 (cm.get g hh))) (colSum (expOf s1 (cm.get g hh))))

/-- A later softmax step of a head, from its running maximum and sum, to the new ones. -/
def attendHead (sl : Slot) (ja jb : BitVec 32) (ha : ja.toNat < 17) (hb : jb.toNat < 17)
    (cm m l : Heads (FVec F S1x256 .f32)) (g : Fin 4) (hh : Fin 2) : Code F 𝔅 (FVec F S1x256 .f32 × FVec F S1x256 .f32) :=
  let mn : FVec F S1x256 .f32 := maximumf (m.get g hh) (cm.get g hh)
  (ldS sl g 0 hh).bind fun s0 => (ldS sl g 1 hh).bind fun s1 =>
  (ldVt g hh ja.toNat ha).bind fun va => (ldVt g hh jb.toNat hb).bind fun vb =>
  (ldAcc g hh).bind fun ac =>
  (stAcc g hh (shapeCast S1x1x64x256 (addf (mulf (shapeCast S64x256 ac (by decide))
      (broadcastTo S64x256 (exp2 (subf (m.get g hh) mn)) (by decide))) (pvOf (expOf s0 mn) (expOf s1 mn) va vb)) (by decide))).bind fun _ =>
  .ret (mn, addf (mulf (exp2 (subf (m.get g hh) mn)) (l.get g hh)) (addf (colSum (expOf s0 mn)) (colSum (expOf s1 mn))))

/-! ## The output -/

/-- A group's output columns, from its two heads' accumulators and sums. -/
def outOf (l0 l1 : FVec F S1x256 .f32) (a0 a1 : FVec F S1x1x64x256 .f32) : FVec F S256x128 .bf16 :=
  truncf .bf16 (transpose S256x128 [1, 0]
    (concatenate S128x256 0
      [⟨S64x256, divf (shapeCast S64x256 a0 (by decide)) (broadcastTo S64x256 l0 (by decide))⟩,
       ⟨S64x256, divf (shapeCast S64x256 a1 (by decide)) (broadcastTo S64x256 l1 (by decide))⟩] catOut)
    (by decide)) (by decide)

/-- A group's output. -/
def outGroup (l0 l1 : FVec F S1x256 .f32) (g : Fin 4) : Code F 𝔅 PUnit :=
  (ldAcc g 0).bind fun a0 => (ldAcc g 1).bind fun a1 => stOut g (shapeCast S1x256x128 (outOf l0 l1 a0 a1) (by decide))

/-- The output block. -/
def outs (l : Heads (FVec F S1x256 .f32)) : Code F 𝔅 PUnit :=
  (outGroup l.h0 l.h1 0).bind fun _ => (outGroup l.h2 l.h3 1).bind fun _ =>
  (outGroup l.h4 l.h5 2).bind fun _ => outGroup l.h6 l.h7 3

/-! ## The block numbers of a step, and the stages -/

/-- The two blocks of far pair `k`: those before block `nfar`, else the padding block. -/
def farA (nfar k : BitVec 32) : BitVec 32 :=
  Scalar.select (Scalar.cmpi .slt (Scalar.muli 2#32 k) nfar) (Scalar.muli 2#32 k) 16#32

def farB (nfar k : BitVec 32) : BitVec 32 :=
  Scalar.select (Scalar.cmpi .slt (Scalar.addi (Scalar.muli 2#32 k) 1#32) nfar) (Scalar.addi (Scalar.muli 2#32 k) 1#32) 16#32

/-- The carried values of the loop: every head's running maximum and sum, and the column maxima of the
    scores waiting to be attended to. -/
structure Carry (F : FTy → Type) where
  m : Heads (FVec F S1x256 .f32)
  l : Heads (FVec F S1x256 .f32)
  c : Heads (FVec F S1x256 .f32)

def Heads.map {α β : Type} (f : α → β) (x : Heads α) : Heads β :=
  ⟨f x.h0, f x.h1, f x.h2, f x.h3, f x.h4, f x.h5, f x.h6, f x.h7⟩

/-- One trip of the pipelined softmax: the scores of pair `(ja, jb)` into slot `sl`, then the step over the
    scores in slot `sl'`, those of pair `(pa, pb)`. -/
def trip (sl sl' : Slot) (ja jb pa pb : BitVec 32) (ha : ja.toNat < 17) (hb : jb.toNat < 17) (hpa : pa.toNat < 17) (hpb : pb.toNat < 17)
    (x : Carry F) : Code F 𝔅 (Carry F) :=
  (forHeads (scoreHead sl ja jb ha hb)).bind fun c' =>
  (forHeads (attendHead sl' pa pb hpa hpb x.c x.m x.l)).bind fun ml =>
  .ret ⟨ml.map Prod.fst, ml.map Prod.snd, c'⟩

/-- The start: the gates, the scores of the query block and the one before it, those of the first far pair, and
    the first softmax step. -/
def start (neg lge : F .f32) (qb jp ja jb : BitVec 32) (hq : qb.toNat < 17) (hp : jp.toNat < 17) (ha : ja.toNat < 17) (hb : jb.toNat < 17) :
    Code F 𝔅 (Carry F) :=
  (gates neg lge qb).bind fun _ =>
  (forHeads (scoreHeadB .a qb jp hq hp)).bind fun c0 =>
  (forHeads (scoreHead .b ja jb ha hb)).bind fun c1 =>
  (forHeads (attendHead0 .a qb jp hq hp c0)).bind fun l =>
  .ret ⟨c0, l, c1⟩

/-! ## A grid point's block numbers -/

/-- The number of blocks before the previous one. -/
def nFar (qb : BitVec 32) : BitVec 32 := Scalar.subi qb 1#32

/-- The block before, or the padding block. -/
def prevBlk (qb : BitVec 32) : BitVec 32 := Scalar.select (Scalar.cmpi .sgt qb 0#32) (Scalar.subi qb 1#32) 16#32

/-- The first far pair's blocks. -/
def far0A (qb : BitVec 32) : BitVec 32 := Scalar.select (Scalar.cmpi .sgt (nFar qb) 0#32) 0#32 16#32

def far0B (qb : BitVec 32) : BitVec 32 := Scalar.select (Scalar.cmpi .sgt (nFar qb) 1#32) 1#32 16#32

/-- The number of far pairs: half of `nFar + 1`, rounded down. -/
def nPairs (qb : BitVec 32) : BitVec 32 :=
  let x : BitVec 32 := Scalar.addi (nFar qb) 1#32
  let q : BitVec 32 := Scalar.divsi x 2#32
  let sx : BitVec 32 := Scalar.subi (Scalar.extui (Scalar.cmpi .sgt x 0#32)) (Scalar.extui (Scalar.cmpi .slt x 0#32))
  let s2 : BitVec 32 := Scalar.subi (Scalar.extui (Scalar.cmpi .sgt 2#32 0#32)) (Scalar.extui (Scalar.cmpi .slt 2#32 0#32))
  Scalar.select (Scalar.andi (Scalar.cmpi .ne sx s2) (Scalar.cmpi .ne (Scalar.remsi x 2#32) 0#32)) (Scalar.subi q 1#32) q

/-- Whether a grid point is a sequence's first. -/
def isFirst (qb : BitVec 32) : BitVec 1 := Scalar.cmpi .ne (Scalar.extui (Scalar.cmpi .eq qb 0#32) : BitVec 32) 0#32

/-- The two far pairs of a double trip. -/
def pair1 (k : Nat) : BitVec 32 := Scalar.addi (Scalar.muli 2#32 (Scf.iv 0#32 1#32 k)) 1#32

def pair2 (k : Nat) : BitVec 32 := Scalar.addi (pair1 k) 1#32

/-- A double trip's block numbers are blocks or the padding block. -/
structure TripOk (nf : BitVec 32) (k : Nat) : Prop where
  a1 : (farA nf (pair1 k)).toNat < 17
  b1 : (farB nf (pair1 k)).toNat < 17
  a0 : (farA nf (Scalar.subi (pair1 k) 1#32)).toNat < 17
  b0 : (farB nf (Scalar.subi (pair1 k) 1#32)).toNat < 17
  a2 : (farA nf (pair2 k)).toNat < 17
  b2 : (farB nf (pair2 k)).toNat < 17
  a3 : (farA nf (Scalar.subi (pair2 k) 1#32)).toNat < 17
  b3 : (farB nf (Scalar.subi (pair2 k) 1#32)).toNat < 17

/-- A double trip of the pipelined softmax. -/
def trips (nf : BitVec 32) (k : Nat) (ok : TripOk nf k) (x : Carry F) : Code F 𝔅 (Carry F) :=
  (trip .a .b _ _ _ _ ok.a1 ok.b1 ok.a0 ok.b0 x).bind fun y => trip .b .a _ _ _ _ ok.a2 ok.b2 ok.a3 ok.b3 y

/-- The last softmax step, when a pair of scores is left: the sums after it. -/
def lastStep (ja jb : BitVec 32) (ha : ja.toNat < 17) (hb : jb.toNat < 17) (x : Carry F) : Code F 𝔅 (Heads (FVec F S1x256 .f32)) :=
  (forHeads (attendHead .b ja jb ha hb x.c x.m x.l)).bind fun ml => .ret (ml.map Prod.snd)

theorem tripOk (b : Fin 16) (k : Nat) (hk : k < 8) : TripOk (nFar (BitVec.ofNat 32 b)) k := by
  have h1 : ∀ b : Fin 16, ∀ k : Fin 8, (farA (nFar (BitVec.ofNat 32 b)) (pair1 k)).toNat < 17 := by decide
  have h2 : ∀ b : Fin 16, ∀ k : Fin 8, (farB (nFar (BitVec.ofNat 32 b)) (pair1 k)).toNat < 17 := by decide
  have h3 : ∀ b : Fin 16, ∀ k : Fin 8, (farA (nFar (BitVec.ofNat 32 b)) (Scalar.subi (pair1 k) 1#32)).toNat < 17 := by decide
  have h4 : ∀ b : Fin 16, ∀ k : Fin 8, (farB (nFar (BitVec.ofNat 32 b)) (Scalar.subi (pair1 k) 1#32)).toNat < 17 := by decide
  have h5 : ∀ b : Fin 16, ∀ k : Fin 8, (farA (nFar (BitVec.ofNat 32 b)) (pair2 k)).toNat < 17 := by decide
  have h6 : ∀ b : Fin 16, ∀ k : Fin 8, (farB (nFar (BitVec.ofNat 32 b)) (pair2 k)).toNat < 17 := by decide
  have h7 : ∀ b : Fin 16, ∀ k : Fin 8, (farA (nFar (BitVec.ofNat 32 b)) (Scalar.subi (pair2 k) 1#32)).toNat < 17 := by decide
  have h8 : ∀ b : Fin 16, ∀ k : Fin 8, (farB (nFar (BitVec.ofNat 32 b)) (Scalar.subi (pair2 k) 1#32)).toNat < 17 := by decide
  exact ⟨h1 b ⟨k, hk⟩, h2 b ⟨k, hk⟩, h3 b ⟨k, hk⟩, h4 b ⟨k, hk⟩, h5 b ⟨k, hk⟩, h6 b ⟨k, hk⟩, h7 b ⟨k, hk⟩, h8 b ⟨k, hk⟩⟩

/-- The blocks of a grid point's start are blocks or the padding block. -/
theorem startOk : ∀ b : Fin 16, (BitVec.ofNat 32 b).toNat < 17 ∧ (prevBlk (BitVec.ofNat 32 b)).toNat < 17
    ∧ (far0A (BitVec.ofNat 32 b)).toNat < 17 ∧ (far0B (BitVec.ofNat 32 b)).toNat < 17 := by decide

end Moba
-- ==== Proof.Moba.Keeps.lean ====
/-
  Which buffers the pieces of the block attention kernel leave alone: none of them stores into a staged argument.
-/
module

public import proofs.«01_k».proof.Proof.Moba.Kernel

@[expose] public section

noncomputable section

namespace Moba

open Idealize.ShloMosaic Idealize.SL.Sem

variable {F : FTy → Type} [FloatOps F] {α β : Type}

/-- The code leaves the buffers `R` as they are. -/
def Keeps (R : Buf → Prop) (p : Code F 𝔅 α) : Prop := ∀ (σ : St F 𝔅) (b : Buf), R b → (p.run σ).2 b = σ b

theorem Keeps.ret (R : Buf → Prop) (a : α) : Keeps (F := F) R (.ret a) := fun _ _ _ => rfl

theorem Keeps.bind {R : Buf → Prop} {p : Code F 𝔅 α} {f : α → Code F 𝔅 β} (hp : Keeps R p) (hf : ∀ a, Keeps R (f a)) :
    Keeps R (p.bind f) := by
  intro σ b hb
  rw [Code.run_bind, hf _ _ b hb, hp _ b hb]

theorem Keeps.ld {R : Buf → Prop} (b : Buf) (off size : Fin (Buf.shp b).rank → Nat) (inb : ∀ a, off a + size a ≤ (Buf.shp b).size a)
    (hn : 0 < (Rect.unit off size inb).shape.numel) {k : ((Rect.unit off size inb).shape.Idx → Elt F (Buf.ety b)) → Code F 𝔅 α}
    (hk : ∀ x, Keeps R (k x)) : Keeps R (Code.ld (𝔅 := 𝔅) b off size inb hn k) :=
  fun σ b' hb => hk _ σ b' hb

theorem Keeps.st {R : Buf → Prop} (b : Buf) (off size : Fin (Buf.shp b).rank → Nat) (inb : ∀ a, off a + size a ≤ (Buf.shp b).size a)
    (hn : 0 < (Rect.unit off size inb).shape.numel) (hp : (Rect.unit off size inb).PackedRows (Buf.ety b).packing)
    (w : (Rect.unit off size inb).shape.Idx → Elt F (Buf.ety b)) {k : Code F 𝔅 α} (hb : ¬R b) (hk : Keeps R k) :
    Keeps R (Code.st (𝔅 := 𝔅) b off size inb hn hp w k) := by
  intro σ b' hb'
  have hne : b' ≠ b := by rintro rfl; exact hb hb'
  exact (hk _ b' hb').trans (Function.update_of_ne hne _ _)

/-- The staged arguments. -/
def Buf.IsArg : Buf → Prop
  | .q | .k | .v | .bias => True
  | _ => False

/-- The staged arguments, and what is filled at a sequence's first block. -/
def Buf.IsFilled : Buf → Prop
  | .q | .k | .v | .bias | .km | .kb | .vt => True
  | _ => False

/-- What the gates leave alone beyond what is filled. -/
theorem Buf.IsArg.filled {b : Buf} (h : b.IsArg) : b.IsFilled := by cases b <;> first | exact True.intro | exact h.elim

theorem Keeps.weaken {R R' : Buf → Prop} {p : Code F 𝔅 α} (h : ∀ b, R' b → R b) (hp : Keeps R p) : Keeps R' p :=
  fun σ b hb => hp σ b (h b hb)

section Pieces

variable {R : Buf → Prop}

theorem keeps_ldQ (g : Fin 4) : Keeps (F := F) R (ldQ g) := Keeps.ld _ _ _ _ _ fun _ => Keeps.ret _ _
theorem keeps_ldK (g : Fin 4) (j : Fin 16) : Keeps (F := F) R (ldK g j) := Keeps.ld _ _ _ _ _ fun _ => Keeps.ret _ _
theorem keeps_ldV (g : Fin 4) (j : Fin 16) : Keeps (F := F) R (ldV g j) := Keeps.ld _ _ _ _ _ fun _ => Keeps.ret _ _
theorem keeps_ldBias (h : Fin 8) (w : Fin 2) : Keeps (F := F) R (ldBias h w) := Keeps.ld _ _ _ _ _ fun _ => Keeps.ret _ _
theorem keeps_ldKmCols (g : Fin 4) (hh : Fin 2) : Keeps (F := F) R (ldKmCols g hh) := Keeps.ld _ _ _ _ _ fun _ => Keeps.ret _ _
theorem keeps_ldKb (g : Fin 4) (hh : Fin 2) (j : Nat) (hj : j < 17) : Keeps (F := F) R (ldKb g hh j hj) := Keeps.ld _ _ _ _ _ fun _ => Keeps.ret _ _
theorem keeps_ldVt (g : Fin 4) (hh : Fin 2) (j : Nat) (hj : j < 17) : Keeps (F := F) R (ldVt g hh j hj) := Keeps.ld _ _ _ _ _ fun _ => Keeps.ret _ _
theorem keeps_ldWq (g : Fin 4) (hh : Fin 2) : Keeps (F := F) R (ldWq g hh) := Keeps.ld _ _ _ _ _ fun _ => Keeps.ret _ _
theorem keeps_ldAcc (g : Fin 4) (hh : Fin 2) : Keeps (F := F) R (ldAcc g hh) := Keeps.ld _ _ _ _ _ fun _ => Keeps.ret _ _
theorem keeps_ldS (sl : Slot) (g : Fin 4) (w hh : Fin 2) : Keeps (F := F) R (ldS sl g w hh) := by
  cases sl <;> exact Keeps.ld _ _ _ _ _ fun _ => Keeps.ret _ _

theorem keeps_stOut (h : ¬R .out) (g : Fin 4) (x : FVec F S1x256x128 .bf16) : Keeps R (stOut g x) :=
  Keeps.ld _ _ _ _ _ fun _ => Keeps.st _ _ _ _ _ _ _ h (Keeps.ret _ _)
theorem keeps_stKm (h : ¬R .km) (g : Fin 4) (j : Fin 16) (x : FVec F S1x1x128 .f32) : Keeps R (stKm g j x) :=
  Keeps.ld _ _ _ _ _ fun _ => Keeps.st _ _ _ _ _ _ _ h (Keeps.ret _ _)
theorem keeps_stKb (h : ¬R .kb) (g : Fin 4) (hh : Fin 2) (j : Fin 17) (o : Fin 2) (x : FVec F S1x1x1x256x64 .bf16) : Keeps R (stKb g hh j o x) :=
  Keeps.ld _ _ _ _ _ fun _ => Keeps.st _ _ _ _ _ _ _ h (Keeps.ret _ _)
theorem keeps_stVt (h : ¬R .vt) (g : Fin 4) (j : Fin 17) (x : FVec F S1x1x128x256 .bf16) : Keeps R (stVt g j x) :=
  Keeps.ld _ _ _ _ _ fun _ => Keeps.st _ _ _ _ _ _ _ h (Keeps.ret _ _)
theorem keeps_stWq (h : ¬R .wq) (g : Fin 4) (hh : Fin 2) (x : FVec F S1x1x128x256 .bf16) : Keeps R (stWq g hh x) :=
  Keeps.ld _ _ _ _ _ fun _ => Keeps.st _ _ _ _ _ _ _ h (Keeps.ret _ _)
theorem keeps_stAcc (h : ¬R .acc) (g : Fin 4) (hh : Fin 2) (x : FVec F S1x1x64x256 .f32) : Keeps R (stAcc g hh x) :=
  Keeps.ld _ _ _ _ _ fun _ => Keeps.st _ _ _ _ _ _ _ h (Keeps.ret _ _)
theorem keeps_stS (h0 : ¬R .s0) (h1 : ¬R .s1) (sl : Slot) (g : Fin 4) (w hh : Fin 2) (x : FVec F S1x1x256x256 .f32) : Keeps R (stS sl g w hh x) := by
  cases sl
  · exact Keeps.ld _ _ _ _ _ fun _ => Keeps.st _ _ _ _ _ _ _ h0 (Keeps.ret _ _)
  · exact Keeps.ld _ _ _ _ _ fun _ => Keeps.st _ _ _ _ _ _ _ h1 (Keeps.ret _ _)

theorem Keeps.forHeads {f : Fin 4 → Fin 2 → Code F 𝔅 α} (h : ∀ g hh, Keeps R (f g hh)) : Keeps R (forHeads f) :=
  (h _ _).bind fun _ => (h _ _).bind fun _ => (h _ _).bind fun _ => (h _ _).bind fun _ =>
  (h _ _).bind fun _ => (h _ _).bind fun _ => (h _ _).bind fun _ => (h _ _).bind fun _ => Keeps.ret _ _

theorem Keeps.each {ι : Type} {f : ι → Code F 𝔅 PUnit} (h : ∀ x, Keeps R (f x)) : ∀ xs, Keeps R (each f xs)
  | [] => Keeps.ret _ _
  | x :: xs => (h x).bind fun _ => Keeps.each h xs

theorem keeps_fillGroup (hkm : ¬R .km) (hkb : ¬R .kb) (hvt : ¬R .vt) (g : Fin 4) : Keeps (F := F) R (fillGroup g) :=
  (Keeps.each (fun _ => (keeps_stKb hkb _ _ _ _ _).bind fun _ => keeps_stKb hkb _ _ _ _ _) _).bind fun _ =>
  (Keeps.each (fun _ => (keeps_ldK _ _).bind fun _ => (keeps_stKb hkb _ _ _ _ _).bind fun _ => (keeps_stKb hkb _ _ _ _ _).bind fun _ =>
    (keeps_stKm hkm _ _ _).bind fun _ => (keeps_ldV _ _).bind fun _ => keeps_stVt hvt _ _ _) _).bind fun _ =>
  (keeps_stKb hkb _ _ _ _ _).bind fun _ => (keeps_stKb hkb _ _ _ _ _).bind fun _ => keeps_stVt hvt _ _ _

/-- The filling leaves all but what it fills. -/
theorem keeps_fill (hkm : ¬R .km) (hkb : ¬R .kb) (hvt : ¬R .vt) : Keeps (F := F) R fill :=
  (keeps_fillGroup hkm hkb hvt _).bind fun _ => (keeps_fillGroup hkm hkb hvt _).bind fun _ =>
  (keeps_fillGroup hkm hkb hvt _).bind fun _ => keeps_fillGroup hkm hkb hvt _

theorem keeps_gateGroup (h : ¬R .wq) (neg lge : F .f32) (qb : BitVec 32) (g : Fin 4) : Keeps R (gateGroup neg lge qb g) :=
  (keeps_ldQ _).bind fun _ => ((keeps_ldKmCols _ _).bind fun _ => keeps_stWq h _ _ _).bind fun _ =>
  (keeps_ldKmCols _ _).bind fun _ => keeps_stWq h _ _ _

theorem keeps_gates (h : ¬R .wq) (neg lge : F .f32) (qb : BitVec 32) : Keeps R (gates neg lge qb) :=
  (keeps_gateGroup h _ _ _ _).bind fun _ => (keeps_gateGroup h _ _ _ _).bind fun _ =>
  (keeps_gateGroup h _ _ _ _).bind fun _ => keeps_gateGroup h _ _ _ _

theorem keeps_putScore (h0 : ¬R .s0) (h1 : ¬R .s1) (sl : Slot) (g : Fin 4) (hh : Fin 2) (st : FVec F S512x256 .f32) :
    Keeps R (putScore sl g hh st) :=
  (keeps_stS h0 h1 _ _ _ _ _).bind fun _ => (keeps_stS h0 h1 _ _ _ _ _).bind fun _ => Keeps.ret _ _

theorem keeps_scoreHead (h0 : ¬R .s0) (h1 : ¬R .s1) (sl : Slot) (ja jb : BitVec 32) (ha : ja.toNat < 17) (hb : jb.toNat < 17)
    (g : Fin 4) (hh : Fin 2) : Keeps (F := F) R (scoreHead sl ja jb ha hb g hh) :=
  (keeps_ldKb _ _ _ _).bind fun _ => (keeps_ldKb _ _ _ _).bind fun _ => (keeps_ldWq _ _).bind fun _ => keeps_putScore h0 h1 _ _ _ _

theorem keeps_scoreHeadB (h0 : ¬R .s0) (h1 : ¬R .s1) (sl : Slot) (ja jb : BitVec 32) (ha : ja.toNat < 17) (hb : jb.toNat < 17)
    (g : Fin 4) (hh : Fin 2) : Keeps (F := F) R (scoreHeadB sl ja jb ha hb g hh) :=
  (keeps_ldKb _ _ _ _).bind fun _ => (keeps_ldKb _ _ _ _).bind fun _ => (keeps_ldWq _ _).bind fun _ =>
  (keeps_ldBias _ _).bind fun _ => (keeps_ldBias _ _).bind fun _ => keeps_putScore h0 h1 _ _ _ _

theorem keeps_attendHead0 (h : ¬R .acc) (sl : Slot) (ja jb : BitVec 32) (ha : ja.toNat < 17) (hb : jb.toNat < 17)
    (cm : Heads (FVec F S1x256 .f32)) (g : Fin 4) (hh : Fin 2) : Keeps R (attendHead0 sl ja jb ha hb cm g hh) :=
  (keeps_ldS _ _ _ _).bind fun _ => (keeps_ldS _ _ _ _).bind fun _ => (keeps_ldVt _ _ _ _).bind fun _ =>
  (keeps_ldVt _ _ _ _).bind fun _ => (keeps_stAcc h _ _ _).bind fun _ => Keeps.ret _ _

theorem keeps_attendHead (h : ¬R .acc) (sl : Slot) (ja jb : BitVec 32) (ha : ja.toNat < 17) (hb : jb.toNat < 17)
    (cm m l : Heads (FVec F S1x256 .f32)) (g : Fin 4) (hh : Fin 2) : Keeps R (attendHead sl ja jb ha hb cm m l g hh) :=
  (keeps_ldS _ _ _ _).bind fun _ => (keeps_ldS _ _ _ _).bind fun _ => (keeps_ldVt _ _ _ _).bind fun _ =>
  (keeps_ldVt _ _ _ _).bind fun _ => (keeps_ldAcc _ _).bind fun _ => (keeps_stAcc h _ _ _).bind fun _ => Keeps.ret _ _

theorem keeps_outGroup (h : ¬R .out) (l0 l1 : FVec F S1x256 .f32) (g : Fin 4) : Keeps R (outGroup l0 l1 g) :=
  (keeps_ldAcc _ _).bind fun _ => (keeps_ldAcc _ _).bind fun _ => keeps_stOut h _ _

theorem keeps_outs (h : ¬R .out) (l : Heads (FVec F S1x256 .f32)) : Keeps R (outs l) :=
  (keeps_outGroup h _ _ _).bind fun _ => (keeps_outGroup h _ _ _).bind fun _ =>
  (keeps_outGroup h _ _ _).bind fun _ => keeps_outGroup h _ _ _

theorem keeps_trip (h0 : ¬R .s0) (h1 : ¬R .s1) (h : ¬R .acc) (sl sl' : Slot) (ja jb pa pb : BitVec 32) (ha : ja.toNat < 17)
    (hb : jb.toNat < 17) (hpa : pa.toNat < 17) (hpb : pb.toNat < 17) (x : Carry F) :
    Keeps R (trip sl sl' ja jb pa pb ha hb hpa hpb x) :=
  (Keeps.forHeads fun _ _ => keeps_scoreHead h0 h1 _ _ _ _ _ _ _).bind fun _ =>
  (Keeps.forHeads fun _ _ => keeps_attendHead h _ _ _ _ _ _ _ _ _ _).bind fun _ => Keeps.ret _ _

theorem keeps_trips (h0 : ¬R .s0) (h1 : ¬R .s1) (h : ¬R .acc) (nf : BitVec 32) (k : Nat) (ok : TripOk nf k) (x : Carry F) :
    Keeps R (trips nf k ok x) :=
  (keeps_trip h0 h1 h _ _ _ _ _ _ _ _ _ _ _).bind fun _ => keeps_trip h0 h1 h _ _ _ _ _ _ _ _ _ _ _

theorem keeps_lastStep (h : ¬R .acc) (ja jb : BitVec 32) (ha : ja.toNat < 17) (hb : jb.toNat < 17) (x : Carry F) :
    Keeps R (lastStep ja jb ha hb x) :=
  (Keeps.forHeads fun _ _ => keeps_attendHead h _ _ _ _ _ _ _ _ _ _).bind fun _ => Keeps.ret _ _

theorem keeps_start (hw : ¬R .wq) (h0 : ¬R .s0) (h1 : ¬R .s1) (h : ¬R .acc) (neg lge : F .f32) (qb jp ja jb : BitVec 32)
    (hq : qb.toNat < 17) (hp : jp.toNat < 17) (ha : ja.toNat < 17) (hb : jb.toNat < 17) :
    Keeps R (start neg lge qb jp ja jb hq hp ha hb) :=
  (keeps_gates hw _ _ _).bind fun _ => (Keeps.forHeads fun _ _ => keeps_scoreHeadB h0 h1 _ _ _ _ _ _ _).bind fun _ =>
  (Keeps.forHeads fun _ _ => keeps_scoreHead h0 h1 _ _ _ _ _ _ _).bind fun _ =>
  (Keeps.forHeads fun _ _ => keeps_attendHead0 h _ _ _ _ _ _ _ _).bind fun _ => Keeps.ret _ _

end Pieces

/-- Iterated code leaves what each trip leaves. -/
theorem iter_keeps {n : Nat} {β : Type} {R : Buf → Prop} {G : Fin n → β → St F 𝔅 → β × St F 𝔅}
    (h : ∀ k a σ b, R b → (G k a σ).2 b = σ b) : ∀ (ks : List (Fin n)) (a : β) (σ : St F 𝔅) (b : Buf), R b → (iter G ks a σ).2 b = σ b
  | [], _, _, _, _ => rfl
  | k :: ks, a, σ, b, hb => (iter_keeps h ks _ _ b hb).trans (h k a σ b hb)

end Moba
-- ==== Proof.Moba.IdealBody.lean ====
/-
  The block attention kernel's body as the code of its stages: the two branches of its first condition, the pipelined loop,
  the last softmax step under its condition and the output, each read off the printed body.
-/
module

public import proofs.«01_k».proof.Proof.Moba.Kernel
public import proofs.«01_k».proof.Proof.Gen.KernelIdeal.Skeleton

@[expose] public section

set_option maxRecDepth 4000000

noncomputable section

namespace Cert.KernelIdeal.Run

open Idealize.ShloMosaic Idealize.SL.Sem
open Cert.KernelIdeal Cert.KernelIdeal.Gen

variable {F : FTy → Type} [FloatOps F] [Named F]

/-- The body's buffers. -/
abbrev Mem : Type := ∀ b : Moba.Buf, Memref sig .tc .vmem b.shp b.ety

/-- A loop's carried values as the program carries them. -/
abbrev Tup (F : FTy → Type) : Type := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

def tup (c : Moba.Carry F) : Tup F :=
  (c.m.h0, c.l.h0, c.m.h1, c.l.h1, c.m.h2, c.l.h2, c.m.h3, c.l.h3, c.m.h4, c.l.h4, c.m.h5, c.l.h5, c.m.h6, c.l.h6, c.m.h7, c.l.h7, c.c.h0, c.c.h1, c.c.h2, c.c.h3, c.c.h4, c.c.h5, c.c.h6, c.c.h7)

def untup (x : Tup F) : Moba.Carry F :=
  match x with
  | (m0, l0, m1, l1, m2, l2, m3, l3, m4, l4, m5, l5, m6, l6, m7, l7, c0, c1, c2, c3, c4, c5, c6, c7) =>
    ⟨⟨m0, m1, m2, m3, m4, m5, m6, m7⟩, ⟨l0, l1, l2, l3, l4, l5, l6, l7⟩, ⟨c0, c1, c2, c3, c4, c5, c6, c7⟩⟩

/-- The carried values and the loop's scalars. -/
abbrev P27 (F : FTy → Type) : Type := Σ' (x0 : FVec F S1x256 .f32) (x1 : FVec F S1x256 .f32) (x2 : FVec F S1x256 .f32) (x3 : FVec F S1x256 .f32) (x4 : FVec F S1x256 .f32) (x5 : FVec F S1x256 .f32) (x6 : FVec F S1x256 .f32) (x7 : FVec F S1x256 .f32) (x8 : FVec F S1x256 .f32) (x9 : FVec F S1x256 .f32) (x10 : FVec F S1x256 .f32) (x11 : FVec F S1x256 .f32) (x12 : FVec F S1x256 .f32) (x13 : FVec F S1x256 .f32) (x14 : FVec F S1x256 .f32) (x15 : FVec F S1x256 .f32) (x16 : FVec F S1x256 .f32) (x17 : FVec F S1x256 .f32) (x18 : FVec F S1x256 .f32) (x19 : FVec F S1x256 .f32) (x20 : FVec F S1x256 .f32) (x21 : FVec F S1x256 .f32) (x22 : FVec F S1x256 .f32) (x23 : FVec F S1x256 .f32) (x24 : BitVec 32) (x25 : BitVec 32), BitVec 1

/-- A grid point's query block. -/
abbrev qb (i : grid0.Coords) : BitVec 32 := BitVec.ofNat 32 (i 2).val

section Body

variable (i : grid0.Coords) (M : Mem) (hM : ∀ b, (M b).IsWhole)

/-- A piece of code on the body's buffers. -/
abbrev prog {α : Type} (p : Moba.Code F Moba.𝔅 α) : Prog (TpuEff nD τ sig (Elt F) Λ₀ .tc) α :=
  p.toProg M hM

/-- A grid point of a query block. -/
def pointOf (b : Fin 16) : grid0.Coords
  | ⟨0, _⟩ => (0 : Fin 4)
  | ⟨1, _⟩ => (0 : Fin 1)
  | ⟨2, _⟩ => b

theorem trips1 : (k0_t1_loop i).trips ≤ 4 := by
  have e : ∀ b : Fin 16, (k0_t1_loop (pointOf b)).trips ≤ 4 := by decide
  exact e (i 2)

theorem trips2 : (k0_t2_loop i).trips = 0 := by
  have e : ∀ b : Fin 16, (k0_t2_loop (pointOf b)).trips = 0 := by decide
  exact e (i 2)

theorem okTrip (k : Fin (k0_t1_loop i).trips) : Moba.TripOk (Moba.nFar (qb i)) k :=
  Moba.tripOk (i 2) k (lt_of_lt_of_le k.2 (le_trans (trips1 i) (by decide)))

/-- The loops: the double trips, then a loop of no trips, whose carried values are handed on with its scalars. -/
def loops (t2 : Fin (k0_t2_loop i).trips → Tup F → Prog (TpuEff nD τ sig (Elt F) Λ₀ .tc) (Tup F)) (c : Moba.Carry F) :
    Prog (TpuEff nD τ sig (Elt F) Λ₀ .tc) (P27 F) :=
  (Scf.Loop.for (k0_t1_loop i) (k0_t1_ok i) (tup c) fun k x =>
      prog M hM ((Moba.trips _ _ (okTrip i k) (untup x)).bind fun c => .ret (tup c))).bind fun x =>
  (Scf.Loop.for (k0_t2_loop i) (k0_t2_ok i) x t2).bind fun y =>
  .ret ⟨y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2.1, y.2.2.2.2.2.2.2.2.2.2.2.1, y.2.2.2.2.2.2.2.2.2.2.2.2.1, y.2.2.2.2.2.2.2.2.2.2.2.2.2.1, y.2.2.2.2.2.2.2.2.2.2.2.2.2.2.1, y.2.2.2.2.2.2.2.2.2.2.2.2.2.2.2.1, y.2.2.2.2.2.2.2.2.2.2.2.2.2.2.2.2.1, y.2.2.2.2.2.2.2.2.2.2.2.2.2.2.2.2.2.1, y.2.2.2.2.2.2.2.2.2.2.2.2.2.2.2.2.2.2.1, y.2.2.2.2.2.2.2.2.2.2.2.2.2.2.2.2.2.2.2.1, y.2.2.2.2.2.2.2.2.2.2.2.2.2.2.2.2.2.2.2.2.1, y.2.2.2.2.2.2.2.2.2.2.2.2.2.2.2.2.2.2.2.2.2.1, y.2.2.2.2.2.2.2.2.2.2.2.2.2.2.2.2.2.2.2.2.2.2.1, y.2.2.2.2.2.2.2.2.2.2.2.2.2.2.2.2.2.2.2.2.2.2.2,
    Scalar.select (Scalar.cmpi .eq 2#32 0#32) 1#32 2#32, Scalar.remsi (Moba.nPairs (qb i)) (Scalar.select (Scalar.cmpi .eq 2#32 0#32) 1#32 2#32),
    Scalar.andi (Scalar.xori (Scalar.cmpi .slt (Scalar.remsi (Moba.nPairs (qb i)) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (Moba.nPairs (qb i)) (Scalar.select (Scalar.cmpi .eq 2#32 0#32) 1#32 2#32)) 0#32)⟩

def carry (p : P27 F) : Moba.Carry F :=
  ⟨⟨p.1, p.2.2.1, p.2.2.2.2.1, p.2.2.2.2.2.2.1, p.2.2.2.2.2.2.2.2.1, p.2.2.2.2.2.2.2.2.2.2.1, p.2.2.2.2.2.2.2.2.2.2.2.2.1, p.2.2.2.2.2.2.2.2.2.2.2.2.2.2.1⟩, ⟨p.2.1, p.2.2.2.1, p.2.2.2.2.2.1, p.2.2.2.2.2.2.2.1, p.2.2.2.2.2.2.2.2.2.1, p.2.2.2.2.2.2.2.2.2.2.2.1, p.2.2.2.2.2.2.2.2.2.2.2.2.2.1, p.2.2.2.2.2.2.2.2.2.2.2.2.2.2.2.1⟩, ⟨p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1⟩⟩

theorem lastOk (h : k0_cond2 i = 1#1) : (Moba.farA (Moba.nFar (qb i)) (Scalar.subi (Moba.nPairs (qb i)) 1#32)).toNat < 17
    ∧ (Moba.farB (Moba.nFar (qb i)) (Scalar.subi (Moba.nPairs (qb i)) 1#32)).toNat < 17 := by
  have e : ∀ b : Fin 16, k0_cond2 (pointOf b) = 1#1 →
      (Moba.farA (Moba.nFar (BitVec.ofNat 32 b)) (Scalar.subi (Moba.nPairs (BitVec.ofNat 32 b)) 1#32)).toNat < 17
        ∧ (Moba.farB (Moba.nFar (BitVec.ofNat 32 b)) (Scalar.subi (Moba.nPairs (BitVec.ofNat 32 b)) 1#32)).toNat < 17 := by decide
  exact e (i 2) h

/-- The first two groups' outputs. -/
def out01 (l : Moba.Heads (FVec F S1x256 .f32)) :
    Moba.Code F Moba.𝔅 (Σ' (_ : FVec F S1x256 .f32) (_ : FVec F S1x256 .f32) (_ : FVec F S1x256 .f32), FVec F S1x256 .f32) :=
  (Moba.outGroup l.h0 l.h1 0).bind fun _ => (Moba.outGroup l.h2 l.h3 1).bind fun _ => .ret ⟨l.h4, l.h5, l.h6, l.h7⟩

/-- The last step under its condition, and the first two groups' outputs. -/
theorem part203_eq (p : P27 F) :
    k0_part203 i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc) (Moba.nFar (qb i)) (Moba.nPairs (qb i)) p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2.1 p.2.2.2.2.2.2.2.2.2.2.2.2.2.2.2.2.1 p.2.2.2.2.2.2.2.2.2.2.2.2.2.2.2.2.2.1 p.2.2.2.2.2.2.2.2.2.2.2.2.2.2.2.2.2.2.1 p.2.2.2.2.2.2.2.2.2.2.2.2.2.2.2.2.2.2.2.1 p.2.2.2.2.2.2.2.2.2.2.2.2.2.2.2.2.2.2.2.2.1 p.2.2.2.2.2.2.2.2.2.2.2.2.2.2.2.2.2.2.2.2.2.1 p.2.2.2.2.2.2.2.2.2.2.2.2.2.2.2.2.2.2.2.2.2.2.1 p.2.2.2.2.2.2.2.2.2.2.2.2.2.2.2.2.2.2.2.2.2.2.2.1 p.2.2.2.2.2.2.2.2.2.2.2.2.2.2.2.2.2.2.2.2.2.2.2.2.1 p.2.2.2.2.2.2.2.2.2.2.2.2.2.2.2.2.2.2.2.2.2.2.2.2.2.1 p.2.2.2.2.2.2.2.2.2.2.2.2.2.2.2.2.2.2.2.2.2.2.2.2.2.2
      = if h : k0_cond2 i = 1#1 then
          prog M hM ((Moba.lastStep _ _ (lastOk i h).1 (lastOk i h).2 (carry p)).bind fun l => out01 l)
        else prog M hM (out01 (carry p).l) := by
  rfl

/-- What follows the gates, the scores and the first softmax step. -/
def rest (t2 : Fin (k0_t2_loop i).trips → Tup F → Prog (TpuEff nD τ sig (Elt F) Λ₀ .tc) (Tup F)) (c : Moba.Carry F) :
    Prog (TpuEff nD τ sig (Elt F) Λ₀ .tc) PUnit :=
  ((loops i M hM t2 c).bind fun p =>
    (k0_part203 i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc) (Moba.nFar (qb i)) (Moba.nPairs (qb i)) p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2.1 p.2.2.2.2.2.2.2.2.2.2.2.2.2.2.2.2.1 p.2.2.2.2.2.2.2.2.2.2.2.2.2.2.2.2.2.1 p.2.2.2.2.2.2.2.2.2.2.2.2.2.2.2.2.2.2.1 p.2.2.2.2.2.2.2.2.2.2.2.2.2.2.2.2.2.2.2.1 p.2.2.2.2.2.2.2.2.2.2.2.2.2.2.2.2.2.2.2.2.1 p.2.2.2.2.2.2.2.2.2.2.2.2.2.2.2.2.2.2.2.2.2.1 p.2.2.2.2.2.2.2.2.2.2.2.2.2.2.2.2.2.2.2.2.2.2.1 p.2.2.2.2.2.2.2.2.2.2.2.2.2.2.2.2.2.2.2.2.2.2.2.1 p.2.2.2.2.2.2.2.2.2.2.2.2.2.2.2.2.2.2.2.2.2.2.2.2.1 p.2.2.2.2.2.2.2.2.2.2.2.2.2.2.2.2.2.2.2.2.2.2.2.2.2.1 p.2.2.2.2.2.2.2.2.2.2.2.2.2.2.2.2.2.2.2.2.2.2.2.2.2.2).bind fun r =>
    prog M hM ((Moba.ldAcc 2 0).bind fun a0 => (Moba.ldAcc 2 1).bind fun a1 =>
      .ret (⟨r.2.2.1, r.2.2.2, Moba.outOf r.1 r.2.1 a0 a1⟩ : Σ' (_ : FVec F S1x256 .f32) (_ : FVec F S1x256 .f32), FVec F S256x128 .bf16))).bind
    fun r => prog M hM ((Moba.stOut 2 (shapeCast S1x256x128 r.2.2 shapeCasts_S256x128_S1x256x128)).bind fun _ =>
      Moba.outGroup r.1 r.2.1 3)

/-- The first part after the condition: the first head's gate, half done. -/
def half : Moba.Code F Moba.𝔅 (Σ' (_ : BitVec 32) (_ : IVec S16x256 32) (_ : IVec S48x256 32) (_ : FVec F S128x256 .f32) (_ : FVec F S16x256 .f32), FVec F S16x256 .f32) :=
  (Moba.ldQ 0).bind fun x => (Moba.ldKmCols 0 0).bind fun km =>
  let gt : FVec F S16x256 .f32 := Moba.gateOf (qb i) (shapeCast S16x64 km (by decide)) (extractStridedSlice S64x256 ![0, 0] (Moba.qtOf x) (by decide))
  .ret ⟨qb i, Moba.blkId, iota .tc S48x256 32 [0] (by decide), Moba.qtOf x,
    Moba.pickSel gt (broadcast S16x256 (Scalar.ofBits .f32 0x00000000#32)), Moba.pickRest gt⟩

theorem part165_eq : k0_part165 (F := F) i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc)
    = if _ : Moba.isFirst (qb i) = 1#1 then prog M hM (Moba.fill.bind fun _ => half i) else prog (F := F) M hM (half i) := by
  rfl

theorem dite_bind₂ {α β γ : Type} {P : Prop} [Decidable P] (p : P → Prog (TpuEff nD τ sig (Elt F) Λ₀ .tc) α)
    (q : ¬P → Prog (TpuEff nD τ sig (Elt F) Λ₀ .tc) α) (k : α → Prog (TpuEff nD τ sig (Elt F) Λ₀ .tc) β)
    (k' : β → Prog (TpuEff nD τ sig (Elt F) Λ₀ .tc) γ) :
    ((if h : P then p h else q h).bind k).bind k' = if h : P then ((p h).bind k).bind k' else ((q h).bind k).bind k' := by
  by_cases h : P <;> simp [h]

set_option maxHeartbeats 4000000 in
/-- The body, stage by stage. -/
theorem body_eq : ∃ t2 : Fin (k0_t2_loop i).trips → Tup F → Prog (TpuEff nD τ sig (Elt F) Λ₀ .tc) (Tup F),
    cc0_moba i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc)
      = if _ : Moba.isFirst (qb i) = 1#1
        then (prog M hM (Moba.fill.bind fun _ => Moba.start (Named.named κ "mask" 0xF149F2CA#32) (Named.named κ "log2e" 0x3FB8AA3B#32) (qb i) (Moba.prevBlk (qb i)) (Moba.far0A (qb i)) (Moba.far0B (qb i))
          (Moba.startOk (i 2)).1 (Moba.startOk (i 2)).2.1 (Moba.startOk (i 2)).2.2.1 (Moba.startOk (i 2)).2.2.2)).bind (rest i M hM t2)
        else (prog M hM (Moba.start (Named.named κ "mask" 0xF149F2CA#32) (Named.named κ "log2e" 0x3FB8AA3B#32) (qb i) (Moba.prevBlk (qb i)) (Moba.far0A (qb i)) (Moba.far0B (qb i))
          (Moba.startOk (i 2)).1 (Moba.startOk (i 2)).2.1 (Moba.startOk (i 2)).2.2.1 (Moba.startOk (i 2)).2.2.2)).bind (rest i M hM t2) := by
  refine ⟨fun k x => k0_t2_body i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc) (Moba.nFar (qb i)) (Moba.nPairs (qb i)) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S1x256 .f32 0x00000000#32) (constant S64x512 .bf16 0x0000#16) (constant S256x256 .bf16 0x0000#16) (constant S256x256 .bf16 0x0000#16) (k0_t2_loop i).lb k x, ?_⟩
  refine Eq.trans (b := Prog.bind (Prog.bind (k0_part165 i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc)) _) _) rfl ?_
  refine (congrArg (fun p => Prog.bind (Prog.bind p _) _) (part165_eq i M hM)).trans ?_
  refine (dite_bind₂ _ _ _ _).trans ?_
  by_cases h : Moba.isFirst (qb i) = 1#1
  · refine (dif_pos h).trans (Eq.trans ?_ (dif_pos h).symm)
    rfl
  · refine (dif_neg h).trans (Eq.trans ?_ (dif_neg h).symm)
    rfl

end Body

end Cert.KernelIdeal.Run
-- ==== Proof.Moba.IdealTri.lean ====
/-
  What the block attention kernel's body computes, as a function of its buffers' contents: the stages of
  IdealBody.lean, each run on the contents the one before left.
-/
module

public import proofs.«01_k».proof.Proof.Moba.IdealBody

@[expose] public section

noncomputable section

namespace Cert.KernelIdeal.Run

open Idealize.ShloMosaic Idealize.SL.Sem
open Cert.KernelIdeal Cert.KernelIdeal.Gen
open Moba (St Carry Heads Code Tri iter 𝔅)

variable {F : FTy → Type} [FloatOps F] [Named F]

/-! ## The stages on contents -/

/-- The scratch filled at a sequence's first block. -/
def stFill (i : grid0.Coords) (σ : St F 𝔅) : St F 𝔅 :=
  if Moba.isFirst (qb i) = 1#1 then (Moba.fill.run σ).2 else σ

/-- The gates, the first scores and the first softmax step. -/
abbrev startCode (i : grid0.Coords) : Code F 𝔅 (Carry F) :=
  Moba.start (Named.named κ "mask" 0xF149F2CA#32) (Named.named κ "log2e" 0x3FB8AA3B#32) (qb i) (Moba.prevBlk (qb i)) (Moba.far0A (qb i))
    (Moba.far0B (qb i)) (Moba.startOk (i 2)).1 (Moba.startOk (i 2)).2.1 (Moba.startOk (i 2)).2.2.1 (Moba.startOk (i 2)).2.2.2

def stStart (i : grid0.Coords) (σ : St F 𝔅) : Carry F × St F 𝔅 := (startCode i).run σ

/-- The double trips. -/
def stLoop (i : grid0.Coords) : Carry F → St F 𝔅 → Carry F × St F 𝔅 :=
  iter (fun k c => (Moba.trips _ _ (okTrip i k) c).run) (List.finRange (k0_t1_loop i).trips)

/-- The last softmax step, when one is left. -/
def stLast (i : grid0.Coords) (c : Carry F) (σ : St F 𝔅) : Heads (FVec F S1x256 .f32) × St F 𝔅 :=
  if h : k0_cond2 i = 1#1 then (Moba.lastStep _ _ (lastOk i h).1 (lastOk i h).2 c).run σ else (c.l, σ)

/-- All that follows the filling. -/
def stRest (i : grid0.Coords) (c : Carry F) (σ : St F 𝔅) : St F 𝔅 :=
  let r := stLoop i c σ
  let s := stLast i r.1 r.2
  ((Moba.outs s.1).run s.2).2

/-- The body. -/
def stBody (i : grid0.Coords) (σ : St F 𝔅) : St F 𝔅 :=
  let r := stStart i (stFill i σ)
  stRest i r.1 r.2

/-! ## The body computes them -/

attribute [local irreducible] Moba.trips Moba.lastStep Moba.start Moba.fill

section Tri

variable {𝒱₀ : Variants} {c : Dev nD} {bd : Option 𝒱₀.V} (i : grid0.Coords) (M : Mem) (hM : ∀ b, (M b).IsWhole)

theorem iter_same {β : Type} {n : Nat} (ks : List (Fin n)) (a : β) (σ : St F 𝔅) : iter (fun _ b σ => (b, σ)) ks a σ = (a, σ) := by
  induction ks with
  | nil => rfl
  | cons k ks ih => exact ih

theorem iter_tup (ks : List (Fin (k0_t1_loop i).trips)) (x : Carry F) (σ : St F 𝔅) :
    iter (fun k y => (((Moba.trips _ _ (okTrip i k) (untup y)).bind fun c => Code.ret (tup c)).run : St F 𝔅 → Tup F × St F 𝔅)) ks (tup x) σ
      = (tup (iter (fun k c => (Moba.trips _ _ (okTrip i k) c).run) ks x σ).1, (iter (fun k c => (Moba.trips _ _ (okTrip i k) c).run) ks x σ).2) := by
  induction ks generalizing x σ with
  | nil => rfl
  | cons k ks ih =>
    simp only [iter, Code.run_bind, Code.run]
    exact ih _ _

/-- A loop's carried values with its scalars. -/
def scal (y : Tup F) : P27 F :=
  ⟨y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2.1, y.2.2.2.2.2.2.2.2.2.2.2.1, y.2.2.2.2.2.2.2.2.2.2.2.2.1, y.2.2.2.2.2.2.2.2.2.2.2.2.2.1, y.2.2.2.2.2.2.2.2.2.2.2.2.2.2.1, y.2.2.2.2.2.2.2.2.2.2.2.2.2.2.2.1, y.2.2.2.2.2.2.2.2.2.2.2.2.2.2.2.2.1, y.2.2.2.2.2.2.2.2.2.2.2.2.2.2.2.2.2.1, y.2.2.2.2.2.2.2.2.2.2.2.2.2.2.2.2.2.2.1, y.2.2.2.2.2.2.2.2.2.2.2.2.2.2.2.2.2.2.2.1, y.2.2.2.2.2.2.2.2.2.2.2.2.2.2.2.2.2.2.2.2.1, y.2.2.2.2.2.2.2.2.2.2.2.2.2.2.2.2.2.2.2.2.2.1, y.2.2.2.2.2.2.2.2.2.2.2.2.2.2.2.2.2.2.2.2.2.2.1, y.2.2.2.2.2.2.2.2.2.2.2.2.2.2.2.2.2.2.2.2.2.2.2,
    Scalar.select (Scalar.cmpi .eq 2#32 0#32) 1#32 2#32, Scalar.remsi (Moba.nPairs (qb i)) (Scalar.select (Scalar.cmpi .eq 2#32 0#32) 1#32 2#32),
    Scalar.andi (Scalar.xori (Scalar.cmpi .slt (Scalar.remsi (Moba.nPairs (qb i)) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (Moba.nPairs (qb i)) (Scalar.select (Scalar.cmpi .eq 2#32 0#32) 1#32 2#32)) 0#32)⟩

theorem carry_scal (x : Carry F) : carry (scal i (tup x)) = x := rfl

theorem tri_congr {α : Type} {p : Prog (TpuEff nD τ sig (Elt F) Λ₀ .tc) α} {f g : St F 𝔅 → α × St F 𝔅}
    (h : Tri defs₀ 𝒱₀ c bd M p f) (e : ∀ σ, f σ = g σ) : Tri defs₀ 𝒱₀ c bd M p g := by
  rwa [← funext e]

theorem tri_for1 (x : Carry F) :
    Tri defs₀ 𝒱₀ c bd M (Scf.Loop.for (k0_t1_loop i) (k0_t1_ok i) (tup x) fun k x =>
      prog M hM ((Moba.trips _ _ (okTrip i k) (untup x)).bind fun c => .ret (tup c)))
      fun σ => (tup (stLoop i x σ).1, (stLoop i x σ).2) :=
  tri_congr M (Tri.for (G := fun k y => ((Moba.trips _ _ (okTrip i k) (untup y)).bind fun c => Code.ret (tup c)).run)
    fun k y => Tri.code hM ((Moba.trips _ _ (okTrip i k) (untup y)).bind fun c => Code.ret (tup c)))
    (iter_tup i _ x)

theorem tri_for2 (t2 : Fin (k0_t2_loop i).trips → Tup F → Prog (TpuEff nD τ sig (Elt F) Λ₀ .tc) (Tup F)) (y : Tup F) :
    Tri defs₀ 𝒱₀ c bd M (Scf.Loop.for (k0_t2_loop i) (k0_t2_ok i) y t2) fun σ : St F 𝔅 => (y, σ) :=
  tri_congr M (Tri.for (G := fun _ b σ => (b, σ)) fun k _ => absurd (lt_of_lt_of_eq k.2 (trips2 i)) (Nat.not_lt_zero _))
    (iter_same _ y)

theorem tri_loops (t2 : Fin (k0_t2_loop i).trips → Tup F → Prog (TpuEff nD τ sig (Elt F) Λ₀ .tc) (Tup F)) (x : Carry F) :
    Tri defs₀ 𝒱₀ c bd M (loops i M hM t2 x) fun σ => (scal i (tup (stLoop i x σ).1), (stLoop i x σ).2) :=
  Tri.bind (f := fun σ => (tup (stLoop i x σ).1, (stLoop i x σ).2)) (g := fun y σ => (scal i y, σ)) (tri_for1 i M hM x)
    fun y => Tri.bind (f := fun σ => (y, σ)) (g := fun z σ => (scal i z, σ)) (tri_for2 i M t2 y) fun z => Tri.ret (scal i z)

theorem tri_part203 (p : P27 F) :
    Tri defs₀ 𝒱₀ c bd M (k0_part203 i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc) (Moba.nFar (qb i)) (Moba.nPairs (qb i)) p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2.1 p.2.2.2.2.2.2.2.2.2.2.2.2.2.2.2.1 p.2.2.2.2.2.2.2.2.2.2.2.2.2.2.2.2.1 p.2.2.2.2.2.2.2.2.2.2.2.2.2.2.2.2.2.1 p.2.2.2.2.2.2.2.2.2.2.2.2.2.2.2.2.2.2.1 p.2.2.2.2.2.2.2.2.2.2.2.2.2.2.2.2.2.2.2.1 p.2.2.2.2.2.2.2.2.2.2.2.2.2.2.2.2.2.2.2.2.1 p.2.2.2.2.2.2.2.2.2.2.2.2.2.2.2.2.2.2.2.2.2.1 p.2.2.2.2.2.2.2.2.2.2.2.2.2.2.2.2.2.2.2.2.2.2.1 p.2.2.2.2.2.2.2.2.2.2.2.2.2.2.2.2.2.2.2.2.2.2.2.1 p.2.2.2.2.2.2.2.2.2.2.2.2.2.2.2.2.2.2.2.2.2.2.2.2.1 p.2.2.2.2.2.2.2.2.2.2.2.2.2.2.2.2.2.2.2.2.2.2.2.2.2.1 p.2.2.2.2.2.2.2.2.2.2.2.2.2.2.2.2.2.2.2.2.2.2.2.2.2.2)
      fun σ => (out01 (stLast i (carry p) σ).1).run (stLast i (carry p) σ).2 := by
  rw [part203_eq]
  intro σ
  by_cases hc : k0_cond2 i = 1#1
  · have h' := Tri.code (defs := defs₀) (𝒱 := 𝒱₀) (c := c) (bd := bd) (mem := M) hM
      ((Moba.lastStep _ _ (lastOk i hc).1 (lastOk i hc).2 (carry p)).bind fun l => out01 l) σ
    rw [dif_pos hc, show stLast i (carry p) = (Moba.lastStep _ _ (lastOk i hc).1 (lastOk i hc).2 (carry p)).run from
      funext fun σ => dif_pos hc]
    rw [Code.run_bind] at h'
    exact h'
  · have h' := Tri.code (defs := defs₀) (𝒱 := 𝒱₀) (c := c) (bd := bd) (mem := M) hM (out01 (carry p).l) σ
    rw [dif_neg hc, show stLast i (carry p) = fun σ => ((carry p).l, σ) from funext fun σ => dif_neg hc]
    exact h'

/-- The third group's output columns, before they are stored. -/
def ld2 (r : Σ' (_ : FVec F S1x256 .f32) (_ : FVec F S1x256 .f32) (_ : FVec F S1x256 .f32), FVec F S1x256 .f32) :
    Code F 𝔅 (Σ' (_ : FVec F S1x256 .f32) (_ : FVec F S1x256 .f32), FVec F S256x128 .bf16) :=
  (Moba.ldAcc 2 0).bind fun a0 => (Moba.ldAcc 2 1).bind fun a1 => .ret ⟨r.2.2.1, r.2.2.2, Moba.outOf r.1 r.2.1 a0 a1⟩

/-- The third group's output stored, and the last group's. -/
def out3 (r : Σ' (_ : FVec F S1x256 .f32) (_ : FVec F S1x256 .f32), FVec F S256x128 .bf16) : Code F 𝔅 PUnit :=
  (Moba.stOut 2 (shapeCast S1x256x128 r.2.2 shapeCasts_S256x128_S1x256x128)).bind fun _ => Moba.outGroup r.1 r.2.1 3

theorem outs_eq (l : Heads (FVec F S1x256 .f32)) (σ : St F 𝔅) :
    (out3 ((ld2 ((out01 l).run σ).1).run ((out01 l).run σ).2).1).run ((ld2 ((out01 l).run σ).1).run ((out01 l).run σ).2).2
      = (⟨⟩, ((Moba.outs l).run σ).2) := rfl

theorem tri_rest (t2 : Fin (k0_t2_loop i).trips → Tup F → Prog (TpuEff nD τ sig (Elt F) Λ₀ .tc) (Tup F)) (x : Carry F) :
    Tri defs₀ 𝒱₀ c bd M (rest i M hM t2 x) fun σ => (⟨⟩, stRest i x σ) :=
  tri_congr M
    (Tri.bind (g := fun r σ => (out3 r).run σ)
      (Tri.bind (g := fun p σ => (ld2 ((out01 (stLast i (carry p) σ).1).run (stLast i (carry p) σ).2).1).run
          ((out01 (stLast i (carry p) σ).1).run (stLast i (carry p) σ).2).2) (tri_loops i M hM t2 x) fun p =>
        Tri.bind (g := fun r σ => (ld2 r).run σ) (tri_part203 i M hM p) fun r => Tri.code hM (ld2 r))
      fun r => Tri.code hM (out3 r))
    fun σ => by
      rw [carry_scal]
      exact (outs_eq _ _)

/-- The body, from contents `σ`, leaves `stBody i σ`. -/
theorem tri_body :
    Tri (F := F) defs₀ 𝒱₀ c bd M (cc0_moba i (M .q) (hM .q) (M .k) (hM .k) (M .v) (hM .v) (M .bias) (hM .bias) (M .out) (hM .out) (M .km) (hM .km) (M .kb) (hM .kb) (M .vt) (hM .vt) (M .s0) (hM .s0) (M .s1) (hM .s1) (M .wq) (hM .wq) (M .acc) (hM .acc)) fun σ => (⟨⟩, stBody i σ) := by
  obtain ⟨t2, e⟩ := body_eq (F := F) i M hM
  rw [e]
  by_cases h : Moba.isFirst (qb i) = 1#1
  · rw [dif_pos h]
    refine tri_congr M (Tri.bind (g := fun x σ => (⟨⟩, stRest i x σ)) (Tri.code hM (Moba.fill.bind fun _ => startCode i))
      fun x => tri_rest i M hM t2 x) fun σ => ?_
    unfold stBody stFill
    rw [if_pos h, Code.run_bind]
    rfl
  · rw [dif_neg h]
    refine tri_congr M (Tri.bind (g := fun x σ => (⟨⟩, stRest i x σ)) (Tri.code hM (startCode i))
      fun x => tri_rest i M hM t2 x) fun σ => ?_
    unfold stBody stFill
    rw [if_neg h]
    rfl

end Tri

end Cert.KernelIdeal.Run
-- ==== Proof.Moba.IdealFrame.lean ====
/-
  The block attention kernel's launch: the pipeline's windows and scratch as the buffers the body's run is stated
  over, the body obligation, and the run of @main, the output's contents left open.
-/
module

public import proofs.«01_k».proof.Proof.Moba.IdealTri
public import proofs.«01_k».proof.Proof.Moba.Keeps
public import proofs.«01_k».proof.Proof.Gen.KernelIdeal.Frame
public import Idealize.ShloMosaic.Lib.Pipeline.Frame

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal Cert.KernelIdeal.Gen
open Moba (St Carry Heads Code Tri iter 𝔅 ownAll Keeps)

variable {F : FTy → Type} [FloatOps F] [Named F]

local notation "𝕄" => MT nD τ sig Unit (Elt F) ℕ (UR sig nD τ) ℕ

/-! ## What the body leaves alone -/

theorem stFill_arg (i : grid0.Coords) (σ : St F 𝔅) (b : Moba.Buf) (hb : b.IsArg) : stFill i σ b = σ b := by
  unfold stFill
  by_cases h : Moba.isFirst (qb i) = 1#1
  · rw [if_pos h]; exact Moba.keeps_fill (R := Moba.Buf.IsArg) id id id σ b hb
  · rw [if_neg h]

attribute [local irreducible] Moba.trips Moba.lastStep Moba.start Moba.fill Moba.outs

theorem stLast_filled (i : grid0.Coords) (y : Carry F) (σ : St F 𝔅) (b : Moba.Buf) (hb : b.IsFilled) : (stLast i y σ).2 b = σ b := by
  unfold stLast
  by_cases h : k0_cond2 i = 1#1
  · rw [dif_pos h]; exact Moba.keeps_lastStep (R := Moba.Buf.IsFilled) id _ _ _ _ _ σ b hb
  · rw [dif_neg h]

theorem stLoop_filled (i : grid0.Coords) (y : Carry F) (σ : St F 𝔅) (b : Moba.Buf) (hb : b.IsFilled) : (stLoop i y σ).2 b = σ b := by
  unfold stLoop
  exact Moba.iter_keeps (R := Moba.Buf.IsFilled) (fun k a σ b hb => Moba.keeps_trips (R := Moba.Buf.IsFilled) id id id _ _ _ _ σ b hb) _ _ _ b hb

theorem stStart_filled (i : grid0.Coords) (σ : St F 𝔅) (b : Moba.Buf) (hb : b.IsFilled) : (stStart i σ).2 b = σ b := by
  unfold stStart startCode
  exact Moba.keeps_start (R := Moba.Buf.IsFilled) id id id id _ _ _ _ _ _ _ _ _ _ σ b hb

theorem stRest_filled (i : grid0.Coords) (x : Carry F) (σ : St F 𝔅) (b : Moba.Buf) (hb : b.IsFilled) : stRest i x σ b = σ b := by
  unfold stRest
  exact ((Moba.keeps_outs (R := Moba.Buf.IsFilled) id _ _ b hb).trans (stLast_filled i _ _ b hb)).trans (stLoop_filled i x σ b hb)

theorem stBody_filled (i : grid0.Coords) (σ : St F 𝔅) (b : Moba.Buf) (hb : b.IsFilled) : stBody i σ b = stFill i σ b := by
  unfold stBody
  exact (stRest_filled i _ _ b hb).trans (stStart_filled i _ b hb)

/-- The body leaves the staged arguments as they are. -/
theorem stBody_arg (i : grid0.Coords) (σ : St F 𝔅) (b : Moba.Buf) (hb : b.IsArg) : stBody i σ b = σ b :=
  (stBody_filled i σ b hb.filled).trans (stFill_arg i σ b hb)

/-! ## The buffers at a grid point -/

/-- The buffers at point `t`: the windows' current staging buffers and the scratch. -/
def mems (t : Fin cfg0.N) : Mem
  | .q => win0_0.stage (cfg0.slots t 0)
  | .k => win0_1.stage (cfg0.slots t 1)
  | .v => win0_2.stage (cfg0.slots t 2)
  | .bias => win0_3.stage (cfg0.slots t 3)
  | .out => win0_4.stage (cfg0.slots t 4)
  | .km => Memref.whole cc0_scratch0
  | .kb => Memref.whole cc0_scratch1
  | .vt => Memref.whole cc0_scratch2
  | .s0 => Memref.whole cc0_scratch3
  | .s1 => Memref.whole cc0_scratch4
  | .wq => Memref.whole cc0_scratch5
  | .acc => Memref.whole cc0_scratch6

theorem mems_whole (t : Fin cfg0.N) : ∀ b, (mems t b).IsWhole
  | .q => hstage0_0 _
  | .k => hstage0_1 _
  | .v => hstage0_2 _
  | .bias => hstage0_3 _
  | .out => hstage0_4 _
  | .km => Memref.isWhole_whole _
  | .kb => Memref.isWhole_whole _
  | .vt => Memref.isWhole_whole _
  | .s0 => Memref.isWhole_whole _
  | .s1 => Memref.isWhole_whole _
  | .wq => Memref.isWhole_whole _
  | .acc => Memref.isWhole_whole _

/-- The buffers one by one. -/
theorem ownAll_eq (c : Dev nD) (M : Mem) (σ : St F 𝔅) :
    (ownAll (c : Thread nD τ) M σ : sProp 𝕄)
      = iprop(owns (c : Thread nD τ) (M .q) fullShare (σ .q) ∗ owns (c : Thread nD τ) (M .k) fullShare (σ .k)
        ∗ owns (c : Thread nD τ) (M .v) fullShare (σ .v) ∗ owns (c : Thread nD τ) (M .bias) fullShare (σ .bias)
        ∗ owns (c : Thread nD τ) (M .out) fullShare (σ .out) ∗ owns (c : Thread nD τ) (M .km) fullShare (σ .km)
        ∗ owns (c : Thread nD τ) (M .kb) fullShare (σ .kb) ∗ owns (c : Thread nD τ) (M .vt) fullShare (σ .vt)
        ∗ owns (c : Thread nD τ) (M .s0) fullShare (σ .s0) ∗ owns (c : Thread nD τ) (M .s1) fullShare (σ .s1)
        ∗ owns (c : Thread nD τ) (M .wq) fullShare (σ .wq) ∗ owns (c : Thread nD τ) (M .acc) fullShare (σ .acc)) :=
  bigSep_univ_eq_bigSepL [Moba.Buf.q, .k, .v, .bias, .out, .km, .kb, .vt, .s0, .s1, .wq, .acc] (by decide) (by decide)
    fun b => owns (c : Thread nD τ) (M b) fullShare (σ b)

/-- The buffers after the body, one by one: the staged arguments as before. -/
theorem ownAll_body (c : Dev nD) (M : Mem) (i : grid0.Coords) (σ : St F 𝔅) :
    (ownAll (c : Thread nD τ) M (stBody i σ) : sProp 𝕄)
      = iprop(owns (c : Thread nD τ) (M .q) fullShare (σ .q) ∗ owns (c : Thread nD τ) (M .k) fullShare (σ .k)
        ∗ owns (c : Thread nD τ) (M .v) fullShare (σ .v) ∗ owns (c : Thread nD τ) (M .bias) fullShare (σ .bias)
        ∗ owns (c : Thread nD τ) (M .out) fullShare (stBody i σ .out) ∗ owns (c : Thread nD τ) (M .km) fullShare (stBody i σ .km)
        ∗ owns (c : Thread nD τ) (M .kb) fullShare (stBody i σ .kb) ∗ owns (c : Thread nD τ) (M .vt) fullShare (stBody i σ .vt)
        ∗ owns (c : Thread nD τ) (M .s0) fullShare (stBody i σ .s0) ∗ owns (c : Thread nD τ) (M .s1) fullShare (stBody i σ .s1)
        ∗ owns (c : Thread nD τ) (M .wq) fullShare (stBody i σ .wq) ∗ owns (c : Thread nD τ) (M .acc) fullShare (stBody i σ .acc)) := by
  rw [ownAll_eq, stBody_arg i σ .q True.intro, stBody_arg i σ .k True.intro, stBody_arg i σ .v True.intro, stBody_arg i σ .bias True.intro]

/-- Contents of every buffer, one by one. -/
def mkSt (q : Moba.S1x256x512.Idx → Elt F .bf16) (k v : Moba.S1x4096x512.Idx → Elt F .bf16) (bias : Moba.S8x2x256x256.Idx → Elt F .f32)
    (out : Moba.S1x256x512.Idx → Elt F .bf16) (km : Moba.S4x16x128.Idx → Elt F .f32) (kb : Moba.S4x2x17x256x128.Idx → Elt F .bf16)
    (vt : Moba.S4x17x128x256.Idx → Elt F .bf16) (s0 s1 : Moba.S4x2x256x512.Idx → Elt F .f32)
    (wq : Moba.S4x2x128x256.Idx → Elt F .bf16) (acc : Moba.S4x2x64x256.Idx → Elt F .f32) : St F 𝔅
  | .q => q | .k => k | .v => v | .bias => bias | .out => out | .km => km
  | .kb => kb | .vt => vt | .s0 => s0 | .s1 => s1 | .wq => wq | .acc => acc

/-- The scratch, each buffer whole at some contents. -/
theorem PhiA_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) ∗ ∃ r, prngReg c r) := by
  unfold Pipeline.ΦA
  rw [scopedRest0_eq]
  simp only [owns_whole]
  try rfl

/-- The body at point `t`, on the buffers there. -/
theorem body_at (𝒱₀ : Variants) (c : Dev nD) (t : Fin cfg0.N) (σ : St F 𝔅) :
    (ownAll (c : Thread nD τ) (mems t) σ : sProp 𝕄)
      ⊢ wp frame (wpE (defs₀ (F := F)) 𝒱₀ (c : Thread nD τ) none) Set.univ (defs₀ .tc cfg0.body (cfg0.bodyArgs t (cfg0.slots t))) fun _ =>
          ownAll (c : Thread nD τ) (mems t) (stBody (grid0.coords t) σ) := by
  have h := tri_body (F := F) (𝒱₀ := 𝒱₀) (c := c) (bd := none) (grid0.coords t) (mems t) (mems_whole t) σ
  refine BIBase.Entails.trans h (wp_mono _ _ _ fun _ => ?_)
  iintro ⟨-, H⟩
  iexact H

/-! ## The run -/

variable (m : (ℓ : Loc nD τ sig) → Buf (Elt F) ℓ) (ρ : Dev nD → PrngReg)

/-- The output is left open. -/
def fgt : Fin 5 → Bool
  | 4 => true
  | _ => false

/-- The arrays as launched, the staged arguments left in place, the output unnamed, the scratch at any contents. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | ⟨w + 4, h⟩ => Dat.unnamed (cfg := cfg0) ⟨w + 4, h⟩ t
  Φ _ := Pipeline.ΦA spec0 c
  q w := Pipeline.shareOf spec0 w
  owed _ := 0

/-- What the body is handed at point `t`, and what it hands back. -/
def bodyPre (c : Dev nD) (t : Fin cfg0.N) : sProp 𝕄 :=
  iprop((dats m 0 c).Φ t.castSucc ∗ (dats m 0 c).owesAt () t.castSucc
    ∗ (∃ d, owns (c : Thread nD τ) (mems t .q) fullShare ((dats m 0 c).before 0 t d))
    ∗ (∃ d, owns (c : Thread nD τ) (mems t .k) fullShare ((dats m 0 c).before 1 t d))
    ∗ (∃ d, owns (c : Thread nD τ) (mems t .v) fullShare ((dats m 0 c).before 2 t d))
    ∗ (∃ d, owns (c : Thread nD τ) (mems t .bias) fullShare ((dats m 0 c).before 3 t d))
    ∗ (∃ d, owns (c : Thread nD τ) (mems t .out) fullShare d))

def bodyPost (c : Dev nD) (t : Fin cfg0.N) : sProp 𝕄 :=
  iprop((dats m 0 c).Φ t.succ ∗ (dats m 0 c).owesAt () t.succ
    ∗ owns (c : Thread nD τ) (mems t .q) fullShare ((dats m 0 c).after 0 t)
    ∗ owns (c : Thread nD τ) (mems t .k) fullShare ((dats m 0 c).after 1 t)
    ∗ owns (c : Thread nD τ) (mems t .v) fullShare ((dats m 0 c).after 2 t)
    ∗ owns (c : Thread nD τ) (mems t .bias) fullShare ((dats m 0 c).after 3 t)
    ∗ (∃ d, owns (c : Thread nD τ) (mems t .out) fullShare d))

theorem sound_body (c : Dev nD) (t : Fin cfg0.N) :
    bodyPre m c t ⊢ wp frame (wpE (defs₀ (F := F)) Variants.none c none) Set.univ (defs₀ .tc cfg0.body (cfg0.bodyArgs t (cfg0.slots t)))
      fun _ => bodyPost m c t := by
  unfold bodyPre bodyPost
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA_eq]
  iintro ⟨⟨⟨⟨%km, Hkm⟩, ⟨%kb, Hkb⟩, ⟨%vt, Hvt⟩, ⟨%s0, Hs0⟩, ⟨%s1, Hs1⟩, ⟨%wq, Hwq⟩, ⟨%ac, Hac⟩⟩, Hg⟩, HO, ⟨%d0, Hq⟩, ⟨%d1, Hk⟩, ⟨%d2, Hv⟩, ⟨%d3, Hb⟩, ⟨%o, Ho⟩⟩
  ihave HA : ownAll (c : Thread nD τ) (mems t) (mkSt (iblk m c 0 t) (iblk m c 1 t) (iblk m c 2 t) (iblk m c 3 t) o km kb vt s0 s1 wq ac) $$ [Hkm Hkb Hvt Hs0 Hs1 Hwq Hac Hq Hk Hv Hb Ho]
  · rw [ownAll_eq]
    isplitl [Hq]; · iexact Hq
    isplitl [Hk]; · iexact Hk
    isplitl [Hv]; · iexact Hv
    isplitl [Hb]; · iexact Hb
    isplitl [Ho]; · iexact Ho
    isplitl [Hkm]; · iexact Hkm
    isplitl [Hkb]; · iexact Hkb
    isplitl [Hvt]; · iexact Hvt
    isplitl [Hs0]; · iexact Hs0
    isplitl [Hs1]; · iexact Hs1
    isplitl [Hwq]; · iexact Hwq
    iexact Hac
  ihave HW := (body_at Variants.none c t _) $$ HA
  iapply wp_wand_r
  isplitl [HW]
  · iexact HW
  iintro %x HA
  ihave HA := (Entails.of_eq (ownAll_body c (mems t) _ _)) $$ HA
  icases HA with ⟨Hq, Hk, Hv, Hb, Ho, Hkm, Hkb, Hvt, Hs0, Hs1, Hwq, Hac⟩
  isplitl [Hkm Hkb Hvt Hs0 Hs1 Hwq Hac Hg]
  · isplitr [Hg]
    · isplitl [Hkm]; · iexists _; iexact Hkm
      isplitl [Hkb]; · iexists _; iexact Hkb
      isplitl [Hvt]; · iexists _; iexact Hvt
      isplitl [Hs0]; · iexists _; iexact Hs0
      isplitl [Hs1]; · iexists _; iexact Hs1
      isplitl [Hwq]; · iexists _; iexact Hwq
      iexists _; iexact Hac
    · iexact Hg
  isplitl [HO]; · iexact HO
  isplitl [Hq]; · iexact Hq
  isplitl [Hk]; · iexact Hk
  isplitl [Hv]; · iexact Hv
  isplitl [Hb]; · iexact Hb
  iexists _; iexact Ho

theorem body_obligation (c : Dev nD) : BodyObligationLoose (dats m 0 c) defs₀ Variants.none () Set.univ fgt := by
  intro t
  rw [bigSep_W0, bigSep_W0]
  exact sound_body m c t

/-- The run of @main, the output left open. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared cfgs (dats m) 0 launch₀0 defs₀ Variants.none fgt m ρ main (body_obligation m)
    (fun _ _ _ => rfl) (fun _ _ => rfl) (V m) (hmain m Variants.none) (fun _ _ => rfl) (fun _ _ => rfl) _ (fun _ h => h)

/-- Every run ends, leaves both arguments as they were, and every semaphore counter at zero. -/
theorem frame_main : θ_run defs (onTc (τ := τ) (main (F := F))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨h.1.arr_in c 2 rfl, h.1.arr_in c 3 rfl⟩, h.2⟩) (run_main m ρ)

end Cert.KernelIdeal.Run
-- ==== Proof.Moba.View.lean ====
/-
  What the stages of the block attention kernel leave in the score buffers and the accumulator, read per head: a store
  of one head's part changes that part and no other.
-/
module

public import proofs.«01_k».proof.Proof.Moba.Keeps
public import Idealize.ShloMosaic.Lib.Pointwise

@[expose] public section

noncomputable section

namespace Moba

open Idealize.ShloMosaic Idealize.SL.Sem

theorem over_at {s : Shape} {α : Type} (off size : Fin s.rank → Nat) (inb : ∀ a, off a + size a ≤ s.size a)
    (w : (Rect.unit off size inb).shape.Idx → α) (X : s.Idx → α) (y : s.Idx) (x : (Rect.unit off size inb).shape.Idx)
    (h : ∀ a : Fin s.rank, (y a : Nat) = off a + (x a : Nat)) : over (Rect.unit off size inb) w X y = w x := by
  have e : (Rect.unit off size inb).emb x = y := by
    funext a
    refine Fin.ext ?_
    rw [Rect.emb_apply, h a]
    simp [Rect.unit]
  rw [← e, over_emb]

theorem over_off {s : Shape} {α : Type} (off size : Fin s.rank → Nat) (inb : ∀ a, off a + size a ≤ s.size a)
    (w : (Rect.unit off size inb).shape.Idx → α) (X : s.Idx → α) (y : s.Idx) (a : Fin s.rank)
    (h : ¬(off a ≤ (y a : Nat) ∧ (y a : Nat) < off a + size a)) : over (Rect.unit off size inb) w X y = X y := by
  refine over_of_not _ _ _ _ fun x hx => h ?_
  have e : (y a : Nat) = off a + (x a : Nat) := by rw [← hx, Rect.emb_apply]; simp [Rect.unit]
  have l : (x a : Nat) < size a := (x a).isLt
  omega

theorem emb_eq {s : Shape} (off size : Fin s.rank → Nat) (inb : ∀ a, off a + size a ≤ s.size a)
    (x : (Rect.unit off size inb).shape.Idx) (y : s.Idx) (h : ∀ a : Fin s.rank, (y a : Nat) = off a + (x a : Nat)) :
    (Rect.unit off size inb).emb x = y := by
  funext a
  refine Fin.ext ?_
  rw [Rect.emb_apply, h a]
  simp [Rect.unit]

deriving instance DecidableEq for Slot

/-- The buffer of a slot. -/
def Slot.buf : Slot → Buf
  | .a => .s0
  | .b => .s1

/-- Column `c` of head `hh` of a group. -/
def lane (hh : Fin 2) (c : Fin 256) : Fin 512 := ⟨hh * 256 + c, by omega⟩

/-- A head's scores in a slot. -/
def St.sc (σ : St Ideal 𝔅) (sl : Slot) (g : Fin 4) (hh w : Fin 2) (r c : Fin 256) : EReal :=
  match sl with
  | .a => σ .s0 (ix4 g w r (lane hh c))
  | .b => σ .s1 (ix4 g w r (lane hh c))

/-- A head's accumulator. -/
def St.ac (σ : St Ideal 𝔅) (g : Fin 4) (hh : Fin 2) (d : Fin 64) (c : Fin 256) : EReal := σ .acc (ix4 g hh d c)

theorem run_stS_a (σ : St Ideal 𝔅) (g : Fin 4) (w hh : Fin 2) (x : FVec Ideal S1x1x256x256 .f32) :
    ((stS .a g w hh x).run σ).2 = Function.update σ Buf.s0
      (over (Rect.unit (s := S4x2x256x512) (![g, w, 0, (hh : Nat) * 256] : Fin 4 → Nat) S1x1x256x256.size (inbS g w hh)) x (σ .s0)) := rfl

theorem run_stS_b (σ : St Ideal 𝔅) (g : Fin 4) (w hh : Fin 2) (x : FVec Ideal S1x1x256x256 .f32) :
    ((stS .b g w hh x).run σ).2 = Function.update σ Buf.s1
      (over (Rect.unit (s := S4x2x256x512) (![g, w, 0, (hh : Nat) * 256] : Fin 4 → Nat) S1x1x256x256.size (inbS g w hh)) x (σ .s1)) := rfl

theorem run_stAcc_eq (σ : St Ideal 𝔅) (g : Fin 4) (hh : Fin 2) (x : FVec Ideal S1x1x64x256 .f32) :
    ((stAcc g hh x).run σ).2 = Function.update σ Buf.acc
      (over (Rect.unit (s := S4x2x64x256) (![g, hh, 0, 0] : Fin 4 → Nat) S1x1x64x256.size (inbAcc g hh)) x (σ .acc)) := rfl

theorem run_stS (σ : St Ideal 𝔅) (sl : Slot) (g : Fin 4) (w hh : Fin 2) (x : FVec Ideal S1x1x256x256 .f32)
    (sl' : Slot) (g' : Fin 4) (hh' w' : Fin 2) (r c : Fin 256) :
    St.sc ((stS sl g w hh x).run σ).2 sl' g' hh' w' r c
      = if sl' = sl ∧ g' = g ∧ hh' = hh ∧ w' = w then x (ix4 0 0 r c) else St.sc σ sl' g' hh' w' r c := by
  have key : ∀ X : S4x2x256x512.Idx → EReal, over (Rect.unit (s := S4x2x256x512) (![g, w, 0, (hh : Nat) * 256] : Fin 4 → Nat) S1x1x256x256.size (inbS g w hh)) x X (ix4 g' w' r (lane hh' c))
      = if g' = g ∧ hh' = hh ∧ w' = w then x (ix4 0 0 r c) else X (ix4 g' w' r (lane hh' c)) := by
    intro X
    by_cases h : g' = g ∧ hh' = hh ∧ w' = w
    · obtain ⟨rfl, rfl, rfl⟩ := h
      rw [if_pos ⟨rfl, rfl, rfl⟩]
      refine over_at (s := S4x2x256x512) _ _ _ _ _ _ (ix4 0 0 r c) fun a => ?_
      fin_cases a <;> simp [lane]
    · rw [if_neg h]
      by_cases hg : g' = g
      · by_cases hw : w' = w
        · refine over_off (s := S4x2x256x512) _ _ _ _ _ _ 3 fun hc => h ⟨hg, ?_, hw⟩
          simp [lane] at hc; omega
        · refine over_off (s := S4x2x256x512) _ _ _ _ _ _ 1 fun hc => hw ?_
          simp at hc; omega
      · refine over_off (s := S4x2x256x512) _ _ _ _ _ _ 0 fun hc => hg ?_
        simp at hc; omega
  cases sl <;> cases sl'
  · rw [run_stS_a]
    unfold St.sc
    dsimp only
    rw [Function.update_self]
    refine (key (σ .s0)).trans ?_
    simp only [true_and]
  · rw [if_neg (by simp), run_stS_a]
    unfold St.sc
    dsimp only
    rw [Function.update_of_ne (by simp)]
  · rw [if_neg (by simp), run_stS_b]
    unfold St.sc
    dsimp only
    rw [Function.update_of_ne (by simp)]
  · rw [run_stS_b]
    unfold St.sc
    dsimp only
    rw [Function.update_self]
    refine (key (σ .s1)).trans ?_
    simp only [true_and]

theorem run_stS_ac (σ : St Ideal 𝔅) (sl : Slot) (g : Fin 4) (w hh : Fin 2) (x : FVec Ideal S1x1x256x256 .f32)
    (g' : Fin 4) (hh' : Fin 2) (d : Fin 64) (c : Fin 256) :
    St.ac ((stS sl g w hh x).run σ).2 g' hh' d c = St.ac σ g' hh' d c :=
  congrFun (keeps_stS (R := fun b => b = .acc) (by simp) (by simp) _ _ _ _ _ _ _ rfl) _

theorem run_stAcc (σ : St Ideal 𝔅) (g : Fin 4) (hh : Fin 2) (x : FVec Ideal S1x1x64x256 .f32)
    (g' : Fin 4) (hh' : Fin 2) (d : Fin 64) (c : Fin 256) :
    St.ac ((stAcc g hh x).run σ).2 g' hh' d c = if g' = g ∧ hh' = hh then x (ix4 0 0 d c) else St.ac σ g' hh' d c := by
  have key : ∀ X : S4x2x64x256.Idx → EReal, over (Rect.unit (s := S4x2x64x256) (![g, hh, 0, 0] : Fin 4 → Nat) S1x1x64x256.size (inbAcc g hh)) x X (ix4 g' hh' d c)
      = if g' = g ∧ hh' = hh then x (ix4 0 0 d c) else X (ix4 g' hh' d c) := by
    intro X
    by_cases h : g' = g ∧ hh' = hh
    · obtain ⟨rfl, rfl⟩ := h
      rw [if_pos ⟨rfl, rfl⟩]
      refine over_at (s := S4x2x64x256) _ _ _ _ _ _ (ix4 0 0 d c) fun a => ?_
      fin_cases a <;> simp
    · rw [if_neg h]
      by_cases hg : g' = g
      · refine over_off (s := S4x2x64x256) _ _ _ _ _ _ 1 fun hc => h ⟨hg, ?_⟩
        simp at hc; omega
      · refine over_off (s := S4x2x64x256) _ _ _ _ _ _ 0 fun hc => hg ?_
        simp at hc; omega
  rw [run_stAcc_eq]
  unfold St.ac
  rw [Function.update_self]
  exact key (σ .acc)

theorem run_stAcc_sc (σ : St Ideal 𝔅) (g : Fin 4) (hh : Fin 2) (x : FVec Ideal S1x1x64x256 .f32)
    (sl' : Slot) (g' : Fin 4) (hh' w' : Fin 2) (r c : Fin 256) :
    St.sc ((stAcc g hh x).run σ).2 sl' g' hh' w' r c = St.sc σ sl' g' hh' w' r c := by
  cases sl'
  · exact congrFun (keeps_stAcc (R := fun b => b = .s0) (by simp) _ _ _ _ _ rfl) _
  · exact congrFun (keeps_stAcc (R := fun b => b = .s1) (by simp) _ _ _ _ _ rfl) _

end Moba
-- ==== Proof.Moba.Step.lean ====
module

public import proofs.«01_k».proof.Proof.Moba.View

@[expose] public section

noncomputable section

namespace Moba

open Idealize.ShloMosaic Idealize.SL.Sem

/-! ## The pieces' values -/

theorem scoreOf_lo (ka kb : FVec Ideal S1x1x1x256x128 .bf16) (wq : FVec Ideal S1x1x128x256 .bf16) (r c : Fin 256) :
    scoreOf (F := Ideal) ka kb wq (ix2 (⟨r, by omega⟩ : Fin 512) c) = ∑ d : Fin 128, ka (ix5 0 0 0 r d) * wq (ix4 0 0 d c) := by
  unfold scoreOf
  pointwise [dotScore]
  done

theorem scoreOf_hi (ka kb : FVec Ideal S1x1x1x256x128 .bf16) (wq : FVec Ideal S1x1x128x256 .bf16) (r c : Fin 256) :
    scoreOf (F := Ideal) ka kb wq (ix2 (⟨256 + r, by omega⟩ : Fin 512) c) = ∑ d : Fin 128, kb (ix5 0 0 0 r d) * wq (ix4 0 0 d c) := by
  unfold scoreOf
  pointwise [dotScore]
  done

theorem expOf_apply (s : FVec Ideal S1x1x256x256 .f32) (m : FVec Ideal S1x256 .f32) (r c : Fin 256) :
    expOf s m (ix2 r c) = Ideal.exp2 (s (ix4 0 0 r c) - m (ix2 0 c)) := by
  unfold expOf
  pointwise
  rfl

theorem colSum_apply (p : FVec Ideal S256x256 .f32) (c : Fin 256) : colSum p (ix2 0 c) = ∑ r : Fin 256, p (ix2 r c) := by
  unfold colSum
  pointwise
  done

theorem pvOf_apply (p0 p1 : FVec Ideal S256x256 .f32) (va vb : FVec Ideal S1x1x64x256 .bf16) (d : Fin 64) (c : Fin 256) :
    pvOf p0 p1 va vb (ix2 d c) = ∑ r : Fin 256, va (ix4 0 0 d r) * p0 (ix2 r c) + ∑ r : Fin 256, vb (ix4 0 0 d r) * p1 (ix2 r c) := by
  unfold pvOf
  pointwise [dotOut]
  done

theorem cast22 (x : FVec Ideal S64x256 .f32) (d : Fin 64) (c : Fin 256) :
    shapeCast S1x1x64x256 x (by decide) (ix4 0 0 d c) = x (ix2 d c) := by
  pointwise
  done

theorem colMax_apply (st : FVec Ideal S512x256 .f32) (c : Fin 256) :
    (shapeCast S1x256 (multiReduction .maximumf [0] S256 st 0xFF800000#32 (by decide) (.inl rfl) rfl) (by decide) : FVec Ideal S1x256 .f32) (ix2 0 c)
      = Finset.univ.fold max ⊥ fun ρ : Fin 512 => st (ix2 ρ c) := by
  pointwise
  rw [show Ideal.ofBits FTy.f32 4286578688#32 = ⊥ by simp [Ideal.ofBits, Ideal.ieee]]

theorem win0 (st : FVec Ideal S512x256 .f32) (r c : Fin 256) :
    (shapeCast S1x1x256x256 (extractStridedSlice S256x256 ![0, 0] st (by decide)) (by decide) : FVec Ideal S1x1x256x256 .f32) (ix4 0 0 r c)
      = st (ix2 (⟨r, by omega⟩ : Fin 512) c) := by
  pointwise
  done

theorem win1 (st : FVec Ideal S512x256 .f32) (r c : Fin 256) :
    (shapeCast S1x1x256x256 (extractStridedSlice S256x256 ![256, 0] st (by decide)) (by decide) : FVec Ideal S1x1x256x256 .f32) (ix4 0 0 r c)
      = st (ix2 (⟨256 + r, by omega⟩ : Fin 512) c) := by
  pointwise
  done

/-! ## Loads read -/

theorem run_ldS {α : Type} (σ : St Ideal 𝔅) (sl : Slot) (g : Fin 4) (w hh : Fin 2) (f : Vec Ideal S1x1x256x256 .f32 → Code Ideal 𝔅 α) :
    ((ldS sl g w hh).bind f).run σ = (f fun x => St.sc σ sl g hh w (x 2) (x 3)).run σ := by
  cases sl
  · refine congrArg (fun y => (f y).run σ) (funext fun (x : S1x1x256x256.Idx) => congrArg (σ .s0) (emb_eq (s := S4x2x256x512) _ _ _ _ _ fun a => ?_))
    have h0 : (x 0 : Nat) = 0 := by have h : (x 0 : Nat) < 1 := (x 0).isLt; omega
    have h1 : (x 1 : Nat) = 0 := by have h : (x 1 : Nat) < 1 := (x 1).isLt; omega
    fin_cases a <;> simp [lane, h0, h1]
  · refine congrArg (fun y => (f y).run σ) (funext fun (x : S1x1x256x256.Idx) => congrArg (σ .s1) (emb_eq (s := S4x2x256x512) _ _ _ _ _ fun a => ?_))
    have h0 : (x 0 : Nat) = 0 := by have h : (x 0 : Nat) < 1 := (x 0).isLt; omega
    have h1 : (x 1 : Nat) = 0 := by have h : (x 1 : Nat) < 1 := (x 1).isLt; omega
    fin_cases a <;> simp [lane, h0, h1]

theorem run_ldAcc {α : Type} (σ : St Ideal 𝔅) (g : Fin 4) (hh : Fin 2) (f : Vec Ideal S1x1x64x256 .f32 → Code Ideal 𝔅 α) :
    ((ldAcc g hh).bind f).run σ = (f fun x => St.ac σ g hh (x 2) (x 3)).run σ := by
  refine congrArg (fun y => (f y).run σ) (funext fun (x : S1x1x64x256.Idx) => congrArg (σ .acc) (emb_eq (s := S4x2x64x256) _ _ _ _ _ fun a => ?_))
  have h0 : (x 0 : Nat) = 0 := by have h : (x 0 : Nat) < 1 := (x 0).isLt; omega
  have h1 : (x 1 : Nat) = 0 := by have h : (x 1 : Nat) < 1 := (x 1).isLt; omega
  fin_cases a <;> simp [h0, h1]

/-- Row `d` of head `hh` of a group. -/
def row (hh : Fin 2) (d : Fin 64) : Fin 128 := ⟨hh * 64 + d, by omega⟩

/-- A head's values. -/
def St.va (σ : St Ideal 𝔅) (g : Fin 4) (hh : Fin 2) (j : Fin 17) (d : Fin 64) (r : Fin 256) : EReal := σ .vt (ix4 g j (row hh d) r)

/-- A head's extended keys. -/
def St.ke (σ : St Ideal 𝔅) (g : Fin 4) (hh : Fin 2) (j : Fin 17) (r : Fin 256) (d : Fin 128) : EReal := σ .kb (ix5 g hh j r d)

/-- A head's extended queries. -/
def St.we (σ : St Ideal 𝔅) (g : Fin 4) (hh : Fin 2) (d : Fin 128) (c : Fin 256) : EReal := σ .wq (ix4 g hh d c)

theorem run_ldVt {α : Type} (σ : St Ideal 𝔅) (g : Fin 4) (hh : Fin 2) (j : Nat) (hj : j < 17) (f : Vec Ideal S1x1x64x256 .bf16 → Code Ideal 𝔅 α) :
    ((ldVt g hh j hj).bind f).run σ = (f fun x => St.va σ g hh ⟨j, hj⟩ (x 2) (x 3)).run σ := by
  refine congrArg (fun y => (f y).run σ) (funext fun (x : S1x1x64x256.Idx) => congrArg (σ .vt) (emb_eq (s := S4x17x128x256) _ _ _ _ _ fun a => ?_))
  have h0 : (x 0 : Nat) = 0 := by have h : (x 0 : Nat) < 1 := (x 0).isLt; omega
  have h1 : (x 1 : Nat) = 0 := by have h : (x 1 : Nat) < 1 := (x 1).isLt; omega
  fin_cases a <;> simp [row, h0, h1]

theorem run_ldKb {α : Type} (σ : St Ideal 𝔅) (g : Fin 4) (hh : Fin 2) (j : Nat) (hj : j < 17) (f : Vec Ideal S1x1x1x256x128 .bf16 → Code Ideal 𝔅 α) :
    ((ldKb g hh j hj).bind f).run σ = (f fun x => St.ke σ g hh ⟨j, hj⟩ (x 3) (x 4)).run σ := by
  refine congrArg (fun y => (f y).run σ) (funext fun (x : S1x1x1x256x128.Idx) => congrArg (σ .kb) (emb_eq (s := S4x2x17x256x128) _ _ _ _ _ fun a => ?_))
  have h0 : (x 0 : Nat) = 0 := by have h : (x 0 : Nat) < 1 := (x 0).isLt; omega
  have h1 : (x 1 : Nat) = 0 := by have h : (x 1 : Nat) < 1 := (x 1).isLt; omega
  have h2 : (x 2 : Nat) = 0 := by have h : (x 2 : Nat) < 1 := (x 2).isLt; omega
  fin_cases a <;> simp [h0, h1, h2]

theorem run_ldWq {α : Type} (σ : St Ideal 𝔅) (g : Fin 4) (hh : Fin 2) (f : Vec Ideal S1x1x128x256 .bf16 → Code Ideal 𝔅 α) :
    ((ldWq g hh).bind f).run σ = (f fun x => St.we σ g hh (x 2) (x 3)).run σ := by
  refine congrArg (fun y => (f y).run σ) (funext fun (x : S1x1x128x256.Idx) => congrArg (σ .wq) (emb_eq (s := S4x2x128x256) _ _ _ _ _ fun a => ?_))
  have h0 : (x 0 : Nat) = 0 := by have h : (x 0 : Nat) < 1 := (x 0).isLt; omega
  have h1 : (x 1 : Nat) = 0 := by have h : (x 1 : Nat) < 1 := (x 1).isLt; omega
  fin_cases a <;> simp [h0, h1]

theorem run_ldBias {α : Type} (σ : St Ideal 𝔅) (h : Fin 8) (w : Fin 2) (f : Vec Ideal S1x1x256x256 .f32 → Code Ideal 𝔅 α) :
    ((ldBias h w).bind f).run σ = (f fun x => (σ .bias (ix4 h w (x 2) (x 3)) : EReal)).run σ := by
  refine congrArg (fun y => (f y).run σ) (funext fun (x : S1x1x256x256.Idx) => congrArg (σ .bias) (emb_eq (s := S8x2x256x256) _ _ _ _ _ fun a => ?_))
  have h0 : (x 0 : Nat) = 0 := by have h : (x 0 : Nat) < 1 := (x 0).isLt; omega
  have h1 : (x 1 : Nat) = 0 := by have h : (x 1 : Nat) < 1 := (x 1).isLt; omega
  fin_cases a <;> simp [h0, h1]

/-! ## Every head in turn -/

theorem forHeads_spec {α : Type} (f : Fin 4 → Fin 2 → Code Ideal 𝔅 α) (I : St Ideal 𝔅 → Prop) (Q : Fin 4 → Fin 2 → St Ideal 𝔅 → Prop)
    (P : Fin 4 → Fin 2 → α → St Ideal 𝔅 → Prop)
    (hstep : ∀ g hh σ, I σ → Q g hh σ → I ((f g hh).run σ).2 ∧ P g hh ((f g hh).run σ).1 ((f g hh).run σ).2)
    (hQ : ∀ g hh g' hh' σ, ¬(g' = g ∧ hh' = hh) → Q g' hh' σ → Q g' hh' ((f g hh).run σ).2)
    (hP : ∀ g hh g' hh' a σ, ¬(g' = g ∧ hh' = hh) → P g' hh' a σ → P g' hh' a ((f g hh).run σ).2)
    (σ : St Ideal 𝔅) (hI : I σ) (h : ∀ g hh, Q g hh σ) :
    I ((forHeads f).run σ).2 ∧ ∀ g hh, P g hh (((forHeads f).run σ).1.get g hh) ((forHeads f).run σ).2 := by
  have s0 := hstep 0 0 σ hI (h 0 0)
  set σ1 := ((f 0 0).run σ).2 with e0
  have s1 := hstep 0 1 σ1 s0.1 (hQ 0 0 0 1 σ (by decide) (h 0 1))
  set σ2 := ((f 0 1).run σ1).2 with e1
  have s2 := hstep 1 0 σ2 s1.1 (hQ 0 1 1 0 σ1 (by decide) (hQ 0 0 1 0 σ (by decide) (h 1 0)))
  set σ3 := ((f 1 0).run σ2).2 with e2
  have s3 := hstep 1 1 σ3 s2.1 (hQ 1 0 1 1 σ2 (by decide) (hQ 0 1 1 1 σ1 (by decide) (hQ 0 0 1 1 σ (by decide) (h 1 1))))
  set σ4 := ((f 1 1).run σ3).2 with e3
  have s4 := hstep 2 0 σ4 s3.1 (hQ 1 1 2 0 σ3 (by decide) (hQ 1 0 2 0 σ2 (by decide) (hQ 0 1 2 0 σ1 (by decide) (hQ 0 0 2 0 σ (by decide) (h 2 0)))))
  set σ5 := ((f 2 0).run σ4).2 with e4
  have s5 := hstep 2 1 σ5 s4.1 (hQ 2 0 2 1 σ4 (by decide) (hQ 1 1 2 1 σ3 (by decide) (hQ 1 0 2 1 σ2 (by decide) (hQ 0 1 2 1 σ1 (by decide) (hQ 0 0 2 1 σ (by decide) (h 2 1))))))
  set σ6 := ((f 2 1).run σ5).2 with e5
  have s6 := hstep 3 0 σ6 s5.1 (hQ 2 1 3 0 σ5 (by decide) (hQ 2 0 3 0 σ4 (by decide) (hQ 1 1 3 0 σ3 (by decide) (hQ 1 0 3 0 σ2 (by decide) (hQ 0 1 3 0 σ1 (by decide) (hQ 0 0 3 0 σ (by decide) (h 3 0)))))))
  set σ7 := ((f 3 0).run σ6).2 with e6
  have s7 := hstep 3 1 σ7 s6.1 (hQ 3 0 3 1 σ6 (by decide) (hQ 2 1 3 1 σ5 (by decide) (hQ 2 0 3 1 σ4 (by decide) (hQ 1 1 3 1 σ3 (by decide) (hQ 1 0 3 1 σ2 (by decide) (hQ 0 1 3 1 σ1 (by decide) (hQ 0 0 3 1 σ (by decide) (h 3 1))))))))
  set σ8 := ((f 3 1).run σ7).2 with e7
  have p0 := (hP 3 1 0 0 _ σ7 (by decide) (hP 3 0 0 0 _ σ6 (by decide) (hP 2 1 0 0 _ σ5 (by decide) (hP 2 0 0 0 _ σ4 (by decide) (hP 1 1 0 0 _ σ3 (by decide) (hP 1 0 0 0 _ σ2 (by decide) (hP 0 1 0 0 _ σ1 (by decide) s0.2)))))))
  have p1 := (hP 3 1 0 1 _ σ7 (by decide) (hP 3 0 0 1 _ σ6 (by decide) (hP 2 1 0 1 _ σ5 (by decide) (hP 2 0 0 1 _ σ4 (by decide) (hP 1 1 0 1 _ σ3 (by decide) (hP 1 0 0 1 _ σ2 (by decide) s1.2))))))
  have p2 := (hP 3 1 1 0 _ σ7 (by decide) (hP 3 0 1 0 _ σ6 (by decide) (hP 2 1 1 0 _ σ5 (by decide) (hP 2 0 1 0 _ σ4 (by decide) (hP 1 1 1 0 _ σ3 (by decide) s2.2)))))
  have p3 := (hP 3 1 1 1 _ σ7 (by decide) (hP 3 0 1 1 _ σ6 (by decide) (hP 2 1 1 1 _ σ5 (by decide) (hP 2 0 1 1 _ σ4 (by decide) s3.2))))
  have p4 := (hP 3 1 2 0 _ σ7 (by decide) (hP 3 0 2 0 _ σ6 (by decide) (hP 2 1 2 0 _ σ5 (by decide) s4.2)))
  have p5 := (hP 3 1 2 1 _ σ7 (by decide) (hP 3 0 2 1 _ σ6 (by decide) s5.2))
  have p6 := (hP 3 1 3 0 _ σ7 (by decide) s6.2)
  have p7 := s7.2
  have e : (forHeads f).run σ = (⟨((f 0 0).run σ).1, ((f 0 1).run σ1).1, ((f 1 0).run σ2).1, ((f 1 1).run σ3).1, ((f 2 0).run σ4).1,
      ((f 2 1).run σ5).1, ((f 3 0).run σ6).1, ((f 3 1).run σ7).1⟩, σ8) := by
    unfold forHeads
    simp only [Code.run_bind, e0, e1, e2, e3, e4, e5, e6, e7]
    rfl
  rw [e]
  refine ⟨s7.1, fun g hh => ?_⟩
  fin_cases g <;> fin_cases hh
  · exact p0
  · exact p1
  · exact p2
  · exact p3
  · exact p4
  · exact p5
  · exact p6
  · exact p7

end Moba
-- ==== Proof.Moba.Fill.lean ====
/-
  What the key and value scratch, the extended queries and the output hold after the stages that write them.
-/
module

public import proofs.«01_k».proof.Proof.Moba.Step

@[expose] public section

noncomputable section

namespace Moba

open Idealize.ShloMosaic Idealize.SL.Sem

/-- Lane `e` of group `g`. -/
def gcol (g : Fin 4) (e : Fin 128) : Fin 512 := ⟨g * 128 + e, by omega⟩

/-- Row `r` of block `j`. -/
def brow (j : Fin 16) (r : Fin 256) : Fin 4096 := ⟨j * 256 + r, by omega⟩

/-- A cell of a buffer the stages write. -/
inductive Cell
  | kb (g : Fin 4) (hh : Fin 2) (j : Fin 17) (r : Fin 256) (o : Fin 2) (d : Fin 64)
  | vt (g : Fin 4) (j : Fin 17) (e : Fin 128) (r : Fin 256)
  | km (g : Fin 4) (j : Fin 16) (e : Fin 128)
  | wq (g : Fin 4) (hh : Fin 2) (d : Fin 128) (c : Fin 256)
  | out (c : Fin 256) (g : Fin 4) (e : Fin 128)

/-- What it holds. -/
def St.cell (σ : St Ideal 𝔅) : Cell → EReal
  | .kb g hh j r o d => σ .kb (ix5 g hh j r (row o d))
  | .vt g j e r => σ .vt (ix4 g j e r)
  | .km g j e => σ .km (ix3 g j e)
  | .wq g hh d c => σ .wq (ix4 g hh d c)
  | .out c g e => σ .out (ix3 0 c (gcol g e))

/-- The code keeps the buffers in `R` as they are in `σ₀`, leaves right cells right, and makes the cells in `D` right. -/
def Sets (R : Buf → Prop) (σ₀ : St Ideal 𝔅) (val : Cell → EReal) (p : Code Ideal 𝔅 PUnit) (D : Cell → Prop) : Prop :=
  ∀ σ : St Ideal 𝔅, (∀ b, R b → σ b = σ₀ b) → (∀ b, R b → (p.run σ).2 b = σ₀ b) ∧
    ∀ y, St.cell σ y = val y ∨ D y → St.cell (p.run σ).2 y = val y

variable {R : Buf → Prop} {σ₀ : St Ideal 𝔅} {val : Cell → EReal}

theorem Sets.bind {p q : Code Ideal 𝔅 PUnit} {D E : Cell → Prop} (hp : Sets R σ₀ val p D) (hq : Sets R σ₀ val q E) :
    Sets R σ₀ val (p.bind fun _ => q) fun y => D y ∨ E y := by
  intro σ h
  rw [Code.run_bind]
  obtain ⟨a, b⟩ := hp σ h
  obtain ⟨c, d⟩ := hq _ a
  refine ⟨c, fun y hy => ?_⟩
  rcases hy with hy | hy | hy
  · exact d y (.inl (b y (.inl hy)))
  · exact d y (.inl (b y (.inr hy)))
  · exact d y (.inr hy)

theorem Sets.each {ι : Type} {f : ι → Code Ideal 𝔅 PUnit} {D : ι → Cell → Prop} (h : ∀ x, Sets R σ₀ val (f x) (D x)) :
    ∀ l : List ι, Sets R σ₀ val (each f l) fun y => ∃ x ∈ l, D x y
  | [] => by
    intro σ hσ
    refine ⟨hσ, fun y hy => ?_⟩
    rcases hy with hy | ⟨x, hx, -⟩
    · exact hy
    · exact absurd hx (by simp)
  | x :: xs => by
    have := (h x).bind (Sets.each h xs)
    intro σ hσ
    obtain ⟨a, b⟩ := this σ hσ
    refine ⟨a, fun y hy => b y ?_⟩
    rcases hy with hy | ⟨z, hz, hy⟩
    · exact .inl hy
    · rcases List.mem_cons.mp hz with rfl | hz
      · exact .inr (.inl hy)
      · exact .inr (.inr ⟨z, hz, hy⟩)

theorem Sets.weaken {p : Code Ideal 𝔅 PUnit} {D E : Cell → Prop} (h : Sets R σ₀ val p D) (hd : ∀ y, E y → D y) : Sets R σ₀ val p E :=
  fun σ hσ => ⟨(h σ hσ).1, fun y hy => (h σ hσ).2 y (hy.imp id (hd y))⟩

/-! ## Stores -/

theorem run_stKb_eq (σ : St Ideal 𝔅) (g : Fin 4) (hh : Fin 2) (j : Fin 17) (o : Fin 2) (x : FVec Ideal S1x1x1x256x64 .bf16) :
    ((stKb g hh j o x).run σ).2 = Function.update σ Buf.kb
      (over (Rect.unit (s := S4x2x17x256x128) (![g, hh, j, 0, (o : Nat) * 64] : Fin 5 → Nat) S1x1x1x256x64.size (inbKbHalf g hh j o)) x (σ .kb)) := rfl

theorem run_stVt_eq (σ : St Ideal 𝔅) (g : Fin 4) (j : Fin 17) (x : FVec Ideal S1x1x128x256 .bf16) :
    ((stVt g j x).run σ).2 = Function.update σ Buf.vt
      (over (Rect.unit (s := S4x17x128x256) (![g, j, 0, 0] : Fin 4 → Nat) S1x1x128x256.size (inbVt g j)) x (σ .vt)) := rfl

theorem run_stKm_eq (σ : St Ideal 𝔅) (g : Fin 4) (j : Fin 16) (x : FVec Ideal S1x1x128 .f32) :
    ((stKm g j x).run σ).2 = Function.update σ Buf.km
      (over (Rect.unit (s := S4x16x128) (![g, j, 0] : Fin 3 → Nat) S1x1x128.size (inbKm g j)) x (σ .km)) := rfl

theorem run_stWq_eq (σ : St Ideal 𝔅) (g : Fin 4) (hh : Fin 2) (x : FVec Ideal S1x1x128x256 .bf16) :
    ((stWq g hh x).run σ).2 = Function.update σ Buf.wq
      (over (Rect.unit (s := S4x2x128x256) (![g, hh, 0, 0] : Fin 4 → Nat) S1x1x128x256.size (inbWq g hh)) x (σ .wq)) := rfl

theorem run_stOut_eq (σ : St Ideal 𝔅) (g : Fin 4) (x : FVec Ideal S1x256x128 .bf16) :
    ((stOut g x).run σ).2 = Function.update σ Buf.out
      (over (Rect.unit (s := S1x256x512) (![0, 0, (g : Nat) * 128] : Fin 3 → Nat) S1x256x128.size (inbOut g)) x (σ .out)) := rfl

theorem sets_stKb (h : ¬R .kb) (g : Fin 4) (hh : Fin 2) (j : Fin 17) (o : Fin 2) (x : FVec Ideal S1x1x1x256x64 .bf16)
    (hx : ∀ r d, x (ix5 0 0 0 r d) = val (.kb g hh j r o d)) : Sets R σ₀ val (stKb g hh j o x) fun y => ∃ r d, y = .kb g hh j r o d := by
  intro σ hσ
  have kk : Keeps R (stKb g hh j o x) := keeps_stKb h g hh j o x
  refine ⟨fun b hb => (kk σ b hb).trans (hσ b hb), ?_⟩
  have key : ∀ (X : S4x2x17x256x128.Idx → EReal) (g' : Fin 4) (hh' : Fin 2) (j' : Fin 17) (r : Fin 256) (o' : Fin 2) (d : Fin 64),
      over (Rect.unit (s := S4x2x17x256x128) (![g, hh, j, 0, (o : Nat) * 64] : Fin 5 → Nat) S1x1x1x256x64.size (inbKbHalf g hh j o)) x X (ix5 g' hh' j' r (row o' d))
        = if g' = g ∧ hh' = hh ∧ j' = j ∧ o' = o then x (ix5 0 0 0 r d) else X (ix5 g' hh' j' r (row o' d)) := by
    intro X g' hh' j' r o' d
    by_cases h : g' = g ∧ hh' = hh ∧ j' = j ∧ o' = o
    · obtain ⟨rfl, rfl, rfl, rfl⟩ := h
      rw [if_pos ⟨rfl, rfl, rfl, rfl⟩]
      refine over_at (s := S4x2x17x256x128) _ _ _ _ _ _ (ix5 0 0 0 r d) fun a => ?_
      fin_cases a <;> simp [row]
    · rw [if_neg h]
      by_cases hg : g' = g
      · by_cases h2 : hh' = hh
        · by_cases h3 : j' = j
          · refine over_off (s := S4x2x17x256x128) _ _ _ _ _ _ 4 fun hc => h ⟨hg, h2, h3, ?_⟩
            simp [row] at hc; omega
          · refine over_off (s := S4x2x17x256x128) _ _ _ _ _ _ 2 fun hc => h3 ?_
            simp at hc; omega
        · refine over_off (s := S4x2x17x256x128) _ _ _ _ _ _ 1 fun hc => h2 ?_
          simp at hc; omega
      · refine over_off (s := S4x2x17x256x128) _ _ _ _ _ _ 0 fun hc => hg ?_
        simp at hc; omega
  intro y hy
  rw [run_stKb_eq]
  cases y with
  | kb g' hh' j' r o' d =>
    unfold St.cell at hy ⊢
    dsimp only at hy ⊢
    rw [Function.update_self]
    refine (key (σ .kb) g' hh' j' r o' d).trans ?_
    by_cases h : g' = g ∧ hh' = hh ∧ j' = j ∧ o' = o
    · refine (if_pos h).trans ?_
      obtain ⟨rfl, rfl, rfl, rfl⟩ := h
      exact hx r d
    · refine (if_neg h).trans ?_
      rcases hy with hy | ⟨r', d', hy⟩
      · exact hy
      · injection hy with e1 e2 e3 e4 e5 e6
        exact absurd ⟨e1, e2, e3, e5⟩ h
  | vt g' j' e r =>
    unfold St.cell at hy ⊢; dsimp only at hy ⊢
    rw [Function.update_of_ne (by simp)]
    exact hy.elim id fun ⟨_, _, e⟩ => by cases e
  | km g' j' e =>
    unfold St.cell at hy ⊢; dsimp only at hy ⊢
    rw [Function.update_of_ne (by simp)]
    exact hy.elim id fun ⟨_, _, e⟩ => by cases e
  | wq g' hh' d c =>
    unfold St.cell at hy ⊢; dsimp only at hy ⊢
    rw [Function.update_of_ne (by simp)]
    exact hy.elim id fun ⟨_, _, e⟩ => by cases e
  | out c g' e =>
    unfold St.cell at hy ⊢; dsimp only at hy ⊢
    rw [Function.update_of_ne (by simp)]
    exact hy.elim id fun ⟨_, _, e⟩ => by cases e

theorem sets_stVt (h : ¬R .vt) (g : Fin 4) (j : Fin 17) (x : FVec Ideal S1x1x128x256 .bf16)
    (hx : ∀ e r, x (ix4 0 0 e r) = val (.vt g j e r)) : Sets R σ₀ val (stVt g j x) fun y => ∃ e r, y = .vt g j e r := by
  intro σ hσ
  have kk : Keeps R (stVt g j x) := keeps_stVt h g j x
  refine ⟨fun b hb => (kk σ b hb).trans (hσ b hb), ?_⟩
  have key : ∀ (X : S4x17x128x256.Idx → EReal) (g' : Fin 4) (j' : Fin 17) (e : Fin 128) (r : Fin 256),
      over (Rect.unit (s := S4x17x128x256) (![g, j, 0, 0] : Fin 4 → Nat) S1x1x128x256.size (inbVt g j)) x X (ix4 g' j' e r)
        = if g' = g ∧ j' = j then x (ix4 0 0 e r) else X (ix4 g' j' e r) := by
    intro X g' j' e r
    by_cases h : g' = g ∧ j' = j
    · obtain ⟨rfl, rfl⟩ := h
      rw [if_pos ⟨rfl, rfl⟩]
      refine over_at (s := S4x17x128x256) _ _ _ _ _ _ (ix4 0 0 e r) fun a => ?_
      fin_cases a <;> simp
    · rw [if_neg h]
      by_cases hg : g' = g
      · refine over_off (s := S4x17x128x256) _ _ _ _ _ _ 1 fun hc => h ⟨hg, ?_⟩
        simp at hc; omega
      · refine over_off (s := S4x17x128x256) _ _ _ _ _ _ 0 fun hc => hg ?_
        simp at hc; omega
  intro y hy
  rw [run_stVt_eq]
  cases y with
  | vt g' j' e r =>
    unfold St.cell at hy ⊢
    dsimp only at hy ⊢
    rw [Function.update_self]
    refine (key (σ .vt) g' j' e r).trans ?_
    by_cases h : g' = g ∧ j' = j
    · refine (if_pos h).trans ?_
      obtain ⟨rfl, rfl⟩ := h
      exact hx e r
    · refine (if_neg h).trans ?_
      rcases hy with hy | ⟨r', d', hy⟩
      · exact hy
      · injection hy with e1 e2 e3 e4
        exact absurd ⟨e1, e2⟩ h
  | kb g' hh' j' r o' d =>
    unfold St.cell at hy ⊢; dsimp only at hy ⊢
    rw [Function.update_of_ne (by simp)]
    exact hy.elim id fun ⟨_, _, e⟩ => by cases e
  | km g' j' e =>
    unfold St.cell at hy ⊢; dsimp only at hy ⊢
    rw [Function.update_of_ne (by simp)]
    exact hy.elim id fun ⟨_, _, e⟩ => by cases e
  | wq g' hh' d c =>
    unfold St.cell at hy ⊢; dsimp only at hy ⊢
    rw [Function.update_of_ne (by simp)]
    exact hy.elim id fun ⟨_, _, e⟩ => by cases e
  | out c g' e =>
    unfold St.cell at hy ⊢; dsimp only at hy ⊢
    rw [Function.update_of_ne (by simp)]
    exact hy.elim id fun ⟨_, _, e⟩ => by cases e

theorem sets_stWq (h : ¬R .wq) (g : Fin 4) (hh : Fin 2) (x : FVec Ideal S1x1x128x256 .bf16)
    (hx : ∀ d c, x (ix4 0 0 d c) = val (.wq g hh d c)) : Sets R σ₀ val (stWq g hh x) fun y => ∃ d c, y = .wq g hh d c := by
  intro σ hσ
  have kk : Keeps R (stWq g hh x) := keeps_stWq h g hh x
  refine ⟨fun b hb => (kk σ b hb).trans (hσ b hb), ?_⟩
  have key : ∀ (X : S4x2x128x256.Idx → EReal) (g' : Fin 4) (hh' : Fin 2) (d : Fin 128) (c : Fin 256),
      over (Rect.unit (s := S4x2x128x256) (![g, hh, 0, 0] : Fin 4 → Nat) S1x1x128x256.size (inbWq g hh)) x X (ix4 g' hh' d c)
        = if g' = g ∧ hh' = hh then x (ix4 0 0 d c) else X (ix4 g' hh' d c) := by
    intro X g' hh' d c
    by_cases h : g' = g ∧ hh' = hh
    · obtain ⟨rfl, rfl⟩ := h
      rw [if_pos ⟨rfl, rfl⟩]
      refine over_at (s := S4x2x128x256) _ _ _ _ _ _ (ix4 0 0 d c) fun a => ?_
      fin_cases a <;> simp
    · rw [if_neg h]
      by_cases hg : g' = g
      · refine over_off (s := S4x2x128x256) _ _ _ _ _ _ 1 fun hc => h ⟨hg, ?_⟩
        simp at hc; omega
      · refine over_off (s := S4x2x128x256) _ _ _ _ _ _ 0 fun hc => hg ?_
        simp at hc; omega
  intro y hy
  rw [run_stWq_eq]
  cases y with
  | wq g' hh' d c =>
    unfold St.cell at hy ⊢
    dsimp only at hy ⊢
    rw [Function.update_self]
    refine (key (σ .wq) g' hh' d c).trans ?_
    by_cases h : g' = g ∧ hh' = hh
    · refine (if_pos h).trans ?_
      obtain ⟨rfl, rfl⟩ := h
      exact hx d c
    · refine (if_neg h).trans ?_
      rcases hy with hy | ⟨r', d', hy⟩
      · exact hy
      · injection hy with e1 e2 e3 e4
        exact absurd ⟨e1, e2⟩ h
  | kb g' hh' j' r o' d =>
    unfold St.cell at hy ⊢; dsimp only at hy ⊢
    rw [Function.update_of_ne (by simp)]
    exact hy.elim id fun ⟨_, _, e⟩ => by cases e
  | km g' j' e =>
    unfold St.cell at hy ⊢; dsimp only at hy ⊢
    rw [Function.update_of_ne (by simp)]
    exact hy.elim id fun ⟨_, _, e⟩ => by cases e
  | vt g' j' e r =>
    unfold St.cell at hy ⊢; dsimp only at hy ⊢
    rw [Function.update_of_ne (by simp)]
    exact hy.elim id fun ⟨_, _, e⟩ => by cases e
  | out c g' e =>
    unfold St.cell at hy ⊢; dsimp only at hy ⊢
    rw [Function.update_of_ne (by simp)]
    exact hy.elim id fun ⟨_, _, e⟩ => by cases e

theorem sets_stKm (h : ¬R .km) (g : Fin 4) (j : Fin 16) (x : FVec Ideal S1x1x128 .f32)
    (hx : ∀ e, x (ix3 0 0 e) = val (.km g j e)) : Sets R σ₀ val (stKm g j x) fun y => ∃ e, y = .km g j e := by
  intro σ hσ
  have kk : Keeps R (stKm g j x) := keeps_stKm h g j x
  refine ⟨fun b hb => (kk σ b hb).trans (hσ b hb), ?_⟩
  have key : ∀ (X : S4x16x128.Idx → EReal) (g' : Fin 4) (j' : Fin 16) (e : Fin 128),
      over (Rect.unit (s := S4x16x128) (![g, j, 0] : Fin 3 → Nat) S1x1x128.size (inbKm g j)) x X (ix3 g' j' e)
        = if g' = g ∧ j' = j then x (ix3 0 0 e) else X (ix3 g' j' e) := by
    intro X g' j' e
    by_cases h : g' = g ∧ j' = j
    · obtain ⟨rfl, rfl⟩ := h
      rw [if_pos ⟨rfl, rfl⟩]
      refine over_at (s := S4x16x128) _ _ _ _ _ _ (ix3 0 0 e) fun a => ?_
      fin_cases a <;> simp
    · rw [if_neg h]
      by_cases hg : g' = g
      · refine over_off (s := S4x16x128) _ _ _ _ _ _ 1 fun hc => h ⟨hg, ?_⟩
        simp at hc; omega
      · refine over_off (s := S4x16x128) _ _ _ _ _ _ 0 fun hc => hg ?_
        simp at hc; omega
  intro y hy
  rw [run_stKm_eq]
  cases y with
  | km g' j' e =>
    unfold St.cell at hy ⊢
    dsimp only at hy ⊢
    rw [Function.update_self]
    refine (key (σ .km) g' j' e).trans ?_
    by_cases h : g' = g ∧ j' = j
    · refine (if_pos h).trans ?_
      obtain ⟨rfl, rfl⟩ := h
      exact hx e
    · refine (if_neg h).trans ?_
      rcases hy with hy | ⟨r', hy⟩
      · exact hy
      · injection hy with e1 e2 e3
        exact absurd ⟨e1, e2⟩ h
  | kb g' hh' j' r o' d =>
    unfold St.cell at hy ⊢; dsimp only at hy ⊢
    rw [Function.update_of_ne (by simp)]
    exact hy.elim id fun ⟨_, e⟩ => by cases e
  | wq g' hh' d c =>
    unfold St.cell at hy ⊢; dsimp only at hy ⊢
    rw [Function.update_of_ne (by simp)]
    exact hy.elim id fun ⟨_, e⟩ => by cases e
  | vt g' j' e r =>
    unfold St.cell at hy ⊢; dsimp only at hy ⊢
    rw [Function.update_of_ne (by simp)]
    exact hy.elim id fun ⟨_, e⟩ => by cases e
  | out c g' e =>
    unfold St.cell at hy ⊢; dsimp only at hy ⊢
    rw [Function.update_of_ne (by simp)]
    exact hy.elim id fun ⟨_, e⟩ => by cases e

theorem sets_stOut (h : ¬R .out) (g : Fin 4) (x : FVec Ideal S1x256x128 .bf16)
    (hx : ∀ c e, x (ix3 0 c e) = val (.out c g e)) : Sets R σ₀ val (stOut g x) fun y => ∃ c e, y = .out c g e := by
  intro σ hσ
  have kk : Keeps R (stOut g x) := keeps_stOut h g x
  refine ⟨fun b hb => (kk σ b hb).trans (hσ b hb), ?_⟩
  have key : ∀ (X : S1x256x512.Idx → EReal) (c : Fin 256) (g' : Fin 4) (e : Fin 128),
      over (Rect.unit (s := S1x256x512) (![0, 0, (g : Nat) * 128] : Fin 3 → Nat) S1x256x128.size (inbOut g)) x X (ix3 0 c (gcol g' e))
        = if g' = g then x (ix3 0 c e) else X (ix3 0 c (gcol g' e)) := by
    intro X c g' e
    by_cases h : g' = g
    · subst h
      rw [if_pos rfl]
      refine over_at (s := S1x256x512) _ _ _ _ _ _ (ix3 0 c e) fun a => ?_
      fin_cases a <;> simp [gcol]
    · rw [if_neg h]
      refine over_off (s := S1x256x512) _ _ _ _ _ _ 2 fun hc => h ?_
      simp [gcol] at hc; omega
  intro y hy
  rw [run_stOut_eq]
  cases y with
  | out c g' e =>
    unfold St.cell at hy ⊢
    dsimp only at hy ⊢
    rw [Function.update_self]
    refine (key (σ .out) c g' e).trans ?_
    by_cases h : g' = g
    · refine (if_pos h).trans ?_
      subst h
      exact hx c e
    · refine (if_neg h).trans ?_
      rcases hy with hy | ⟨r', d', hy⟩
      · exact hy
      · injection hy with e1 e2 e3
        exact absurd e2 h
  | kb g' hh' j' r o' d =>
    unfold St.cell at hy ⊢; dsimp only at hy ⊢
    rw [Function.update_of_ne (by simp)]
    exact hy.elim id fun ⟨_, _, e⟩ => by cases e
  | km g' j' e =>
    unfold St.cell at hy ⊢; dsimp only at hy ⊢
    rw [Function.update_of_ne (by simp)]
    exact hy.elim id fun ⟨_, _, e⟩ => by cases e
  | vt g' j' e r =>
    unfold St.cell at hy ⊢; dsimp only at hy ⊢
    rw [Function.update_of_ne (by simp)]
    exact hy.elim id fun ⟨_, _, e⟩ => by cases e
  | wq g' hh' d c =>
    unfold St.cell at hy ⊢; dsimp only at hy ⊢
    rw [Function.update_of_ne (by simp)]
    exact hy.elim id fun ⟨_, _, e⟩ => by cases e

/-! ## Loads -/

def kAt (X : S1x4096x512.Idx → EReal) (g : Fin 4) (j : Fin 16) : FVec Ideal S1x256x128 .bf16 := fun x => X (ix3 0 (brow j (x 1)) (gcol g (x 2)))

theorem run_ldK {α : Type} (σ : St Ideal 𝔅) (g : Fin 4) (j : Fin 16) (f : Vec Ideal S1x256x128 .bf16 → Code Ideal 𝔅 α) :
    ((ldK g j).bind f).run σ = (f (kAt (σ .k) g j)).run σ := by
  refine congrArg (fun y => (f y).run σ) (funext fun (x : S1x256x128.Idx) => congrArg (σ .k) (emb_eq (s := S1x4096x512) _ _ _ _ _ fun a => ?_))
  have h0 : (x 0 : Nat) = 0 := by have h : (x 0 : Nat) < 1 := (x 0).isLt; omega
  fin_cases a <;> simp [h0, brow, gcol]

theorem run_ldV {α : Type} (σ : St Ideal 𝔅) (g : Fin 4) (j : Fin 16) (f : Vec Ideal S1x256x128 .bf16 → Code Ideal 𝔅 α) :
    ((ldV g j).bind f).run σ = (f (kAt (σ .v) g j)).run σ := by
  refine congrArg (fun y => (f y).run σ) (funext fun (x : S1x256x128.Idx) => congrArg (σ .v) (emb_eq (s := S1x4096x512) _ _ _ _ _ fun a => ?_))
  have h0 : (x 0 : Nat) = 0 := by have h : (x 0 : Nat) < 1 := (x 0).isLt; omega
  fin_cases a <;> simp [h0, brow, gcol]

def qAt (X : S1x256x512.Idx → EReal) (g : Fin 4) : FVec Ideal S1x256x128 .bf16 := fun x => X (ix3 0 (x 1) (gcol g (x 2)))

theorem run_ldQ {α : Type} (σ : St Ideal 𝔅) (g : Fin 4) (f : Vec Ideal S1x256x128 .bf16 → Code Ideal 𝔅 α) :
    ((ldQ g).bind f).run σ = (f (qAt (σ .q) g)).run σ := by
  refine congrArg (fun y => (f y).run σ) (funext fun (x : S1x256x128.Idx) => congrArg (σ .q) (emb_eq (s := S1x256x512) _ _ _ _ _ fun a => ?_))
  have h0 : (x 0 : Nat) = 0 := by have h : (x 0 : Nat) < 1 := (x 0).isLt; omega
  fin_cases a <;> simp [h0, gcol]

def kmAt (X : S4x16x128.Idx → EReal) (g : Fin 4) (hh : Fin 2) : FVec Ideal S1x16x64 .f32 := fun x => X (ix3 g (x 1) (row hh (x 2)))

theorem run_ldKm {α : Type} (σ : St Ideal 𝔅) (g : Fin 4) (hh : Fin 2) (f : Vec Ideal S1x16x64 .f32 → Code Ideal 𝔅 α) :
    ((ldKmCols g hh).bind f).run σ = (f (kmAt (σ .km) g hh)).run σ := by
  refine congrArg (fun y => (f y).run σ) (funext fun (x : S1x16x64.Idx) => congrArg (σ .km) (emb_eq (s := S4x16x128) _ _ _ _ _ fun a => ?_))
  have h0 : (x 0 : Nat) = 0 := by have h : (x 0 : Nat) < 1 := (x 0).isLt; omega
  fin_cases a <;> simp [h0, row]

theorem sets_ldK (h : R .k) (g : Fin 4) (j : Fin 16) (f : Vec Ideal S1x256x128 .bf16 → Code Ideal 𝔅 PUnit) {D : Cell → Prop}
    (hf : Sets R σ₀ val (f (kAt (σ₀ .k) g j)) D) : Sets R σ₀ val ((ldK g j).bind f) D := by
  intro σ hσ
  rw [run_ldK, hσ .k h]
  exact hf σ hσ

theorem sets_ldV (h : R .v) (g : Fin 4) (j : Fin 16) (f : Vec Ideal S1x256x128 .bf16 → Code Ideal 𝔅 PUnit) {D : Cell → Prop}
    (hf : Sets R σ₀ val (f (kAt (σ₀ .v) g j)) D) : Sets R σ₀ val ((ldV g j).bind f) D := by
  intro σ hσ
  rw [run_ldV, hσ .v h]
  exact hf σ hσ

theorem sets_ldQ (h : R .q) (g : Fin 4) (f : Vec Ideal S1x256x128 .bf16 → Code Ideal 𝔅 PUnit) {D : Cell → Prop}
    (hf : Sets R σ₀ val (f (qAt (σ₀ .q) g)) D) : Sets R σ₀ val ((ldQ g).bind f) D := by
  intro σ hσ
  rw [run_ldQ, hσ .q h]
  exact hf σ hσ

theorem sets_ldKm (h : R .km) (g : Fin 4) (hh : Fin 2) (f : Vec Ideal S1x16x64 .f32 → Code Ideal 𝔅 PUnit) {D : Cell → Prop}
    (hf : Sets R σ₀ val (f (kmAt (σ₀ .km) g hh)) D) : Sets R σ₀ val ((ldKmCols g hh).bind f) D := by
  intro σ hσ
  rw [run_ldKm, hσ .km h]
  exact hf σ hσ

theorem sets_ldAcc (h : R .acc) (g : Fin 4) (hh : Fin 2) (f : Vec Ideal S1x1x64x256 .f32 → Code Ideal 𝔅 PUnit) {D : Cell → Prop}
    (hf : Sets R σ₀ val (f (fun x => St.ac σ₀ g hh (x 2) (x 3))) D) : Sets R σ₀ val ((ldAcc g hh).bind f) D := by
  intro σ hσ
  rw [run_ldAcc]
  have e : (fun x : S1x1x64x256.Idx => St.ac σ g hh (x 2) (x 3)) = fun x => St.ac σ₀ g hh (x 2) (x 3) :=
    funext fun x => congrFun (hσ .acc h) _
  exact (congrArg (fun z => (∀ b, R b → ((f z).run σ).2 b = σ₀ b) ∧ ∀ y, St.cell σ y = val y ∨ D y → St.cell ((f z).run σ).2 y = val y) e).mpr (hf σ hσ)

end Moba
-- ==== Proof.Moba.Gate.lean ====
/-
  The gate: three rounds of removing a column's first maximum mark exactly the past blocks that fewer than three
  blocks come before.
-/
module

public import proofs.«01_k».proof.Proof.Moba.Step

@[expose] public section

noncomputable section

namespace Moba

open Idealize.ShloMosaic Idealize.SL.Sem

/-! ## Rounds on one column -/

/-- Block `m` comes before block `j`. -/
def Bef (g : Fin 16 → EReal) (m j : Fin 16) : Prop := g j < g m ∨ (g m = g j ∧ m < j)

open Classical in
/-- How many blocks come before block `j`. -/
def rank (g : Fin 16 → EReal) (j : Fin 16) : Nat := (Finset.univ.filter fun m => Bef g m j).card

/-- The first finite maximum. -/
def Top (g : Fin 16 → EReal) (j : Fin 16) : Prop := g j ≠ ⊥ ∧ ∀ m, ¬Bef g m j

open Classical in
/-- The column without it. -/
def rest (g : Fin 16 → EReal) (j : Fin 16) : EReal := if Top g j then ⊥ else g j

/-- Marked in one of `n` rounds. -/
def Marked : Nat → (Fin 16 → EReal) → Fin 16 → Prop
  | 0, _, _ => False
  | n + 1, g, j => Top g j ∨ Marked n (rest g) j

theorem Bef.trans {g : Fin 16 → EReal} {a b c : Fin 16} (h : Bef g a b) (k : Bef g b c) : Bef g a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem Bef.irrefl {g : Fin 16 → EReal} {a : Fin 16} : ¬Bef g a a := by
  rintro (h | ⟨-, h⟩)
  · exact lt_irrefl _ h
  · exact lt_irrefl _ h

theorem Bef.total {g : Fin 16 → EReal} (a b : Fin 16) (h : a ≠ b) : Bef g a b ∨ Bef g b a := by
  rcases lt_trichotomy (g a) (g b) with k | k | k
  · exact .inr (.inl k)
  · rcases lt_or_gt_of_ne h with l | l
    · exact .inl (.inr ⟨k, l⟩)
    · exact .inr (.inr ⟨k.symm, l⟩)
  · exact .inl (.inl k)

theorem exists_top (g : Fin 16 → EReal) (j : Fin 16) (hj : g j ≠ ⊥) : ∃ t, Top g t := by
  classical
  haveI : IsTrans (Fin 16) (Bef g) := ⟨fun _ _ _ => Bef.trans⟩
  haveI : Std.Irrefl (Bef g) := ⟨fun _ => Bef.irrefl⟩
  have wf : WellFounded (Bef g) := Finite.wellFounded_of_trans_of_irrefl _
  obtain ⟨t, -, ht⟩ := wf.has_min Set.univ ⟨j, trivial⟩
  refine ⟨t, fun e => ?_, fun m hm => ht m trivial hm⟩
  exact ht j trivial (.inl (by rw [e]; exact bot_lt_iff_ne_bot.mpr hj))

theorem Top.unique {g : Fin 16 → EReal} {s t : Fin 16} (hs : Top g s) (ht : Top g t) : s = t := by
  by_contra h
  rcases Bef.total (g := g) s t h with k | k
  · exact ht.2 _ k
  · exact hs.2 _ k

theorem rank_rest (g : Fin 16 → EReal) (j : Fin 16) (hj : g j ≠ ⊥) (hn : ¬Top g j) : rank g j = rank (rest g) j + 1 := by
  classical
  obtain ⟨t, ht⟩ := exists_top g j hj
  have htj : t ≠ j := fun e => hn (e ▸ ht)
  have e : (Finset.univ.filter fun m => Bef g m j) = insert t (Finset.univ.filter fun m => Bef (rest g) m j) := by
    ext m
    simp only [Finset.mem_filter, Finset.mem_univ, true_and, Finset.mem_insert]
    have rj : rest g j = g j := if_neg hn
    by_cases hm : m = t
    · subst hm
      simp only [true_or, iff_true]
      rcases Bef.total (g := g) m j htj with k | k
      · exact k
      · exact absurd k (ht.2 j)
    · have rm : rest g m = g m := if_neg fun h => hm (h.unique ht)
      unfold Bef
      rw [rj, rm]
      simp [hm]
  have nt : t ∉ (Finset.univ.filter fun m => Bef (rest g) m j) := by
    simp only [Finset.mem_filter, Finset.mem_univ, true_and]
    have rj : rest g j = g j := if_neg hn
    have rt : rest g t = ⊥ := if_pos ht
    rintro (h | ⟨h, -⟩)
    · rw [rt] at h; exact not_lt_bot h
    · rw [rt, rj] at h; exact hj h.symm
  unfold rank
  rw [e, Finset.card_insert_of_notMem nt]

theorem marked_iff (n : Nat) : ∀ (g : Fin 16 → EReal) (j : Fin 16), Marked n g j ↔ g j ≠ ⊥ ∧ rank g j < n := by
  classical
  induction n with
  | zero => intro g j; simp [Marked]
  | succ n ih =>
    intro g j
    unfold Marked
    by_cases ht : Top g j
    · have : rank g j = 0 := by
        unfold rank
        rw [Finset.card_eq_zero, Finset.filter_eq_empty_iff]
        intro m _
        exact ht.2 m
      simp [ht, ht.1, this]
    · have rj : rest g j = g j := if_neg ht
      rw [ih, rj]
      simp only [ht, false_or]
      refine and_congr_right fun hj => ?_
      rw [rank_rest g j hj ht]
      omega

/-! ## The rounds of the code -/

theorem minsi_toInt (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

theorem minsi_or (x y : BitVec 32) : IntOp.minsi x y = x ∨ IntOp.minsi x y = y := by
  unfold IntOp.minsi
  by_cases h : x.slt y
  · exact .inl (if_pos h)
  · exact .inr (if_neg h)

theorem fold_minsi (f : Fin 16 → BitVec 32) (init : BitVec 32) (s : Finset (Fin 16)) :
    (s.fold IntOp.minsi init f).toInt ≤ init.toInt ∧ (∀ x ∈ s, (s.fold IntOp.minsi init f).toInt ≤ (f x).toInt)
      ∧ (s.fold IntOp.minsi init f = init ∨ ∃ x ∈ s, s.fold IntOp.minsi init f = f x) := by
  classical
  induction s using Finset.induction_on with
  | empty => simp
  | insert a s ha ih =>
    rw [Finset.fold_insert ha]
    obtain ⟨h1, h2, h3⟩ := ih
    rw [minsi_toInt]
    refine ⟨by omega, ?_, ?_⟩
    · intro x hx
      rcases Finset.mem_insert.mp hx with rfl | hx
      · omega
      · have := h2 x hx; omega
    · rcases minsi_or (f a) (s.fold IntOp.minsi init f) with h | h
      · rw [h]; exact .inr ⟨a, Finset.mem_insert_self _ _, rfl⟩
      · rw [h]
        rcases h3 with h3 | ⟨x, hx, h3⟩
        · exact .inl h3
        · exact .inr ⟨x, Finset.mem_insert_of_mem hx, h3⟩

theorem toInt_small (j : Fin 16) : (BitVec.ofNat 32 (j : Nat)).toInt = (j : Nat) := by
  have h : ∀ j : Fin 16, (BitVec.ofNat 32 (j : Nat)).toInt = (j : Nat) := by decide
  exact h j

/-- The least number where `P` holds. -/
theorem fold_first (P : Fin 16 → Prop) (f : Fin 16 → BitVec 32) (hp : ∀ x, P x → f x = BitVec.ofNat 32 (x : Nat)) (hn : ∀ x, ¬P x → f x = 16#32) (j : Fin 16) :
    BitVec.ofNat 32 (j : Nat) = Finset.univ.fold IntOp.minsi 2147483647#32 f ↔ P j ∧ ∀ m, m < j → ¬P m := by
  obtain ⟨h1, h2, h3⟩ := fold_minsi f 2147483647#32 Finset.univ
  have e0 : (2147483647#32 : BitVec 32).toInt = 2147483647 := by decide
  have e16 : (16#32 : BitVec 32).toInt = 16 := by decide
  constructor
  · intro h
    rw [← h] at h1 h2 h3
    have ej := toInt_small j
    refine ⟨?_, fun m hm hP => ?_⟩
    · rcases h3 with h3 | ⟨x, -, h3⟩
      · rw [h3, e0] at ej; omega
      · by_cases hx : P x
        · rw [hp x hx] at h3
          have := toInt_small x
          rw [← h3, ej] at this
          have : j = x := Fin.ext (by exact_mod_cast this)
          exact this ▸ hx
        · rw [hn x hx] at h3
          rw [h3, e16] at ej; omega
    · have := h2 m (Finset.mem_univ _)
      rw [hp m hP, ej, toInt_small] at this
      have : (m : Nat) < j := hm
      omega
  · rintro ⟨hj, hm⟩
    have hb := h2 j (Finset.mem_univ _)
    rw [hp j hj, toInt_small] at hb
    rcases h3 with h3 | ⟨x, -, h3⟩
    · rw [h3, e0] at hb; omega
    · by_cases hx : P x
      · rw [hp x hx] at h3
        rw [h3, toInt_small] at hb
        rcases lt_or_eq_of_le (show (x : Nat) ≤ j by omega) with hl | he
        · exact absurd hx (hm x hl)
        · rw [h3, he]
      · rw [hn x hx] at h3
        rw [h3, e16] at hb; omega

theorem bitBot : Ideal.ofBits FTy.f32 4286578688#32 = ⊥ := by simp [Ideal.ofBits, Ideal.ieee]

/-- A column of the gate scores. -/
def colOf (gt : FVec Ideal S16x256 .f32) (c : Fin 256) (j : Fin 16) : EReal := gt (ix2 j c)

theorem ofBool_one (P : Prop) [Decidable P] : BitVec.ofBool (decide P) = 1#1 ↔ P := by
  by_cases h : P <;> simp [h]

theorem pick_apply (gt : FVec Ideal S16x256 .f32) (j : Fin 16) (c : Fin 256) :
    pick gt (ix2 j c) = 1#1 ↔ Top (colOf gt c) j := by
  unfold pick colMax blkId
  pointwise
  rw [bitBot]
  have hmax : ∀ x, gt (ix2 x c) = Finset.fold max ⊥ (fun x : Fin 16 => gt (ix2 x c)) Finset.univ ↔ ∀ m, colOf gt c m ≤ colOf gt c x := by
    intro x
    constructor
    · intro h m
      show gt (ix2 m c) ≤ gt (ix2 x c)
      rw [h]
      exact (Finset.le_fold_max _).mpr (.inr ⟨m, Finset.mem_univ _, le_rfl⟩)
    · intro h
      refine le_antisymm ((Finset.le_fold_max _).mpr (.inr ⟨x, Finset.mem_univ _, le_rfl⟩)) ?_
      exact (Finset.fold_max_le _).mpr ⟨bot_le, fun m _ => h m⟩
  have step := fold_first (fun x => (∀ m, colOf gt c m ≤ colOf gt c x) ∧ ⊥ < colOf gt c x)
    (fun x => Scalar.select (IntOp.andi
              (BitVec.ofBool (decide (gt (ix2 x c) = Finset.fold max ⊥ (fun x : Fin 16 => gt (ix2 x c)) Finset.univ)))
              (BitVec.ofBool (decide (⊥ < gt (ix2 x c))))) (BitVec.ofNat 32 (x : Nat)) 16#32)
    (fun x hx => by
      have a : decide (gt (ix2 x c) = Finset.fold max ⊥ (fun x : Fin 16 => gt (ix2 x c)) Finset.univ) = true := decide_eq_true ((hmax x).mpr hx.1)
      have b : decide (⊥ < gt (ix2 x c)) = true := decide_eq_true hx.2
      rw [a, b]; rfl)
    (fun x hx => by
      by_cases a : ∀ m, colOf gt c m ≤ colOf gt c x
      · have b : decide (⊥ < gt (ix2 x c)) = false := decide_eq_false fun h => hx ⟨a, h⟩
        rw [b]
        cases decide (gt (ix2 x c) = Finset.fold max ⊥ (fun x : Fin 16 => gt (ix2 x c)) Finset.univ) <;> rfl
      · have b : decide (gt (ix2 x c) = Finset.fold max ⊥ (fun x : Fin 16 => gt (ix2 x c)) Finset.univ) = false := decide_eq_false fun h => a ((hmax x).mp h)
        rw [b]
        cases decide (⊥ < gt (ix2 x c)) <;> rfl) j
  have eqb : ∀ x y : BitVec 32, IntOp.cmpi CmpIPredicate.eq x y = 1#1 ↔ x = y := by
    intro x y
    show BitVec.ofBool (x == y) = 1#1 ↔ _
    cases hb : (x == y) <;> simp_all
  rw [eqb]
  refine step.trans ?_
  unfold Top Bef
  constructor
  · rintro ⟨⟨h1, h2⟩, h3⟩
    refine ⟨bot_lt_iff_ne_bot.mp h2, fun m => ?_⟩
    rintro (h | ⟨h, h'⟩)
    · exact absurd (h1 m) (not_le.mpr h)
    · exact h3 m h' ⟨fun n => h ▸ h1 n, h ▸ h2⟩
  · rintro ⟨h1, h2⟩
    have h2' : ∀ m, colOf gt c m ≤ colOf gt c j := fun m => not_lt.mp fun h => h2 m (.inl h)
    refine ⟨⟨h2', bot_lt_iff_ne_bot.mpr h1⟩, ?_⟩
    rintro m hm ⟨h3, h4⟩
    exact h2 m (.inr ⟨le_antisymm (h2' m) (h3 j), hm⟩)

theorem bit_cases (x : BitVec 1) : x = 1#1 ∨ x = 0#1 := by
  have h : ∀ x : BitVec 1, x = 1#1 ∨ x = 0#1 := by decide
  exact h x

theorem pickRest_col (gt : FVec Ideal S16x256 .f32) (c : Fin 256) : colOf (pickRest gt) c = rest (colOf gt c) := by
  funext j
  have e : pickRest gt (ix2 j c) = Scalar.select (pick gt (ix2 j c)) ⊥ (gt (ix2 j c)) := by
    unfold pickRest
    pointwise
    rw [bitBot]
  show pickRest gt (ix2 j c) = _
  rw [e]
  unfold rest
  by_cases h : Top (colOf gt c) j
  · rw [(pick_apply gt j c).mpr h, if_pos h]; rfl
  · rw [if_neg h]
    rcases bit_cases (pick gt (ix2 j c)) with k | k
    · exact absurd ((pick_apply gt j c).mp k) h
    · rw [k]; rfl

theorem pickSel_pos (gt sel : FVec Ideal S16x256 .f32) (j : Fin 16) (c : Fin 256) :
    0 < pickSel gt sel (ix2 j c) ↔ Top (colOf gt c) j ∨ 0 < sel (ix2 j c) := by
  have e : pickSel gt sel (ix2 j c) = Scalar.select (pick gt (ix2 j c)) 1 (sel (ix2 j c)) := by
    unfold pickSel
    pointwise
    try rfl
  rw [e]
  by_cases h : Top (colOf gt c) j
  · rw [(pick_apply gt j c).mpr h]
    simp only [h, true_or, iff_true]
    exact zero_lt_one
  · rcases bit_cases (pick gt (ix2 j c)) with k | k
    · exact absurd ((pick_apply gt j c).mp k) h
    · rw [k]; simp only [h, false_or]; rfl

theorem selOf_pos (gt : FVec Ideal S16x256 .f32) (j : Fin 16) (c : Fin 256) : 0 < selOf gt (ix2 j c) ↔ Marked 3 (colOf gt c) j := by
  unfold selOf
  rw [pickSel_pos, pickSel_pos, pickSel_pos, pickRest_col, pickRest_col]
  have z : (broadcast S16x256 (Scalar.ofBits .f32 0x00000000#32) : FVec Ideal S16x256 .f32) (ix2 j c) = (0 : EReal) := by
    pointwise
    try rfl
  rw [z]
  simp only [Marked, lt_irrefl, or_false]
  tauto

/-- A head's gate scores. -/
def gateCol (b : Fin 16) (km : FVec Ideal S16x64 .f32) (qh : FVec Ideal S64x256 .f32) (c : Fin 256) (j : Fin 16) : EReal :=
  if j < b then ∑ x : Fin 64, km (ix2 j x) * qh (ix2 x c) else ⊥

theorem slt_small (j b : Fin 16) : IntOp.cmpi CmpIPredicate.slt (BitVec.ofNat 32 (j : Nat)) (BitVec.ofNat 32 (b : Nat)) = BitVec.ofBool (decide (j < b)) := by
  have h : ∀ j b : Fin 16, IntOp.cmpi CmpIPredicate.slt (BitVec.ofNat 32 (j : Nat)) (BitVec.ofNat 32 (b : Nat)) = BitVec.ofBool (decide (j < b)) := by decide
  exact h j b

theorem eq_small (j b : Fin 16) : IntOp.cmpi CmpIPredicate.eq (BitVec.ofNat 32 (j : Nat)) (BitVec.ofNat 32 (b : Nat)) = BitVec.ofBool (decide (j = b)) := by
  have h : ∀ j b : Fin 16, IntOp.cmpi CmpIPredicate.eq (BitVec.ofNat 32 (j : Nat)) (BitVec.ofNat 32 (b : Nat)) = BitVec.ofBool (decide (j = b)) := by decide
  exact h j b

theorem gateOf_apply (b : Fin 16) (km : FVec Ideal S16x64 .f32) (qh : FVec Ideal S64x256 .f32) (c : Fin 256) :
    colOf (gateOf (BitVec.ofNat 32 (b : Nat)) km qh) c = gateCol b km qh c := by
  funext j
  show gateOf (BitVec.ofNat 32 (b : Nat)) km qh (ix2 j c) = _
  unfold gateOf blkId gateCol
  pointwise [dotGate]
  rw [bitBot, slt_small]
  by_cases h : j < b
  · rw [if_pos h, decide_eq_true h]; rfl
  · rw [if_neg h, decide_eq_false h]; rfl

theorem wq0 (neg lge : EReal) (qb : BitVec 32) (km : FVec Ideal S16x64 .f32) (qh : FVec Ideal S64x256 .f32) (d : Fin 64) (c : Fin 256) :
    wqOf (F := Ideal) neg lge qb km qh (ix2 ⟨d, by omega⟩ c) = qh (ix2 d c) * lge := by
  unfold wqOf
  pointwise
  done

open Classical in
/-- Whether a head's query at `c` attends to block `j`. -/
def Kept (b : Fin 16) (g : Fin 16 → EReal) (j : Fin 16) : Prop := (g j ≠ ⊥ ∧ rank g j < 3) ∨ j = b

open Classical in
theorem wq1 (neg lge : EReal) (b : Fin 16) (km : FVec Ideal S16x64 .f32) (qh : FVec Ideal S64x256 .f32) (d : Fin 16) (c : Fin 256) :
    wqOf (F := Ideal) neg lge (BitVec.ofNat 32 (b : Nat)) km qh (ix2 ⟨64 + d, by omega⟩ c) = if Kept b (gateCol b km qh c) d then 0 else neg := by
  unfold wqOf blkId
  pointwise
  rw [eq_small]
  have e := selOf_pos (gateOf (BitVec.ofNat 32 (b : Nat)) km qh) d c
  rw [gateOf_apply, marked_iff] at e
  unfold Kept
  rw [← e]
  by_cases h1 : 0 < selOf (gateOf (BitVec.ofNat 32 (b : Nat)) km qh) (ix2 d c)
  · rw [decide_eq_true h1, if_pos (.inl h1)]
    cases decide (d = b) <;> rfl
  · rw [decide_eq_false h1]
    by_cases h2 : d = b
    · rw [decide_eq_true h2, if_pos (.inr h2)]; rfl
    · rw [decide_eq_false h2, if_neg (not_or.mpr ⟨h1, h2⟩)]; rfl

theorem wq2 (neg lge : EReal) (qb : BitVec 32) (km : FVec Ideal S16x64 .f32) (qh : FVec Ideal S64x256 .f32) (d : Fin 48) (c : Fin 256) :
    wqOf (F := Ideal) neg lge qb km qh (ix2 ⟨80 + d, by omega⟩ c) = if d = 0 then neg else 0 := by
  unfold wqOf
  pointwise
  rw [dif_neg (by omega), dif_neg (by omega)]
  have h : ∀ d : Fin 48, IntOp.cmpi CmpIPredicate.eq (BitVec.ofNat 32 (80 + (d : Nat) - 64 - 16)) 0#32 = BitVec.ofBool (decide (d = 0)) := by decide
  rw [h d]
  by_cases h : d = 0
  · rw [if_pos h, decide_eq_true h]; rfl
  · rw [if_neg h, decide_eq_false h]; rfl

theorem qtOf_apply (x : FVec Ideal S1x256x128 .bf16) (d : Fin 128) (c : Fin 256) : qtOf x (ix2 d c) = x (ix3 0 c d) * ((1 / 8 : ℝ) : EReal) := by
  unfold qtOf
  pointwise
  rw [show Ideal.ofBits FTy.f32 1040187392#32 = ((1 / 8 : ℝ) : EReal) by simp [Ideal.ofBits, Ideal.ieee]; rw [← EReal.coe_mul]; norm_num]

end Moba
-- ==== Proof.Moba.Fill2.lean ====
/-
  The contents of the key and value scratch, the extended queries and the output, cell by cell.
-/
module

public import proofs.«01_k».proof.Proof.Moba.Fill
public import proofs.«01_k».proof.Proof.Moba.Gate

@[expose] public section

noncomputable section

namespace Moba

open Idealize.ShloMosaic Idealize.SL.Sem

variable {R : Buf → Prop} {σ₀ : St Ideal 𝔅}

/-! ## The scratch -/

/-- What the filling writes. -/
def fillVal (K V : S1x4096x512.Idx → EReal) : Cell → EReal
  | .kb g hh j r o d =>
    if o = 0 then (if h : (j : Nat) < 16 then K (ix3 0 (brow ⟨j, h⟩ r) (gcol g (row hh d))) else 0) else if (d : Nat) = j then 1 else 0
  | .vt g j e r => if h : (j : Nat) < 16 then V (ix3 0 (brow ⟨j, h⟩ r) (gcol g e)) else 0
  | .km g j e => Ideal.div (∑ r : Fin 256, K (ix3 0 (brow j r) (gcol g e))) ((256 : ℝ) : EReal)
  | .wq _ _ _ _ => 0
  | .out _ _ _ => 0

theorem fillVal_kb (K V : S1x4096x512.Idx → EReal) (g : Fin 4) (hh : Fin 2) (j : Fin 16) (r : Fin 256) (d : Fin 64) :
    fillVal K V (.kb g hh j.castSucc r 0 d) = K (ix3 0 (brow j r) (gcol g (row hh d))) := by
  unfold fillVal
  dsimp only
  rw [if_pos rfl, dif_pos (by simp)]
  rfl

theorem fillVal_vt (K V : S1x4096x512.Idx → EReal) (g : Fin 4) (j : Fin 16) (e : Fin 128) (r : Fin 256) :
    fillVal K V (.vt g j.castSucc e r) = V (ix3 0 (brow j r) (gcol g e)) := by
  unfold fillVal
  dsimp only
  rw [dif_pos (by simp)]
  rfl

theorem hot_apply (j : Fin 17) (r : Fin 256) (d : Fin 64) :
    (shapeCast S1x1x1x256x64 (oneHot (F := Ideal) j) (by decide) : FVec Ideal S1x1x1x256x64 .bf16) (ix5 0 0 0 r d) = if (d : Nat) = j then (1 : EReal) else 0 := by
  unfold oneHot
  pointwise
  have h : ∀ (d : Fin 64) (j : Fin 17), IntOp.cmpi CmpIPredicate.eq (BitVec.ofNat 32 (d : Nat)) (BitVec.ofNat 32 (j : Nat)) = BitVec.ofBool (decide ((d : Nat) = j)) := by decide
  rw [h]
  by_cases h : (d : Nat) = j
  · rw [if_pos h, decide_eq_true h]; rfl
  · rw [if_neg h, decide_eq_false h]; rfl

theorem sets_fillHot (h : ¬R .kb) (K V : S1x4096x512.Idx → EReal) (g : Fin 4) (j : Fin 17) :
    Sets R σ₀ (fillVal K V) (fillHot g j) fun y => ∃ hh r d, y = .kb g hh j r 1 d := by
  refine Sets.weaken ((sets_stKb h g 0 j 1 _ fun r d => ?_).bind (sets_stKb h g 1 j 1 _ fun r d => ?_)) ?_
  · exact hot_apply j r d
  · exact hot_apply j r d
  · rintro y ⟨hh, r, d, rfl⟩
    fin_cases hh
    · exact .inl ⟨r, d, rfl⟩
    · exact .inr ⟨r, d, rfl⟩

theorem keyLo (x : FVec Ideal S1x256x128 .bf16) (r : Fin 256) (d : Fin 64) :
    (shapeCast S1x1x1x256x64 (truncf .bf16 (extractStridedSlice S256x64 ![0, 0] (extf .f32 (shapeCast S256x128 x (by decide)) (by decide) : FVec Ideal S256x128 .f32) (by decide)) (by decide)) (by decide) : FVec Ideal S1x1x1x256x64 .bf16) (ix5 0 0 0 r d)
      = x (ix3 0 r (row 0 d)) := by
  pointwise
  exact congrArg x (congrArg (ix3 0 r) (Fin.ext (by simp [row])))

theorem keyHi (x : FVec Ideal S1x256x128 .bf16) (r : Fin 256) (d : Fin 64) :
    (shapeCast S1x1x1x256x64 (truncf .bf16 (extractStridedSlice S256x64 ![0, 64] (extf .f32 (shapeCast S256x128 x (by decide)) (by decide) : FVec Ideal S256x128 .f32) (by decide)) (by decide)) (by decide) : FVec Ideal S1x1x1x256x64 .bf16) (ix5 0 0 0 r d)
      = x (ix3 0 r (row 1 d)) := by
  pointwise
  exact congrArg x (congrArg (ix3 0 r) (Fin.ext (by simp [row])))

theorem meanAt (x : FVec Ideal S1x256x128 .bf16) (e : Fin 128) :
    (shapeCast S1x1x128 (divf (shapeCast S1x128 (multiReduction .add [0] S128 (extf .f32 (shapeCast S256x128 x (by decide)) (by decide) : FVec Ideal S256x128 .f32) 0x00000000#32 (by decide) (.inl rfl) rfl) (by decide))
    (broadcast S1x128 (Scalar.ofBits .f32 0x43800000#32))) (by decide) : FVec Ideal S1x1x128 .f32) (ix3 0 0 e)
      = Ideal.div (∑ r : Fin 256, x (ix3 0 r e)) ((256 : ℝ) : EReal) := by
  pointwise
  rw [show Ideal.ofBits FTy.f32 1132462080#32 = ((256 : ℝ) : EReal) by simp [Ideal.ofBits, Ideal.ieee]; rw [← EReal.coe_mul]; norm_num]

theorem valAt (x : FVec Ideal S1x256x128 .bf16) (e : Fin 128) (r : Fin 256) :
    (shapeCast S1x1x128x256 (truncf .bf16 (transpose S128x256 [1, 0]
    (extf .f32 (shapeCast S256x128 x (by decide)) (by decide) : FVec Ideal S256x128 .f32) (by decide)) (by decide)) (by decide) : FVec Ideal S1x1x128x256 .bf16) (ix4 0 0 e r)
      = x (ix3 0 r e) := by
  pointwise
  done

theorem sets_fillBlock (hk : R .k) (hv : R .v) (h1 : ¬R .kb) (h2 : ¬R .vt) (h3 : ¬R .km) (g : Fin 4) (j : Fin 16) :
    Sets R σ₀ (fillVal (σ₀ .k) (σ₀ .v)) (fillBlock g j) fun y =>
      (∃ hh r d, y = .kb g hh j.castSucc r 0 d) ∨ (∃ e, y = .km g j e) ∨ ∃ e r, y = .vt g j.castSucc e r := by
  unfold fillBlock
  refine sets_ldK hk g j _ ?_
  refine Sets.weaken ((sets_stKb h1 g 0 j.castSucc 0 _ fun r d => ?_).bind ((sets_stKb h1 g 1 j.castSucc 0 _ fun r d => ?_).bind
    ((sets_stKm h3 g j _ fun e => ?_).bind (sets_ldV hv g j _ (sets_stVt h2 g j.castSucc _ fun e r => ?_))))) ?_
  · exact (keyLo _ r d).trans (fillVal_kb _ _ g 0 j r d).symm
  · exact (keyHi _ r d).trans (fillVal_kb _ _ g 1 j r d).symm
  · exact meanAt _ e
  · exact (valAt _ e r).trans (fillVal_vt _ _ g j e r).symm
  · rintro y (⟨hh, r, d, rfl⟩ | ⟨e, rfl⟩ | ⟨e, r, rfl⟩)
    · fin_cases hh
      · exact .inl ⟨r, d, rfl⟩
      · exact .inr (.inl ⟨r, d, rfl⟩)
    · exact .inr (.inr (.inl ⟨e, rfl⟩))
    · exact .inr (.inr (.inr ⟨e, r, rfl⟩))

theorem zeroKb (r : Fin 256) (d : Fin 64) :
    (shapeCast S1x1x1x256x64 (broadcast S256x64 (Scalar.ofBits .bf16 0x0000#16 : Ideal .bf16)) (by decide) : FVec Ideal S1x1x1x256x64 .bf16) (ix5 0 0 0 r d) = (0 : EReal) := by
  pointwise
  try rfl

theorem zeroVt (e : Fin 128) (r : Fin 256) :
    (shapeCast S1x1x128x256 (broadcast S128x256 (Scalar.ofBits .bf16 0x0000#16 : Ideal .bf16)) (by decide) : FVec Ideal S1x1x128x256 .bf16) (ix4 0 0 e r) = (0 : EReal) := by
  pointwise
  try rfl

theorem sets_fillPad (h1 : ¬R .kb) (h2 : ¬R .vt) (K V : S1x4096x512.Idx → EReal) (g : Fin 4) :
    Sets R σ₀ (fillVal K V) (fillPad g) fun y => (∃ hh r d, y = .kb g hh 16 r 0 d) ∨ ∃ e r, y = .vt g 16 e r := by
  unfold fillPad
  refine Sets.weaken ((sets_stKb h1 g 0 16 0 _ fun r d => ?_).bind ((sets_stKb h1 g 1 16 0 _ fun r d => ?_).bind
    (sets_stVt h2 g 16 _ fun e r => ?_))) ?_
  · exact (zeroKb r d).trans rfl
  · exact (zeroKb r d).trans rfl
  · exact (zeroVt e r).trans rfl
  · rintro y (⟨hh, r, d, rfl⟩ | ⟨e, r, rfl⟩)
    · fin_cases hh
      · exact .inl ⟨r, d, rfl⟩
      · exact .inr (.inl ⟨r, d, rfl⟩)
    · exact .inr (.inr ⟨e, r, rfl⟩)

/-- The cells of the scratch of a group. -/
def InGroup (g : Fin 4) (y : Cell) : Prop :=
  (∃ hh j r o d, y = .kb g hh j r o d) ∨ (∃ j e, y = .km g j e) ∨ ∃ j e r, y = .vt g j e r

theorem mem16 (j : Fin 16) : j ∈ ([0, 1, 2, 3, 4, 5, 6, 7, 8, 9, 10, 11, 12, 13, 14, 15] : List (Fin 16)) := by
  have h : ∀ j : Fin 16, j ∈ ([0, 1, 2, 3, 4, 5, 6, 7, 8, 9, 10, 11, 12, 13, 14, 15] : List (Fin 16)) := by decide
  exact h j

theorem mem17 (j : Fin 17) : j ∈ ([0, 1, 2, 3, 4, 5, 6, 7, 8, 9, 10, 11, 12, 13, 14, 15, 16] : List (Fin 17)) := by
  have h : ∀ j : Fin 17, j ∈ ([0, 1, 2, 3, 4, 5, 6, 7, 8, 9, 10, 11, 12, 13, 14, 15, 16] : List (Fin 17)) := by decide
  exact h j

theorem sets_fillGroup (hk : R .k) (hv : R .v) (h1 : ¬R .kb) (h2 : ¬R .vt) (h3 : ¬R .km) (g : Fin 4) :
    Sets R σ₀ (fillVal (σ₀ .k) (σ₀ .v)) (fillGroup g) (InGroup g) := by
  refine Sets.weaken ((Sets.each (fun j => sets_fillHot h1 (σ₀ .k) (σ₀ .v) g j) _).bind
    ((Sets.each (fun j => sets_fillBlock hk hv h1 h2 h3 g j) _).bind (sets_fillPad h1 h2 (σ₀ .k) (σ₀ .v) g))) ?_
  rintro y (⟨hh, j, r, o, d, rfl⟩ | ⟨j, e, rfl⟩ | ⟨j, e, r, rfl⟩)
  · fin_cases o
    · induction j using Fin.lastCases with
      | last => exact .inr (.inr (.inl ⟨hh, r, d, rfl⟩))
      | cast j => exact .inr (.inl ⟨j, mem16 j, .inl ⟨hh, r, d, rfl⟩⟩)
    · exact .inl ⟨j, mem17 j, hh, r, d, rfl⟩
  · exact .inr (.inl ⟨j, mem16 j, .inr (.inl ⟨e, rfl⟩)⟩)
  · induction j using Fin.lastCases with
    | last => exact .inr (.inr (.inr ⟨e, r, rfl⟩))
    | cast j => exact .inr (.inl ⟨j, mem16 j, .inr (.inr ⟨e, r, rfl⟩)⟩)

theorem sets_fill (hk : R .k) (hv : R .v) (h1 : ¬R .kb) (h2 : ¬R .vt) (h3 : ¬R .km) :
    Sets R σ₀ (fillVal (σ₀ .k) (σ₀ .v)) fill fun y => ∃ g, InGroup g y := by
  refine Sets.weaken ((sets_fillGroup hk hv h1 h2 h3 0).bind ((sets_fillGroup hk hv h1 h2 h3 1).bind
    ((sets_fillGroup hk hv h1 h2 h3 2).bind (sets_fillGroup hk hv h1 h2 h3 3)))) ?_
  rintro y ⟨g, h⟩
  fin_cases g
  · exact .inl h
  · exact .inr (.inl h)
  · exact .inr (.inr (.inl h))
  · exact .inr (.inr (.inr h))

/-- The scratch holds what the filling writes. -/
structure Filled (K V : S1x4096x512.Idx → EReal) (σ : St Ideal 𝔅) : Prop where
  kb : ∀ g hh j r o d, σ .kb (ix5 g hh j r (row o d)) = fillVal K V (.kb g hh j r o d)
  vt : ∀ g j e r, σ .vt (ix4 g j e r) = fillVal K V (.vt g j e r)
  km : ∀ g j e, σ .km (ix3 g j e) = fillVal K V (.km g j e)

theorem filled_fill (σ : St Ideal 𝔅) : Filled (σ .k) (σ .v) ((fill (F := Ideal)).run σ).2 := by
  have h := sets_fill (R := fun b => b = .k ∨ b = .v) (σ₀ := σ) (.inl rfl) (.inr rfl) (by simp) (by simp) (by simp) σ fun _ _ => rfl
  exact ⟨fun g hh j r o d => h.2 (.kb g hh j r o d) (.inr ⟨g, .inl ⟨hh, j, r, o, d, rfl⟩⟩),
    fun g j e r => h.2 (.vt g j e r) (.inr ⟨g, .inr (.inr ⟨j, e, r, rfl⟩)⟩), fun g j e => h.2 (.km g j e) (.inr ⟨g, .inr (.inl ⟨j, e, rfl⟩)⟩)⟩

/-! ## The extended queries -/

/-- A head's queries, and its block means, as the gate reads them. -/
def qhOf (Q : S1x256x512.Idx → EReal) (g : Fin 4) (hh : Fin 2) : FVec Ideal S64x256 .f32 :=
  extractStridedSlice S64x256 ![(hh : Nat) * 64, 0] (qtOf (F := Ideal) (qAt Q g)) (slicesQ hh)

def kmOf (M : S4x16x128.Idx → EReal) (g : Fin 4) (hh : Fin 2) : FVec Ideal S16x64 .f32 := shapeCast S16x64 (kmAt M g hh) (by decide)

/-- What the gates write. -/
def gateVal (neg lge : EReal) (qb : BitVec 32) (Q : S1x256x512.Idx → EReal) (M : S4x16x128.Idx → EReal) : Cell → EReal
  | .wq g hh d c => wqOf (F := Ideal) neg lge qb (kmOf M g hh) (qhOf Q g hh) (ix2 d c)
  | _ => 0

theorem castWq (x : FVec Ideal S128x256 .bf16) (d : Fin 128) (c : Fin 256) :
    (shapeCast S1x1x128x256 x (by decide) : FVec Ideal S1x1x128x256 .bf16) (ix4 0 0 d c) = x (ix2 d c) := by
  pointwise
  done

theorem sets_gateHead (hm : R .km) (h : ¬R .wq) (neg lge : EReal) (qb : BitVec 32) (Q : S1x256x512.Idx → EReal) (g : Fin 4) (hh : Fin 2) :
    Sets R σ₀ (gateVal neg lge qb Q (σ₀ .km)) (gateHead (F := Ideal) neg lge qb g hh (qtOf (F := Ideal) (qAt Q g))) fun y => ∃ d c, y = .wq g hh d c := by
  unfold gateHead
  exact sets_ldKm hm g hh _ (sets_stWq h g hh _ fun d c => castWq _ d c)

theorem sets_gateGroup (hq : R .q) (hm : R .km) (h : ¬R .wq) (neg lge : EReal) (qb : BitVec 32) (g : Fin 4) :
    Sets R σ₀ (gateVal neg lge qb (σ₀ .q) (σ₀ .km)) (gateGroup (F := Ideal) neg lge qb g) fun y => ∃ hh d c, y = .wq g hh d c := by
  unfold gateGroup
  refine sets_ldQ hq g _ (Sets.weaken ((sets_gateHead hm h neg lge qb (σ₀ .q) g 0).bind (sets_gateHead hm h neg lge qb (σ₀ .q) g 1)) ?_)
  rintro y ⟨hh, d, c, rfl⟩
  fin_cases hh
  · exact .inl ⟨d, c, rfl⟩
  · exact .inr ⟨d, c, rfl⟩

theorem gates_we (neg lge : EReal) (qb : BitVec 32) (σ : St Ideal 𝔅) (g : Fin 4) (hh : Fin 2) (d : Fin 128) (c : Fin 256) :
    St.we ((gates (F := Ideal) neg lge qb).run σ).2 g hh d c = wqOf (F := Ideal) neg lge qb (kmOf (σ .km) g hh) (qhOf (σ .q) g hh) (ix2 d c) := by
  have hG := fun g => sets_gateGroup (R := fun b => b = .q ∨ b = .km) (σ₀ := σ) (.inl rfl) (.inr rfl) (by simp) neg lge qb g
  have hS := ((hG 0).bind ((hG 1).bind ((hG 2).bind (hG 3)))) σ fun _ _ => rfl
  refine hS.2 (.wq g hh d c) (.inr ?_)
  fin_cases g
  · exact .inl ⟨hh, d, c, rfl⟩
  · exact .inr (.inl ⟨hh, d, c, rfl⟩)
  · exact .inr (.inr (.inl ⟨hh, d, c, rfl⟩))
  · exact .inr (.inr (.inr ⟨hh, d, c, rfl⟩))

theorem qhOf_apply (Q : S1x256x512.Idx → EReal) (g : Fin 4) (hh : Fin 2) (d : Fin 64) (c : Fin 256) :
    qhOf Q g hh (ix2 d c) = Q (ix3 0 c (gcol g (row hh d))) * ((1 / 8 : ℝ) : EReal) := by
  have e : qhOf Q g hh (ix2 d c) = qtOf (F := Ideal) (qAt Q g) (ix2 (row hh d) c) := by
    unfold qhOf
    pointwise
    exact congrArg (qtOf (F := Ideal) (qAt Q g)) (by rfl)
  rw [e, qtOf_apply]
  rfl

theorem kmOf_apply (M : S4x16x128.Idx → EReal) (g : Fin 4) (hh : Fin 2) (j : Fin 16) (d : Fin 64) :
    kmOf M g hh (ix2 j d) = M (ix3 g j (row hh d)) := by
  unfold kmOf
  pointwise
  rfl

/-! ## The output -/

/-- What the output stage writes. -/
def outVal (l : Heads (FVec Ideal S1x256 .f32)) (σ : St Ideal 𝔅) : Cell → EReal
  | .out c g e => outOf (F := Ideal) (l.get g 0) (l.get g 1) (fun x => St.ac σ g 0 (x 2) (x 3)) (fun x => St.ac σ g 1 (x 2) (x 3)) (ix2 c e)
  | _ => 0

theorem castOut (x : FVec Ideal S256x128 .bf16) (c : Fin 256) (e : Fin 128) :
    (shapeCast S1x256x128 x (by decide) : FVec Ideal S1x256x128 .bf16) (ix3 0 c e) = x (ix2 c e) := by
  pointwise
  done

theorem sets_outGroup (ha : R .acc) (h : ¬R .out) (l : Heads (FVec Ideal S1x256 .f32)) (g : Fin 4) :
    Sets R σ₀ (outVal l σ₀) (outGroup (F := Ideal) (l.get g 0) (l.get g 1) g) fun y => ∃ c e, y = .out c g e := by
  unfold outGroup
  exact sets_ldAcc ha g 0 _ (sets_ldAcc ha g 1 _ (sets_stOut h g _ fun c e => castOut _ c e))

theorem outOf_lo (l0 l1 : FVec Ideal S1x256 .f32) (a0 a1 : FVec Ideal S1x1x64x256 .f32) (c : Fin 256) (d : Fin 64) :
    outOf l0 l1 a0 a1 (ix2 c (row 0 d)) = Ideal.div (a0 (ix4 0 0 d c)) (l0 (ix2 0 c)) := by
  have e : row 0 d = (⟨d, by omega⟩ : Fin 128) := Fin.ext (by simp [row])
  rw [e]
  unfold outOf
  pointwise
  done

theorem outOf_hi (l0 l1 : FVec Ideal S1x256 .f32) (a0 a1 : FVec Ideal S1x1x64x256 .f32) (c : Fin 256) (d : Fin 64) :
    outOf l0 l1 a0 a1 (ix2 c (row 1 d)) = Ideal.div (a1 (ix4 0 0 d c)) (l1 (ix2 0 c)) := by
  have e : row 1 d = (⟨64 + d, by omega⟩ : Fin 128) := Fin.ext (by simp [row])
  rw [e]
  unfold outOf
  pointwise
  done

theorem outs_out (l : Heads (FVec Ideal S1x256 .f32)) (σ : St Ideal 𝔅) (c : Fin 256) (g : Fin 4) (hh : Fin 2) (d : Fin 64) :
    ((outs (F := Ideal) l).run σ).2 .out (ix3 0 c (gcol g (row hh d))) = Ideal.div (St.ac σ g hh d c) (l.get g hh (ix2 0 c)) := by
  have hG := fun g => sets_outGroup (R := fun b => b = .acc) (σ₀ := σ) rfl (by simp) l g
  have hS := ((hG 0).bind ((hG 1).bind ((hG 2).bind (hG 3)))) σ fun _ _ => rfl
  have h := hS.2 (.out c g (row hh d)) (.inr (by
    fin_cases g
    · exact .inl ⟨c, _, rfl⟩
    · exact .inr (.inl ⟨c, _, rfl⟩)
    · exact .inr (.inr (.inl ⟨c, _, rfl⟩))
    · exact .inr (.inr (.inr ⟨c, _, rfl⟩))))
  refine h.trans ?_
  unfold outVal
  dsimp only
  fin_cases hh
  · exact outOf_lo _ _ _ _ c d
  · exact outOf_hi _ _ _ _ c d

end Moba
-- ==== Proof.Moba.Soft.lean ====
/-
  The online softmax of the block attention kernel over the extended reals: the running sum and the accumulator are,
  up to the one factor that the running maximum sets, the sum of the visited weights and the weighted sum of the
  visited values.
-/
module

public import proofs.«01_k».proof.Proof.Moba.Step

@[expose] public section

noncomputable section

namespace Moba

open Idealize.ShloMosaic Idealize.SL.Sem

/-! ## Weights -/

/-- A score's weight. -/
def wt (s : EReal) : ℝ := if s = ⊥ then 0 else (2 : ℝ) ^ s.toReal

theorem wt_bot : wt ⊥ = 0 := by simp [wt]

theorem wt_coe (x : ℝ) : wt (x : EReal) = (2 : ℝ) ^ x := by simp [wt]

theorem wt_nonneg (s : EReal) : 0 ≤ wt s := by
  unfold wt; split
  · exact le_refl _
  · exact Real.rpow_nonneg (by norm_num) _

theorem exp2_sub (s : EReal) (hs : s < ⊤) (μ : ℝ) : Ideal.exp2 (s - (μ : EReal)) = (((2 : ℝ) ^ (-μ) * wt s : ℝ) : EReal) := by
  induction s with
  | bot => rw [EReal.bot_sub, Ideal.exp2_bot, wt_bot, mul_zero]; rfl
  | top => exact absurd hs (lt_irrefl _)
  | coe x =>
    rw [← EReal.coe_sub, Ideal.exp2_coe, wt_coe]
    congr 1
    show (2 : ℝ) ^ (x - μ) = _
    rw [← Real.rpow_add (by norm_num)]
    congr 1; ring

theorem exp2_coe' (x : ℝ) : Ideal.exp2 (x : EReal) = (((2 : ℝ) ^ x : ℝ) : EReal) := Ideal.exp2_coe x

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## What a stage holds -/

/-- The scores of every head against one block. -/
abbrev Scores : Type := Fin 4 → Fin 2 → Fin 256 → Fin 256 → EReal

/-- The slot holds the scores against two blocks. -/
def Held (σ : St Ideal 𝔅) (sl : Slot) (a b : Scores) : Prop :=
  ∀ g hh r c, St.sc σ sl g hh 0 r c = a g hh r c ∧ St.sc σ sl g hh 1 r c = b g hh r c

/-- What stays as it is through the loop: every block's scores without the bias, and every block's values. -/
structure Env (σ : St Ideal 𝔅) (S : Nat → Scores) (V : Fin 4 → Fin 2 → Nat → Fin 64 → Fin 256 → ℝ) : Prop where
  score : ∀ g hh (j : Fin 17) r c, ∑ d : Fin 128, St.ke σ g hh j r d * St.we σ g hh d c = S j g hh r c
  value : ∀ g hh (j : Fin 17) d r, St.va σ g hh j d r = (V g hh j d r : EReal)

theorem Env.of_keeps {σ τ : St Ideal 𝔅} {S : Nat → Scores} {V : Fin 4 → Fin 2 → Nat → Fin 64 → Fin 256 → ℝ} (h : Env σ S V)
    (h1 : τ .kb = σ .kb) (h2 : τ .wq = σ .wq) (h3 : τ .vt = σ .vt) : Env τ S V := by
  constructor
  · intro g hh j r c
    rw [← h.score g hh j r c]
    unfold St.ke St.we
    rw [h1, h2]
  · intro g hh j d r
    rw [← h.value g hh j d r]
    unfold St.va
    rw [h3]

/-- A block's weights' sum, for a head's column. -/
def wsum (s : Scores) (g : Fin 4) (hh : Fin 2) (c : Fin 256) : ℝ := ∑ r, wt (s g hh r c)

/-- A block's weighted values' sum, for a head's column. -/
def vsum (s : Scores) (v : Fin 64 → Fin 256 → ℝ) (g : Fin 4) (hh : Fin 2) (c : Fin 256) (d : Fin 64) : ℝ := ∑ r, v d r * wt (s g hh r c)

/-- A head's running maximum, sum and accumulator stand for the weights' sum `U` and the weighted values' sum `A`. -/
def Stat (σ : St Ideal 𝔅) (m l : FVec Ideal S1x256 .f32) (g : Fin 4) (hh : Fin 2) (U : Fin 256 → ℝ) (A : Fin 256 → Fin 64 → ℝ) : Prop :=
  ∀ c, ∃ μ : ℝ, m (ix2 0 c) = (μ : EReal) ∧ l (ix2 0 c) = (((2 : ℝ) ^ (-μ) * U c : ℝ) : EReal)
    ∧ ∀ d, St.ac σ g hh d c = (((2 : ℝ) ^ (-μ) * A c d : ℝ) : EReal)

/-- Scores below the top. -/
def Low (s : Scores) : Prop := ∀ g hh r c, s g hh r c < ⊤

/-- Column maxima below the top. -/
def LowMax (x : FVec Ideal S1x256 .f32) : Prop := ∀ c, x (ix2 0 c) < ⊤

/-- Column maxima that are real. -/
def RealMax (x : FVec Ideal S1x256 .f32) : Prop := ∀ c, ∃ μ : ℝ, x (ix2 0 c) = (μ : EReal)

/-! ## A head's scores -/

theorem St.sc_congr {σ τ : St Ideal 𝔅} (sl : Slot) (h0 : τ .s0 = σ .s0) (h1 : τ .s1 = σ .s1) : St.sc τ sl = St.sc σ sl := by
  funext g hh w r c
  cases sl
  · exact congrFun h0 _
  · exact congrFun h1 _

theorem run_ret {α : Type} (a : α) (σ : St Ideal 𝔅) : (Code.ret a : Code Ideal 𝔅 α).run σ = (a, σ) := rfl

theorem putScore_run (σ : St Ideal 𝔅) (sl : Slot) (g : Fin 4) (hh : Fin 2) (st : FVec Ideal S512x256 .f32) (a b : Fin 256 → Fin 256 → EReal)
    (ha : ∀ (r c : Fin 256), st (ix2 (⟨r, by omega⟩ : Fin 512) c) = a r c) (hb : ∀ (r c : Fin 256), st (ix2 (⟨256 + r, by omega⟩ : Fin 512) c) = b r c) :
    (∀ r c, St.sc ((putScore sl g hh st).run σ).2 sl g hh 0 r c = a r c ∧ St.sc ((putScore sl g hh st).run σ).2 sl g hh 1 r c = b r c)
    ∧ (∀ sl' g' hh' w r c, ¬(sl' = sl ∧ g' = g ∧ hh' = hh) → St.sc ((putScore sl g hh st).run σ).2 sl' g' hh' w r c = St.sc σ sl' g' hh' w r c)
    ∧ (∀ c, ((putScore sl g hh st).run σ).1 (ix2 0 c) = Finset.univ.fold max ⊥ fun ρ : Fin 512 => st (ix2 ρ c)) := by
  unfold putScore
  rw [Code.run_bind, Code.run_bind, run_ret]
  dsimp only
  refine ⟨fun r c => ⟨?_, ?_⟩, fun sl' g' hh' w r c h => ?_, fun c => ?_⟩
  · rw [run_stS, if_neg (by simp), run_stS, if_pos ⟨rfl, rfl, rfl, rfl⟩, win0, ha]
  · rw [run_stS, if_pos ⟨rfl, rfl, rfl, rfl⟩, win1, hb]
  · rw [run_stS, if_neg (fun k => h ⟨k.1, k.2.1, k.2.2.1⟩), run_stS, if_neg (fun k => h ⟨k.1, k.2.1, k.2.2.1⟩)]
  · exact colMax_apply st c

theorem fold_low (f : Fin 512 → EReal) (h : ∀ ρ, f ρ < ⊤) : Finset.univ.fold max ⊥ f < ⊤ :=
  (Finset.fold_max_lt _).mpr ⟨bot_lt_top, fun ρ _ => h ρ⟩

theorem split512 (p : Fin 512 → Prop) (h0 : ∀ r : Fin 256, p ⟨r, by omega⟩) (h1 : ∀ r : Fin 256, p ⟨256 + r, by omega⟩) (ρ : Fin 512) : p ρ := by
  by_cases h : (ρ : Nat) < 256
  · exact h0 ⟨ρ, h⟩
  · have e : ρ = ⟨256 + ((⟨ρ - 256, by omega⟩ : Fin 256) : Nat), by simp; omega⟩ := Fin.ext (by simp; omega)
    rw [e]; exact h1 _

variable {S : Nat → Scores} {V : Fin 4 → Fin 2 → Nat → Fin 64 → Fin 256 → ℝ}

theorem scoreHead_run (hS : ∀ j, Low (S j)) (σ : St Ideal 𝔅) (hE : Env σ S V) (sl : Slot) (ja jb : BitVec 32) (ha : ja.toNat < 17) (hb : jb.toNat < 17)
    (g : Fin 4) (hh : Fin 2) :
    (∀ r c, St.sc ((scoreHead sl ja jb ha hb g hh).run σ).2 sl g hh 0 r c = S ja.toNat g hh r c
        ∧ St.sc ((scoreHead sl ja jb ha hb g hh).run σ).2 sl g hh 1 r c = S jb.toNat g hh r c)
    ∧ (∀ sl' g' hh' w r c, ¬(sl' = sl ∧ g' = g ∧ hh' = hh) →
        St.sc ((scoreHead sl ja jb ha hb g hh).run σ).2 sl' g' hh' w r c = St.sc σ sl' g' hh' w r c)
    ∧ LowMax ((scoreHead sl ja jb ha hb g hh).run σ).1 := by
  unfold scoreHead
  rw [run_ldKb, run_ldKb, run_ldWq]
  have h0 : ∀ (r c : Fin 256), scoreOf (F := Ideal) (fun x => St.ke σ g hh ⟨_, ha⟩ (x 3) (x 4)) (fun x => St.ke σ g hh ⟨_, hb⟩ (x 3) (x 4)) (fun x => St.we σ g hh (x 2) (x 3))
      (ix2 (⟨r, by omega⟩ : Fin 512) c) = S ja.toNat g hh r c := fun r c => (scoreOf_lo _ _ _ r c).trans (hE.score g hh _ r c)
  have h1 : ∀ (r c : Fin 256), scoreOf (F := Ideal) (fun x => St.ke σ g hh ⟨_, ha⟩ (x 3) (x 4)) (fun x => St.ke σ g hh ⟨_, hb⟩ (x 3) (x 4)) (fun x => St.we σ g hh (x 2) (x 3))
      (ix2 (⟨256 + r, by omega⟩ : Fin 512) c) = S jb.toNat g hh r c := fun r c => (scoreOf_hi _ _ _ r c).trans (hE.score g hh _ r c)
  have k := putScore_run σ sl g hh _ _ _ h0 h1
  refine ⟨k.1, k.2.1, fun c => ?_⟩
  rw [k.2.2 c]
  refine fold_low _ (split512 _ (fun r => ?_) fun r => ?_)
  · rw [h0]; exact hS _ _ _ _ _
  · rw [h1]; exact hS _ _ _ _ _

/-- The bias of the kernel's two tiles, at a head. -/
def St.bi (σ : St Ideal 𝔅) (w : Fin 2) : Scores := fun g hh r c => σ .bias (ix4 (headNo g hh) w r c)

/-- A tile of the bias. -/
def biasVec (σ : St Ideal 𝔅) (h : Fin 8) (w : Fin 2) : FVec Ideal S1x1x256x256 .f32 := fun x => (σ .bias (ix4 h w (x 2) (x 3)) : EReal)

theorem biasCat_lo (b0 b1 : FVec Ideal S1x1x256x256 .f32) (r c : Fin 256) :
    (concatenate S512x256 0 [⟨S256x256, shapeCast S256x256 b0 (by decide)⟩, ⟨S256x256, shapeCast S256x256 b1 (by decide)⟩] catS : FVec Ideal S512x256 .f32)
      (ix2 (⟨r, by omega⟩ : Fin 512) c) = b0 (ix4 0 0 r c) := by
  pointwise
  done

theorem biasCat_hi (b0 b1 : FVec Ideal S1x1x256x256 .f32) (r c : Fin 256) :
    (concatenate S512x256 0 [⟨S256x256, shapeCast S256x256 b0 (by decide)⟩, ⟨S256x256, shapeCast S256x256 b1 (by decide)⟩] catS : FVec Ideal S512x256 .f32)
      (ix2 (⟨256 + r, by omega⟩ : Fin 512) c) = b1 (ix4 0 0 r c) := by
  pointwise
  done

theorem addf_at {s : Shape} (x y : FVec Ideal s .f32) (i : s.Idx) : addf x y i = x i + y i := rfl

theorem scoreHeadB_run (σ : St Ideal 𝔅) (hE : Env σ S V) (sl : Slot) (ja jb : BitVec 32) (ha : ja.toNat < 17) (hb : jb.toNat < 17)
    (A B : Scores) (hA : Low A) (hB : Low B) (hR : ∀ g hh c, ∃ r, A g hh r c ≠ ⊥)
    (eA : ∀ g hh r c, S ja.toNat g hh r c + St.bi σ 0 g hh r c = A g hh r c)
    (eB : ∀ g hh r c, S jb.toNat g hh r c + St.bi σ 1 g hh r c = B g hh r c)
    (g : Fin 4) (hh : Fin 2) :
    (∀ r c, St.sc ((scoreHeadB sl ja jb ha hb g hh).run σ).2 sl g hh 0 r c = A g hh r c
        ∧ St.sc ((scoreHeadB sl ja jb ha hb g hh).run σ).2 sl g hh 1 r c = B g hh r c)
    ∧ (∀ sl' g' hh' w r c, ¬(sl' = sl ∧ g' = g ∧ hh' = hh) →
        St.sc ((scoreHeadB sl ja jb ha hb g hh).run σ).2 sl' g' hh' w r c = St.sc σ sl' g' hh' w r c)
    ∧ RealMax ((scoreHeadB sl ja jb ha hb g hh).run σ).1 := by
  unfold scoreHeadB
  rw [run_ldKb, run_ldKb, run_ldWq, run_ldBias, run_ldBias]
  set T : FVec Ideal S512x256 .f32 := addf (scoreOf (F := Ideal) (fun x => St.ke σ g hh ⟨_, ha⟩ (x 3) (x 4)) (fun x => St.ke σ g hh ⟨_, hb⟩ (x 3) (x 4)) (fun x => St.we σ g hh (x 2) (x 3)))
    (concatenate S512x256 0 [⟨S256x256, shapeCast S256x256 (biasVec σ (headNo g hh) 0) (by decide)⟩,
      ⟨S256x256, shapeCast S256x256 (biasVec σ (headNo g hh) 1) (by decide)⟩] catS) with hT
  have h0 : ∀ (r c : Fin 256), T (ix2 (⟨r, by omega⟩ : Fin 512) c) = A g hh r c := by
    intro r c
    rw [hT, addf_at, scoreOf_lo, biasCat_lo, ← eA]; exact congrArg (· + σ.bi 0 g hh r c) (hE.score g hh ⟨_, ha⟩ r c)
  have h1 : ∀ (r c : Fin 256), T (ix2 (⟨256 + r, by omega⟩ : Fin 512) c) = B g hh r c := by
    intro r c
    rw [hT, addf_at, scoreOf_hi, biasCat_hi, ← eB]; exact congrArg (· + σ.bi 1 g hh r c) (hE.score g hh ⟨_, hb⟩ r c)
  have k := putScore_run σ sl g hh T _ _ h0 h1
  refine ⟨k.1, k.2.1, fun c => ?_⟩
  have lo : (Finset.univ.fold max ⊥ fun ρ : Fin 512 => T (ix2 ρ c)) < ⊤ := by
    refine fold_low _ (split512 _ (fun r => ?_) fun r => ?_)
    · rw [h0]; exact hA _ _ _ _
    · rw [h1]; exact hB _ _ _ _
  have hi : ⊥ < (Finset.univ.fold max ⊥ fun ρ : Fin 512 => T (ix2 ρ c)) := by
    obtain ⟨r, hr⟩ := hR g hh c
    exact (Finset.lt_fold_max _).mpr (.inr ⟨⟨r, by omega⟩, Finset.mem_univ _, by rw [h0]; exact bot_lt_iff_ne_bot.mpr hr⟩)
  exact ⟨_, (k.2.2 c).trans (EReal.coe_toReal lo.ne hi.ne').symm⟩

/-! ## A head's softmax steps -/

theorem run_st_ret {α : Type} (g : Fin 4) (hh : Fin 2) (x : FVec Ideal S1x1x64x256 .f32) (a : α) (σ : St Ideal 𝔅) :
    ((stAcc g hh x).bind fun _ => .ret a).run σ = (a, ((stAcc g hh x).run σ).2) := by
  rw [Code.run_bind, run_ret]

/-- The scores of a window, as the softmax step reads them. -/
def winOf (f : Fin 256 → Fin 256 → EReal) : FVec Ideal S1x1x256x256 .f32 := fun x => f (x 2) (x 3)

theorem expOf_winOf (f : Fin 256 → Fin 256 → EReal) (m : FVec Ideal S1x256 .f32) (r c : Fin 256) (μ : ℝ) (hm : m (ix2 0 c) = (μ : EReal)) (hf : f r c < ⊤) :
    expOf (winOf f) m (ix2 r c) = (((2 : ℝ) ^ (-μ) * wt (f r c) : ℝ) : EReal) := by
  rw [expOf_apply, hm]
  exact exp2_sub _ hf μ

theorem colSum_winOf (f : Fin 256 → Fin 256 → EReal) (m : FVec Ideal S1x256 .f32) (c : Fin 256) (μ : ℝ) (hm : m (ix2 0 c) = (μ : EReal)) (hf : ∀ r c, f r c < ⊤) :
    colSum (expOf (winOf f) m) (ix2 0 c) = (((2 : ℝ) ^ (-μ) * ∑ r, wt (f r c) : ℝ) : EReal) := by
  rw [colSum_apply, Finset.mul_sum, ← coe_sum]
  exact Finset.sum_congr rfl fun r _ => expOf_winOf f m r c μ hm (hf r c)

/-- The values of a block, as the softmax step reads them. -/
def valOf (v : Fin 64 → Fin 256 → EReal) : FVec Ideal S1x1x64x256 .bf16 := fun x => v (x 2) (x 3)

theorem pv_winOf (f0 f1 : Fin 256 → Fin 256 → EReal) (m : FVec Ideal S1x256 .f32) (c : Fin 256) (μ : ℝ) (hm : m (ix2 0 c) = (μ : EReal))
    (h0 : ∀ r c, f0 r c < ⊤) (h1 : ∀ r c, f1 r c < ⊤) (v0 v1 : Fin 64 → Fin 256 → ℝ) (d : Fin 64) :
    pvOf (expOf (winOf f0) m) (expOf (winOf f1) m) (valOf fun d r => (v0 d r : EReal)) (valOf fun d r => (v1 d r : EReal)) (ix2 d c)
      = (((2 : ℝ) ^ (-μ) * (∑ r, v0 d r * wt (f0 r c) + ∑ r, v1 d r * wt (f1 r c)) : ℝ) : EReal) := by
  rw [pvOf_apply, mul_add, EReal.coe_add, Finset.mul_sum, Finset.mul_sum, ← coe_sum, ← coe_sum]
  congr 1
  · refine Finset.sum_congr rfl fun r _ => ?_
    rw [expOf_winOf f0 m r c μ hm (h0 r c)]
    show (v0 d r : EReal) * _ = _
    rw [← EReal.coe_mul]; congr 1; ring
  · refine Finset.sum_congr rfl fun r _ => ?_
    rw [expOf_winOf f1 m r c μ hm (h1 r c)]
    show (v1 d r : EReal) * _ = _
    rw [← EReal.coe_mul]; congr 1; ring

theorem attendHead0_run (σ : St Ideal 𝔅) (hE : Env σ S V) (sl : Slot) (ja jb : BitVec 32) (ha : ja.toNat < 17) (hb : jb.toNat < 17)
    (cm : Heads (FVec Ideal S1x256 .f32)) (A B : Scores) (hA : Low A) (hB : Low B) (hH : Held σ sl A B) (g : Fin 4) (hh : Fin 2) (hm : RealMax (cm.get g hh)) :
    Stat ((attendHead0 sl ja jb ha hb cm g hh).run σ).2 (cm.get g hh) ((attendHead0 sl ja jb ha hb cm g hh).run σ).1 g hh
      (fun c => wsum A g hh c + wsum B g hh c)
      (fun c d => vsum A (V g hh ja.toNat) g hh c d + vsum B (V g hh jb.toNat) g hh c d) := by
  unfold attendHead0
  rw [run_ldS, run_ldS, run_ldVt, run_ldVt, run_st_ret]
  have e0 : (fun x => St.sc σ sl g hh 0 (x 2) (x 3) : FVec Ideal S1x1x256x256 .f32) = winOf fun r c => A g hh r c := funext fun x => (hH g hh _ _).1
  have e1 : (fun x => St.sc σ sl g hh 1 (x 2) (x 3) : FVec Ideal S1x1x256x256 .f32) = winOf fun r c => B g hh r c := funext fun x => (hH g hh _ _).2
  have e2 : (fun x => St.va σ g hh ⟨_, ha⟩ (x 2) (x 3) : FVec Ideal S1x1x64x256 .bf16) = valOf fun d r => (V g hh ja.toNat d r : EReal) := funext fun x => hE.value _ _ _ _ _
  have e3 : (fun x => St.va σ g hh ⟨_, hb⟩ (x 2) (x 3) : FVec Ideal S1x1x64x256 .bf16) = valOf fun d r => (V g hh jb.toNat d r : EReal) := funext fun x => hE.value _ _ _ _ _
  intro c
  obtain ⟨μ, hμ⟩ := hm c
  refine ⟨μ, hμ, ?_, fun d => ?_⟩
  · dsimp only
    rw [addf_at]
    erw [e0, e1]
    rw [colSum_winOf _ _ c μ hμ (hA g hh), colSum_winOf _ _ c μ hμ (hB g hh), ← EReal.coe_add, ← mul_add]
    rfl
  · dsimp only
    rw [run_stAcc, if_pos ⟨rfl, rfl⟩, cast22]
    erw [e0, e1, e2, e3]
    rw [pv_winOf _ _ _ c μ hμ (hA g hh) (hB g hh)]
    rfl

theorem attendHead_run (σ : St Ideal 𝔅) (hE : Env σ S V) (sl : Slot) (ja jb : BitVec 32) (ha : ja.toNat < 17) (hb : jb.toNat < 17)
    (cm m l : Heads (FVec Ideal S1x256 .f32)) (A B : Scores) (hA : Low A) (hB : Low B) (hH : Held σ sl A B) (g : Fin 4) (hh : Fin 2)
    (hm : LowMax (cm.get g hh)) (U : Fin 256 → ℝ) (W : Fin 256 → Fin 64 → ℝ) (hs : Stat σ (m.get g hh) (l.get g hh) g hh U W) :
    Stat ((attendHead sl ja jb ha hb cm m l g hh).run σ).2 ((attendHead sl ja jb ha hb cm m l g hh).run σ).1.1
      ((attendHead sl ja jb ha hb cm m l g hh).run σ).1.2 g hh
      (fun c => U c + (wsum A g hh c + wsum B g hh c))
      (fun c d => W c d + (vsum A (V g hh ja.toNat) g hh c d + vsum B (V g hh jb.toNat) g hh c d)) := by
  unfold attendHead
  rw [run_ldS, run_ldS, run_ldVt, run_ldVt, run_ldAcc, run_st_ret]
  have e0 : (fun x => St.sc σ sl g hh 0 (x 2) (x 3) : FVec Ideal S1x1x256x256 .f32) = winOf fun r c => A g hh r c := funext fun x => (hH g hh _ _).1
  have e1 : (fun x => St.sc σ sl g hh 1 (x 2) (x 3) : FVec Ideal S1x1x256x256 .f32) = winOf fun r c => B g hh r c := funext fun x => (hH g hh _ _).2
  have e2 : (fun x => St.va σ g hh ⟨_, ha⟩ (x 2) (x 3) : FVec Ideal S1x1x64x256 .bf16) = valOf fun d r => (V g hh ja.toNat d r : EReal) := funext fun x => hE.value _ _ _ _ _
  have e3 : (fun x => St.va σ g hh ⟨_, hb⟩ (x 2) (x 3) : FVec Ideal S1x1x64x256 .bf16) = valOf fun d r => (V g hh jb.toNat d r : EReal) := funext fun x => hE.value _ _ _ _ _
  intro c
  obtain ⟨μ, hμ, hl, hac⟩ := hs c
  obtain ⟨ν, hν⟩ : ∃ ν : ℝ, maximumf (m.get g hh) (cm.get g hh) (ix2 0 c) = (ν : EReal) := by
    have e : maximumf (m.get g hh) (cm.get g hh) (ix2 0 c) = max (μ : EReal) (cm.get g hh (ix2 0 c)) := by rw [← hμ]; rfl
    refine ⟨_, e.trans (EReal.coe_toReal (max_lt (EReal.coe_lt_top μ) (hm c)).ne ?_).symm⟩
    exact (lt_of_lt_of_le (EReal.bot_lt_coe μ) (le_max_left _ _)).ne'
  have hx : exp2 (subf (m.get g hh) (maximumf (m.get g hh) (cm.get g hh))) (ix2 0 c) = (((2 : ℝ) ^ (μ - ν) : ℝ) : EReal) := by
    show Ideal.exp2 (m.get g hh (ix2 0 c) - maximumf (m.get g hh) (cm.get g hh) (ix2 0 c)) = _
    rw [hμ, hν, ← EReal.coe_sub, exp2_coe']
  have hp : (2 : ℝ) ^ (μ - ν) * (2 : ℝ) ^ (-μ) = (2 : ℝ) ^ (-ν) := by
    rw [← Real.rpow_add (by norm_num)]; congr 1; ring
  refine ⟨ν, hν, ?_, fun d => ?_⟩
  · dsimp only
    rw [addf_at, addf_at]
    erw [e0, e1]
    rw [colSum_winOf _ _ c ν hν (hA g hh), colSum_winOf _ _ c ν hν (hB g hh), ← EReal.coe_add, ← mul_add]
    show exp2 (subf (m.get g hh) (maximumf (m.get g hh) (cm.get g hh))) (ix2 0 c) * l.get g hh (ix2 0 c) + _ = _
    rw [hx, hl, ← EReal.coe_mul, ← EReal.coe_add, ← mul_assoc, hp, ← mul_add]
    rfl
  · dsimp only
    rw [run_stAcc, if_pos ⟨rfl, rfl⟩, cast22, addf_at]
    erw [e0, e1, e2, e3]
    rw [pv_winOf _ _ _ c ν hν (hA g hh) (hB g hh)]
    have hq : (mulf (shapeCast S64x256 (fun x => St.ac σ g hh (x 2) (x 3) : FVec Ideal S1x1x64x256 .f32) (by decide))
        (broadcastTo S64x256 (exp2 (subf (m.get g hh) (maximumf (m.get g hh) (cm.get g hh)))) (by decide)) : FVec Ideal S64x256 .f32) (ix2 d c)
        = St.ac σ g hh d c * exp2 (subf (m.get g hh) (maximumf (m.get g hh) (cm.get g hh))) (ix2 0 c) := by
      generalize exp2 (subf (m.get g hh) (maximumf (m.get g hh) (cm.get g hh))) = Y
      pointwise
      done
    erw [hq]
    rw [hx, hac d, ← EReal.coe_mul, ← EReal.coe_add, mul_comm ((2 : ℝ) ^ (-μ) * W c d), ← mul_assoc, hp, ← mul_add]
    rfl

end Moba
-- ==== Proof.Moba.Loop.lean ====
/-
  The stages of the block attention kernel over all heads: the start, the double trips of the pipelined loop and the
  last step, as sums over the blocks attended to.
-/
module

public import proofs.«01_k».proof.Proof.Moba.Soft

@[expose] public section

noncomputable section

namespace Moba

open Idealize.ShloMosaic Idealize.SL.Sem

variable {S : Nat → Scores} {V : Fin 4 → Fin 2 → Nat → Fin 64 → Fin 256 → ℝ}

/-! ## All heads of a stage -/

/-- The buffers neither the scores nor the softmax steps write. -/
def Buf.IsEnv : Buf → Prop
  | .kb | .wq | .vt | .bias => True
  | _ => False

theorem Env.keeps {α : Type} {σ : St Ideal 𝔅} {p : Code Ideal 𝔅 α} (hE : Env σ S V) (h : Keeps Buf.IsEnv p) : Env (p.run σ).2 S V :=
  hE.of_keeps (h σ .kb True.intro) (h σ .wq True.intro) (h σ .vt True.intro)

theorem St.ac_congr {σ τ : St Ideal 𝔅} (h : τ .acc = σ .acc) : St.ac τ = St.ac σ := by
  funext g hh d c
  exact congrFun h _

theorem scores_run (hS : ∀ j, Low (S j)) (σ : St Ideal 𝔅) (hE : Env σ S V) (sl : Slot) (ja jb : BitVec 32) (ha : ja.toNat < 17) (hb : jb.toNat < 17) :
    Env ((forHeads (scoreHead (F := Ideal) sl ja jb ha hb)).run σ).2 S V
    ∧ Held ((forHeads (scoreHead (F := Ideal) sl ja jb ha hb)).run σ).2 sl (S ja.toNat) (S jb.toNat)
    ∧ (∀ sl', sl' ≠ sl → St.sc ((forHeads (scoreHead (F := Ideal) sl ja jb ha hb)).run σ).2 sl' = St.sc σ sl')
    ∧ (∀ g hh, LowMax (((forHeads (scoreHead (F := Ideal) sl ja jb ha hb)).run σ).1.get g hh)) := by
  have k := forHeads_spec (scoreHead (F := Ideal) sl ja jb ha hb) (fun τ => Env τ S V ∧ ∀ sl', sl' ≠ sl → St.sc τ sl' = St.sc σ sl') (fun _ _ _ => True)
    (fun g hh a τ => (∀ r c, St.sc τ sl g hh 0 r c = S ja.toNat g hh r c ∧ St.sc τ sl g hh 1 r c = S jb.toNat g hh r c) ∧ LowMax a)
    (fun g hh τ hI _ => by
      have q := scoreHead_run hS τ hI.1 sl ja jb ha hb g hh
      refine ⟨⟨hI.1.keeps (keeps_scoreHead id id _ _ _ _ _ _ _), fun sl' h => ?_⟩, q.1, q.2.2⟩
      rw [← hI.2 sl' h]
      funext g' hh' w r c
      exact q.2.1 sl' g' hh' w r c fun k => h k.1)
    (fun _ _ _ _ _ _ _ => True.intro)
    (fun g hh g' hh' a τ h hp => ⟨fun r c => by
      have hk : ∀ w, St.sc ((scoreHead (F := Ideal) sl ja jb ha hb g hh).run τ).2 sl g' hh' w r c = St.sc τ sl g' hh' w r c := by
        intro w
        unfold scoreHead
        rw [run_ldKb, run_ldKb, run_ldWq]
        exact (putScore_run τ sl g hh _ _ _ (fun _ _ => rfl) (fun _ _ => rfl)).2.1 sl g' hh' w r c fun k => h k.2
      rw [hk, hk]; exact hp.1 r c, hp.2⟩)
    σ ⟨hE, fun _ _ => rfl⟩ (fun _ _ => True.intro)
  exact ⟨k.1.1, fun g hh r c => (k.2 g hh).1 r c, k.1.2, fun g hh => (k.2 g hh).2⟩

theorem scoresB_run (σ : St Ideal 𝔅) (hE : Env σ S V) (sl : Slot) (ja jb : BitVec 32) (ha : ja.toNat < 17) (hb : jb.toNat < 17)
    (A B : Scores) (hA : Low A) (hB : Low B) (hR : ∀ g hh c, ∃ r, A g hh r c ≠ ⊥)
    (eA : ∀ g hh r c, S ja.toNat g hh r c + St.bi σ 0 g hh r c = A g hh r c)
    (eB : ∀ g hh r c, S jb.toNat g hh r c + St.bi σ 1 g hh r c = B g hh r c) :
    Env ((forHeads (scoreHeadB (F := Ideal) sl ja jb ha hb)).run σ).2 S V
    ∧ Held ((forHeads (scoreHeadB (F := Ideal) sl ja jb ha hb)).run σ).2 sl A B
    ∧ (∀ g hh, RealMax (((forHeads (scoreHeadB (F := Ideal) sl ja jb ha hb)).run σ).1.get g hh)) := by
  have k := forHeads_spec (scoreHeadB (F := Ideal) sl ja jb ha hb) (fun τ => Env τ S V ∧ τ .bias = σ .bias) (fun _ _ _ => True)
    (fun g hh a τ => (∀ r c, St.sc τ sl g hh 0 r c = A g hh r c ∧ St.sc τ sl g hh 1 r c = B g hh r c) ∧ RealMax a)
    (fun g hh τ hI _ => by
      have hbi : ∀ w, St.bi τ w = St.bi σ w := by intro w; funext g hh r c; exact congrFun hI.2 _
      have q := scoreHeadB_run τ hI.1 sl ja jb ha hb A B hA hB hR (fun g hh r c => by rw [hbi]; exact eA g hh r c)
        (fun g hh r c => by rw [hbi]; exact eB g hh r c) g hh
      exact ⟨⟨hI.1.keeps (keeps_scoreHeadB id id _ _ _ _ _ _ _),
        (keeps_scoreHeadB (R := Buf.IsEnv) id id _ _ _ _ _ _ _ τ .bias True.intro).trans hI.2⟩, q.1, q.2.2⟩)
    (fun _ _ _ _ _ _ _ => True.intro)
    (fun g hh g' hh' a τ h hp => ⟨fun r c => by
      have hk : ∀ w, St.sc ((scoreHeadB (F := Ideal) sl ja jb ha hb g hh).run τ).2 sl g' hh' w r c = St.sc τ sl g' hh' w r c := by
        intro w
        unfold scoreHeadB
        rw [run_ldKb, run_ldKb, run_ldWq, run_ldBias, run_ldBias]
        exact (putScore_run τ sl g hh _ _ _ (fun _ _ => rfl) (fun _ _ => rfl)).2.1 sl g' hh' w r c fun k => h k.2
      rw [hk, hk]; exact hp.1 r c, hp.2⟩)
    σ ⟨hE, rfl⟩ (fun _ _ => True.intro)
  exact ⟨k.1.1, fun g hh r c => (k.2 g hh).1 r c, fun g hh => (k.2 g hh).2⟩

theorem Stat.congr {σ τ : St Ideal 𝔅} {m l : FVec Ideal S1x256 .f32} {g : Fin 4} {hh : Fin 2} {U : Fin 256 → ℝ} {A : Fin 256 → Fin 64 → ℝ}
    (h : ∀ d c, St.ac τ g hh d c = St.ac σ g hh d c) (hs : Stat σ m l g hh U A) : Stat τ m l g hh U A := by
  intro c
  obtain ⟨μ, h1, h2, h3⟩ := hs c
  exact ⟨μ, h1, h2, fun d => (h d c).trans (h3 d)⟩

/-- What the softmax steps leave alone. -/
def Buf.IsSlot : Buf → Prop
  | .s0 | .s1 => True
  | _ => False

theorem attend0_run (σ : St Ideal 𝔅) (hE : Env σ S V) (sl : Slot) (ja jb : BitVec 32) (ha : ja.toNat < 17) (hb : jb.toNat < 17)
    (cm : Heads (FVec Ideal S1x256 .f32)) (A B : Scores) (hA : Low A) (hB : Low B) (hH : Held σ sl A B) (hm : ∀ g hh, RealMax (cm.get g hh)) :
    Env ((forHeads (attendHead0 (F := Ideal) sl ja jb ha hb cm)).run σ).2 S V
    ∧ (∀ sl', St.sc ((forHeads (attendHead0 (F := Ideal) sl ja jb ha hb cm)).run σ).2 sl' = St.sc σ sl')
    ∧ ∀ g hh, Stat ((forHeads (attendHead0 (F := Ideal) sl ja jb ha hb cm)).run σ).2 (cm.get g hh)
        (((forHeads (attendHead0 (F := Ideal) sl ja jb ha hb cm)).run σ).1.get g hh) g hh
        (fun c => wsum A g hh c + wsum B g hh c) (fun c d => vsum A (V g hh ja.toNat) g hh c d + vsum B (V g hh jb.toNat) g hh c d) := by
  have k := forHeads_spec (attendHead0 (F := Ideal) sl ja jb ha hb cm) (fun τ => Env τ S V ∧ ∀ sl', St.sc τ sl' = St.sc σ sl') (fun _ _ _ => True)
    (fun g hh a τ => Stat τ (cm.get g hh) a g hh (fun c => wsum A g hh c + wsum B g hh c)
      (fun c d => vsum A (V g hh ja.toNat) g hh c d + vsum B (V g hh jb.toNat) g hh c d))
    (fun g hh τ hI _ => by
      refine ⟨⟨hI.1.keeps (keeps_attendHead0 id _ _ _ _ _ _ _ _), fun sl' => ?_⟩, ?_⟩
      · rw [← hI.2 sl']
        exact St.sc_congr sl' (keeps_attendHead0 (R := Buf.IsSlot) id _ _ _ _ _ _ _ _ τ .s0 True.intro) (keeps_attendHead0 (R := Buf.IsSlot) id _ _ _ _ _ _ _ _ τ .s1 True.intro)
      · exact attendHead0_run τ hI.1 sl ja jb ha hb cm A B hA hB (fun g hh r c => by rw [hI.2 sl]; exact hH g hh r c) g hh (hm g hh))
    (fun _ _ _ _ _ _ _ => True.intro)
    (fun g hh g' hh' a τ h hp => hp.congr fun d c => by
      unfold attendHead0
      rw [run_ldS, run_ldS, run_ldVt, run_ldVt, run_st_ret]
      dsimp only
      rw [run_stAcc, if_neg h])
    σ ⟨hE, fun _ => rfl⟩ (fun _ _ => True.intro)
  exact ⟨k.1.1, k.1.2, k.2⟩

theorem attend_run (σ : St Ideal 𝔅) (hE : Env σ S V) (sl : Slot) (ja jb : BitVec 32) (ha : ja.toNat < 17) (hb : jb.toNat < 17)
    (cm m l : Heads (FVec Ideal S1x256 .f32)) (A B : Scores) (hA : Low A) (hB : Low B) (hH : Held σ sl A B) (hm : ∀ g hh, LowMax (cm.get g hh))
    (U : Fin 4 → Fin 2 → Fin 256 → ℝ) (W : Fin 4 → Fin 2 → Fin 256 → Fin 64 → ℝ)
    (hs : ∀ g hh, Stat σ (m.get g hh) (l.get g hh) g hh (U g hh) (W g hh)) :
    Env ((forHeads (attendHead (F := Ideal) sl ja jb ha hb cm m l)).run σ).2 S V
    ∧ (∀ sl', St.sc ((forHeads (attendHead (F := Ideal) sl ja jb ha hb cm m l)).run σ).2 sl' = St.sc σ sl')
    ∧ ∀ g hh, Stat ((forHeads (attendHead (F := Ideal) sl ja jb ha hb cm m l)).run σ).2
        (((forHeads (attendHead (F := Ideal) sl ja jb ha hb cm m l)).run σ).1.get g hh).1
        (((forHeads (attendHead (F := Ideal) sl ja jb ha hb cm m l)).run σ).1.get g hh).2 g hh
        (fun c => U g hh c + (wsum A g hh c + wsum B g hh c))
        (fun c d => W g hh c d + (vsum A (V g hh ja.toNat) g hh c d + vsum B (V g hh jb.toNat) g hh c d)) := by
  have k := forHeads_spec (attendHead (F := Ideal) sl ja jb ha hb cm m l) (fun τ => Env τ S V ∧ ∀ sl', St.sc τ sl' = St.sc σ sl')
    (fun g hh τ => Stat τ (m.get g hh) (l.get g hh) g hh (U g hh) (W g hh))
    (fun g hh a τ => Stat τ a.1 a.2 g hh (fun c => U g hh c + (wsum A g hh c + wsum B g hh c))
      (fun c d => W g hh c d + (vsum A (V g hh ja.toNat) g hh c d + vsum B (V g hh jb.toNat) g hh c d)))
    (fun g hh τ hI hq => by
      refine ⟨⟨hI.1.keeps (keeps_attendHead id _ _ _ _ _ _ _ _ _ _), fun sl' => ?_⟩, ?_⟩
      · rw [← hI.2 sl']
        exact St.sc_congr sl' (keeps_attendHead (R := Buf.IsSlot) id _ _ _ _ _ _ _ _ _ _ τ .s0 True.intro) (keeps_attendHead (R := Buf.IsSlot) id _ _ _ _ _ _ _ _ _ _ τ .s1 True.intro)
      · exact attendHead_run τ hI.1 sl ja jb ha hb cm m l A B hA hB (fun g hh r c => by rw [hI.2 sl]; exact hH g hh r c) g hh (hm g hh) _ _ hq)
    (fun g hh g' hh' τ h hq => hq.congr fun d c => by
      unfold attendHead
      rw [run_ldS, run_ldS, run_ldVt, run_ldVt, run_ldAcc, run_st_ret]
      dsimp only
      rw [run_stAcc, if_neg h])
    (fun g hh g' hh' a τ h hp => hp.congr fun d c => by
      unfold attendHead
      rw [run_ldS, run_ldS, run_ldVt, run_ldVt, run_ldAcc, run_st_ret]
      dsimp only
      rw [run_stAcc, if_neg h])
    σ ⟨hE, fun _ => rfl⟩ hs
  exact ⟨k.1.1, k.1.2, k.2⟩

/-! ## A trip -/

theorem Heads.get_map {α β : Type} (f : α → β) (x : Heads α) (g : Fin 4) (hh : Fin 2) : (x.map f).get g hh = f (x.get g hh) := by
  fin_cases g <;> fin_cases hh <;> rfl

/-- The weights' sum of block `j`. -/
def wS (T : Nat → Scores) (j : Nat) (g : Fin 4) (hh : Fin 2) (c : Fin 256) : ℝ := wsum (T j) g hh c

/-- The weighted values' sum of block `j`. -/
def vS (T : Nat → Scores) (V : Fin 4 → Fin 2 → Nat → Fin 64 → Fin 256 → ℝ) (j : Nat) (g : Fin 4) (hh : Fin 2) (c : Fin 256) (d : Fin 64) : ℝ :=
  vsum (T j) (V g hh j) g hh c d

/-- Between two trips: slot `sl` holds the scores of blocks `pa` and `pb`, and the running values stand for the sums
    `tot` over the blocks attended to so far. -/
structure Ready (S : Nat → Scores) (V : Fin 4 → Fin 2 → Nat → Fin 64 → Fin 256 → ℝ) (T : Nat → Scores) (σ : St Ideal 𝔅) (x : Carry Ideal) (sl : Slot)
    (pa pb : Nat) (tot : (Nat → ℝ) → ℝ) : Prop where
  env : Env σ S V
  held : Held σ sl (T pa) (T pb)
  stat : ∀ g hh, Stat σ (x.m.get g hh) (x.l.get g hh) g hh (fun c => tot fun j => wS T j g hh c) (fun c d => tot fun j => vS T V j g hh c d)
  low : ∀ g hh, LowMax (x.c.get g hh)

theorem trip_ready {T : Nat → Scores} (hS : ∀ j, Low (S j)) (hT : ∀ j, Low (T j)) {σ : St Ideal 𝔅} {x : Carry Ideal} {sl sl' : Slot} (hne : sl' ≠ sl)
    {ja jb pa pb : BitVec 32} {ha : ja.toNat < 17} {hb : jb.toNat < 17} {hpa : pa.toNat < 17} {hpb : pb.toNat < 17} {tot : (Nat → ℝ) → ℝ}
    (ea : T ja.toNat = S ja.toNat) (eb : T jb.toNat = S jb.toNat)
    (h : Ready S V T σ x sl' pa.toNat pb.toNat tot) :
    Ready S V T ((trip sl sl' ja jb pa pb ha hb hpa hpb x).run σ).2 ((trip sl sl' ja jb pa pb ha hb hpa hpb x).run σ).1 sl ja.toNat jb.toNat
      (fun f => tot f + (f pa.toNat + f pb.toNat)) := by
  unfold trip
  rw [Code.run_bind, Code.run_bind, run_ret]
  have k := scores_run hS σ h.env sl ja jb ha hb
  have ka := keeps_scoreHead (F := Ideal) (R := fun b => b = .acc) (by simp) (by simp) sl ja jb ha hb
  have kac := (Keeps.forHeads ka) σ .acc rfl
  have q := attend_run _ k.1 sl' pa pb hpa hpb x.c x.m x.l (T pa.toNat) (T pb.toNat) (hT _) (hT _)
    (fun g hh r c => by rw [k.2.2.1 sl' hne]; exact h.held g hh r c) h.low _ _
    (fun g hh => (h.stat g hh).congr fun d c => by rw [St.ac_congr kac])
  refine ⟨q.1, fun g hh r c => ?_, fun g hh => ?_, fun g hh => k.2.2.2 g hh⟩
  · dsimp only
    rw [q.2.1 sl, ea, eb]; exact k.2.1 g hh r c
  · dsimp only
    rw [Heads.get_map, Heads.get_map]
    exact q.2.2 g hh

end Moba
-- ==== Proof.Moba.Loop2.lean ====
/-
  The start, the loop and the last step of a grid point: every block up to the query block is attended to once.
-/
module

public import proofs.«01_k».proof.Proof.Moba.Loop

@[expose] public section

noncomputable section

namespace Moba

open Idealize.ShloMosaic Idealize.SL.Sem

variable {S : Nat → Scores} {V : Fin 4 → Fin 2 → Nat → Fin 64 → Fin 256 → ℝ} {T : Nat → Scores}

/-! ## The blocks of a grid point's pairs -/

/-- The query block's number. -/
abbrev qn (b : Fin 16) : BitVec 32 := BitVec.ofNat 32 b

/-- The blocks of far pair `n`. -/
def pA (b : Fin 16) (n : Nat) : Nat := (farA (nFar (qn b)) (BitVec.ofNat 32 n)).toNat

def pB (b : Fin 16) (n : Nat) : Nat := (farB (nFar (qn b)) (BitVec.ofNat 32 n)).toNat

/-- The sum over the blocks attended to before far pair `n`. -/
def tot (b : Fin 16) : Nat → (Nat → ℝ) → ℝ
  | 0, f => f (qn b).toNat + f (prevBlk (qn b)).toNat
  | n + 1, f => tot b n f + (f (pA b n) + f (pB b n))

theorem pair1_eq (k : Nat) (hk : k < 8) : pair1 k = BitVec.ofNat 32 (2 * k + 1) := by
  have h : ∀ k : Fin 8, pair1 k = BitVec.ofNat 32 (2 * (k : Nat) + 1) := by decide
  exact h ⟨k, hk⟩

theorem pair1_sub (k : Nat) (hk : k < 8) : Scalar.subi (pair1 k) 1#32 = BitVec.ofNat 32 (2 * k) := by
  have h : ∀ k : Fin 8, Scalar.subi (pair1 k) 1#32 = BitVec.ofNat 32 (2 * (k : Nat)) := by decide
  exact h ⟨k, hk⟩

theorem pair2_eq (k : Nat) (hk : k < 8) : pair2 k = BitVec.ofNat 32 (2 * k + 2) := by
  have h : ∀ k : Fin 8, pair2 k = BitVec.ofNat 32 (2 * (k : Nat) + 2) := by decide
  exact h ⟨k, hk⟩

theorem pair2_sub (k : Nat) (hk : k < 8) : Scalar.subi (pair2 k) 1#32 = BitVec.ofNat 32 (2 * k + 1) := by
  have h : ∀ k : Fin 8, Scalar.subi (pair2 k) 1#32 = BitVec.ofNat 32 (2 * (k : Nat) + 1) := by decide
  exact h ⟨k, hk⟩

theorem far0A_eq (b : Fin 16) : (far0A (qn b)).toNat = pA b 0 := by
  have h : ∀ b : Fin 16, (far0A (qn b)).toNat = pA b 0 := by decide
  exact h b

theorem far0B_eq (b : Fin 16) : (far0B (qn b)).toNat = pB b 0 := by
  have h : ∀ b : Fin 16, (far0B (qn b)).toNat = pB b 0 := by decide
  exact h b

/-- Every block up to the query block, once. -/
theorem tot_eq (b : Fin 16) (f : Nat → ℝ) (h16 : f 16 = 0) (hf : ∀ j : Fin 16, b < j → f j = 0) :
    tot b ((b : Nat) / 2) f = ∑ j : Fin 16, f j := by
  have hs : ∑ j : Fin 16, f j = f 0 + f 1 + f 2 + f 3 + f 4 + f 5 + f 6 + f 7 + f 8 + f 9 + f 10 + f 11 + f 12 + f 13 + f 14 + f 15 := by
    rw [Fin.sum_univ_eq_sum_range f 16]
    simp only [Finset.sum_range_succ, Finset.sum_range_zero, zero_add]
  rw [hs]
  have z : ∀ j : Nat, (hj : j < 16) → (b : Nat) < j → f j = 0 := fun j hj h => hf ⟨j, hj⟩ h
  have e : ∀ (n : Nat), tot b (n + 1) f = tot b n f + (f (pA b n) + f (pB b n)) := fun n => rfl
  have e0 : tot b 0 f = f (qn b).toNat + f (prevBlk (qn b)).toNat := rfl
  fin_cases b
  · have h : tot ⟨0, by omega⟩ 0 f = (f 0 + f 16) := rfl
    refine h.trans ?_
    rw [z 1 (by omega) (by decide), z 2 (by omega) (by decide), z 3 (by omega) (by decide), z 4 (by omega) (by decide), z 5 (by omega) (by decide), z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide), h16]
    ring
  · have h : tot ⟨1, by omega⟩ 0 f = (f 1 + f 0) := rfl
    refine h.trans ?_
    rw [z 2 (by omega) (by decide), z 3 (by omega) (by decide), z 4 (by omega) (by decide), z 5 (by omega) (by decide), z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide)]
    ring
  · have h : tot ⟨2, by omega⟩ 1 f = ((f 2 + f 1) + (f 0 + f 16)) := rfl
    refine h.trans ?_
    rw [z 3 (by omega) (by decide), z 4 (by omega) (by decide), z 5 (by omega) (by decide), z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide), h16]
    ring
  · have h : tot ⟨3, by omega⟩ 1 f = ((f 3 + f 2) + (f 0 + f 1)) := rfl
    refine h.trans ?_
    rw [z 4 (by omega) (by decide), z 5 (by omega) (by decide), z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide)]
    ring
  · have h : tot ⟨4, by omega⟩ 2 f = (((f 4 + f 3) + (f 0 + f 1)) + (f 2 + f 16)) := rfl
    refine h.trans ?_
    rw [z 5 (by omega) (by decide), z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide), h16]
    ring
  · have h : tot ⟨5, by omega⟩ 2 f = (((f 5 + f 4) + (f 0 + f 1)) + (f 2 + f 3)) := rfl
    refine h.trans ?_
    rw [z 6 (by omega) (by decide), z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide)]
    ring
  · have h : tot ⟨6, by omega⟩ 3 f = ((((f 6 + f 5) + (f 0 + f 1)) + (f 2 + f 3)) + (f 4 + f 16)) := rfl
    refine h.trans ?_
    rw [z 7 (by omega) (by decide), z 8 (by omega) (by decide), z 9 (by omega) (by decide), z 10 (by omega) (by decide), z 11 (by omega) (by decide), z 12 (by omega) (by decide), z 13 (by omega) (by decide), z 14 (by omega) (by decide), z 15 (by omega) (by decide), h16]
    ring
  · have h : tot ⟨7, by omega⟩ 3 f = ((((f 7 + f 6) + (f 0 + f 1)) + (f 2 + f 3)) + (f 4 + f 5)) := rfl
    refine h.trans ?_
    rw [z 8 (by omega) (by decide), z 9 (by omega) (by decide), z 10 (by omega) (by decide), z 11 (by omega) (by decide), z 12 (by omega) (by decide), z 13 (by omega) (by decide), z 14 (by omega) (by decide), z 15 (by omega) (by decide)]
    ring
  · have h : tot ⟨8, by omega⟩ 4 f = (((((f 8 + f 7) + (f 0 + f 1)) + (f 2 + f 3)) + (f 4 + f 5)) + (f 6 + f 16)) := rfl
    refine h.trans ?_
    rw [z 9 (by omega) (by decide), z 10 (by omega) (by decide), z 11 (by omega) (by decide), z 12 (by omega) (by decide), z 13 (by omega) (by decide), z 14 (by omega) (by decide), z 15 (by omega) (by decide), h16]
    ring
  · have h : tot ⟨9, by omega⟩ 4 f = (((((f 9 + f 8) + (f 0 + f 1)) + (f 2 + f 3)) + (f 4 + f 5)) + (f 6 + f 7)) := rfl
    refine h.trans ?_
    rw [z 10 (by omega) (by decide), z 11 (by omega) (by decide), z 12 (by omega) (by decide), z 13 (by omega) (by decide), z 14 (by omega) (by decide), z 15 (by omega) (by decide)]
    ring
  · have h : tot ⟨10, by omega⟩ 5 f = ((((((f 10 + f 9) + (f 0 + f 1)) + (f 2 + f 3)) + (f 4 + f 5)) + (f 6 + f 7)) + (f 8 + f 16)) := rfl
    refine h.trans ?_
    rw [z 11 (by omega) (by decide), z 12 (by omega) (by decide), z 13 (by omega) (by decide), z 14 (by omega) (by decide), z 15 (by omega) (by decide), h16]
    ring
  · have h : tot ⟨11, by omega⟩ 5 f = ((((((f 11 + f 10) + (f 0 + f 1)) + (f 2 + f 3)) + (f 4 + f 5)) + (f 6 + f 7)) + (f 8 + f 9)) := rfl
    refine h.trans ?_
    rw [z 12 (by omega) (by decide), z 13 (by omega) (by decide), z 14 (by omega) (by decide), z 15 (by omega) (by decide)]
    ring
  · have h : tot ⟨12, by omega⟩ 6 f = (((((((f 12 + f 11) + (f 0 + f 1)) + (f 2 + f 3)) + (f 4 + f 5)) + (f 6 + f 7)) + (f 8 + f 9)) + (f 10 + f 16)) := rfl
    refine h.trans ?_
    rw [z 13 (by omega) (by decide), z 14 (by omega) (by decide), z 15 (by omega) (by decide), h16]
    ring
  · have h : tot ⟨13, by omega⟩ 6 f = (((((((f 13 + f 12) + (f 0 + f 1)) + (f 2 + f 3)) + (f 4 + f 5)) + (f 6 + f 7)) + (f 8 + f 9)) + (f 10 + f 11)) := rfl
    refine h.trans ?_
    rw [z 14 (by omega) (by decide), z 15 (by omega) (by decide)]
    ring
  · have h : tot ⟨14, by omega⟩ 7 f = ((((((((f 14 + f 13) + (f 0 + f 1)) + (f 2 + f 3)) + (f 4 + f 5)) + (f 6 + f 7)) + (f 8 + f 9)) + (f 10 + f 11)) + (f 12 + f 16)) := rfl
    refine h.trans ?_
    rw [z 15 (by omega) (by decide), h16]
    ring
  · have h : tot ⟨15, by omega⟩ 7 f = ((((((((f 15 + f 14) + (f 0 + f 1)) + (f 2 + f 3)) + (f 4 + f 5)) + (f 6 + f 7)) + (f 8 + f 9)) + (f 10 + f 11)) + (f 12 + f 13)) := rfl
    refine h.trans ?_
    ring

/-! ## Trips -/

/-- Before far pair `n` is attended to. -/
abbrev ReadyAt (S : Nat → Scores) (V : Fin 4 → Fin 2 → Nat → Fin 64 → Fin 256 → ℝ) (T : Nat → Scores) (b : Fin 16) (σ : St Ideal 𝔅) (x : Carry Ideal) (n : Nat) : Prop :=
  Ready S V T σ x .b (pA b n) (pB b n) (tot b n)

theorem trips_ready (hS : ∀ j, Low (S j)) (hT : ∀ j, Low (T j)) (b : Fin 16) (hTS : ∀ n, T (pA b n) = S (pA b n) ∧ T (pB b n) = S (pB b n))
    (k : Nat) (hk : k < 8) (ok : TripOk (nFar (qn b)) k) {σ : St Ideal 𝔅} {x : Carry Ideal} (h : ReadyAt S V T b σ x (2 * k)) :
    ReadyAt S V T b ((trips (nFar (qn b)) k ok x).run σ).2 ((trips (nFar (qn b)) k ok x).run σ).1 (2 * (k + 1)) := by
  unfold trips
  rw [Code.run_bind]
  have a1 : (farA (nFar (qn b)) (pair1 k)).toNat = pA b (2 * k + 1) := by rw [pair1_eq k hk]; rfl
  have b1 : (farB (nFar (qn b)) (pair1 k)).toNat = pB b (2 * k + 1) := by rw [pair1_eq k hk]; rfl
  have a0 : (farA (nFar (qn b)) (Scalar.subi (pair1 k) 1#32)).toNat = pA b (2 * k) := by rw [pair1_sub k hk]; rfl
  have b0 : (farB (nFar (qn b)) (Scalar.subi (pair1 k) 1#32)).toNat = pB b (2 * k) := by rw [pair1_sub k hk]; rfl
  have a2 : (farA (nFar (qn b)) (pair2 k)).toNat = pA b (2 * k + 2) := by rw [pair2_eq k hk]; rfl
  have b2 : (farB (nFar (qn b)) (pair2 k)).toNat = pB b (2 * k + 2) := by rw [pair2_eq k hk]; rfl
  have a3 : (farA (nFar (qn b)) (Scalar.subi (pair2 k) 1#32)).toNat = pA b (2 * k + 1) := by rw [pair2_sub k hk]; rfl
  have b3 : (farB (nFar (qn b)) (Scalar.subi (pair2 k) 1#32)).toNat = pB b (2 * k + 1) := by rw [pair2_sub k hk]; rfl
  have t1 := trip_ready hS hT (sl := .a) (sl' := .b) (by simp) (ha := ok.a1) (hb := ok.b1) (hpa := ok.a0) (hpb := ok.b0) (tot := tot b (2 * k))
    (by rw [a1]; exact (hTS _).1) (by rw [b1]; exact (hTS _).2) (by rw [a0, b0]; exact h)
  have t2 := trip_ready hS hT (sl := .b) (sl' := .a) (by simp) (ha := ok.a2) (hb := ok.b2) (hpa := ok.a3) (hpb := ok.b3) (tot := tot b (2 * k + 1))
    (by rw [a2]; exact (hTS _).1) (by rw [b2]; exact (hTS _).2) (by
      rw [a3, b3]
      rw [a0, b0, a1, b1] at t1
      exact t1)
  rw [a3, b3, a2, b2] at t2
  exact t2

theorem iter_inv {β : Type} {n : Nat} (G : Fin n → β → St Ideal 𝔅 → β × St Ideal 𝔅) (P : Nat → β → St Ideal 𝔅 → Prop)
    (step : ∀ (k : Fin n) a σ, P k a σ → P (k + 1) (G k a σ).1 (G k a σ).2) :
    ∀ (ks : List (Fin n)) (i : Nat), (∀ j, (h : j < ks.length) → ((ks[j]) : Nat) = i + j) → ∀ (a : β) (σ : St Ideal 𝔅), P i a σ →
      P (i + ks.length) (iter G ks a σ).1 (iter G ks a σ).2
  | [], i, _, a, σ, h => h
  | k :: ks, i, hk, a, σ, h => by
    have e : (k : Nat) = i := hk 0 (by simp)
    have := iter_inv G P step ks (i + 1) (fun j hj => by
      have := hk (j + 1) (by simpa using hj)
      simp only [List.getElem_cons_succ] at this
      omega) (G k a σ).1 (G k a σ).2 (by have q := step k a σ (by rw [e]; exact h); rw [e] at q; exact q)
    rw [List.length_cons, show i + (ks.length + 1) = i + 1 + ks.length by omega]
    exact this

theorem iter_fin {β : Type} {n : Nat} (G : Fin n → β → St Ideal 𝔅 → β × St Ideal 𝔅) (P : Nat → β → St Ideal 𝔅 → Prop)
    (step : ∀ (k : Fin n) a σ, P k a σ → P (k + 1) (G k a σ).1 (G k a σ).2) (a : β) (σ : St Ideal 𝔅) (h : P 0 a σ) :
    P n (iter G (List.finRange n) a σ).1 (iter G (List.finRange n) a σ).2 := by
  have := iter_inv G P step (List.finRange n) 0 (fun j hj => by simp) a σ h
  simpa using this

theorem loop_ready (hS : ∀ j, Low (S j)) (hT : ∀ j, Low (T j)) (b : Fin 16) (hTS : ∀ n, T (pA b n) = S (pA b n) ∧ T (pB b n) = S (pB b n))
    {N : Nat} (hN : N ≤ 8) (ok : ∀ k : Fin N, TripOk (nFar (qn b)) k) {σ : St Ideal 𝔅} {x : Carry Ideal} (h : ReadyAt S V T b σ x 0) :
    ReadyAt S V T b (iter (fun (k : Fin N) c => (trips (nFar (qn b)) k (ok k) c).run) (List.finRange N) x σ).2
      (iter (fun (k : Fin N) c => (trips (nFar (qn b)) k (ok k) c).run) (List.finRange N) x σ).1 (2 * N) :=
  iter_fin (fun (k : Fin N) c => (trips (nFar (qn b)) k (ok k) c).run) (fun k x σ => ReadyAt S V T b σ x (2 * k))
    (fun k a σ h => trips_ready hS hT b hTS k (lt_of_lt_of_le k.2 hN) (ok k) h) x σ h

/-- The sums over all blocks attended to. -/
def Done (S : Nat → Scores) (V : Fin 4 → Fin 2 → Nat → Fin 64 → Fin 256 → ℝ) (T : Nat → Scores) (b : Fin 16) (n : Nat) (σ : St Ideal 𝔅) (l : Heads (FVec Ideal S1x256 .f32)) : Prop :=
  ∀ g hh, ∃ m, Stat σ m (l.get g hh) g hh (fun c => tot b n fun j => wS T j g hh c) (fun c d => tot b n fun j => vS T V j g hh c d)

theorem last_done (hT : ∀ j, Low (T j)) (b : Fin 16) (n : Nat) (ja jb : BitVec 32) (ha : ja.toNat < 17) (hb : jb.toNat < 17)
    (ea : ja.toNat = pA b n) (eb : jb.toNat = pB b n) {σ : St Ideal 𝔅} {x : Carry Ideal} (h : ReadyAt S V T b σ x n) :
    Done S V T b (n + 1) ((lastStep ja jb ha hb x).run σ).2 ((lastStep ja jb ha hb x).run σ).1 := by
  unfold lastStep
  rw [Code.run_bind, run_ret]
  have q := attend_run σ h.env .b ja jb ha hb x.c x.m x.l (T (pA b n)) (T (pB b n)) (hT _) (hT _) h.held h.low _ _ h.stat
  intro g hh
  refine ⟨(((forHeads (attendHead .b ja jb ha hb x.c x.m x.l)).run σ).1.get g hh).1, ?_⟩
  dsimp only
  rw [Heads.get_map]
  have := q.2.2 g hh
  rw [ea, eb] at this
  exact this

theorem start_ready (hS : ∀ j, Low (S j)) (hT : ∀ j, Low (T j)) (b : Fin 16) (hTS : ∀ n, T (pA b n) = S (pA b n) ∧ T (pB b n) = S (pB b n))
    (neg lge : Ideal .f32) (hq : (qn b).toNat < 17) (hp : (prevBlk (qn b)).toNat < 17) (ha : (far0A (qn b)).toNat < 17) (hb : (far0B (qn b)).toNat < 17)
    (σ : St Ideal 𝔅) (hE : Env ((gates neg lge (qn b)).run σ).2 S V)
    (hR : ∀ g hh c, ∃ r, T (qn b).toNat g hh r c ≠ ⊥)
    (eA : ∀ g hh r c, S (qn b).toNat g hh r c + St.bi σ 0 g hh r c = T (qn b).toNat g hh r c)
    (eB : ∀ g hh r c, S (prevBlk (qn b)).toNat g hh r c + St.bi σ 1 g hh r c = T (prevBlk (qn b)).toNat g hh r c) :
    ReadyAt S V T b ((start neg lge (qn b) (prevBlk (qn b)) (far0A (qn b)) (far0B (qn b)) hq hp ha hb).run σ).2
      ((start neg lge (qn b) (prevBlk (qn b)) (far0A (qn b)) (far0B (qn b)) hq hp ha hb).run σ).1 0 := by
  unfold start
  rw [Code.run_bind, Code.run_bind, Code.run_bind, Code.run_bind, run_ret]
  have kg : ((gates (F := Ideal) neg lge (qn b)).run σ).2 .bias = σ .bias := keeps_gates (R := fun b => b = .bias) (by simp) neg lge (qn b) σ .bias rfl
  have hbi : ∀ w, St.bi ((gates (F := Ideal) neg lge (qn b)).run σ).2 w = St.bi σ w := by intro w; funext g hh r c; exact congrFun kg _
  have k0 := scoresB_run _ hE .a (qn b) (prevBlk (qn b)) hq hp (T (qn b).toNat) (T (prevBlk (qn b)).toNat) (hT _) (hT _) hR
    (fun g hh r c => by rw [hbi]; exact eA g hh r c) (fun g hh r c => by rw [hbi]; exact eB g hh r c)
  have k1 := scores_run hS _ k0.1 .b (far0A (qn b)) (far0B (qn b)) ha hb
  have k2 := attend0_run _ k1.1 .a (qn b) (prevBlk (qn b)) hq hp _ (T (qn b).toNat) (T (prevBlk (qn b)).toNat) (hT _) (hT _)
    (fun g hh r c => by rw [k1.2.2.1 .a (by simp)]; exact k0.2.1 g hh r c) k0.2.2
  refine ⟨k2.1, fun g hh r c => ?_, fun g hh => k2.2.2 g hh, fun g hh => k1.2.2.2 g hh⟩
  dsimp only
  rw [k2.2.1 .b, ← far0A_eq, ← far0B_eq, far0A_eq, (hTS 0).1, far0B_eq, (hTS 0).2, ← far0A_eq, ← far0B_eq]
  exact k1.2.1 g hh r c

end Moba
-- ==== Proof.Moba.Model.lean ====
/-
  The attention of one block of queries over the real numbers: which blocks are kept, the scores, and what the
  scratch buffers hold stated through them.
-/
module

public import proofs.«01_k».proof.Proof.Moba.Fill2
public import proofs.«01_k».proof.Proof.Moba.Loop2

@[expose] public section

noncomputable section

namespace Moba

open Idealize.ShloMosaic Idealize.SL.Sem

/-- Lane `d` of head `hh` of group `g`. -/
def hcol (g : Fin 4) (hh : Fin 2) (d : Fin 64) : Fin 512 := gcol g (row hh d)

/-- A grid point's real arrays: the block of queries, the sequence's keys and values, the bias tiles. -/
structure Reals where
  q : Fin 256 → Fin 512 → ℝ
  k : Fin 4096 → Fin 512 → ℝ
  v : Fin 4096 → Fin 512 → ℝ
  w : Fin 8 → Fin 2 → Fin 256 → Fin 256 → ℝ

variable (A : Reals)

/-- A block's mean key. -/
def Reals.mean (j : Fin 16) (e : Fin 512) : ℝ := (∑ r : Fin 256, A.k (brow j r) e) / 256

/-- The gate score of block `j`. -/
def Reals.gate (g : Fin 4) (hh : Fin 2) (c : Fin 256) (j : Fin 16) : ℝ :=
  ∑ d : Fin 64, A.mean j (hcol g hh d) * (A.q c (hcol g hh d) * (1 / 8))

/-- The gate scores of the past blocks. -/
def Reals.gates (b : Fin 16) (g : Fin 4) (hh : Fin 2) (c : Fin 256) (j : Fin 16) : EReal :=
  if j < b then (A.gate g hh c j : EReal) else ⊥

/-- Whether block `j` is kept. -/
def Reals.Keep (b : Fin 16) (g : Fin 4) (hh : Fin 2) (c : Fin 256) (j : Fin 16) : Prop := Kept b (A.gates b g hh c) j

/-- A key's score, in base two. -/
def Reals.dot (g : Fin 4) (hh : Fin 2) (j : Fin 16) (r c : Fin 256) : ℝ :=
  ∑ d : Fin 64, A.k (brow j r) (hcol g hh d) * (A.q c (hcol g hh d) * (1 / 8) * (Real.log 2)⁻¹)

/-- The bias of block `j`. -/
def Reals.rel (b : Fin 16) (g : Fin 4) (hh : Fin 2) (j : Fin 16) (r c : Fin 256) : ℝ :=
  if j = b then A.w (headNo g hh) 0 r c else if (j : Nat) + 1 = b then A.w (headNo g hh) 1 r c else 0

open Classical in
/-- The scores without the bias, and with it. -/
def Reals.S (b : Fin 16) (j : Nat) : Scores := fun g hh r c =>
  if h : j < 16 then (if A.Keep b g hh c ⟨j, h⟩ then (A.dot g hh ⟨j, h⟩ r c : EReal) else ⊥) else ⊥

open Classical in
def Reals.T (b : Fin 16) (j : Nat) : Scores := fun g hh r c =>
  if h : j < 16 then (if A.Keep b g hh c ⟨j, h⟩ then ((A.dot g hh ⟨j, h⟩ r c + A.rel b g hh ⟨j, h⟩ r c : ℝ) : EReal) else ⊥) else ⊥

/-- The values. -/
def Reals.V (g : Fin 4) (hh : Fin 2) (j : Nat) (d : Fin 64) (r : Fin 256) : ℝ :=
  if h : j < 16 then A.v (brow ⟨j, h⟩ r) (hcol g hh d) else 0

theorem Reals.lowS (b : Fin 16) (j : Nat) : Low (A.S b j) := by
  classical
  intro g hh r c
  unfold Reals.S
  split
  · split
    · exact EReal.coe_lt_top _
    · exact bot_lt_top
  · exact bot_lt_top

theorem Reals.lowT (b : Fin 16) (j : Nat) : Low (A.T b j) := by
  classical
  intro g hh r c
  unfold Reals.T
  split
  · split
    · exact EReal.coe_lt_top _
    · exact bot_lt_top
  · exact bot_lt_top

theorem Reals.T_eq_S (b : Fin 16) (j : Nat) (h : j < 16 → j ≠ b ∧ j + 1 ≠ b) : A.T b j = A.S b j := by
  classical
  funext g hh r c
  unfold Reals.T Reals.S
  by_cases hj : j < 16
  · rw [dif_pos hj, dif_pos hj]
    have e : A.rel b g hh ⟨j, hj⟩ r c = 0 := by
      unfold Reals.rel
      rw [if_neg (fun e => (h hj).1 (congrArg Fin.val e)), if_neg (h hj).2]
    rw [e, add_zero]
  · rw [dif_neg hj, dif_neg hj]

theorem far_ok (b : Fin 16) (x : BitVec 32) (h : BitVec.slt x (nFar (qn b)) = true) (hx : x.toNat < 16) : x.toNat ≠ b ∧ x.toNat + 1 ≠ b := by
  have hb : (nFar (qn b)).toInt = (b : Nat) - 1 := by
    have h : ∀ b : Fin 16, (nFar (qn b)).toInt = (b : Nat) - 1 := by decide
    exact h b
  rw [BitVec.slt_iff_toInt_lt, hb] at h
  have e : x.toInt = x.toNat := by
    rw [BitVec.toInt_eq_toNat_of_lt (by omega)]
  rw [e] at h
  omega

theorem sel_far (b : Fin 16) (x : BitVec 32) :
    (Scalar.select (Scalar.cmpi .slt x (nFar (qn b))) x 16#32).toNat < 16 → (Scalar.select (Scalar.cmpi .slt x (nFar (qn b))) x 16#32).toNat ≠ b
      ∧ (Scalar.select (Scalar.cmpi .slt x (nFar (qn b))) x 16#32).toNat + 1 ≠ b := by
  have e : Scalar.cmpi .slt x (nFar (qn b)) = BitVec.ofBool (BitVec.slt x (nFar (qn b))) := rfl
  rw [e]
  cases h : BitVec.slt x (nFar (qn b))
  · intro hx
    exact absurd hx (by show ¬((16#32 : BitVec 32).toNat < 16); decide)
  · intro hx
    exact far_ok b x h hx

theorem Reals.hTS (b : Fin 16) (n : Nat) : A.T b (pA b n) = A.S b (pA b n) ∧ A.T b (pB b n) = A.S b (pB b n) :=
  ⟨A.T_eq_S b _ (sel_far b _), A.T_eq_S b _ (sel_far b _)⟩

theorem Reals.T_own (b : Fin 16) (g : Fin 4) (hh : Fin 2) (r c : Fin 256) : A.T b (qn b).toNat g hh r c ≠ ⊥ := by
  classical
  have e : (qn b).toNat = b := by
    have h : ∀ b : Fin 16, (qn b).toNat = b := by decide
    exact h b
  rw [e]
  unfold Reals.T
  rw [dif_pos b.2, if_pos (show A.Keep b g hh c ⟨b, b.2⟩ from .inr rfl)]
  exact EReal.coe_ne_bot _

theorem Reals.eA (b : Fin 16) (g : Fin 4) (hh : Fin 2) (r c : Fin 256) :
    A.S b (qn b).toNat g hh r c + (A.w (headNo g hh) 0 r c : EReal) = A.T b (qn b).toNat g hh r c := by
  classical
  have e : (qn b).toNat = b := by
    have h : ∀ b : Fin 16, (qn b).toNat = b := by decide
    exact h b
  rw [e]
  unfold Reals.T Reals.S
  rw [dif_pos b.2, dif_pos b.2, if_pos (show A.Keep b g hh c ⟨b, b.2⟩ from .inr rfl), if_pos (show A.Keep b g hh c ⟨b, b.2⟩ from .inr rfl), ← EReal.coe_add]
  unfold Reals.rel
  rw [if_pos rfl]

theorem Reals.eB (b : Fin 16) (g : Fin 4) (hh : Fin 2) (r c : Fin 256) :
    A.S b (prevBlk (qn b)).toNat g hh r c + (A.w (headNo g hh) 1 r c : EReal) = A.T b (prevBlk (qn b)).toNat g hh r c := by
  classical
  have e : (prevBlk (qn b)).toNat = if (b : Nat) = 0 then 16 else (b : Nat) - 1 := by
    have h : ∀ b : Fin 16, (prevBlk (qn b)).toNat = if (b : Nat) = 0 then 16 else (b : Nat) - 1 := by decide
    exact h b
  rw [e]
  unfold Reals.T Reals.S
  by_cases hb : (b : Nat) = 0
  · rw [if_pos hb, dif_neg (by omega), dif_neg (by omega), EReal.bot_add]
  · rw [if_neg hb]
    have hl : (b : Nat) - 1 < 16 := by omega
    rw [dif_pos hl, dif_pos hl]
    by_cases hk : A.Keep b g hh c ⟨(b : Nat) - 1, hl⟩
    · rw [if_pos hk, if_pos hk, ← EReal.coe_add]
      unfold Reals.rel
      rw [if_neg (fun h => by have := congrArg Fin.val h; dsimp only at this; omega), if_pos (by dsimp only; omega)]
    · rw [if_neg hk, if_neg hk, EReal.bot_add]

/-- The weight of a key, and the attention. -/
def Reals.wgt (b : Fin 16) (g : Fin 4) (hh : Fin 2) (j : Fin 16) (r c : Fin 256) : ℝ := wt (A.T b j g hh r c)

def Reals.sumW (b : Fin 16) (g : Fin 4) (hh : Fin 2) (c : Fin 256) : ℝ := ∑ j : Fin 16, ∑ r : Fin 256, A.wgt b g hh j r c

def Reals.out (b : Fin 16) (g : Fin 4) (hh : Fin 2) (c : Fin 256) (d : Fin 64) : ℝ :=
  (∑ j : Fin 16, ∑ r : Fin 256, A.v (brow j r) (hcol g hh d) * A.wgt b g hh j r c) / A.sumW b g hh c

theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

theorem Reals.T_bot (b : Fin 16) (j : Nat) (h : (b : Nat) < j) (g : Fin 4) (hh : Fin 2) (r c : Fin 256) : A.T b j g hh r c = ⊥ := by
  classical
  unfold Reals.T
  by_cases hj : j < 16
  · rw [dif_pos hj, if_neg]
    rintro (hk | hk)
    · refine hk.1 (if_neg fun hl => ?_)
      have : (⟨j, hj⟩ : Fin 16).val < b.val := hl
      dsimp only at this; omega
    · have := congrArg Fin.val hk; dsimp only at this; omega
  · rw [dif_neg hj]

theorem Reals.wgt_nonneg (b : Fin 16) (g : Fin 4) (hh : Fin 2) (j : Fin 16) (r c : Fin 256) : 0 ≤ A.wgt b g hh j r c := wt_nonneg _

theorem Reals.sumW_pos (b : Fin 16) (g : Fin 4) (hh : Fin 2) (c : Fin 256) : 0 < A.sumW b g hh c := by
  refine Finset.sum_pos' (fun j _ => Finset.sum_nonneg fun r _ => A.wgt_nonneg b g hh j r c) ⟨b, Finset.mem_univ _, ?_⟩
  refine Finset.sum_pos' (fun r _ => A.wgt_nonneg b g hh b r c) ⟨0, Finset.mem_univ _, ?_⟩
  have e : (qn b).toNat = b := by
    have h : ∀ b : Fin 16, (qn b).toNat = b := by decide
    exact h b
  have := A.T_own b g hh 0 c
  rw [e] at this
  show 0 < wt (A.T b b g hh 0 c)
  unfold wt
  rw [if_neg this]
  exact Real.rpow_pos_of_pos (by norm_num) _

theorem Reals.tots (b : Fin 16) (g : Fin 4) (hh : Fin 2) (c : Fin 256) :
    (tot b ((b : Nat) / 2) fun j => wS (A.T b) j g hh c) = A.sumW b g hh c
      ∧ ∀ d, (tot b ((b : Nat) / 2) fun j => vS (A.T b) A.V j g hh c d) = ∑ j : Fin 16, ∑ r : Fin 256, A.v (brow j r) (hcol g hh d) * A.wgt b g hh j r c := by
  have z : ∀ j : Nat, (b : Nat) < j → wS (A.T b) j g hh c = 0 ∧ ∀ d, vS (A.T b) A.V j g hh c d = 0 := by
    intro j hj
    unfold wS vS wsum vsum
    constructor
    · refine Finset.sum_eq_zero fun r _ => ?_
      rw [A.T_bot b j hj, wt_bot]
    · intro d
      refine Finset.sum_eq_zero fun r _ => ?_
      rw [A.T_bot b j hj, wt_bot, mul_zero]
  constructor
  · rw [tot_eq b _ (z 16 b.2).1 fun j hj => (z j hj).1]
    rfl
  · intro d
    rw [tot_eq b _ ((z 16 b.2).2 d) fun j hj => (z j hj).2 d]
    refine Finset.sum_congr rfl fun j _ => ?_
    unfold vS vsum
    refine Finset.sum_congr rfl fun r _ => ?_
    rw [Reals.V, dif_pos j.2]
    rfl

theorem Reals.out_eq (b : Fin 16) (g : Fin 4) (hh : Fin 2) (c : Fin 256) (d : Fin 64) (μ : ℝ) :
    Ideal.div (((2 : ℝ) ^ (-μ) * (tot b ((b : Nat) / 2) fun j => vS (A.T b) A.V j g hh c d) : ℝ) : EReal)
      (((2 : ℝ) ^ (-μ) * (tot b ((b : Nat) / 2) fun j => wS (A.T b) j g hh c) : ℝ) : EReal) = ((A.out b g hh c d : ℝ) : EReal) := by
  rw [(A.tots b g hh c).1, (A.tots b g hh c).2 d]
  have hp : (0 : ℝ) < (2 : ℝ) ^ (-μ) := Real.rpow_pos_of_pos (by norm_num) _
  rw [div_coe _ _ (mul_pos hp (A.sumW_pos b g hh c)), mul_div_mul_left _ _ hp.ne']
  rfl

/-! ## What the buffers hold -/

/-- A grid point's buffers hold the real arrays, and the scratch what the filling writes. -/
structure Holds (σ : St Ideal 𝔅) (A : Reals) : Prop where
  q : ∀ c e, σ .q (ix3 0 c e) = (A.q c e : EReal)
  bias : ∀ h w r c, σ .bias (ix4 h w r c) = (A.w h w r c : EReal)
  kb : ∀ g hh (j : Fin 16) r d, σ .kb (ix5 g hh j.castSucc r (row 0 d)) = (A.k (brow j r) (hcol g hh d) : EReal)
  pad : ∀ g hh r d, σ .kb (ix5 g hh 16 r (row 0 d)) = (0 : EReal)
  hot : ∀ g hh j r (d : Fin 64), σ .kb (ix5 g hh j r (row 1 d)) = if (d : Nat) = (j : Fin 17) then (1 : EReal) else 0
  vt : ∀ g hh (j : Fin 16) d r, σ .vt (ix4 g j.castSucc (row hh d) r) = (A.v (brow j r) (hcol g hh d) : EReal)
  padV : ∀ g e r, σ .vt (ix4 g 16 e r) = (0 : EReal)
  km : ∀ g hh j d, σ .km (ix3 g j (row hh d)) = (A.mean j (hcol g hh d) : EReal)

theorem holds_of (σ : St Ideal 𝔅) (K V : S1x4096x512.Idx → EReal) (hf : Filled K V σ) (hq : ∀ c e, σ .q (ix3 0 c e) = (A.q c e : EReal))
    (hb : ∀ h w r c, σ .bias (ix4 h w r c) = (A.w h w r c : EReal)) (hk : ∀ y e, K (ix3 0 y e) = (A.k y e : EReal))
    (hv : ∀ y e, V (ix3 0 y e) = (A.v y e : EReal)) : Holds σ A where
  q := hq
  bias := hb
  kb g hh j r d := (hf.kb g hh j.castSucc r 0 d).trans ((fillVal_kb K V g hh j r d).trans (hk _ _))
  pad g hh r d := hf.kb g hh 16 r 0 d
  hot g hh j r d := hf.kb g hh j r 1 d
  vt g hh j d r := (hf.vt g j.castSucc (row hh d) r).trans ((fillVal_vt K V g j _ r).trans (hv _ _))
  padV g e r := hf.vt g 16 e r
  km g hh j d := by
    refine (hf.km g j (row hh d)).trans ?_
    show Ideal.div (∑ r : Fin 256, K (ix3 0 (brow j r) (gcol g (row hh d)))) ((256 : ℝ) : EReal) = _
    rw [Finset.sum_congr rfl fun r _ => hk (brow j r) (gcol g (row hh d)), coe_sum, div_coe _ _ (by norm_num)]
    rfl

variable {A}

theorem mul_eq {a b a' b' : EReal} (h : a = a') (h' : b = b') : a * b = a' * b' := by rw [h, h']

theorem Holds.gate {σ : St Ideal 𝔅} (h : Holds σ A) (b : Fin 16) (g : Fin 4) (hh : Fin 2) (c : Fin 256) :
    gateCol b (kmOf (σ .km) g hh) (qhOf (σ .q) g hh) c = A.gates b g hh c := by
  funext j
  unfold gateCol Reals.gates
  have e : ∑ x : Fin 64, kmOf (σ .km) g hh (ix2 j x) * qhOf (σ .q) g hh (ix2 x c) = (A.gate g hh c j : EReal) := by
    unfold Reals.gate
    rw [← coe_sum]
    refine Finset.sum_congr rfl fun d _ => ?_
    refine (mul_eq ((kmOf_apply ..).trans (h.km g hh j d)) ((qhOf_apply ..).trans (mul_eq (h.q c (gcol g (row hh d))) rfl))).trans ?_
    rw [← EReal.coe_mul, ← EReal.coe_mul]
    rfl
  rw [e]

theorem sum128 (f : Fin 128 → EReal) :
    ∑ d : Fin 128, f d = ∑ d : Fin 64, f ⟨d, by omega⟩ + (∑ n : Fin 16, f ⟨64 + n, by omega⟩ + ∑ n : Fin 48, f ⟨80 + n, by omega⟩) := by
  rw [Fin.sum_univ_add (a := 64) (b := 64) f, Fin.sum_univ_add (a := 16) (b := 48) fun i => f (Fin.natAdd 64 i)]
  refine congrArg₂ (· + ·) (Finset.sum_congr rfl fun d _ => congrArg f (Fin.ext rfl)) (congrArg₂ (· + ·) (Finset.sum_congr rfl fun d _ => congrArg f (Fin.ext rfl)) (Finset.sum_congr rfl fun d _ => congrArg f (Fin.ext ?_)))
  simp; omega

theorem Holds.env {σ : St Ideal 𝔅} (h : Holds σ A) (b : Fin 16) :
    Env ((gates (F := Ideal) ⊥ (((Real.log 2)⁻¹ : ℝ) : EReal) (qn b)).run σ).2 (A.S b) A.V := by
  classical
  have kg : ∀ x : Buf, x = .kb ∨ x = .vt → ((gates (F := Ideal) ⊥ (((Real.log 2)⁻¹ : ℝ) : EReal) (qn b)).run σ).2 x = σ x := fun x hx =>
    keeps_gates (R := fun b => b = .kb ∨ b = .vt) (by simp) _ _ (qn b) σ x hx
  have we := gates_we ⊥ (((Real.log 2)⁻¹ : ℝ) : EReal) (qn b) σ
  have ke : ∀ g hh j r d, St.ke ((gates (F := Ideal) ⊥ (((Real.log 2)⁻¹ : ℝ) : EReal) (qn b)).run σ).2 g hh j r d = σ .kb (ix5 g hh j r d) :=
    fun g hh j r d => congrFun (kg .kb (.inl rfl)) _
  constructor
  · intro g hh j r c
    rw [sum128]
    have e2 : ∀ n : Fin 16, St.ke ((gates (F := Ideal) ⊥ (((Real.log 2)⁻¹ : ℝ) : EReal) (qn b)).run σ).2 g hh j r ⟨64 + n, by omega⟩
        * St.we ((gates (F := Ideal) ⊥ (((Real.log 2)⁻¹ : ℝ) : EReal) (qn b)).run σ).2 g hh ⟨64 + n, by omega⟩ c
        = if (n : Nat) = j then (if A.Keep b g hh c n then 0 else ⊥) else 0 := by
      intro n
      have t := h.hot g hh j r ⟨n, by omega⟩
      rw [show row 1 ⟨n, by omega⟩ = (⟨64 + n, by omega⟩ : Fin 128) from Fin.ext (by simp [row])] at t
      refine (mul_eq ((ke g hh j r _).trans t) ((we g hh _ c).trans (wq1 ..))).trans ?_
      rw [h.gate]
      dsimp only
      by_cases hn : (n : Nat) = j
      · rw [if_pos hn, if_pos hn, one_mul]; rfl
      · rw [if_neg hn, if_neg hn, zero_mul]
    have e3 : ∀ n : Fin 48, St.ke ((gates (F := Ideal) ⊥ (((Real.log 2)⁻¹ : ℝ) : EReal) (qn b)).run σ).2 g hh j r ⟨80 + n, by omega⟩
        * St.we ((gates (F := Ideal) ⊥ (((Real.log 2)⁻¹ : ℝ) : EReal) (qn b)).run σ).2 g hh ⟨80 + n, by omega⟩ c
        = if n = 0 ∧ j = 16 then ⊥ else 0 := by
      intro n
      have t := h.hot g hh j r ⟨16 + n, by omega⟩
      rw [show row 1 ⟨16 + n, by omega⟩ = (⟨80 + n, by omega⟩ : Fin 128) from Fin.ext (by simp [row]; omega)] at t
      refine (mul_eq ((ke g hh j r _).trans t) ((we g hh _ c).trans (wq2 ..))).trans ?_
      dsimp only
      by_cases hn : n = 0 ∧ j = 16
      · obtain ⟨rfl, rfl⟩ := hn
        rw [if_pos (by decide), if_pos rfl, if_pos ⟨rfl, rfl⟩, one_mul]
      · rw [if_neg hn]
        by_cases h0 : n = 0
        · have : ¬(16 + (n : Nat) = j) := fun e => hn ⟨h0, Fin.ext (by subst h0; simpa using e.symm)⟩
          rw [if_neg this, zero_mul]
        · rw [if_neg h0, mul_zero]
    rw [Finset.sum_congr rfl fun n _ => e2 n, Finset.sum_congr rfl fun n _ => e3 n]
    unfold Reals.S
    induction j using Fin.lastCases with
    | last =>
      rw [dif_neg (by simp)]
      rw [Finset.sum_eq_zero (s := (Finset.univ : Finset (Fin 16))) fun n _ => if_neg (by have := n.2; simp; omega)]
      rw [Finset.sum_eq_single (0 : Fin 48) (fun n _ hn => if_neg fun e => hn e.1) (fun hn => absurd (Finset.mem_univ _) hn)]
      rw [if_pos ⟨rfl, rfl⟩, EReal.add_bot, EReal.add_bot]
    | cast j =>
      have e1 : ∀ d : Fin 64, St.ke ((gates (F := Ideal) ⊥ (((Real.log 2)⁻¹ : ℝ) : EReal) (qn b)).run σ).2 g hh j.castSucc r ⟨d, by omega⟩
          * St.we ((gates (F := Ideal) ⊥ (((Real.log 2)⁻¹ : ℝ) : EReal) (qn b)).run σ).2 g hh ⟨d, by omega⟩ c
          = ((A.k (brow j r) (hcol g hh d) * (A.q c (hcol g hh d) * (1 / 8) * (Real.log 2)⁻¹) : ℝ) : EReal) := by
        intro d
        have t := h.kb g hh j r d
        rw [show row 0 d = (⟨d, by omega⟩ : Fin 128) from Fin.ext (by simp [row])] at t
        refine (mul_eq ((ke g hh _ r _).trans t) (((we g hh _ c).trans (wq0 ..)).trans (mul_eq ((qhOf_apply ..).trans
          (mul_eq (h.q c (gcol g (row hh d))) rfl)) rfl))).trans ?_
        rw [← EReal.coe_mul, ← EReal.coe_mul, ← EReal.coe_mul]
        rfl
      rw [Finset.sum_congr rfl fun d _ => e1 d, coe_sum]
      rw [Finset.sum_eq_zero (s := (Finset.univ : Finset (Fin 48))) fun n _ => if_neg fun e => by have := congrArg Fin.val e.2; have := j.2; simp at *; omega]
      rw [Finset.sum_eq_single j (fun n _ hn => if_neg fun e => hn (Fin.ext (by simpa using e))) (fun hn => absurd (Finset.mem_univ _) hn)]
      rw [if_pos (by simp), dif_pos (by simp), add_zero]
      have ej : (⟨(j.castSucc : Fin 17), by simp⟩ : Fin 16) = j := Fin.ext (by simp)
      rw [ej]
      by_cases hk : A.Keep b g hh c j
      · rw [if_pos hk, if_pos hk, add_zero]; rfl
      · rw [if_neg hk, if_neg hk, EReal.add_bot]
  · intro g hh j d r
    refine (congrFun (kg .vt (.inr rfl)) _).trans ?_
    unfold Reals.V
    induction j using Fin.lastCases with
    | last =>
      rw [dif_neg (by simp)]
      exact (h.padV g (row hh d) r).trans EReal.coe_zero.symm
    | cast j =>
      rw [dif_pos (by simp)]
      exact h.vt g hh j d r

end Moba
-- ==== Proof.Moba.RefRead.lean ====
/-
  The reference read at an index.
-/
module

public import proofs.«01_k».proof.Proof.Gen.ReferenceIdeal.Read
public import proofs.«01_k».proof.Proof.Moba.Model

@[expose] public section

noncomputable section

namespace Cert.ReferenceIdeal.At

open Cert.ReferenceIdeal Cert.ReferenceIdeal.Gen Cert.ReferenceIdeal.Read Idealize.ShloMosaic Idealize.SL.Sem
open Moba (brow bitBot)

variable (x0 : S4x4096x1536.Idx → EReal) (x1 : S8x2x256x256.Idx → EReal)

theorem bits8 : Ideal.ofBits FTy.f32 1040187392#32 = ((1 / 8 : ℝ) : EReal) := by
  simp [Ideal.ofBits, Ideal.ieee]; rw [← EReal.coe_mul]; norm_num

theorem bits256 : Ideal.ofBits FTy.f32 1132462080#32 = ((256 : ℝ) : EReal) := by
  simp [Ideal.ofBits, Ideal.ieee]; rw [← EReal.coe_mul]; norm_num

theorem bits0 : Ideal.ofBits FTy.f32 0#32 = 0 := by
  simp [Ideal.ofBits, Ideal.ieee]

theorem bits3 : Ideal.ofBits FTy.f32 1077936128#32 = ((3 : ℝ) : EReal) := by
  simp [Ideal.ofBits, Ideal.ieee]; rw [← EReal.coe_mul]; norm_num

theorem bits2 : Ideal.ofBits FTy.f32 1073741824#32 = ((2 : ℝ) : EReal) := by
  simp [Ideal.ofBits, Ideal.ieee]; rw [← EReal.coe_mul]; norm_num

theorem v5_at (n : Fin 4) (y : Fin 4096) (h : Fin 8) (d : Fin 64) :
    val_main_v5 (F := Ideal) x0 (ix4 n y h d) = x0 (ix3 n y (⟨h * 64 + d, by omega⟩ : Fin 1536)) * ((1 / 8 : ℝ) : EReal) := by
  pointwise [val_main_v5, val_main_v4, val_main_v3, val_main_v2, val_main_v1, val_main_v0, val_main_cst]
  rw [bits8]

theorem v7_at (n : Fin 4) (y : Fin 4096) (h : Fin 8) (d : Fin 64) :
    val_main_v7 (F := Ideal) x0 (ix4 n y h d) = x0 (ix3 n y (⟨512 + (h * 64 + d), by omega⟩ : Fin 1536)) := by
  pointwise [val_main_v7, val_main_v6, val_main_v1, val_main_v0]
  exact congrArg (fun e => x0 (ix3 n y e)) (Fin.ext (Nat.add_assoc _ _ _))

theorem v9_at (n : Fin 4) (y : Fin 4096) (h : Fin 8) (d : Fin 64) :
    val_main_v9 (F := Ideal) x0 (ix4 n y h d) = x0 (ix3 n y (⟨1024 + (h * 64 + d), by omega⟩ : Fin 1536)) := by
  pointwise [val_main_v9, val_main_v8, val_main_v1, val_main_v0]
  exact congrArg (fun e => x0 (ix3 n y e)) (Fin.ext (Nat.add_assoc _ _ _))

theorem v13_at (n : Fin 4) (j : Fin 16) (h : Fin 8) (d : Fin 64) :
    val_main_v13 (F := Ideal) x0 (ix4 n j h d) = Ideal.div (∑ r : Fin 256, x0 (ix3 n (brow j r) (⟨512 + (h * 64 + d), by omega⟩ : Fin 1536))) ((256 : ℝ) : EReal) := by
  pointwise [val_main_v13, val_main_v12, val_main_v11, val_main_v10, val_main_v7, val_main_v6, val_main_v1, val_main_v0, val_main_cst_0, val_main_cst_1]
  exact congrArg₂ Ideal.div (Finset.sum_congr rfl fun r _ => congrArg (fun e => x0 (ix3 n (brow j r) e)) (Fin.ext (Nat.add_assoc _ _ _))) bits256

theorem v14_at (j : Fin 16) : val_main_v14 (F := Ideal) (ix1 j) = BitVec.ofNat 32 j := by
  pointwise [val_main_v14]

theorem v17_at (y : Fin 4096) : val_main_v17 (F := Ideal) (ix2 y 0) = BitVec.ofNat 32 (y / 256) := by
  pointwise [val_main_v17, val_main_v16, val_main_v15, val_main_v14]

theorem v21_at (y : Fin 4096) (j : Fin 16) : val_main_v21 (F := Ideal) (ix2 y j) = IntOp.cmpi CmpIPredicate.slt (BitVec.ofNat 32 j) (BitVec.ofNat 32 (y / 256)) := by
  pointwise [val_main_v21, val_main_v20, val_main_v19, val_main_v18, val_main_v17, val_main_v16, val_main_v15, val_main_v14]

theorem v25_at (n : Fin 4) (h : Fin 8) (y : Fin 4096) (j : Fin 16) : val_main_v25 (F := Ideal) x0 (ix4 n h y j)
    = Scalar.select (val_main_v21 (F := Ideal) (ix2 y j)) (∑ d : Fin 64, val_main_v5 (F := Ideal) x0 (ix4 n y h d) * val_main_v13 (F := Ideal) x0 (ix4 n j h d)) (⊥ : EReal) := by
  pointwise [val_main_v25, val_main_v24, val_main_v23, val_main_v22, val_main_cst_2]
  rw [bitBot]

end Cert.ReferenceIdeal.At
-- ==== Proof.Moba.RefRead2.lean ====
/-
  The reference read at an index.
-/
module

public import proofs.«01_k».proof.Proof.Gen.ReferenceIdeal.Read
public import proofs.«01_k».proof.Proof.Moba.Model

@[expose] public section

noncomputable section

namespace Cert.ReferenceIdeal.At

open Cert.ReferenceIdeal Cert.ReferenceIdeal.Gen Cert.ReferenceIdeal.Read Idealize.ShloMosaic Idealize.SL.Sem
open Moba (brow bitBot)

variable (x0 : S4x4096x1536.Idx → EReal) (x1 : S8x2x256x256.Idx → EReal)

theorem three : Ideal.ofBits FTy.f32 1077936128#32 = ((3 : ℝ) : EReal) := by
  simp [Ideal.ofBits, Ideal.ieee]; rw [← EReal.coe_mul]; norm_num

theorem v46_at (n : Fin 4) (h : Fin 8) (y : Fin 4096) (j : Fin 16) :
    val_main_v46 (F := Ideal) x0 (ix4 n h y j) = ∑ x : Fin 16, Scalar.select
          (IntOp.ori (BitVec.ofBool (decide (val_main_v25 (F := Ideal) x0 (ix4 n h y j) < val_main_v25 (F := Ideal) x0 (ix4 n h y x))))
            (IntOp.andi (BitVec.ofBool (decide (val_main_v25 (F := Ideal) x0 (ix4 n h y x) = val_main_v25 (F := Ideal) x0 (ix4 n h y j))))
              (IntOp.cmpi CmpIPredicate.slt (BitVec.ofNat 32 x) (BitVec.ofNat 32 j)))) (1 : EReal) 0 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v14, val_main_cst_3, val_main_cst_4, val_main_cst_5]

theorem v58_at (n : Fin 4) (h : Fin 8) (y : Fin 4096) (j : Fin 16) :
    val_main_v58 (F := Ideal) x0 (ix4 n h y j) = IntOp.ori (IntOp.andi (val_main_v21 (F := Ideal) (ix2 y j))
      (BitVec.ofBool (decide (val_main_v46 (F := Ideal) x0 (ix4 n h y j) < ((3 : ℝ) : EReal)))))
        (IntOp.cmpi CmpIPredicate.eq (BitVec.ofNat 32 j) (BitVec.ofNat 32 (y / 256))) := by
  pointwise [val_main_v58, val_main_v57, val_main_v56, val_main_v55, val_main_v54, val_main_v53, val_main_v52, val_main_v51, val_main_v50, val_main_v49, val_main_v48, val_main_v47, val_main_v17, val_main_v16, val_main_v15, val_main_v14, val_main_cst_6]
  rw [three]

theorem v61_at (n : Fin 4) (h : Fin 8) (y z : Fin 4096) :
    val_main_v61 (F := Ideal) x0 (ix4 n h y z) = val_main_v58 (F := Ideal) x0 (ix4 n h y (⟨z / 256, by omega⟩ : Fin 16)) := by
  pointwise [val_main_v61, val_main_v60, val_main_v59]

end Cert.ReferenceIdeal.At
-- ==== Proof.Moba.RefRead3.lean ====
/-
  The reference read at an index.
-/
module

public import proofs.«01_k».proof.Proof.Gen.ReferenceIdeal.Read
public import proofs.«01_k».proof.Proof.Moba.Model

@[expose] public section

noncomputable section

namespace Cert.ReferenceIdeal.At

open Cert.ReferenceIdeal Cert.ReferenceIdeal.Gen Cert.ReferenceIdeal.Read Idealize.ShloMosaic Idealize.SL.Sem
open Moba (brow bitBot)

variable (x0 : S4x4096x1536.Idx → EReal) (x1 : S8x2x256x256.Idx → EReal)

/-- The bias at a query and a key, by their blocks and their places in them. -/
theorem v89_at (h : Fin 8) (i j : Fin 16) (c r : Fin 256) :
    val_main_v89 (F := Ideal) x1 (ix3 h (brow i c) (brow j r)) = val_main_v88 (F := Ideal) x1 (ix5 h i c j r) := by
  refine (val_main_v89_apply (F := Ideal) x1 (ix3 h (brow i c) (brow j r))).trans (congrArg (val_main_v88 (F := Ideal) x1) ?_)
  have hh := h.2
  have hi := i.2
  have hj := j.2
  have hc := c.2
  have hr := r.2
  funext a
  refine Fin.ext ?_
  match a with
  | ⟨0, _⟩ => show ((h.1 * 4096 + (i.1 * 256 + c.1)) * 4096 + (j.1 * 256 + r.1)) / 16777216 = h.1; omega
  | ⟨1, _⟩ => show ((h.1 * 4096 + (i.1 * 256 + c.1)) * 4096 + (j.1 * 256 + r.1)) / 1048576 % 16 = i.1; omega
  | ⟨2, _⟩ => show ((h.1 * 4096 + (i.1 * 256 + c.1)) * 4096 + (j.1 * 256 + r.1)) / 4096 % 256 = c.1; omega
  | ⟨3, _⟩ => show ((h.1 * 4096 + (i.1 * 256 + c.1)) * 4096 + (j.1 * 256 + r.1)) / 256 % 16 = j.1; omega
  | ⟨4, _⟩ => show ((h.1 * 4096 + (i.1 * 256 + c.1)) * 4096 + (j.1 * 256 + r.1)) % 256 = r.1; omega

theorem v75_at (i j : Fin 16) : val_main_v75 (F := Ideal) (ix4 i 0 j 0) = IntOp.cmpi CmpIPredicate.eq (BitVec.ofNat 32 j) (BitVec.ofNat 32 i) := by
  pointwise [val_main_v75, val_main_v74, val_main_v73, val_main_v72, val_main_v63, val_main_v62, val_main_v14]

theorem v81_at (i j : Fin 16) : val_main_v81 (F := Ideal) (ix4 i 0 j 0) = IntOp.cmpi CmpIPredicate.eq (IntOp.addi (BitVec.ofNat 32 j) 1#32) (BitVec.ofNat 32 i) := by
  pointwise [val_main_v81, val_main_v80, val_main_v79, val_main_v78, val_main_v77, val_main_v76, val_main_c, val_main_v63, val_main_v62, val_main_v14]

theorem v67_at (h : Fin 8) (c r : Fin 256) : val_main_v67 (F := Ideal) x1 (ix5 h 0 c 0 r) = x1 (ix4 h 0 r c) := by
  pointwise [val_main_v67, val_main_v66, val_main_v65, val_main_v64]

theorem v71_at (h : Fin 8) (c r : Fin 256) : val_main_v71 (F := Ideal) x1 (ix5 h 0 c 0 r) = x1 (ix4 h 1 r c) := by
  pointwise [val_main_v71, val_main_v70, val_main_v69, val_main_v68]

theorem cst7_at (x : S_.Idx) : val_main_cst_7 (F := Ideal) x = (0 : EReal) := by
  refine (show _ = Ideal.ofBits FTy.f32 0#32 from rfl).trans ?_
  simp [Ideal.ofBits, Ideal.ieee]

theorem v88_at (h : Fin 8) (i j : Fin 16) (c r : Fin 256) :
    val_main_v88 (F := Ideal) x1 (ix5 h i c j r) =
      Scalar.select (IntOp.cmpi CmpIPredicate.eq (BitVec.ofNat 32 j) (BitVec.ofNat 32 i)) (x1 (ix4 h 0 r c))
        (Scalar.select (IntOp.cmpi CmpIPredicate.eq (IntOp.addi (BitVec.ofNat 32 j) 1#32) (BitVec.ofNat 32 i)) (x1 (ix4 h 1 r c)) (0 : EReal)) := by
  have e4 : ∀ a : Fin 4, (idx_main_v86 (ix5 h i c j r) : S16x1x16x1.Idx) a = (ix4 i 0 j 0 : S16x1x16x1.Idx) a := fun a => match a with
    | ⟨0, _⟩ => rfl | ⟨1, _⟩ => rfl | ⟨2, _⟩ => rfl | ⟨3, _⟩ => rfl
  have e4' : ∀ a : Fin 4, (idx_main_v82 (ix5 h i c j r) : S16x1x16x1.Idx) a = (ix4 i 0 j 0 : S16x1x16x1.Idx) a := fun a => match a with
    | ⟨0, _⟩ => rfl | ⟨1, _⟩ => rfl | ⟨2, _⟩ => rfl | ⟨3, _⟩ => rfl
  have e5 : ∀ a : Fin 5, (idx_main_v87 (ix5 h i c j r) : S8x1x256x1x256.Idx) a = (ix5 h 0 c 0 r : S8x1x256x1x256.Idx) a := fun a => match a with
    | ⟨0, _⟩ => rfl | ⟨1, _⟩ => rfl | ⟨2, _⟩ => rfl | ⟨3, _⟩ => rfl | ⟨4, _⟩ => rfl
  have e5' : ∀ a : Fin 5, (idx_main_v83 (ix5 h i c j r) : S8x1x256x1x256.Idx) a = (ix5 h 0 c 0 r : S8x1x256x1x256.Idx) a := fun a => match a with
    | ⟨0, _⟩ => rfl | ⟨1, _⟩ => rfl | ⟨2, _⟩ => rfl | ⟨3, _⟩ => rfl | ⟨4, _⟩ => rfl
  have h86 := (val_main_v86_apply (F := Ideal) (ix5 h i c j r)).trans ((congrArg _ (funext e4)).trans (v75_at i j))
  have h82 := (val_main_v82_apply (F := Ideal) (ix5 h i c j r)).trans ((congrArg _ (funext e4')).trans (v81_at i j))
  have h87 := (val_main_v87_apply (F := Ideal) x1 (ix5 h i c j r)).trans ((congrArg _ (funext e5)).trans (v67_at x1 h c r))
  have h83 := (val_main_v83_apply (F := Ideal) x1 (ix5 h i c j r)).trans ((congrArg _ (funext e5')).trans (v71_at x1 h c r))
  have h84 := (val_main_v84_apply (F := Ideal) (ix5 h i c j r)).trans (cst7_at _)
  rw [val_main_v88_apply, val_main_v85_apply, h86, h82, h87, h83, h84]

theorem v92_at (x : S_.Idx) : val_main_v92 (F := Ideal) x = ((Real.log 2 : ℝ) : EReal) := by
  refine (show _ = Ideal.log (Ideal.ofBits FTy.f32 1073741824#32) from rfl).trans ?_
  have h2 : Ideal.ofBits FTy.f32 1073741824#32 = ((2 : ℝ) : EReal) := by
    simp [Ideal.ofBits, Ideal.ieee]; rw [← EReal.coe_mul]; norm_num
  rw [h2]
  show (if (2 : ℝ) ≤ 0 then (⊥ : EReal) else ((Real.log 2 : ℝ) : EReal)) = _
  rw [if_neg (by norm_num)]

theorem v94_at (h : Fin 8) (i j : Fin 16) (c r : Fin 256) :
    val_main_v94 (F := Ideal) x1 (ix3 h (brow i c) (brow j r)) =
      Scalar.select (IntOp.cmpi CmpIPredicate.eq (BitVec.ofNat 32 j) (BitVec.ofNat 32 i)) (x1 (ix4 h 0 r c))
        (Scalar.select (IntOp.cmpi CmpIPredicate.eq (IntOp.addi (BitVec.ofNat 32 j) 1#32) (BitVec.ofNat 32 i)) (x1 (ix4 h 1 r c)) (0 : EReal))
        * ((Real.log 2 : ℝ) : EReal) := by
  refine (val_main_v94_apply (F := Ideal) x1 (ix3 h (brow i c) (brow j r))).trans ?_
  refine congrArg₂ (fun a b : EReal => a * b) ((v89_at x1 h i j c r).trans (v88_at x1 h i j c r)) ?_
  exact (val_main_v93_apply (F := Ideal) _).trans (v92_at _)

end Cert.ReferenceIdeal.At
-- ==== Proof.Moba.RefRead4.lean ====
/-
  The reference read at an index.
-/
module

public import proofs.«01_k».proof.Proof.Gen.ReferenceIdeal.Read
public import proofs.«01_k».proof.Proof.Moba.Model

@[expose] public section

noncomputable section

namespace Cert.ReferenceIdeal.At

open Cert.ReferenceIdeal Cert.ReferenceIdeal.Gen Cert.ReferenceIdeal.Read Idealize.ShloMosaic Idealize.SL.Sem
open Moba (brow bitBot)

variable (x0 : S4x4096x1536.Idx → EReal) (x1 : S8x2x256x256.Idx → EReal)

theorem v99_at (n : Fin 4) (h : Fin 8) (y z : Fin 4096) :
    val_main_v99 (F := Ideal) x0 x1 (ix4 n h y z) = Scalar.select (val_main_v61 (F := Ideal) x0 (ix4 n h y z))
      ((∑ d : Fin 64, val_main_v5 (F := Ideal) x0 (ix4 n y h d) * val_main_v7 (F := Ideal) x0 (ix4 n z h d)) + val_main_v94 (F := Ideal) x1 (ix3 h y z)) (⊥ : EReal) := by
  refine (val_main_v99_apply (F := Ideal) x0 x1 (ix4 n h y z)).trans ?_
  have h98 : val_main_v98 (F := Ideal) (ix4 n h y z) = (⊥ : EReal) :=
    (val_main_v98_apply (F := Ideal) _).trans ((show _ = Ideal.ofBits FTy.f32 4286578688#32 from rfl).trans bitBot)
  have h97 : val_main_v97 (F := Ideal) x0 x1 (ix4 n h y z)
      = (∑ d : Fin 64, val_main_v5 (F := Ideal) x0 (ix4 n y h d) * val_main_v7 (F := Ideal) x0 (ix4 n z h d)) + val_main_v94 (F := Ideal) x1 (ix3 h y z) := by
    refine (val_main_v97_apply (F := Ideal) x0 x1 (ix4 n h y z)).trans (congrArg₂ (fun a b : EReal => a + b) ?_ ?_)
    · refine (val_main_v90_apply x0 (ix4 n h y z)).trans (Finset.sum_congr rfl fun d _ => congrArg₂ (fun a b : EReal => a * b) (congrArg _ ?_) (congrArg _ ?_))
      · funext a; match a with | ⟨0, _⟩ => rfl | ⟨1, _⟩ => rfl | ⟨2, _⟩ => rfl | ⟨3, _⟩ => rfl
      · funext a; match a with | ⟨0, _⟩ => rfl | ⟨1, _⟩ => rfl | ⟨2, _⟩ => rfl | ⟨3, _⟩ => rfl
    · refine (val_main_v96_apply (F := Ideal) x1 (ix4 n h y z)).trans ((val_main_v95_apply (F := Ideal) x1 _).trans (congrArg _ ?_))
      funext a; match a with | ⟨0, _⟩ => rfl | ⟨1, _⟩ => rfl | ⟨2, _⟩ => rfl
  rw [h98, h97]

theorem v102_at (n : Fin 4) (h : Fin 8) (y : Fin 4096) :
    val_main_v102 (F := Ideal) x0 x1 (ix3 n h y) = max ⊥ (Finset.univ.fold max ⊥ fun z : Fin 4096 => val_main_v99 (F := Ideal) x0 x1 (ix4 n h y z)) := by
  refine (val_main_v102_apply (F := Ideal) x0 x1 (ix3 n h y)).trans (congrArg₂ (fun a b : EReal => max a b) ?_ ?_)
  · exact (val_main_v101_apply (F := Ideal) _).trans ((show _ = Ideal.ofBits FTy.f32 4286578688#32 from rfl).trans bitBot)
  · have hb : ∀ x, val_main_cst_10 (F := Ideal) x = (⊥ : EReal) := fun x => (show _ = Ideal.ofBits FTy.f32 4286578688#32 from rfl).trans bitBot
    unfold val_main_v100
    generalize val_main_v99 (F := Ideal) x0 x1 = y0
    refine (Host.reduce_eq_fold (FloatOps.maximumf (F := Ideal) (φ := .f32)) y0 _ reducesTo_S4x8x4096x4096_S4x8x4096_d3 h_S_ (ix3 n h y)).trans ?_
    refine (Shape.ReducesTo.fold_fiber_r4_a3 reducesTo_S4x8x4096x4096_S4x8x4096_d3 (ix3 n h y) (FloatOps.maximumf (F := Ideal) (φ := .f32)) _ _).trans ?_
    rw [hb]
    rfl

theorem v106_at (n : Fin 4) (h : Fin 8) (y z : Fin 4096) :
    val_main_v106 (F := Ideal) x0 x1 (ix4 n h y z) = Ideal.exp (val_main_v99 (F := Ideal) x0 x1 (ix4 n h y z) - val_main_v102 (F := Ideal) x0 x1 (ix3 n h y)) := by
  refine (val_main_v106_apply (F := Ideal) x0 x1 (ix4 n h y z)).trans (congrArg Ideal.exp ?_)
  refine (val_main_v105_apply (F := Ideal) x0 x1 (ix4 n h y z)).trans (congrArg₂ (fun a b : EReal => a - b) rfl ?_)
  refine (val_main_v104_apply (F := Ideal) x0 x1 (ix4 n h y z)).trans ((val_main_v103_apply (F := Ideal) x0 x1 _).trans (congrArg _ ?_))
  funext a; match a with | ⟨0, _⟩ => rfl | ⟨1, _⟩ => rfl | ⟨2, _⟩ => rfl

theorem v110_at (n : Fin 4) (h : Fin 8) (y z : Fin 4096) :
    val_main_v110 (F := Ideal) x0 x1 (ix4 n h y z) = Ideal.div (val_main_v106 (F := Ideal) x0 x1 (ix4 n h y z)) (0 + ∑ w : Fin 4096, val_main_v106 (F := Ideal) x0 x1 (ix4 n h y w)) := by
  refine (val_main_v110_apply (F := Ideal) x0 x1 (ix4 n h y z)).trans (congrArg₂ Ideal.div rfl ?_)
  refine (val_main_v109_apply (F := Ideal) x0 x1 (ix4 n h y z)).trans ((val_main_v108_apply (F := Ideal) x0 x1 _).trans ((val_main_v107_apply x0 x1 _).trans ?_))
  refine congrArg₂ (fun a b : EReal => a + b) ?_ (Finset.sum_congr rfl fun w _ => congrArg _ ?_)
  · refine (show _ = Ideal.ofBits FTy.f32 0#32 from rfl).trans ?_
    simp [Ideal.ofBits, Ideal.ieee]
  · funext a; match a with | ⟨0, _⟩ => rfl | ⟨1, _⟩ => rfl | ⟨2, _⟩ => rfl | ⟨3, _⟩ => rfl

end Cert.ReferenceIdeal.At
-- ==== Proof.Moba.RefRead5.lean ====
/-
  The reference read at an index.
-/
module

public import proofs.«01_k».proof.Proof.Gen.ReferenceIdeal.Read
public import proofs.«01_k».proof.Proof.Moba.Model

@[expose] public section

noncomputable section

namespace Cert.ReferenceIdeal.At

open Cert.ReferenceIdeal Cert.ReferenceIdeal.Gen Cert.ReferenceIdeal.Read Idealize.ShloMosaic Idealize.SL.Sem
open Moba (brow bitBot)

variable (x0 : S4x4096x1536.Idx → EReal) (x1 : S8x2x256x256.Idx → EReal)

theorem v111_at (n : Fin 4) (h : Fin 8) (d : Fin 64) (y : Fin 4096) :
    val_main_v111 (F := Ideal) x0 x1 (ix4 n h d y) = ∑ z : Fin 4096, val_main_v9 (F := Ideal) x0 (ix4 n z h d) * val_main_v110 (F := Ideal) x0 x1 (ix4 n h y z) := by
  refine (val_main_v111_apply x0 x1 (ix4 n h d y)).trans (Finset.sum_congr rfl fun z _ => congrArg₂ (fun a b : EReal => a * b) (congrArg _ ?_) (congrArg _ ?_))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem v114_at (n : Fin 4) (y : Fin 4096) (h : Fin 8) (d : Fin 64) :
    val_main_v114 (F := Ideal) x0 x1 (ix3 n y (⟨h * 64 + d, by omega⟩ : Fin 512)) = val_main_v111 (F := Ideal) x0 x1 (ix4 n h d y) := by
  refine (val_main_v114_apply (F := Ideal) x0 x1 (ix3 n y (⟨h * 64 + d, by omega⟩ : Fin 512))).trans ((val_main_v113_apply (F := Ideal) x0 x1 _).trans ((val_main_v112_apply (F := Ideal) x0 x1 _).trans (congrArg (val_main_v111 (F := Ideal) x0 x1) ?_)))
  have hn := n.2
  have hy := y.2
  have hh := h.2
  have hd := d.2
  funext a
  refine Fin.ext ?_
  match a with
  | ⟨0, _⟩ => show ((n.1 * 4096 + y.1) * 512 + (h.1 * 64 + d.1)) / 2097152 = n.1; omega
  | ⟨1, _⟩ => show ((n.1 * 4096 + y.1) * 512 + (h.1 * 64 + d.1)) / 64 % 8 = h.1; omega
  | ⟨2, _⟩ => show ((n.1 * 4096 + y.1) * 512 + (h.1 * 64 + d.1)) % 64 = d.1; omega
  | ⟨3, _⟩ => show ((n.1 * 4096 + y.1) * 512 + (h.1 * 64 + d.1)) / 512 % 4096 = y.1; omega

end Cert.ReferenceIdeal.At
-- ==== Proof.Moba.Point.lean ====
/-
  A grid point's value: with real queries, keys, values and bias, and the scratch filled, the output block holds the
  attention of the kept blocks.
-/
module

public import proofs.«01_k».proof.Proof.Moba.Model
public import proofs.«01_k».proof.Proof.Moba.IdealTri

@[expose] public section

noncomputable section

namespace Cert.KernelIdeal.Run

open Cert.KernelIdeal Cert.KernelIdeal.Gen Idealize.ShloMosaic Idealize.SL.Sem
open Moba

theorem trips_eq (i : grid0.Coords) : (k0_t1_loop i).trips = (i 2).val / 2 / 2 := by
  have e : ∀ b : Fin 16, (k0_t1_loop (pointOf b)).trips = b.val / 2 / 2 := by decide
  exact e (i 2)

theorem cond2_iff (i : grid0.Coords) : k0_cond2 i = 1#1 ↔ (i 2).val / 2 % 2 = 1 := by
  have e : ∀ b : Fin 16, k0_cond2 (pointOf b) = 1#1 ↔ b.val / 2 % 2 = 1 := by decide
  exact e (i 2)

/-- After the loops, the sums are those over all pairs of blocks. -/
theorem done_point (i : grid0.Coords) (σ : St Ideal 𝔅) (A : Reals) (h : Holds (stFill i σ) A) :
    let r := stStart i (stFill i σ)
    let t := stLoop i r.1 r.2
    let s := stLast i t.1 t.2
    Done (A.S (i 2)) A.V (A.T (i 2)) (i 2) ((i 2).val / 2) s.2 s.1 := by
  intro r t s
  have h0 : ReadyAt (A.S (i 2)) A.V (A.T (i 2)) (i 2) r.2 r.1 0 := by
    refine start_ready (A.lowS _) (A.lowT _) (i 2) (A.hTS _) _ _ _ _ _ _ (stFill i σ) (h.env (i 2)) ?_ ?_ ?_
    · exact fun g hh c => ⟨0, A.T_own _ g hh 0 c⟩
    · intro g hh r c
      exact (congrArg (fun x : EReal => A.S (i 2) (qn (i 2)).toNat g hh r c + x) (h.bias (headNo g hh) 0 r c)).trans (A.eA (i 2) g hh r c)
    · intro g hh r c
      exact (congrArg (fun x : EReal => A.S (i 2) (prevBlk (qn (i 2))).toNat g hh r c + x) (h.bias (headNo g hh) 1 r c)).trans (A.eB (i 2) g hh r c)
  have h1 : ReadyAt (A.S (i 2)) A.V (A.T (i 2)) (i 2) t.2 t.1 (2 * (k0_t1_loop i).trips) :=
    loop_ready (A.lowS _) (A.lowT _) (i 2) (A.hTS _) (le_trans (trips1 i) (by decide)) (okTrip i) h0
  rw [trips_eq] at h1
  by_cases hc : k0_cond2 i = 1#1
  · have hm := (cond2_iff i).1 hc
    have es : s = (Moba.lastStep _ _ (lastOk i hc).1 (lastOk i hc).2 t.1).run t.2 := dif_pos hc
    rw [es]
    have en : Moba.farA (Moba.nFar (qb i)) (Scalar.subi (Moba.nPairs (qb i)) 1#32) = Moba.farA (Moba.nFar (qb i)) (BitVec.ofNat 32 (2 * ((i 2).val / 2 / 2)))
        ∧ Moba.farB (Moba.nFar (qb i)) (Scalar.subi (Moba.nPairs (qb i)) 1#32) = Moba.farB (Moba.nFar (qb i)) (BitVec.ofNat 32 (2 * ((i 2).val / 2 / 2))) := by
      have e : ∀ b : Fin 16, b.val / 2 % 2 = 1 → Scalar.subi (Moba.nPairs (BitVec.ofNat 32 b)) 1#32 = BitVec.ofNat 32 (2 * (b.val / 2 / 2)) := by decide
      have e' : Scalar.subi (Moba.nPairs (qb i)) 1#32 = BitVec.ofNat 32 (2 * ((i 2).val / 2 / 2)) := e (i 2) hm
      rw [e']; exact ⟨rfl, rfl⟩
    have h2 := last_done (A.lowT _) (i 2) (2 * ((i 2).val / 2 / 2)) _ _ (lastOk i hc).1 (lastOk i hc).2 (congrArg BitVec.toNat en.1) (congrArg BitVec.toNat en.2) h1
    rwa [show 2 * ((i 2).val / 2 / 2) + 1 = (i 2).val / 2 by omega] at h2
  · have hm : ¬(i 2).val / 2 % 2 = 1 := fun e => hc ((cond2_iff i).2 e)
    have es : s = (t.1.l, t.2) := dif_neg hc
    rw [es]
    rw [show 2 * ((i 2).val / 2 / 2) = (i 2).val / 2 by omega] at h1
    exact fun g hh => ⟨_, h1.stat g hh⟩

/-- The output block of a grid point. -/
theorem out_point (i : grid0.Coords) (σ : St Ideal 𝔅) (A : Reals) (h : Holds (stFill i σ) A) (c : Fin 256) (g : Fin 4) (hh : Fin 2) (d : Fin 64) :
    stBody i σ .out (ix3 0 c (hcol g hh d)) = ((A.out (i 2) g hh c d : ℝ) : EReal) := by
  have hd := done_point i σ A h
  obtain ⟨m, hm⟩ := hd g hh
  obtain ⟨μ, -, hl, ha⟩ := hm c
  refine (outs_out _ _ c g hh d).trans ?_
  refine (congrArg₂ Ideal.div (ha d) hl).trans ?_
  exact A.out_eq (i 2) g hh c d μ

end Cert.KernelIdeal.Run
-- ==== Proof.Moba.Launch.lean ====
/-
  The launch over real arrays: between two grid points the scratch holds what the batch's filling wrote, and every
  point's output block is the attention of its queries.
-/
module

public import proofs.«01_k».proof.Proof.Moba.Point
public import proofs.«01_k».proof.Proof.Moba.IdealFrame

@[expose] public section

set_option maxRecDepth 8192
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal Cert.KernelIdeal.Gen
open Moba (St Carry Heads Code Tri iter 𝔅 ownAll Keeps Reals Filled Holds hcol brow)

local notation "𝕄" => MT nD τ sig Unit (Elt Ideal) ℕ (UR sig nD τ) ℕ

/-! ## The real arrays -/

/-- A grid point's real arrays. -/
def realsOf (X : S4x4096x1536.Idx → ℝ) (B : S8x2x256x256.Idx → ℝ) (n : Fin 4) (b : Fin 16) : Reals where
  q r e := X (ix3 n (brow b r) (⟨e, by omega⟩ : Fin 1536))
  k y e := X (ix3 n y (⟨512 + e, by omega⟩ : Fin 1536))
  v y e := X (ix3 n y (⟨1024 + e, by omega⟩ : Fin 1536))
  w h w r c := B (ix4 h w r c)

/-- A lane's group, head and place. -/
def grpOf (e : Fin 512) : Fin 4 := ⟨e / 128, by omega⟩
def hhOf (e : Fin 512) : Fin 2 := ⟨e / 64 % 2, by omega⟩
def laneOf (e : Fin 512) : Fin 64 := ⟨e % 64, by omega⟩

theorem hcol_parts (e : Fin 512) : hcol (grpOf e) (hhOf e) (laneOf e) = e := by
  apply Fin.ext
  simp only [hcol, Moba.gcol, Moba.row, grpOf, hhOf, laneOf]
  omega

/-- A grid point's output block. -/
def outBlk (X : S4x4096x1536.Idx → ℝ) (B : S8x2x256x256.Idx → ℝ) (n : Fin 4) (b : Fin 16) : S1x256x512.Idx → EReal := fun x =>
  (((realsOf X B n b).out b (grpOf (x 2)) (hhOf (x 2)) (x 1) (laneOf (x 2)) : ℝ) : EReal)

/-- The whole output. -/
def attn (X : S4x4096x1536.Idx → ℝ) (B : S8x2x256x256.Idx → ℝ) : S4x4096x512.Idx → EReal := fun x =>
  (((realsOf X B (x 0) ⟨(x 1).val / 256, by have : (x 1).val < 4096 := (x 1).isLt; omega⟩).out ⟨(x 1).val / 256, by have : (x 1).val < 4096 := (x 1).isLt; omega⟩
    (grpOf (x 2)) (hhOf (x 2)) ⟨(x 1).val % 256, by omega⟩ (laneOf (x 2)) : ℝ) : EReal)

/-! ## The blocks -/

def batchOf (t : Fin cfg0.N) : Fin 4 := ⟨t.val / 16, by have : t.val < 64 := t.isLt; omega⟩
def blkOf (t : Fin cfg0.N) : Fin 16 := ⟨t.val % 16, by omega⟩

theorem idx_facts : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 1)
    ∧ (win0_2.index t 0 = t.val / 16 ∧ win0_2.index t 1 = 0 ∧ win0_2.index t 2 = 2)
    ∧ (win0_3.index t 0 = 0 ∧ win0_3.index t 1 = 0 ∧ win0_3.index t 2 = 0 ∧ win0_3.index t 3 = 0)
    ∧ (win0_4.index t 0 = t.val / 16 ∧ win0_4.index t 1 = t.val % 16 ∧ win0_4.index t 2 = 0) :=
  (by decide +kernel : ∀ t : Fin grid0.N, _)

theorem coord2 : ∀ t : Fin cfg0.N, (grid0.coords t 2).val = t.val % 16 :=
  (by decide +kernel : ∀ t : Fin grid0.N, _)

variable (m : (ℓ : Loc nD τ sig) → Buf (Elt Ideal) ℓ) (c : Dev nD)

theorem iblk0 (t : Fin cfg0.N) (r : Fin 256) (e : Fin 512) :
    (iblk m c 0 t : S1x256x512.Idx → EReal) (ix3 0 r e) = m ((c : Thread nD τ).loc main_arg0) (ix3 (batchOf t) (brow (blkOf t) r) (⟨e, by omega⟩ : Fin 1536)) := by
  have hi := (idx_facts t).1
  show V m c main_arg0 (((cfg0.win 0).blk t).view.emb (ix3 0 r e)) = _
  rw [V_main_arg0]
  congr 1
  funext a
  apply Fin.ext
  match a with
  | ⟨0, _⟩ => show win0_0.index t 0 * 1 + 1 * 0 = t.val / 16; omega
  | ⟨1, _⟩ => show win0_0.index t 1 * 256 + 1 * r.val = t.val % 16 * 256 + r.val; omega
  | ⟨2, _⟩ => show win0_0.index t 2 * 512 + 1 * e.val = e.val; omega

theorem iblk1 (t : Fin cfg0.N) (y : Fin 4096) (e : Fin 512) :
    (iblk m c 1 t : S1x4096x512.Idx → EReal) (ix3 0 y e) = m ((c : Thread nD τ).loc main_arg0) (ix3 (batchOf t) y (⟨512 + e, by omega⟩ : Fin 1536)) := by
  have hi := (idx_facts t).2.1
  show V m c main_arg0 (((cfg0.win 1).blk t).view.emb (ix3 0 y e)) = _
  rw [V_main_arg0]
  congr 1
  funext a
  apply Fin.ext
  match a with
  | ⟨0, _⟩ => show win0_1.index t 0 * 1 + 1 * 0 = t.val / 16; omega
  | ⟨1, _⟩ => show win0_1.index t 1 * 4096 + 1 * y.val = y.val; omega
  | ⟨2, _⟩ => show win0_1.index t 2 * 512 + 1 * e.val = 512 + e.val; omega

theorem iblk2 (t : Fin cfg0.N) (y : Fin 4096) (e : Fin 512) :
    (iblk m c 2 t : S1x4096x512.Idx → EReal) (ix3 0 y e) = m ((c : Thread nD τ).loc main_arg0) (ix3 (batchOf t) y (⟨1024 + e, by omega⟩ : Fin 1536)) := by
  have hi := (idx_facts t).2.2.1
  show V m c main_arg0 (((cfg0.win 2).blk t).view.emb (ix3 0 y e)) = _
  rw [V_main_arg0]
  congr 1
  funext a
  apply Fin.ext
  match a with
  | ⟨0, _⟩ => show win0_2.index t 0 * 1 + 1 * 0 = t.val / 16; omega
  | ⟨1, _⟩ => show win0_2.index t 1 * 4096 + 1 * y.val = y.val; omega
  | ⟨2, _⟩ => show win0_2.index t 2 * 512 + 1 * e.val = 1024 + e.val; omega

theorem iblk3 (t : Fin cfg0.N) (h : Fin 8) (w : Fin 2) (r q : Fin 256) :
    (iblk m c 3 t : S8x2x256x256.Idx → EReal) (ix4 h w r q) = m ((c : Thread nD τ).loc main_arg1) (ix4 h w r q) := by
  have hi := (idx_facts t).2.2.2.1
  show V m c main_arg1 (((cfg0.win 3).blk t).view.emb (ix4 h w r q)) = _
  rw [V_main_arg1]
  congr 1
  funext a
  apply Fin.ext
  match a with
  | ⟨0, _⟩ => show win0_3.index t 0 * 8 + 1 * h.val = h.val; omega
  | ⟨1, _⟩ => show win0_3.index t 1 * 2 + 1 * w.val = w.val; omega
  | ⟨2, _⟩ => show win0_3.index t 2 * 256 + 1 * r.val = r.val; omega
  | ⟨3, _⟩ => show win0_3.index t 3 * 256 + 1 * q.val = q.val; omega

theorem emb_out (t : Fin cfg0.N) (r : Fin 256) (e : Fin 512) :
    ((cfg0.win 4).blk t).view.emb (ix3 0 r e) = (ix3 (batchOf t) (brow (blkOf t) r) e : S4x4096x512.Idx) := by
  have hi := (idx_facts t).2.2.2.2
  funext a
  apply Fin.ext
  match a with
  | ⟨0, _⟩ => show win0_4.index t 0 * 1 + 1 * 0 = t.val / 16; omega
  | ⟨1, _⟩ => show win0_4.index t 1 * 256 + 1 * r.val = t.val % 16 * 256 + r.val; omega
  | ⟨2, _⟩ => show win0_4.index t 2 * 512 + 1 * e.val = e.val; omega

/-- Within a batch the keys' and values' blocks stay. -/
theorem iblk1_next (t s : Fin cfg0.N) (h : batchOf s = batchOf t) : (iblk m c 1 s : S1x4096x512.Idx → EReal) = iblk m c 1 t := by
  funext (x : S1x4096x512.Idx)
  have hx : x = ix3 0 (x 1) (x 2) := by
    funext a
    match a with
    | ⟨0, _⟩ => exact Subsingleton.elim (α := Fin 1) _ _
    | ⟨1, _⟩ => rfl
    | ⟨2, _⟩ => rfl
  rw [hx]
  exact ((iblk1 m c s (x 1) (x 2)).trans (by rw [h])).trans (iblk1 m c t (x 1) (x 2)).symm

theorem iblk2_next (t s : Fin cfg0.N) (h : batchOf s = batchOf t) : (iblk m c 2 s : S1x4096x512.Idx → EReal) = iblk m c 2 t := by
  funext (x : S1x4096x512.Idx)
  have hx : x = ix3 0 (x 1) (x 2) := by
    funext a
    match a with
    | ⟨0, _⟩ => exact Subsingleton.elim (α := Fin 1) _ _
    | ⟨1, _⟩ => rfl
    | ⟨2, _⟩ => rfl
  rw [hx]
  exact ((iblk2 m c s (x 1) (x 2)).trans (by rw [h])).trans (iblk2 m c t (x 1) (x 2)).symm

/-! ## The scratch between two points -/

/-- The scratch holds what the filling writes of these keys and values. -/
def Ready (K W : S1x4096x512.Idx → EReal) (km : Moba.S4x16x128.Idx → EReal) (kb : Moba.S4x2x17x256x128.Idx → EReal)
    (vt : Moba.S4x17x128x256.Idx → EReal) : Prop :=
  Filled K W (mkSt (F := Ideal) (fun _ => 0) (fun _ => 0) (fun _ => 0) (fun _ => 0) (fun _ => 0) km kb vt (fun _ => 0) (fun _ => 0) (fun _ => 0) (fun _ => 0))

theorem Ready.of (K W : S1x4096x512.Idx → EReal) (σ : St Ideal 𝔅) (h : Filled K W σ) : Ready K W (σ .km) (σ .kb) (σ .vt) :=
  ⟨h.kb, h.vt, h.km⟩

theorem Ready.to (K W : S1x4096x512.Idx → EReal) (σ : St Ideal 𝔅) (h : Ready K W (σ .km) (σ .kb) (σ .vt)) : Filled K W σ :=
  ⟨h.kb, h.vt, h.km⟩

/-- What the scratch holds before point `t`. -/
def Before (t : Fin (cfg0.N + 1)) (km : Moba.S4x16x128.Idx → EReal) (kb : Moba.S4x2x17x256x128.Idx → EReal)
    (vt : Moba.S4x17x128x256.Idx → EReal) : Prop :=
  ∀ s : Fin cfg0.N, s.val = t.val → s.val % 16 ≠ 0 → Ready (iblk m c 1 s) (iblk m c 2 s) km kb vt

theorem isFirst_iff (t : Fin cfg0.N) : Moba.isFirst (qb (grid0.coords t)) = 1#1 ↔ t.val % 16 = 0 := by
  have e : ∀ b : Fin 16, Moba.isFirst (BitVec.ofNat 32 b) = 1#1 ↔ b.val = 0 := by decide
  rw [← coord2 t]
  exact e (grid0.coords t 2)

/-- After the filling, or the keeping, the scratch holds the batch's. -/
theorem fill_at (t : Fin cfg0.N) (σ : St Ideal 𝔅) (hk : σ .k = iblk m c 1 t) (hv : σ .v = iblk m c 2 t)
    (h : Before m c t.castSucc (σ .km) (σ .kb) (σ .vt)) : Filled (iblk m c 1 t) (iblk m c 2 t) (stFill (grid0.coords t) σ) := by
  unfold stFill
  by_cases hf : Moba.isFirst (qb (grid0.coords t)) = 1#1
  · rw [if_pos hf]
    have := Moba.filled_fill σ
    rw [hk, hv] at this
    exact this
  · rw [if_neg hf]
    exact Ready.to _ _ σ (h t rfl fun e => hf ((isFirst_iff t).2 e))

theorem before_next (t : Fin cfg0.N) (σ : St Ideal 𝔅) (h : Filled (iblk m c 1 t) (iblk m c 2 t) (stFill (grid0.coords t) σ)) :
    Before m c t.succ (stBody (grid0.coords t) σ .km) (stBody (grid0.coords t) σ .kb) (stBody (grid0.coords t) σ .vt) := by
  intro s hs h0
  have hb : batchOf s = batchOf t := by
    apply Fin.ext
    show s.val / 16 = t.val / 16
    have : s.val = t.val + 1 := hs
    omega
  rw [iblk1_next m c t s hb, iblk2_next m c t s hb]
  rw [stBody_filled _ σ .km True.intro, stBody_filled _ σ .kb True.intro, stBody_filled _ σ .vt True.intro]
  exact Ready.of _ _ _ h

/-! ## A point's output -/

variable (X : S4x4096x1536.Idx → ℝ) (B : S8x2x256x256.Idx → ℝ)

theorem out_at (hX : ∀ x, m ((c : Thread nD τ).loc main_arg0) x = (X x : EReal)) (hB : ∀ x, m ((c : Thread nD τ).loc main_arg1) x = (B x : EReal))
    (t : Fin cfg0.N) (σ : St Ideal 𝔅) (hq : σ .q = iblk m c 0 t) (hw : σ .bias = iblk m c 3 t)
    (h : Filled (iblk m c 1 t) (iblk m c 2 t) (stFill (grid0.coords t) σ)) :
    (stBody (grid0.coords t) σ .out : S1x256x512.Idx → EReal) = outBlk X B (batchOf t) (blkOf t) := by
  have e2 : (grid0.coords t 2 : Fin 16) = blkOf t := Fin.ext (coord2 t)
  have hh : Holds (stFill (grid0.coords t) σ) (realsOf X B (batchOf t) (blkOf t)) := by
    refine Moba.holds_of _ _ _ _ h ?_ ?_ ?_ ?_
    · intro r e
      rw [stFill_arg _ σ .q True.intro, hq]
      exact (iblk0 m c t r e).trans (hX _)
    · intro h w r q
      rw [stFill_arg _ σ .bias True.intro, hw]
      exact (iblk3 m c t h w r q).trans (hB _)
    · exact fun y e => (iblk1 m c t y e).trans (hX _)
    · exact fun y e => (iblk2 m c t y e).trans (hX _)
  have key : ∀ (r : Fin 256) (e : Fin 512), (stBody (grid0.coords t) σ .out : S1x256x512.Idx → EReal) (ix3 0 r e)
      = (((realsOf X B (batchOf t) (blkOf t)).out (blkOf t) (grpOf e) (hhOf e) r (laneOf e) : ℝ) : EReal) := by
    intro r e
    have := out_point (grid0.coords t) σ _ hh r (grpOf e) (hhOf e) (laneOf e)
    rw [hcol_parts] at this
    refine this.trans ?_
    rw [e2]
  funext (x : S1x256x512.Idx)
  have hx : x = ix3 0 (x 1) (x 2) := by
    funext a
    match a with
    | ⟨0, _⟩ => exact Subsingleton.elim (α := Fin 1) _ _
    | ⟨1, _⟩ => rfl
    | ⟨2, _⟩ => rfl
  rw [hx]
  exact key (x 1) (x 2)

/-! ## The run -/

/-- The scratch before point `t`. -/
def PhiV (c : Dev nD) (t : Fin (cfg0.N + 1)) : sProp 𝕄 :=
  iprop(iprop(∃ km kb vt s0 s1 wq ac, ⌜Before m c t km kb vt⌝ ∗ owns (c : Thread nD τ) (Memref.whole cc0_scratch0) fullShare km
    ∗ owns (c : Thread nD τ) (Memref.whole cc0_scratch1) fullShare kb ∗ owns (c : Thread nD τ) (Memref.whole cc0_scratch2) fullShare vt
    ∗ owns (c : Thread nD τ) (Memref.whole cc0_scratch3) fullShare s0 ∗ owns (c : Thread nD τ) (Memref.whole cc0_scratch4) fullShare s1
    ∗ owns (c : Thread nD τ) (Memref.whole cc0_scratch5) fullShare wq ∗ owns (c : Thread nD τ) (Memref.whole cc0_scratch6) fullShare ac) ∗ ∃ r, prngReg c r)

/-- The arrays as launched, the staged arguments left in place, the output the attention of the point's queries. -/
def datsV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outBlk X B (batchOf t) (blkOf t)
  Φ t := PhiV m c t
  q w := Pipeline.shareOf spec0 w
  owed _ := 0

def bodyPreV (c : Dev nD) (t : Fin cfg0.N) : sProp 𝕄 :=
  iprop((datsV m X B 0 c).Φ t.castSucc ∗ (datsV m X B 0 c).owesAt () t.castSucc
    ∗ (∃ d, owns (c : Thread nD τ) (mems t .q) fullShare ((datsV m X B 0 c).before 0 t d))
    ∗ (∃ d, owns (c : Thread nD τ) (mems t .k) fullShare ((datsV m X B 0 c).before 1 t d))
    ∗ (∃ d, owns (c : Thread nD τ) (mems t .v) fullShare ((datsV m X B 0 c).before 2 t d))
    ∗ (∃ d, owns (c : Thread nD τ) (mems t .bias) fullShare ((datsV m X B 0 c).before 3 t d))
    ∗ (∃ d, owns (c : Thread nD τ) (mems t .out) fullShare ((datsV m X B 0 c).before 4 t d)))

def bodyPostV (c : Dev nD) (t : Fin cfg0.N) : sProp 𝕄 :=
  iprop((datsV m X B 0 c).Φ t.succ ∗ (datsV m X B 0 c).owesAt () t.succ
    ∗ owns (c : Thread nD τ) (mems t .q) fullShare ((datsV m X B 0 c).after 0 t)
    ∗ owns (c : Thread nD τ) (mems t .k) fullShare ((datsV m X B 0 c).after 1 t)
    ∗ owns (c : Thread nD τ) (mems t .v) fullShare ((datsV m X B 0 c).after 2 t)
    ∗ owns (c : Thread nD τ) (mems t .bias) fullShare ((datsV m X B 0 c).after 3 t)
    ∗ owns (c : Thread nD τ) (mems t .out) fullShare ((datsV m X B 0 c).after 4 t))

theorem sound_bodyV (hX : ∀ c x, m (((c : Dev nD) : Thread nD τ).loc main_arg0) x = (X x : EReal))
    (hB : ∀ c x, m (((c : Dev nD) : Thread nD τ).loc main_arg1) x = (B x : EReal)) (c : Dev nD) (t : Fin cfg0.N) :
    bodyPreV m X B c t ⊢ wp frame (wpE (defs₀ (F := Ideal)) Variants.none c none) Set.univ (defs₀ .tc cfg0.body (cfg0.bodyArgs t (cfg0.slots t)))
      fun _ => bodyPostV m X B c t := by
  unfold bodyPreV bodyPostV
  simp only [before0_0_of m (datsV m X B 0 c) rfl (fun _ => rfl) t, before0_1_of m (datsV m X B 0 c) rfl (fun _ => rfl) t,
    before0_2_of m (datsV m X B 0 c) rfl (fun _ => rfl) t, before0_3_of m (datsV m X B 0 c) rfl (fun _ => rfl) t]
  rw [show (datsV m X B 0 c).owesAt () t.succ = (datsV m X B 0 c).owesAt () t.castSucc from rfl,
    show (datsV m X B 0 c).Φ t.castSucc = PhiV m c t.castSucc from rfl, show (datsV m X B 0 c).Φ t.succ = PhiV m c t.succ from rfl]
  unfold PhiV
  iintro ⟨⟨⟨%km, %kb, %vt, %s0, %s1, %wq, %ac, %hp, Hkm, Hkb, Hvt, Hs0, Hs1, Hwq, Hac⟩, Hg⟩, HO, ⟨%d0, Hq⟩, ⟨%d1, Hk⟩, ⟨%d2, Hv⟩, ⟨%d3, Hb⟩, ⟨%o, Ho⟩⟩
  have hf := fill_at m c t (mkSt (iblk m c 0 t) (iblk m c 1 t) (iblk m c 2 t) (iblk m c 3 t) ((datsV m X B 0 c).before 4 t o) km kb vt s0 s1 wq ac) rfl rfl hp
  have hn := before_next m c t _ hf
  have ho := out_at m c X B (hX c) (hB c) t _ rfl rfl hf
  ihave HA : ownAll (c : Thread nD τ) (mems t) (mkSt (iblk m c 0 t) (iblk m c 1 t) (iblk m c 2 t) (iblk m c 3 t) ((datsV m X B 0 c).before 4 t o) km kb vt s0 s1 wq ac) $$ [Hkm Hkb Hvt Hs0 Hs1 Hwq Hac Hq Hk Hv Hb Ho]
  · rw [ownAll_eq]
    isplitl [Hq]; · iexact Hq
    isplitl [Hk]; · iexact Hk
    isplitl [Hv]; · iexact Hv
    isplitl [Hb]; · iexact Hb
    isplitl [Ho]; · iexact Ho
    isplitl [Hkm]; · iexact Hkm
    isplitl [Hkb]; · iexact Hkb
    isplitl [Hvt]; · iexact Hvt
    isplitl [Hs0]; · iexact Hs0
    isplitl [Hs1]; · iexact Hs1
    isplitl [Hwq]; · iexact Hwq
    iexact Hac
  ihave HW := (body_at Variants.none c t _) $$ HA
  iapply wp_wand_r
  isplitl [HW]
  · iexact HW
  iintro %x HA
  ihave HA := (Entails.of_eq (ownAll_body c (mems t) _ _)) $$ HA
  icases HA with ⟨Hq, Hk, Hv, Hb, Ho, Hkm, Hkb, Hvt, Hs0, Hs1, Hwq, Hac⟩
  ihave Ho := (Entails.of_eq (congrArg (fun d => (owns (c : Thread nD τ) (mems t .out) fullShare d : sProp 𝕄)) ho)) $$ Ho
  isplitl [Hkm Hkb Hvt Hs0 Hs1 Hwq Hac Hg]
  · isplitr [Hg]
    · iexists _, _, _, _, _, _, _
      isplitr
      · ipureintro; exact hn
      isplitl [Hkm]; · iexact Hkm
      isplitl [Hkb]; · iexact Hkb
      isplitl [Hvt]; · iexact Hvt
      isplitl [Hs0]; · iexact Hs0
      isplitl [Hs1]; · iexact Hs1
      isplitl [Hwq]; · iexact Hwq
      iexact Hac
    · iexact Hg
  isplitl [HO]; · iexact HO
  isplitl [Hq]; · iexact Hq
  isplitl [Hk]; · iexact Hk
  isplitl [Hv]; · iexact Hv
  isplitl [Hb]; · iexact Hb
  iexact Ho

theorem body_obligationV (hX : ∀ c x, m (((c : Dev nD) : Thread nD τ).loc main_arg0) x = (X x : EReal))
    (hB : ∀ c x, m (((c : Dev nD) : Thread nD τ).loc main_arg1) x = (B x : EReal)) (c : Dev nD) :
    BodyObligationLoose (datsV m X B 0 c) defs₀ Variants.none () Set.univ := by
  intro t
  rw [bigSep_W0, bigSep_W0]
  exact sound_bodyV m X B hX hB c t

theorem hinV (c : Dev nD) : Pipeline.ΦA spec0 c ⊢ PhiV m c 0 := by
  rw [PhiA_eq]
  unfold PhiV
  iintro ⟨⟨⟨%km, Hkm⟩, ⟨%kb, Hkb⟩, ⟨%vt, Hvt⟩, ⟨%s0, Hs0⟩, ⟨%s1, Hs1⟩, ⟨%wq, Hwq⟩, ⟨%ac, Hac⟩⟩, Hg⟩
  isplitr [Hg]
  · iexists km, kb, vt, s0, s1, wq, ac
    isplitr
    · ipureintro
      intro s hs h0
      exact absurd (show s.val % 16 = 0 by have : s.val = 0 := hs; omega) h0
    isplitl [Hkm]; · iexact Hkm
    isplitl [Hkb]; · iexact Hkb
    isplitl [Hvt]; · iexact Hvt
    isplitl [Hs0]; · iexact Hs0
    isplitl [Hs1]; · iexact Hs1
    isplitl [Hwq]; · iexact Hwq
    iexact Hac
  · iexact Hg

theorem houtV (c : Dev nD) : PhiV m c (Fin.last cfg0.N) ⊢ Pipeline.ΦA spec0 c := by
  rw [PhiA_eq]
  unfold PhiV
  iintro ⟨⟨%km, %kb, %vt, %s0, %s1, %wq, %ac, %hp, Hkm, Hkb, Hvt, Hs0, Hs1, Hwq, Hac⟩, Hg⟩
  isplitr [Hg]
  · isplitl [Hkm]; · iexists _; iexact Hkm
    isplitl [Hkb]; · iexists _; iexact Hkb
    isplitl [Hvt]; · iexists _; iexact Hvt
    isplitl [Hs0]; · iexists _; iexact Hs0
    isplitl [Hs1]; · iexists _; iexact Hs1
    isplitl [Hwq]; · iexists _; iexact Hwq
    iexists _; iexact Hac
  · iexact Hg

/-! ## The result -/

theorem flushed_eq (t : Fin cfg0.N) :
    (datsV m X B 0 c).flushed 4 t = ((cfg0.win 4).blk t).view.read (Elt Ideal) (attn X B) := by
  funext (x : S1x256x512.Idx)
  have hx : x = ix3 0 (x 1) (x 2) := by
    funext a
    match a with
    | ⟨0, _⟩ => exact Subsingleton.elim (α := Fin 1) _ _
    | ⟨1, _⟩ => rfl
    | ⟨2, _⟩ => rfl
  show outBlk X B (batchOf t) (blkOf t) x = attn X B (((cfg0.win 4).blk t).view.emb x)
  have e : ((cfg0.win 4).blk t).view.emb x = (ix3 (batchOf t) (brow (blkOf t) (x 1)) (x 2) : S4x4096x512.Idx) := by
    conv_lhs => rw [hx]
    exact emb_out t (x 1) (x 2)
  rw [e]
  have h1 : (x 1).val < 256 := (x 1).isLt
  have eb : (⟨(brow (blkOf t) (x 1)).val / 256, by have := (brow (blkOf t) (x 1)).isLt; omega⟩ : Fin 16) = blkOf t := by
    apply Fin.ext; show (t.val % 16 * 256 + (x 1).val) / 256 = t.val % 16; omega
  have er : (⟨(brow (blkOf t) (x 1)).val % 256, by omega⟩ : Fin 256) = x 1 := by
    apply Fin.ext; show (t.val % 16 * 256 + (x 1).val) % 256 = (x 1).val; omega
  show _ = (((realsOf X B (batchOf t) ⟨(brow (blkOf t) (x 1)).val / 256, _⟩).out ⟨(brow (blkOf t) (x 1)).val / 256, _⟩ (grpOf (x 2)) (hhOf (x 2))
    ⟨(brow (blkOf t) (x 1)).val % 256, _⟩ (laneOf (x 2)) : ℝ) : EReal)
  rw [eb, er]
  rfl

theorem cover (i : S4x4096x512.Idx) : ∃ t : Fin cfg0.N, (cfg0.win 4).flush t = true ∧ i ∈ ((cfg0.win 4).blk t).view.set := by
  have h0 : (i 0).val < 4 := (i 0).isLt
  have h1 : (i 1).val < 4096 := (i 1).isLt
  let t : Fin cfg0.N := ⟨(i 0).val * 16 + (i 1).val / 256, by show _ < 64; omega⟩
  refine ⟨t, flush0_4 t, ?_⟩
  have e := emb_out t ⟨(i 1).val % 256, by omega⟩ (i 2)
  have : i = ((cfg0.win 4).blk t).view.emb (ix3 0 (⟨(i 1).val % 256, by omega⟩ : Fin 256) (i 2)) := by
    rw [e]
    funext a
    apply Fin.ext
    match a with
    | ⟨0, _⟩ => show (i 0).val = ((i 0).val * 16 + (i 1).val / 256) / 16; omega
    | ⟨1, _⟩ => show (i 1).val = ((i 0).val * 16 + (i 1).val / 256) % 16 * 256 + (i 1).val % 256; omega
    | ⟨2, _⟩ => rfl
  rw [this]
  exact View.emb_mem_set _ _

theorem array_eq : (datsV m X B 0 c).arrAt 4 cfg0.N = attn X B :=
  (datsV m X B 0 c).arrAt_eq_of_cover 4 (attn X B) (fun t _ => flushed_eq m c X B t) cover

/-- Over real arrays every run ends with the attention, and leaves both arguments as they were. -/
theorem value_main (ρ : Dev nD → PrngReg) (hX : ∀ c x, m (((c : Dev nD) : Thread nD τ).loc main_arg0) x = (X x : EReal))
    (hB : ∀ c x, m (((c : Dev nD) : Thread nD τ).loc main_arg1) x = (B x : EReal)) :
    θ_run defs (onTc (τ := τ) (main (F := Ideal))) ⟨m, fun _ => 0, ρ⟩ fun r => ∀ c : Dev nD,
      r.2.mem ((c.tc : Thread nD τ).loc main_v0) = attn X B
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 4).trans (array_eq m c X B),
      ((h c).1 2).trans (((datsV m X B 0 c).arrAt_in 2 rfl _).trans (V_main_arg0 m c)),
      ((h c).1 3).trans (((datsV m X B 0 c).arrAt_in 3 rfl _).trans (V_main_arg1 m c))⟩)
    (Pipeline.θ_run_frame_track_shared cfgs (datsV m X B) 0 launch₀0 defs₀ Variants.none m ρ main (body_obligationV m X B hX hB)
      (fun _ _ _ => rfl) (fun _ _ => rfl) (V m) (hmain m Variants.none) (fun _ _ => rfl) (hinV m) (houtV m))

end Cert.KernelIdeal.Run
-- ==== Proof.Moba.RefVal.lean ====
/-
  The reference's value is the attention over the real numbers.
-/
module

public import proofs.«01_k».proof.Proof.Moba.RefRead
public import proofs.«01_k».proof.Proof.Moba.RefRead2
public import proofs.«01_k».proof.Proof.Moba.RefRead3
public import proofs.«01_k».proof.Proof.Moba.RefRead4
public import proofs.«01_k».proof.Proof.Moba.RefRead5
public import proofs.«01_k».proof.Proof.Moba.Launch

@[expose] public section

noncomputable section

namespace Cert.ReferenceIdeal.At

open Cert.ReferenceIdeal Cert.ReferenceIdeal.Gen Cert.ReferenceIdeal.Read Idealize.ShloMosaic Idealize.SL.Sem
open Moba (brow bitBot slt_small eq_small bit_cases hcol headNo Reals Bef rank Kept wt coe_sum div_coe)
open Cert.KernelIdeal.Run (realsOf attn grpOf hhOf laneOf)

/-! ## Bits -/

open Classical in
theorem sel_bool {α : Type} (P : Prop) [Decidable P] (a b : α) : Scalar.select (BitVec.ofBool (decide P)) a b = if P then a else b := by
  by_cases h : P
  · simp [h, Scalar.select]
  · simp [h, Scalar.select]

theorem or_and_bool (P Q R : Prop) [Decidable P] [Decidable Q] [Decidable R] :
    IntOp.ori (BitVec.ofBool (decide P)) (IntOp.andi (BitVec.ofBool (decide Q)) (BitVec.ofBool (decide R))) = BitVec.ofBool (decide (P ∨ (Q ∧ R))) := by
  by_cases hP : P <;> by_cases hQ : Q <;> by_cases hR : R <;> simp [hP, hQ, hR] <;> decide

theorem and_or_bool (P Q R : Prop) [Decidable P] [Decidable Q] [Decidable R] :
    IntOp.ori (IntOp.andi (BitVec.ofBool (decide P)) (BitVec.ofBool (decide Q))) (BitVec.ofBool (decide R)) = BitVec.ofBool (decide ((P ∧ Q) ∨ R)) := by
  by_cases hP : P <;> by_cases hQ : Q <;> by_cases hR : R <;> simp [hP, hQ, hR] <;> decide

theorem next_small (j b : Fin 16) : IntOp.cmpi CmpIPredicate.eq (IntOp.addi (BitVec.ofNat 32 (j : Nat)) 1#32) (BitVec.ofNat 32 (b : Nat))
    = BitVec.ofBool (decide ((j : Nat) + 1 = b)) := by
  have h : ∀ j b : Fin 16, IntOp.cmpi CmpIPredicate.eq (IntOp.addi (BitVec.ofNat 32 (j : Nat)) 1#32) (BitVec.ofNat 32 (b : Nat))
    = BitVec.ofBool (decide ((j : Nat) + 1 = b)) := by decide
  exact h j b

/-! ## Places -/

theorem head_lane (g : Fin 4) (hh : Fin 2) (d : Fin 64) : (headNo g hh).val * 64 + d.val = (hcol g hh d).val := by
  simp only [hcol, Moba.gcol, Moba.row, headNo]
  omega

theorem brow_div (i : Fin 16) (c : Fin 256) : (brow i c).val / 256 = i.val := by
  simp only [brow]
  omega

theorem brow_parts (z : Fin 4096) : brow (⟨z / 256, by omega⟩ : Fin 16) (⟨z % 256, by omega⟩ : Fin 256) = z := by
  apply Fin.ext
  simp only [brow]
  omega

theorem sum_keys (f : Fin 4096 → ℝ) : ∑ z, f z = ∑ j : Fin 16, ∑ r : Fin 256, f (brow j r) := by
  rw [← Fintype.sum_prod_type' (f := fun j r => f (brow j r))]
  refine (Fintype.sum_equiv (finProdFinEquiv (m := 16) (n := 256)) _ _ ?_).symm
  rintro ⟨j, r⟩
  refine congrArg f (Fin.ext ?_)
  show j.val * 256 + r.val = r.val + 256 * j.val
  omega

/-! ## The stages -/

variable (X : S4x4096x1536.Idx → ℝ) (B : S8x2x256x256.Idx → ℝ) (x0 : S4x4096x1536.Idx → EReal) (x1 : S8x2x256x256.Idx → EReal)
variable (hX : ∀ x, x0 x = (X x : EReal)) (hB : ∀ x, x1 x = (B x : EReal))
variable (n : Fin 4) (i : Fin 16) (g : Fin 4) (hh : Fin 2) (c : Fin 256)

include hX in
theorem v5_real (d : Fin 64) : val_main_v5 (F := Ideal) x0 (ix4 n (brow i c) (headNo g hh) d) = (((realsOf X B n i).q c (hcol g hh d) * (1 / 8) : ℝ) : EReal) := by
  rw [v5_at, hX, ← EReal.coe_mul]
  exact congrArg (fun e : Fin 1536 => ((X (ix3 n (brow i c) e) * (1 / 8) : ℝ) : EReal)) (Fin.ext (head_lane g hh d))

include hX in
theorem v7_real (y : Fin 4096) (d : Fin 64) : val_main_v7 (F := Ideal) x0 (ix4 n y (headNo g hh) d) = (((realsOf X B n i).k y (hcol g hh d) : ℝ) : EReal) := by
  rw [v7_at, hX]
  exact congrArg (fun e : Fin 1536 => ((X (ix3 n y e) : ℝ) : EReal)) (Fin.ext (congrArg (512 + ·) (head_lane g hh d)))

include hX in
theorem v9_real (y : Fin 4096) (d : Fin 64) : val_main_v9 (F := Ideal) x0 (ix4 n y (headNo g hh) d) = (((realsOf X B n i).v y (hcol g hh d) : ℝ) : EReal) := by
  rw [v9_at, hX]
  exact congrArg (fun e : Fin 1536 => ((X (ix3 n y e) : ℝ) : EReal)) (Fin.ext (congrArg (1024 + ·) (head_lane g hh d)))

include hX in
theorem v13_real (j : Fin 16) (d : Fin 64) : val_main_v13 (F := Ideal) x0 (ix4 n j (headNo g hh) d) = (((realsOf X B n i).mean j (hcol g hh d) : ℝ) : EReal) := by
  have e : ∀ r : Fin 256, x0 (ix3 n (brow j r) (⟨512 + ((headNo g hh).val * 64 + d.val), by omega⟩ : Fin 1536)) = (((realsOf X B n i).k (brow j r) (hcol g hh d) : ℝ) : EReal) := fun r => by
    rw [hX]
    exact congrArg (fun e : Fin 1536 => ((X (ix3 n (brow j r) e) : ℝ) : EReal)) (Fin.ext (congrArg (512 + ·) (head_lane g hh d)))
  rw [v13_at, Finset.sum_congr rfl fun r _ => e r, coe_sum, div_coe _ _ (by norm_num)]
  rfl

include hX in
theorem v25_real (j : Fin 16) : val_main_v25 (F := Ideal) x0 (ix4 n (headNo g hh) (brow i c) j) = (realsOf X B n i).gates i g hh c j := by
  rw [v25_at, v21_at, brow_div, slt_small, sel_bool]
  unfold Reals.gates
  refine if_congr Iff.rfl ?_ rfl
  rw [Finset.sum_congr rfl fun d _ => (congrArg₂ (fun a b : EReal => a * b) (v5_real X B x0 hX n i g hh c d) (v13_real X B x0 hX n i g hh j d)).trans
    (EReal.coe_mul _ _).symm, coe_sum]
  exact congrArg _ (Finset.sum_congr rfl fun d _ => mul_comm _ _)

open Classical in
include hX in
theorem v46_real (j : Fin 16) : val_main_v46 (F := Ideal) x0 (ix4 n (headNo g hh) (brow i c) j) = ((rank ((realsOf X B n i).gates i g hh c) j : ℝ) : EReal) := by
  rw [v46_at]
  have e : ∀ x : Fin 16, Scalar.select
          (IntOp.ori (BitVec.ofBool (decide (val_main_v25 (F := Ideal) x0 (ix4 n (headNo g hh) (brow i c) j) < val_main_v25 (F := Ideal) x0 (ix4 n (headNo g hh) (brow i c) x))))
            (IntOp.andi (BitVec.ofBool (decide (val_main_v25 (F := Ideal) x0 (ix4 n (headNo g hh) (brow i c) x) = val_main_v25 (F := Ideal) x0 (ix4 n (headNo g hh) (brow i c) j))))
              (IntOp.cmpi CmpIPredicate.slt (BitVec.ofNat 32 x) (BitVec.ofNat 32 j)))) (1 : EReal) 0
      = (((if Bef ((realsOf X B n i).gates i g hh c) x j then (1 : ℝ) else 0 : ℝ)) : EReal) := fun x => by
    rw [slt_small, or_and_bool, sel_bool, v25_real X B x0 hX, v25_real X B x0 hX]
    unfold Bef
    split <;> rfl
  refine (Finset.sum_congr rfl fun x _ => e x).trans ((coe_sum _ _).trans (congrArg _ ?_))
  rw [Finset.sum_boole]
  rfl

include hX in
theorem v58_real (j : Fin 16) : val_main_v58 (F := Ideal) x0 (ix4 n (headNo g hh) (brow i c) j) = 1#1 ↔ (realsOf X B n i).Keep i g hh c j := by
  classical
  rw [v58_at, v21_at, brow_div, slt_small, eq_small, v46_real X B x0 hX, and_or_bool, Moba.ofBool_one]
  unfold Reals.Keep Kept
  refine or_congr (and_congr ?_ ?_) Iff.rfl
  · unfold Reals.gates
    by_cases h : j < i
    · simp [h]
    · simp [h]
  · rw [EReal.coe_lt_coe_iff]
    exact_mod_cast Iff.rfl

theorem sel_one {α : Type} (x : BitVec 1) (P : Prop) [Decidable P] (h : x = 1#1 ↔ P) (a b : α) : Scalar.select x a b = if P then a else b := by
  by_cases hP : P
  · rw [if_pos hP, h.2 hP]; rfl
  · rw [if_neg hP]
    rcases bit_cases x with e | e
    · exact absurd (h.1 e) hP
    · rw [e]; rfl

include hB in
theorem v94_real (j : Fin 16) (r : Fin 256) : val_main_v94 (F := Ideal) x1 (ix3 (headNo g hh) (brow i c) (brow j r))
    = (((realsOf X B n i).rel i g hh j r c * Real.log 2 : ℝ) : EReal) := by
  rw [v94_at, eq_small, next_small, sel_bool, sel_bool, hB, hB, EReal.coe_mul]
  refine congrArg (fun a : EReal => a * ((Real.log 2 : ℝ) : EReal)) ?_
  unfold Reals.rel
  split
  · rfl
  · split
    · rfl
    · rfl

theorem log2_pos : 0 < Real.log 2 := Real.log_pos (by norm_num)

open Classical in
include hX hB in
/-- A score, in base e. -/
theorem v99_real (j : Fin 16) (r : Fin 256) : val_main_v99 (F := Ideal) x0 x1 (ix4 n (headNo g hh) (brow i c) (brow j r))
    = if (realsOf X B n i).Keep i g hh c j then ((((realsOf X B n i).dot g hh j r c + (realsOf X B n i).rel i g hh j r c) * Real.log 2 : ℝ) : EReal) else ⊥ := by
  have hj : (⟨(brow j r).val / 256, by omega⟩ : Fin 16) = j := Fin.ext (brow_div j r)
  have h61 : val_main_v61 (F := Ideal) x0 (ix4 n (headNo g hh) (brow i c) (brow j r)) = 1#1 ↔ (realsOf X B n i).Keep i g hh c j := by
    rw [v61_at, hj]
    exact v58_real X B x0 hX n i g hh c j
  rw [v99_at, sel_one _ _ h61]
  refine if_congr Iff.rfl ?_ rfl
  rw [v94_real X B x1 hB n, Finset.sum_congr rfl fun d _ => (congrArg₂ (fun a b : EReal => a * b) (v5_real X B x0 hX n i g hh c d) (v7_real X B x0 hX n i g hh (brow j r) d)).trans
    (EReal.coe_mul _ _).symm, coe_sum, ← EReal.coe_add]
  refine congrArg _ ?_
  rw [add_mul]
  refine congrArg (· + _) ?_
  unfold Reals.dot
  rw [Finset.sum_mul]
  refine Finset.sum_congr rfl fun d _ => ?_
  have := log2_pos.ne'
  field_simp

include hX hB in
theorem v102_real : ∃ M : ℝ, val_main_v102 (F := Ideal) x0 x1 (ix3 n (headNo g hh) (brow i c)) = (M : EReal) := by
  classical
  have hlt : val_main_v102 (F := Ideal) x0 x1 (ix3 n (headNo g hh) (brow i c)) < ⊤ := by
    rw [v102_at]
    refine max_lt bot_lt_top ((Finset.fold_max_lt _).2 ⟨bot_lt_top, fun z _ => ?_⟩)
    have e := v99_real X B x0 x1 hX hB n i g hh c ⟨z / 256, by omega⟩ ⟨z % 256, by omega⟩
    rw [brow_parts] at e
    rw [e]
    split
    · exact EReal.coe_lt_top _
    · exact bot_lt_top
  have hgt : ⊥ < val_main_v102 (F := Ideal) x0 x1 (ix3 n (headNo g hh) (brow i c)) := by
    rw [v102_at]
    refine lt_max_of_lt_right (lt_of_lt_of_le ?_ ((Finset.le_fold_max _).2 (.inr ⟨brow i 0, Finset.mem_univ _, le_refl _⟩)))
    rw [v99_real X B x0 x1 hX hB n i g hh c i 0, if_pos (show (realsOf X B n i).Keep i g hh c i from .inr rfl)]
    exact EReal.bot_lt_coe _
  exact ⟨_, (EReal.coe_toReal hlt.ne hgt.ne').symm⟩

include hX hB in
theorem v106_real (M : ℝ) (hM : val_main_v102 (F := Ideal) x0 x1 (ix3 n (headNo g hh) (brow i c)) = (M : EReal)) (j : Fin 16) (r : Fin 256) :
    val_main_v106 (F := Ideal) x0 x1 (ix4 n (headNo g hh) (brow i c) (brow j r)) = (((realsOf X B n i).wgt i g hh j r c * Real.exp (-M) : ℝ) : EReal) := by
  classical
  rw [v106_at, hM, v99_real X B x0 x1 hX hB]
  have hT : (realsOf X B n i).T i j g hh r c = if (realsOf X B n i).Keep i g hh c j then (((realsOf X B n i).dot g hh j r c + (realsOf X B n i).rel i g hh j r c : ℝ) : EReal) else ⊥ := by
    unfold Reals.T
    rw [dif_pos j.2]
  unfold Reals.wgt
  rw [hT]
  by_cases h : (realsOf X B n i).Keep i g hh c j
  · rw [if_pos h, if_pos h, Moba.wt_coe, ← EReal.coe_sub, Real.rpow_def_of_pos (by norm_num), ← Real.exp_add]
    refine (show _ = ((Real.exp _ : ℝ) : EReal) from rfl).trans (congrArg (fun t : ℝ => ((Real.exp t : ℝ) : EReal)) ?_)
    ring
  · rw [if_neg h, if_neg h, Moba.wt_bot, zero_mul]
    rw [EReal.bot_sub]
    rfl

include hX hB in
theorem v111_real (d : Fin 64) : val_main_v111 (F := Ideal) x0 x1 (ix4 n (headNo g hh) d (brow i c)) = (((realsOf X B n i).out i g hh c d : ℝ) : EReal) := by
  obtain ⟨M, hM⟩ := v102_real X B x0 x1 hX hB n i g hh c
  have hω : ∀ z : Fin 4096, val_main_v106 (F := Ideal) x0 x1 (ix4 n (headNo g hh) (brow i c) z)
      = (((realsOf X B n i).wgt i g hh ⟨z / 256, by omega⟩ ⟨z % 256, by omega⟩ c * Real.exp (-M) : ℝ) : EReal) := fun z => by
    have e := v106_real X B x0 x1 hX hB n i g hh c M hM ⟨z / 256, by omega⟩ ⟨z % 256, by omega⟩
    rw [brow_parts] at e
    exact e
  have hb : ∀ (j : Fin 16) (r : Fin 256), (realsOf X B n i).wgt i g hh ⟨(brow j r).val / 256, by omega⟩ ⟨(brow j r).val % 256, by omega⟩ c = (realsOf X B n i).wgt i g hh j r c := fun j r => by
    have e1 : (⟨(brow j r).val / 256, by omega⟩ : Fin 16) = j := Fin.ext (brow_div j r)
    have e2 : (⟨(brow j r).val % 256, by omega⟩ : Fin 256) = r := Fin.ext (by simp only [brow]; omega)
    rw [e1, e2]
  have hs : ∑ z : Fin 4096, (realsOf X B n i).wgt i g hh ⟨z / 256, by omega⟩ ⟨z % 256, by omega⟩ c * Real.exp (-M) = (realsOf X B n i).sumW i g hh c * Real.exp (-M) := by
    rw [← Finset.sum_mul, sum_keys]
    refine congrArg (· * _) ?_
    unfold Reals.sumW
    exact Finset.sum_congr rfl fun j _ => Finset.sum_congr rfl fun r _ => hb j r
  have hpos := (realsOf X B n i).sumW_pos i g hh c
  have hexp := Real.exp_pos (-M)
  have h110 : ∀ z : Fin 4096, val_main_v110 (F := Ideal) x0 x1 (ix4 n (headNo g hh) (brow i c) z)
      = (((realsOf X B n i).wgt i g hh ⟨z / 256, by omega⟩ ⟨z % 256, by omega⟩ c / (realsOf X B n i).sumW i g hh c : ℝ) : EReal) := fun z => by
    rw [v110_at, Finset.sum_congr rfl fun w _ => hω w, coe_sum, hs, hω z, zero_add, div_coe _ _ (mul_pos hpos hexp), mul_div_mul_right _ _ hexp.ne']
  rw [v111_at, Finset.sum_congr rfl fun z _ => (congrArg₂ (fun a b : EReal => a * b) (v9_real X B x0 hX n i g hh z d) (h110 z)).trans (EReal.coe_mul _ _).symm, coe_sum, sum_keys]
  refine congrArg _ ?_
  unfold Reals.out
  rw [Finset.sum_div]
  refine Finset.sum_congr rfl fun j _ => ?_
  rw [Finset.sum_div]
  refine Finset.sum_congr rfl fun r _ => ?_
  rw [hb, mul_div_assoc]

include hX hB in
/-- The reference's result. -/
theorem v114_real : val_main_v114 (F := Ideal) x0 x1 = attn X B := by
  have key : ∀ (n : Fin 4) (y : Fin 4096) (e : Fin 512), val_main_v114 (F := Ideal) x0 x1 (ix3 n y e) = attn X B (ix3 n y e) := fun n y e => by
    have he : (⟨(headNo (grpOf e) (hhOf e)).val * 64 + (laneOf e).val, by omega⟩ : Fin 512) = e := by
      refine Fin.ext ?_
      simp only [headNo, grpOf, hhOf, laneOf]
      omega
    have h1 := v114_at x0 x1 n y (headNo (grpOf e) (hhOf e)) (laneOf e)
    rw [he] at h1
    have h2 := v111_real X B x0 x1 hX hB n ⟨y / 256, by omega⟩ (grpOf e) (hhOf e) ⟨y % 256, by omega⟩ (laneOf e)
    rw [brow_parts] at h2
    exact h1.trans h2
  funext (x : S4x4096x512.Idx)
  have hx : x = ix3 (x 0) (x 1) (x 2) := by
    funext a
    match a with
    | ⟨0, _⟩ => rfl
    | ⟨1, _⟩ => rfl
    | ⟨2, _⟩ => rfl
  rw [hx]
  exact key (x 0) (x 1) (x 2)

end Cert.ReferenceIdeal.At
-- ==== Proof.Moba.Ref.lean ====
module

public import proofs.«01_k».proof.Proof.Gen.ReferenceIdeal.Run
public import proofs.«01_k».proof.Proof.Gen.ReferenceIdeal.Read

@[expose] public section
-- ==== Proof.Moba.Claim.lean ====
/-
  The block attention's claim: on real arguments the kernel and the reference leave the same array.
-/
module

public import proofs.«01_k».proof.Defs
public import proofs.«01_k».proof.Proof.Moba.RefVal
public import proofs.«01_k».proof.Proof.Moba.Ref
public import Idealize.ShloMosaic.Lib.ReduceAll

@[expose] public section

noncomputable section

namespace Cert.MobaClaim

open Idealize.ShloMosaic Idealize.ShloMosaic.TcCoe Idealize.SL.Sem

/-- The precondition's side conditions. -/
theorem pre_facts : Cert.Pre_real_entries.Facts where
  bitsLt_bf16_f32 := by decide
  bcast_S_S4x4096x1536 := by decide
  reducesTo_S4x4096x1536_S_d0_1_2 := by decide
  h_S_ := by decide
  bcast_S_S8x2x256x256 := by decide
  reducesTo_S8x2x256x256_S_d0_1_2_3 := by decide

theorem bitTop : Ideal.ofBits FTy.f32 0x7F800000#32 = ⊤ := by simp [Ideal.ofBits, Ideal.ieee]

theorem and_one (a b : BitVec 1) (h : IntOp.andi a b = 1#1) : a = 1#1 ∧ b = 1#1 := by
  have k : ∀ a b : BitVec 1, IntOp.andi a b = 1#1 → a = 1#1 ∧ b = 1#1 := by decide
  exact k a b h

/-- A number below infinity in magnitude is real. -/
theorem real_of_abs (x t : EReal) (ht : t = ⊤) (h : Ideal.cmp .olt (max x (-x)) t = 1#1) : x = (x.toReal : EReal) := by
  have h' : max x (-x) < t := by
    by_contra hc
    have e : Ideal.cmp .olt (max x (-x)) t = BitVec.ofBool (decide (max x (-x) < t)) := by simp [Ideal.cmp]
    rw [e] at h
    simp [hc] at h
  rw [ht] at h'
  refine (EReal.coe_toReal ?_ ?_).symm
  · rintro rfl
    simp at h'
  · rintro rfl
    simp at h'

/-- What the precondition says of the two arrays. -/
theorem real_of_pre [Cert.Pre_real_entries.Facts] (x0 : FVec Ideal Cert.Pre_real_entries.S4x4096x1536 .bf16) (x1 : FVec Ideal Cert.Pre_real_entries.S8x2x256x256 .f32)
    (h : Cert.Pre_real_entries.fn (F := Ideal) x0 x1 = fun _ => 1#1) : (∀ x, x0 x = ((x0 x : EReal).toReal : EReal)) ∧ ∀ x, x1 x = ((x1 x : EReal).toReal : EReal) := by
  have h0 := congrFun h ix0
  obtain ⟨ha, hb⟩ := and_one _ _ h0
  haveI : Subsingleton Cert.Pre_real_entries.S_.Idx := ⟨fun a b => funext fun i => i.elim0⟩
  have ka := fun x => Host.reduce_andi_all _ _ _ _ _ ha x
  have kb := fun x => Host.reduce_andi_all _ _ _ _ _ hb x
  exact ⟨fun x => real_of_abs _ _ bitTop (ka x), fun x => real_of_abs _ _ bitTop (kb x)⟩

/-- The reference runs, and declares no semaphore. -/
theorem frame_ref [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two frames under the precondition. -/
theorem frame_pre [Cert.KernelIdeal.Facts] [Cert.Pre_real_entries.Facts] : Cert.quiescent_KernelIdeal_pre_real_entries := fun m ρ _ =>
  Cert.KernelIdeal.Run.frame_main (F := Ideal) m ρ

theorem frame_ref_pre [Cert.ReferenceIdeal.Facts] [Cert.Pre_real_entries.Facts] : Cert.quiescent_ReferenceIdeal_pre_real_entries := fun m ρ _ =>
  frame_ref m ρ trivial

/-- The rewritten constants are the numbers they are named for. -/
theorem preserves : Cert.preserves_Kernel_KernelIdeal :=
  ⟨IdealRules.named_const.statement _ _ _ _ _ rfl, IdealRules.named_const.statement _ _ _ _ _ rfl⟩

/-- Kernel and reference leave the same array. -/
theorem algebraic [Cert.KernelIdeal.Facts] [Cert.ReferenceIdeal.Facts] [Cert.Pre_real_entries.Facts] :
    Cert.algebraic_KernelIdeal_ReferenceIdeal_pre_real_entries := by
  intro m ρ m' ρ' hpre hag
  let X : Cert.KernelIdeal.S4x4096x1536.Idx → ℝ := fun x =>
    (m (((0 : Dev Cert.KernelIdeal.nD).tc : Thread Cert.KernelIdeal.nD Cert.KernelIdeal.τ).loc Cert.KernelIdeal.main_arg0) x : EReal).toReal
  let B : Cert.KernelIdeal.S8x2x256x256.Idx → ℝ := fun x =>
    (m (((0 : Dev Cert.KernelIdeal.nD).tc : Thread Cert.KernelIdeal.nD Cert.KernelIdeal.τ).loc Cert.KernelIdeal.main_arg1) x : EReal).toReal
  have hX : ∀ (c : Dev Cert.KernelIdeal.nD) x, m ((c.tc : Thread Cert.KernelIdeal.nD Cert.KernelIdeal.τ).loc Cert.KernelIdeal.main_arg0) x = (X x : EReal) := fun c x => by
    obtain rfl : c = 0 := Subsingleton.elim (α := Fin 1) c 0
    exact (real_of_pre _ _ (hpre 0)).1 x
  have hB : ∀ (c : Dev Cert.KernelIdeal.nD) x, m ((c.tc : Thread Cert.KernelIdeal.nD Cert.KernelIdeal.τ).loc Cert.KernelIdeal.main_arg1) x = (B x : EReal) := fun c x => by
    obtain rfl : c = 0 := Subsingleton.elim (α := Fin 1) c 0
    exact (real_of_pre _ _ (hpre 0)).2 x
  refine ⟨fun _ => Cert.KernelIdeal.Run.attn X B, ?_, ?_⟩
  · exact Cert.KernelIdeal.Run.value_main m X B ρ hX hB
  · refine (θ_run Cert.ReferenceIdeal.defs _ _).mono (fun r h c => ⟨(h c).1.trans ?_, (h c).2⟩)
      (Cert.ReferenceIdeal.Value.run (F := Ideal) m' ρ')
    obtain ⟨h0, h1⟩ := hag c
    refine (Cert.ReferenceIdeal.Read.val_main_v114_eq m' c).trans ?_
    exact Cert.ReferenceIdeal.At.v114_real X B _ _ (fun x => (congrFun h0 x).trans (hX c x)) (fun x => (congrFun h1 x).trans (hB c x))

end Cert.MobaClaim
-- ==== Proof.Dense.Row.lean ====
module

public import Idealize.ShloMosaic.Lib.Pointwise
public import Idealize.ShloMosaic.Lib.Pipeline.Value

/-!
The mathematics of one token's row, over the extended reals: layer normalisation, and the feed-forward block with its
two residual connections. The kernels and the references of the dense calls are both read as these functions.
-/

@[expose] public section

noncomputable section

namespace Dense

open Idealize.ShloMosaic

/-- The residual weight of a deep network of two layers, as its literal is read. -/
def alpha : EReal := Ideal.ofBits .f32 0x3FB504F3#32

/-- The mean of a row. -/
def mean (r : Fin 1024 → EReal) : EReal := Ideal.div (∑ k : Fin 1024, r k) (Ideal.ofBits .f32 0x44800000#32)

/-- Layer normalisation of a row, with gain `g` and offset `b`. -/
def norm (g b r : Fin 1024 → EReal) (j : Fin 1024) : EReal :=
  (r j - mean r) * Ideal.rsqrt (mean (fun k => (r k - mean r) * (r k - mean r)) + Ideal.ofBits .f32 0x3727C5AC#32) * g j + b j

/-- The square of the positive part. -/
def sqRelu (a : EReal) : EReal := max a 0 * max a 0

/-- One hidden unit of the feed-forward block. -/
def hidden (w1 : Fin 1024 → Fin 4096 → EReal) (x : Fin 1024 → EReal) (n : Fin 4096) : EReal :=
  sqRelu (∑ k : Fin 1024, x k * w1 k n)

/-- The feed-forward block of a row. -/
def mlp (w1 : Fin 1024 → Fin 4096 → EReal) (w2 : Fin 4096 → Fin 1024 → EReal) (x : Fin 1024 → EReal) (j : Fin 1024) : EReal :=
  ∑ n : Fin 4096, hidden w1 x n * w2 n j

/-- What follows a mixer: the residual sum and its normalisation. -/
def first (g b x mix : Fin 1024 → EReal) : Fin 1024 → EReal := norm g b fun k => alpha * x k + mix k

/-- … and then the feed-forward block with its own residual sum and normalisation. -/
def tail (g1 b1 : Fin 1024 → EReal) (w1 : Fin 1024 → Fin 4096 → EReal) (w2 : Fin 4096 → Fin 1024 → EReal)
    (g2 b2 x mix : Fin 1024 → EReal) : Fin 1024 → EReal :=
  norm g2 b2 fun k => alpha * first g1 b1 x mix k + mlp w1 w2 (first g1 b1 x mix) k

/-- What the DeltaNet mixer's outputs `h` become, over all tokens: their projection is the mixer's part of each token's row. -/
def tailOdd (h x : (⟨2, ![16384, 1024]⟩ : Shape).Idx → EReal) (w : (⟨2, ![1024, 1024]⟩ : Shape).Idx → EReal)
    (g1 b1 : (⟨1, ![1024]⟩ : Shape).Idx → EReal) (w1 : (⟨2, ![1024, 4096]⟩ : Shape).Idx → EReal)
    (w2 : (⟨2, ![4096, 1024]⟩ : Shape).Idx → EReal) (g2 b2 : (⟨1, ![1024]⟩ : Shape).Idx → EReal)
    (i : (⟨2, ![16384, 1024]⟩ : Shape).Idx) : EReal :=
  tail (fun j => g1 (ix1 j)) (fun j => b1 (ix1 j)) (fun k n => w1 (ix2 k n)) (fun n j => w2 (ix2 n j))
    (fun j => g2 (ix1 j)) (fun j => b2 (ix1 j)) (fun j => x (ix2 (i 0) j))
    (fun j => ∑ k : Fin 1024, h (ix2 (i 0) k) * w (ix2 k j)) (i 1)

/-- The tanh form of the Gaussian error linear unit. -/
def gelu (a : EReal) : EReal :=
  Ideal.ofBits .f32 0x3F000000#32 * a
    * (1 + Ideal.tanh (Ideal.ofBits .f32 0x3F4C422A#32 * (a + Ideal.ofBits .f32 0x3D372713#32 * (a * a * a))))

/-- The logistic function. -/
def sigmoid (a : EReal) : EReal := Ideal.div (1) (1 + Ideal.exp (-a))

/-- What the state space branch passes on for a token: the state's output `y` and the input `u` through the skip
    connection, the activation and the gate. -/
def gated (d bg : Fin 512 → EReal) (wg : Fin 512 → Fin 512 → EReal) (y u : Fin 512 → EReal) (j : Fin 512) : EReal :=
  gelu (y j + d j * u j) * sigmoid (∑ k : Fin 512, gelu (y k + d k * u k) * wg k j + bg j)

/-- The projection of two branches side by side: the first 512 rows of the weight belong to one, the others to the other. -/
def project (w : Fin 1024 → Fin 1024 → EReal) (a s : Fin 512 → EReal) (j : Fin 1024) : EReal :=
  ∑ k : Fin 512, a k * w ⟨k.val, by omega⟩ j + ∑ k : Fin 512, s k * w ⟨512 + k.val, by omega⟩ j

/-- What the attention's and the state space branch's outputs become, over all tokens. -/
def tailEven (a y u : (⟨2, ![16384, 512]⟩ : Shape).Idx → EReal) (x : (⟨2, ![16384, 1024]⟩ : Shape).Idx → EReal)
    (d : (⟨1, ![512]⟩ : Shape).Idx → EReal) (wg : (⟨2, ![512, 512]⟩ : Shape).Idx → EReal) (bg : (⟨1, ![512]⟩ : Shape).Idx → EReal)
    (w : (⟨2, ![1024, 1024]⟩ : Shape).Idx → EReal)
    (g1 b1 : (⟨1, ![1024]⟩ : Shape).Idx → EReal) (w1 : (⟨2, ![1024, 4096]⟩ : Shape).Idx → EReal)
    (w2 : (⟨2, ![4096, 1024]⟩ : Shape).Idx → EReal) (g2 b2 : (⟨1, ![1024]⟩ : Shape).Idx → EReal)
    (i : (⟨2, ![16384, 1024]⟩ : Shape).Idx) : EReal :=
  tail (fun j => g1 (ix1 j)) (fun j => b1 (ix1 j)) (fun k n => w1 (ix2 k n)) (fun n j => w2 (ix2 n j))
    (fun j => g2 (ix1 j)) (fun j => b2 (ix1 j)) (fun j => x (ix2 (i 0) j))
    (project (fun k j => w (ix2 k j)) (fun k => a (ix2 (i 0) k))
      (gated (fun j => d (ix1 j)) (fun j => bg (ix1 j)) (fun k j => wg (ix2 k j)) (fun j => y (ix2 (i 0) j)) (fun j => u (ix2 (i 0) j)))) (i 1)

/-- The `p`-th quarter of the 4096 hidden units. -/
def quarter (p : Fin 4) (q : Fin 1024) : Fin 4096 := ⟨1024 * p.val + q.val, by omega⟩

/-- A sum over the hidden units is the sum of the four quarters' sums. -/
theorem sum_quarters (f : Fin 4096 → EReal) :
    ∑ n, f n = ∑ p : Fin 4, ∑ q : Fin 1024, f (quarter p q) := by
  rw [← Fintype.sum_prod_type' (f := fun p q => f (quarter p q))]
  refine (Fintype.sum_equiv (finProdFinEquiv (m := 4) (n := 1024)) _ _ fun pq => ?_).symm
  congr 1
  apply Fin.ext
  simp only [quarter, finProdFinEquiv_apply_val]
  omega

/-- A sum over 1024 columns is the sum of the two halves' sums. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

/-- The feed-forward block, quarter by quarter, each added to what came before. -/
theorem mlp_quarters (w1 : Fin 1024 → Fin 4096 → EReal) (w2 : Fin 4096 → Fin 1024 → EReal) (x : Fin 1024 → EReal) (j : Fin 1024) :
    mlp w1 w2 x j
      = ∑ q, sqRelu (∑ k, x k * w1 k (quarter 0 q)) * w2 (quarter 0 q) j
        + ∑ q, sqRelu (∑ k, x k * w1 k (quarter 1 q)) * w2 (quarter 1 q) j
        + ∑ q, sqRelu (∑ k, x k * w1 k (quarter 2 q)) * w2 (quarter 2 q) j
        + ∑ q, sqRelu (∑ k, x k * w1 k (quarter 3 q)) * w2 (quarter 3 q) j := by
  unfold mlp hidden
  rw [sum_quarters, Fin.sum_univ_four]

/-! ## Rectangles of a matrix -/

/-- Two arrays with two axes are equal where they agree at each row and column. -/
theorem ext2 {n m : Nat} {α : Type} {f g : (⟨2, ![n, m]⟩ : Shape).Idx → α} (h : ∀ (r : Fin n) (j : Fin m), f (ix2 r j) = g (ix2 r j)) :
    f = g := by
  funext i
  rw [show i = ix2 (i 0 : Fin n) (i 1 : Fin m) from by funext a; fin_cases a <;> rfl]
  exact h _ _

section Rectangle

variable {n m p q o0 o1 : Nat}

/-- Where a rectangle of a matrix puts its element at row `r` and column `j`. -/
theorem emb_rect (inb) (h0 : o0 + p ≤ n) (h1 : o1 + q ≤ m) (r : Fin p) (j : Fin q) :
    (Rect.unit (s := (⟨2, ![n, m]⟩ : Shape)) ![o0, o1] (⟨2, ![p, q]⟩ : Shape).size inb).emb (ix2 r j)
      = ix2 (⟨o0 + r.val, by omega⟩ : Fin n) (⟨o1 + j.val, by omega⟩ : Fin m) := by
  funext a
  apply Fin.ext
  fin_cases a <;> simp [Rect.emb, Rect.unit]

/-- A rectangle of a matrix, loaded. -/
theorem ld_rect {Val : EltTy → Type} {e : EltTy} (inb) (h0 : o0 + p ≤ n) (h1 : o1 + q ≤ m)
    (X : (⟨2, ![n, m]⟩ : Shape).Idx → Val e) (r : Fin p) (j : Fin q) :
    View.ld X (Rect.unit (s := (⟨2, ![n, m]⟩ : Shape)) ![o0, o1] (⟨2, ![p, q]⟩ : Shape).size inb) (ix2 r j)
      = X (ix2 (⟨o0 + r.val, by omega⟩ : Fin n) (⟨o1 + j.val, by omega⟩ : Fin m)) :=
  congrArg X (emb_rect inb h0 h1 r j)

/-- The rectangle that is the matrix, loaded. -/
theorem ld_all {Val : EltTy → Type} {e : EltTy} (inb) (X : (⟨2, ![n, m]⟩ : Shape).Idx → Val e) :
    View.ld X (Rect.unit (s := (⟨2, ![n, m]⟩ : Shape)) ![0, 0] (⟨2, ![n, m]⟩ : Shape).size inb) = X :=
  View.ld_unit_zero (S := (⟨2, ![n, m]⟩ : Shape)) (by funext a; fin_cases a <;> rfl) inb X

end Rectangle

end Dense

end
-- ==== Proof.Dense.TailOddBody.lean ====
module

public import proofs.«01_k».proof.Proof.Gen.TailOddIdeal.Frame
public import proofs.«01_k».proof.Proof.Dense.Row

/-!
The body of the call that follows the DeltaNet mixer, its stored values read at an index as the mathematics of a row.
-/

@[expose] public section

noncomputable section

namespace Cert.TailOddIdeal.Body

open Cert.TailOddIdeal Cert.TailOddIdeal.Gen Idealize.ShloMosaic

/-- Row `r` of a block. -/
abbrev row {n k : Nat} (v : (⟨2, ![n, k]⟩ : Shape).Idx → EReal) (r : Fin n) (j : Fin k) : EReal := v (ix2 r j)

/-- The mixer's output projection. -/
theorem pay2_apply (a : Vec Ideal S512x1024 .bf16) (w : Vec Ideal S1024x1024 .bf16) (r : Fin 512) (j : Fin 1024) :
    k0_pay2 a w (ix2 r j) = ∑ k : Fin 1024, a (ix2 r k) * w (ix2 k j) := by
  unfold k0_pay2
  pointwise [dot_S512x1024_S1024x1024_S512x1024_1_0_0_1_n_n]

/-! ## The upper half of a block's rows -/

theorem pay3_apply (a : Vec Ideal S512x1024 .bf16) (w : Vec Ideal S1024x1024 .bf16) (x : Vec Ideal S256x1024 .f32)
    (g b : Vec Ideal S1x1024 .f32) (r : Fin 256) (j : Fin 1024) :
    k0_pay3 a w x g b (ix2 r j)
      = Dense.first (row g 0) (row b 0) (row x r) (row (k0_pay2 a w) ⟨r, by omega⟩) j := by
  unfold k0_pay3 Dense.first Dense.norm Dense.mean Dense.alpha
  generalize k0_pay2 a w = mix
  pointwise

theorem pay4_apply (a : Vec Ideal S512x1024 .bf16) (w : Vec Ideal S1024x1024 .bf16) (x : Vec Ideal S256x1024 .f32)
    (g b : Vec Ideal S1x1024 .f32) (i : S256x1024.Idx) : k0_pay4 a w x g b i = k0_pay3 a w x g b i := by
  unfold k0_pay4
  generalize k0_pay3 a w x g b = y
  pointwise

theorem pay6_apply (a : Vec Ideal S512x1024 .bf16) (w : Vec Ideal S1024x1024 .bf16) (x : Vec Ideal S256x1024 .f32)
    (g b : Vec Ideal S1x1024 .f32) (u : Vec Ideal S1024x1024 .bf16) (r : Fin 256) (j : Fin 1024) :
    k0_pay6 a w x g b u (ix2 r j) = ∑ k : Fin 1024, k0_pay4 a w x g b (ix2 r k) * u (ix2 k j) := by
  unfold k0_pay6
  generalize k0_pay4 a w x g b = y
  pointwise [dot_S256x1024_S1024x1024_S256x1024_1_0_0_1_n_n]

theorem pay7_apply (x : Vec Ideal S256x1024 .bf16) (h : Vec Ideal S256x1024 .f32)
    (d0 u1 d1 u2 d2 : Vec Ideal S1024x1024 .bf16) (r : Fin 256) (j : Fin 1024) :
    k0_pay7 x (k0_pay5 (F := Ideal)) h d0 u1 d1 u2 d2 (ix2 r j)
      = ∑ q : Fin 1024, Dense.sqRelu (h (ix2 r q)) * d0 (ix2 q j)
        + ∑ q : Fin 1024, Dense.sqRelu (∑ k : Fin 1024, x (ix2 r k) * u1 (ix2 k q)) * d1 (ix2 q j)
        + ∑ q : Fin 1024, Dense.sqRelu (∑ k : Fin 1024, x (ix2 r k) * u2 (ix2 k q)) * d2 (ix2 q j) := by
  unfold k0_pay7 k0_pay5 Dense.sqRelu
  pointwise [dot_S256x1024_S1024x1024_S256x1024_1_0_0_1_n_n]

theorem pay8_apply (x : Vec Ideal S256x1024 .bf16) (u : Vec Ideal S1024x1024 .bf16) (r : Fin 256) (q : Fin 1024) :
    k0_pay8 x u (ix2 r q) = Dense.sqRelu (∑ k : Fin 1024, x (ix2 r k) * u (ix2 k q)) := by
  unfold k0_pay8 Dense.sqRelu
  pointwise [dot_S256x1024_S1024x1024_S256x1024_1_0_0_1_n_n]

theorem pay9_apply (x acc : Vec Ideal S256x1024 .f32) (h : Vec Ideal S256x1024 .bf16) (d : Vec Ideal S1024x1024 .bf16)
    (g b : Vec Ideal S1x1024 .f32) (r : Fin 256) (j : Fin 1024) :
    k0_pay9 x acc h d g b (ix2 r j)
      = Dense.norm (row g 0) (row b 0)
          (fun k => Dense.alpha * x (ix2 r k) + (acc (ix2 r k) + ∑ q : Fin 1024, h (ix2 r q) * d (ix2 q k))) j := by
  unfold k0_pay9 Dense.norm Dense.mean Dense.alpha
  pointwise [dot_S256x1024_S1024x1024_S256x1024_1_0_0_1_n_n]

/-! ## The lower half -/

theorem pay10_apply (mix : Vec Ideal S512x1024 .f32) (x : Vec Ideal S256x1024 .f32) (r : Fin 256) (j : Fin 1024) :
    k0_pay10 mix x (ix2 r j) = Dense.alpha * x (ix2 r j) + mix (ix2 ⟨256 + r, by omega⟩ j) := by
  unfold k0_pay10 Dense.alpha
  pointwise

theorem pay12_apply (s : Vec Ideal S256x1024 .f32) (g b : Vec Ideal S1x1024 .f32) (r : Fin 256) (j : Fin 1024) :
    k0_pay12 s (k0_pay11 g) b (ix2 r j) = Dense.norm (row g 0) (row b 0) (row s r) j := by
  unfold k0_pay12 k0_pay11 Dense.norm Dense.mean
  pointwise

theorem pay13_apply (s : Vec Ideal S256x1024 .f32) (g b : Vec Ideal S1x1024 .f32) (i : S256x1024.Idx) :
    k0_pay13 s g b i = k0_pay12 s g b i := by
  unfold k0_pay13
  generalize k0_pay12 s g b = y
  pointwise

theorem pay14_apply (s : Vec Ideal S256x1024 .f32) (g b : Vec Ideal S1x1024 .f32) (u d : Vec Ideal S1024x1024 .bf16)
    (r : Fin 256) (j : Fin 1024) :
    k0_pay14 s g b u d (ix2 r j)
      = ∑ q : Fin 1024, Dense.sqRelu (∑ k : Fin 1024, k0_pay13 s g b (ix2 r k) * u (ix2 k q)) * d (ix2 q j) := by
  unfold k0_pay14 Dense.sqRelu
  generalize k0_pay13 s g b = y
  pointwise [dot_S256x1024_S1024x1024_S256x1024_1_0_0_1_n_n]

theorem pay15_apply (s : Vec Ideal S256x1024 .f32) (g b : Vec Ideal S1x1024 .f32) (u : Vec Ideal S1024x1024 .bf16)
    (r : Fin 256) (q : Fin 1024) :
    k0_pay15 s g b u (ix2 r q) = Dense.sqRelu (∑ k : Fin 1024, k0_pay13 s g b (ix2 r k) * u (ix2 k q)) := by
  unfold k0_pay15 Dense.sqRelu
  generalize k0_pay13 s g b = y
  pointwise [dot_S256x1024_S1024x1024_S256x1024_1_0_0_1_n_n]

theorem pay16_apply (x : Vec Ideal S256x1024 .f32) (y : Vec Ideal S256x1024 .bf16) (acc : Vec Ideal S256x1024 .f32)
    (h : Vec Ideal S256x1024 .bf16) (d1 u2 d2 u3 d3 : Vec Ideal S1024x1024 .bf16) (r : Fin 256) (j : Fin 1024) :
    k0_pay16 x y acc h d1 u2 d2 u3 d3 (ix2 r j)
      = Dense.alpha * x (ix2 r j)
        + (acc (ix2 r j) + ∑ q : Fin 1024, h (ix2 r q) * d1 (ix2 q j)
          + ∑ q : Fin 1024, Dense.sqRelu (∑ k : Fin 1024, y (ix2 r k) * u2 (ix2 k q)) * d2 (ix2 q j)
          + ∑ q : Fin 1024, Dense.sqRelu (∑ k : Fin 1024, y (ix2 r k) * u3 (ix2 k q)) * d3 (ix2 q j)) := by
  unfold k0_pay16 Dense.sqRelu Dense.alpha
  pointwise [dot_S256x1024_S1024x1024_S256x1024_1_0_0_1_n_n]

theorem pay1_apply (x : Vec Ideal S256x1024 .f32) (y : Vec Ideal S256x1024 .bf16) (acc : Vec Ideal S256x1024 .f32)
    (h : Vec Ideal S256x1024 .bf16) (d1 u2 d2 u3 d3 : Vec Ideal S1024x1024 .bf16) (g b : Vec Ideal S1x1024 .f32)
    (r : Fin 256) (j : Fin 1024) :
    k0_pay1 (k0_pay16 x y acc h d1 u2 d2 u3 d3) (k0_pay17 g) (k0_pay18 b) (k0_pay19 x y acc h d1 u2 d2 u3 d3)
        (k0_pay20 (F := Ideal)) (ix2 r j)
      = Dense.norm (row g 0) (row b 0) (row (k0_pay16 x y acc h d1 u2 d2 u3 d3) r) j := by
  unfold k0_pay19 k0_pay1 k0_pay17 k0_pay18 k0_pay20 Dense.norm Dense.mean
  generalize k0_pay16 x y acc h d1 u2 d2 u3 d3 = s
  pointwise

/-! ## What the body stores -/

section Out

variable (x0 : Vec Ideal S512x1024 .bf16) (x1 : Vec Ideal S1024x1024 .bf16) (x2 : Vec Ideal S512x1024 .f32)
  (x3 x4 : Vec Ideal S1x1024 .f32) (x5 : Vec Ideal S1024x4096 .bf16) (x6 : Vec Ideal S4096x1024 .bf16)
  (x7 x8 : Vec Ideal S1x1024 .f32)

/-- A block's result at a row, as the mathematics of the row. -/
def blockRow (r : Fin 512) : Fin 1024 → EReal :=
  Dense.tail (row x3 0) (row x4 0) (row x5) (row x6) (row x7 0) (row x8 0) (row x2 r)
    (fun j => ∑ k : Fin 1024, row x0 r k * row x1 k j)

theorem ld_block (v : Vec Ideal S512x1024 .bf16) : View.ld v r0_0 = v := Dense.ld_all _ v
theorem ld_square (v : Vec Ideal S1024x1024 .bf16) : View.ld v r0_1 = v := Dense.ld_all _ v
theorem ld_row (v : Vec Ideal S1x1024 .f32) : View.ld v r0_3 = v := Dense.ld_all _ v

theorem ld_upper (v : Vec Ideal S512x1024 .f32) (r : Fin 256) :
    row (View.ld v r0_2) r = row v ⟨r, by omega⟩ :=
  funext fun j => (Dense.ld_rect _ (by decide) (by decide) v r j).trans (by simp only [Nat.zero_add])
theorem ld_lower (v : Vec Ideal S512x1024 .f32) (r : Fin 256) (j : Fin 1024) :
    View.ld v r0_12 (ix2 r j) = row v ⟨256 + r, by omega⟩ j :=
  (Dense.ld_rect _ (by decide) (by decide) v r j).trans (by simp only [Nat.zero_add])

/-- A quarter of the columns of the first feed-forward weight. -/
def chunkUp (v : Vec Ideal S1024x4096 .bf16) (p : Fin 4) : Vec Ideal S1024x1024 .bf16 := fun i => row v (i 0) (Dense.quarter p (i 1))
/-- A quarter of the rows of the second feed-forward weight. -/
def chunkDown (v : Vec Ideal S4096x1024 .bf16) (p : Fin 4) : Vec Ideal S1024x1024 .bf16 := fun i => row v (Dense.quarter p (i 0)) (i 1)
theorem chunkUp_apply (v : Vec Ideal S1024x4096 .bf16) (p : Fin 4) (k q : Fin 1024) : chunkUp v p (ix2 k q) = row v k (Dense.quarter p q) := rfl
theorem chunkDown_apply (v : Vec Ideal S4096x1024 .bf16) (p : Fin 4) (q j : Fin 1024) : chunkDown v p (ix2 q j) = row v (Dense.quarter p q) j := rfl

theorem ld_up0 (v : Vec Ideal S1024x4096 .bf16) : View.ld v r0_4 = chunkUp v 0 :=
  Dense.ext2 fun k q => (Dense.ld_rect _ (by decide) (by decide) v k q).trans (congrArg v (congrArg₂ ix2 (Fin.ext (by simp [Dense.quarter])) (Fin.ext (by simp [Dense.quarter]))))
theorem ld_down0 (v : Vec Ideal S4096x1024 .bf16) : View.ld v r0_5 = chunkDown v 0 :=
  Dense.ext2 fun k q => (Dense.ld_rect _ (by decide) (by decide) v k q).trans (congrArg v (congrArg₂ ix2 (Fin.ext (by simp [Dense.quarter])) (Fin.ext (by simp [Dense.quarter]))))
theorem ld_up1 (v : Vec Ideal S1024x4096 .bf16) : View.ld v r0_6 = chunkUp v 1 :=
  Dense.ext2 fun k q => (Dense.ld_rect _ (by decide) (by decide) v k q).trans (congrArg v (congrArg₂ ix2 (Fin.ext (by simp [Dense.quarter])) (Fin.ext (by simp [Dense.quarter]))))
theorem ld_down1 (v : Vec Ideal S4096x1024 .bf16) : View.ld v r0_7 = chunkDown v 1 :=
  Dense.ext2 fun k q => (Dense.ld_rect _ (by decide) (by decide) v k q).trans (congrArg v (congrArg₂ ix2 (Fin.ext (by simp [Dense.quarter])) (Fin.ext (by simp [Dense.quarter]))))
theorem ld_up2 (v : Vec Ideal S1024x4096 .bf16) : View.ld v r0_8 = chunkUp v 2 :=
  Dense.ext2 fun k q => (Dense.ld_rect _ (by decide) (by decide) v k q).trans (congrArg v (congrArg₂ ix2 (Fin.ext (by simp [Dense.quarter])) (Fin.ext (by simp [Dense.quarter]))))
theorem ld_down2 (v : Vec Ideal S4096x1024 .bf16) : View.ld v r0_9 = chunkDown v 2 :=
  Dense.ext2 fun k q => (Dense.ld_rect _ (by decide) (by decide) v k q).trans (congrArg v (congrArg₂ ix2 (Fin.ext (by simp [Dense.quarter])) (Fin.ext (by simp [Dense.quarter]))))
theorem ld_up3 (v : Vec Ideal S1024x4096 .bf16) : View.ld v r0_10 = chunkUp v 3 :=
  Dense.ext2 fun k q => (Dense.ld_rect _ (by decide) (by decide) v k q).trans (congrArg v (congrArg₂ ix2 (Fin.ext (by simp [Dense.quarter])) (Fin.ext (by simp [Dense.quarter]))))
theorem ld_down3 (v : Vec Ideal S4096x1024 .bf16) : View.ld v r0_11 = chunkDown v 3 :=
  Dense.ext2 fun k q => (Dense.ld_rect _ (by decide) (by decide) v k q).trans (congrArg v (congrArg₂ ix2 (Fin.ext (by simp [Dense.quarter])) (Fin.ext (by simp [Dense.quarter]))))

theorem mix_row (r : Fin 512) : row (k0_pay2 x0 x1) r = fun j => ∑ k : Fin 1024, row x0 r k * row x1 k j :=
  funext fun j => pay2_apply x0 x1 r j

theorem upper (r : Fin 256) (j : Fin 1024) :
    out0_9 x0 x1 x2 x3 x4 x5 x6 x7 x8 (ix2 ⟨r, by omega⟩ j) = blockRow x0 x1 x2 x3 x4 x5 x6 x7 x8 ⟨r, by omega⟩ j := by
  unfold out0_9
  rw [View.canon_cons_of_not_mem]
  · rw [show (ix2 (⟨r, by omega⟩ : Fin 512) j : S512x1024.Idx) = r0_2.emb (ix2 r j) from
      ((Dense.emb_rect _ (by decide) (by decide) r j).trans (by simp only [Nat.zero_add])).symm]
    rw [View.canon_cons_emb]
    unfold blockRow Dense.tail k0_pay21
    simp only [ld_up0, ld_up1, ld_up2, ld_up3, ld_down0, ld_down1, ld_down2, ld_down3]
    rw [pay9_apply]
    simp only [pay7_apply, pay8_apply, pay6_apply, pay4_apply, pay3_apply, ld_block, ld_square, ld_row, mix_row, ld_upper,
      chunkUp_apply, chunkDown_apply, Dense.mlp_quarters]
  · intro h
    have h' : (ix2 (⟨r, by omega⟩ : Fin 512) j : S512x1024.Idx) ∈ r0_12.set := h
    rw [Rect.mem_set_unit] at h'
    have := (h' 0).1
    have hr := r.isLt
    change 256 ≤ r.val at this
    omega

theorem lower (r : Fin 256) (j : Fin 1024) :
    out0_9 x0 x1 x2 x3 x4 x5 x6 x7 x8 (ix2 ⟨256 + r, by omega⟩ j)
      = blockRow x0 x1 x2 x3 x4 x5 x6 x7 x8 ⟨256 + r, by omega⟩ j := by
  unfold out0_9
  rw [show (ix2 (⟨256 + r, by omega⟩ : Fin 512) j : S512x1024.Idx) = r0_12.emb (ix2 r j) from
    ((Dense.emb_rect _ (by decide) (by decide) r j).trans (by simp only [Nat.zero_add])).symm]
  rw [View.canon_cons_emb, pay1_apply]
  have e10 (k : Fin 1024) : k0_pay22 x0 x1 x2 x3 x4 x5 x6 x7 x8 (ix2 r k)
      = Dense.alpha * row x2 ⟨256 + r, by omega⟩ k + ∑ q : Fin 1024, row x0 ⟨256 + r, by omega⟩ q * row x1 q k := by
    unfold k0_pay22
    rw [pay10_apply, ld_lower, ld_block, ld_square, pay2_apply]
  have e12 (k : Fin 1024) : k0_pay24 x0 x1 x2 x3 x4 x5 x6 x7 x8 (ix2 r k)
      = Dense.first (row x3 0) (row x4 0) (row x2 ⟨256 + r, by omega⟩)
          (fun j => ∑ q : Fin 1024, row x0 ⟨256 + r, by omega⟩ q * row x1 q j) k := by
    unfold k0_pay24 k0_pay23 Dense.first
    rw [pay12_apply, ld_row, ld_row]
    congr 1
    exact funext e10
  have e13 (k : Fin 1024) : k0_pay25 x0 x1 x2 x3 x4 x5 x6 x7 x8 (ix2 r k) = k0_pay24 x0 x1 x2 x3 x4 x5 x6 x7 x8 (ix2 r k) := by
    unfold k0_pay25 k0_pay24
    exact pay13_apply _ _ _ _
  have e13' (k : Fin 1024) : k0_pay13 (k0_pay22 x0 x1 x2 x3 x4 x5 x6 x7 x8) (k0_pay23 x0 x1 x2 x3 x4 x5 x6 x7 x8)
      (View.ld x4 r0_3) (ix2 r k) = k0_pay24 x0 x1 x2 x3 x4 x5 x6 x7 x8 (ix2 r k) := by
    unfold k0_pay24
    exact pay13_apply _ _ _ _
  have e16 : row (k0_pay16 (k0_pay24 x0 x1 x2 x3 x4 x5 x6 x7 x8) (k0_pay25 x0 x1 x2 x3 x4 x5 x6 x7 x8)
      (k0_pay26 x0 x1 x2 x3 x4 x5 x6 x7 x8) (k0_pay27 x0 x1 x2 x3 x4 x5 x6 x7 x8) (View.ld x6 r0_7) (View.ld x5 r0_8)
      (View.ld x6 r0_9) (View.ld x5 r0_10) (View.ld x6 r0_11)) r
      = fun k => Dense.alpha * Dense.first (row x3 0) (row x4 0) (row x2 ⟨256 + r, by omega⟩)
            (fun j => ∑ q : Fin 1024, row x0 ⟨256 + r, by omega⟩ q * row x1 q j) k
          + Dense.mlp (row x5) (row x6) (Dense.first (row x3 0) (row x4 0) (row x2 ⟨256 + r, by omega⟩)
            (fun j => ∑ q : Fin 1024, row x0 ⟨256 + r, by omega⟩ q * row x1 q j)) k := by
    funext k
    show k0_pay16 _ _ _ _ _ _ _ _ _ (ix2 r k) = _
    rw [ld_down1, ld_up2, ld_down2, ld_up3, ld_down3, pay16_apply]
    unfold k0_pay26 k0_pay27
    simp only [pay14_apply, pay15_apply, e13, e13', e12, ld_up0, ld_up1, ld_up2, ld_up3, ld_down0, ld_down1, ld_down2,
      ld_down3, chunkUp_apply, chunkDown_apply, Dense.mlp_quarters]
  rw [e16, ld_row, ld_row]
  rfl

/-- What the body leaves in the output block, row by row. -/
theorem out_apply (r : Fin 512) (j : Fin 1024) :
    out0_9 x0 x1 x2 x3 x4 x5 x6 x7 x8 (ix2 r j) = blockRow x0 x1 x2 x3 x4 x5 x6 x7 x8 r j := by
  by_cases h : r.val < 256
  · exact upper x0 x1 x2 x3 x4 x5 x6 x7 x8 ⟨r.val, h⟩ j
  · have e : r = ⟨256 + (⟨r.val - 256, by omega⟩ : Fin 256).val, by dsimp only; omega⟩ := Fin.ext (by dsimp only; omega)
    rw [e]
    exact lower x0 x1 x2 x3 x4 x5 x6 x7 x8 ⟨r.val - 256, by omega⟩ j

end Out

end Cert.TailOddIdeal.Body

end
-- ==== Proof.Dense.TailOdd.lean ====
module

public import proofs.«01_k».proof.Proof.Dense.TailOddBody
public import proofs.«01_k».proof.Proof.Gen.TailOddIdeal.Value

/-!
The result array of the call that follows the DeltaNet mixer, as the mathematics of its argument arrays.
-/

@[expose] public section

noncomputable section

namespace Cert.TailOddIdeal.Final

open Cert.TailOddIdeal Cert.TailOddIdeal.Gen Cert.TailOddIdeal.Body Idealize.ShloMosaic Idealize.ShloMosaic.TcCoe Idealize.SL.Sem

variable (m : (ℓ : Loc nD τ sig) → Buf (Elt Ideal) ℓ) (ρ : Dev nD → PrngReg) (c : Dev nD)

/-! ## The arrays the host prepares -/

theorem V_v0 : V m c main_v0 = m ((c : Thread nD τ).loc main_arg2) := by
  unfold V
  after_results_simp
  rfl

theorem V_v1 (j : Fin 1024) : row (V m c main_v1) (0 : Fin 1) j = m ((c : Thread nD τ).loc main_arg3) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v2 (j : Fin 1024) : row (V m c main_v2) (0 : Fin 1) j = m ((c : Thread nD τ).loc main_arg4) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v3 : V m c main_v3 = m ((c : Thread nD τ).loc main_arg5) := by
  unfold V
  after_results_simp
  rfl

theorem V_v4 : V m c main_v4 = m ((c : Thread nD τ).loc main_arg6) := by
  unfold V
  after_results_simp
  rfl

theorem V_v5 (j : Fin 1024) : row (V m c main_v5) (0 : Fin 1) j = m ((c : Thread nD τ).loc main_arg7) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v6 (j : Fin 1024) : row (V m c main_v6) (0 : Fin 1) j = m ((c : Thread nD τ).loc main_arg8) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

/-! ## The blocks the body reads: 512 rows of the first and third operand, the whole of each other -/

theorem idx_facts : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0) :=
  (by decide +kernel : ∀ t : Fin grid0.N, _)

/-- Row `r` of block `t`, in the array. -/
def at_ (t : Fin cfg0.N) (r : Fin 512) : Fin 16384 :=
  ⟨512 * t.val + r.val, by have : t.val < 32 := t.isLt; omega⟩

theorem iblk0 (t : Fin cfg0.N) (r : Fin 512) (j : Fin 1024) :
    (iblk m c 0 t : Vec Ideal S512x1024 .bf16) (ix2 r j) = m ((c : Thread nD τ).loc main_arg0) (ix2 (at_ t r) j) := by
  have hi := (idx_facts t).1
  show V m c main_arg0 (((cfg0.win 0).blk t).view.emb (ix2 r j)) = _
  rw [V_main_arg0]
  congr 1
  funext a
  apply Fin.ext
  match a with
  | ⟨0, _⟩ => show win0_0.index t 0 * 512 + 1 * r.val = 512 * t.val + r.val; omega
  | ⟨1, _⟩ => show win0_0.index t 1 * 1024 + 1 * j.val = j.val; omega

theorem iblk1 (t : Fin cfg0.N) : (iblk m c 1 t : Vec Ideal S1024x1024 .bf16) = V m c main_v0 := by
  have hi := (idx_facts t).2.1
  funext i
  show V m c main_v0 (((cfg0.win 1).blk t).view.emb i) = _
  congr 1
  funext a
  apply Fin.ext
  match a with
  | ⟨0, _⟩ => show win0_1.index t 0 * 1024 + 1 * (i 0).val = (i 0).val; omega
  | ⟨1, _⟩ => show win0_1.index t 1 * 1024 + 1 * (i 1).val = (i 1).val; omega

theorem iblk2 (t : Fin cfg0.N) (r : Fin 512) (j : Fin 1024) :
    (iblk m c 2 t : Vec Ideal S512x1024 .f32) (ix2 r j) = m ((c : Thread nD τ).loc main_arg1) (ix2 (at_ t r) j) := by
  have hi := (idx_facts t).2.2.1
  show V m c main_arg1 (((cfg0.win 2).blk t).view.emb (ix2 r j)) = _
  rw [V_main_arg1]
  congr 1
  funext a
  apply Fin.ext
  match a with
  | ⟨0, _⟩ => show win0_2.index t 0 * 512 + 1 * r.val = 512 * t.val + r.val; omega
  | ⟨1, _⟩ => show win0_2.index t 1 * 1024 + 1 * j.val = j.val; omega

theorem iblk3 (t : Fin cfg0.N) : (iblk m c 3 t : Vec Ideal S1x1024 .f32) = V m c main_v1 := by
  have hi := (idx_facts t).2.2.2.1
  funext i
  show V m c main_v1 (((cfg0.win 3).blk t).view.emb i) = _
  congr 1
  funext a
  apply Fin.ext
  match a with
  | ⟨0, _⟩ => show win0_3.index t 0 * 1 + 1 * (i 0).val = (i 0).val; omega
  | ⟨1, _⟩ => show win0_3.index t 1 * 1024 + 1 * (i 1).val = (i 1).val; omega

theorem iblk4 (t : Fin cfg0.N) : (iblk m c 4 t : Vec Ideal S1x1024 .f32) = V m c main_v2 := by
  have hi := (idx_facts t).2.2.2.2.1
  funext i
  show V m c main_v2 (((cfg0.win 4).blk t).view.emb i) = _
  congr 1
  funext a
  apply Fin.ext
  match a with
  | ⟨0, _⟩ => show win0_4.index t 0 * 1 + 1 * (i 0).val = (i 0).val; omega
  | ⟨1, _⟩ => show win0_4.index t 1 * 1024 + 1 * (i 1).val = (i 1).val; omega

theorem iblk5 (t : Fin cfg0.N) : (iblk m c 5 t : Vec Ideal S1024x4096 .bf16) = V m c main_v3 := by
  have hi := (idx_facts t).2.2.2.2.2.1
  funext i
  show V m c main_v3 (((cfg0.win 5).blk t).view.emb i) = _
  congr 1
  funext a
  apply Fin.ext
  match a with
  | ⟨0, _⟩ => show win0_5.index t 0 * 1024 + 1 * (i 0).val = (i 0).val; omega
  | ⟨1, _⟩ => show win0_5.index t 1 * 4096 + 1 * (i 1).val = (i 1).val; omega

theorem iblk6 (t : Fin cfg0.N) : (iblk m c 6 t : Vec Ideal S4096x1024 .bf16) = V m c main_v4 := by
  have hi := (idx_facts t).2.2.2.2.2.2.1
  funext i
  show V m c main_v4 (((cfg0.win 6).blk t).view.emb i) = _
  congr 1
  funext a
  apply Fin.ext
  match a with
  | ⟨0, _⟩ => show win0_6.index t 0 * 4096 + 1 * (i 0).val = (i 0).val; omega
  | ⟨1, _⟩ => show win0_6.index t 1 * 1024 + 1 * (i 1).val = (i 1).val; omega

theorem iblk7 (t : Fin cfg0.N) : (iblk m c 7 t : Vec Ideal S1x1024 .f32) = V m c main_v5 := by
  have hi := (idx_facts t).2.2.2.2.2.2.2.1
  funext i
  show V m c main_v5 (((cfg0.win 7).blk t).view.emb i) = _
  congr 1
  funext a
  apply Fin.ext
  match a with
  | ⟨0, _⟩ => show win0_7.index t 0 * 1 + 1 * (i 0).val = (i 0).val; omega
  | ⟨1, _⟩ => show win0_7.index t 1 * 1024 + 1 * (i 1).val = (i 1).val; omega

theorem iblk8 (t : Fin cfg0.N) : (iblk m c 8 t : Vec Ideal S1x1024 .f32) = V m c main_v6 := by
  have hi := (idx_facts t).2.2.2.2.2.2.2.2.1
  funext i
  show V m c main_v6 (((cfg0.win 8).blk t).view.emb i) = _
  congr 1
  funext a
  apply Fin.ext
  match a with
  | ⟨0, _⟩ => show win0_8.index t 0 * 1 + 1 * (i 0).val = (i 0).val; omega
  | ⟨1, _⟩ => show win0_8.index t 1 * 1024 + 1 * (i 1).val = (i 1).val; omega

/-! ## The result -/

/-- The result array: each token's row, as the mathematics of that row. -/
def result : Buf (Elt Ideal) ((c : Thread nD τ).loc main_v7) :=
  Dense.tailOdd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem emb_out (t : Fin cfg0.N) (r : Fin 512) (j : Fin 1024) :
    ((cfg0.win 9).blk t).view.emb (ix2 r j) = (ix2 (at_ t r) j : S16384x1024.Idx) := by
  have hi := (idx_facts t).2.2.2.2.2.2.2.2.2
  funext a
  apply Fin.ext
  match a with
  | ⟨0, _⟩ => show win0_9.index t 0 * 512 + 1 * r.val = 512 * t.val + r.val; omega
  | ⟨1, _⟩ => show win0_9.index t 1 * 1024 + 1 * j.val = j.val; omega

/-- What a point writes back is its block of the result. -/
theorem flushed_eq (t : Fin cfg0.N) :
    (dats m 0 c).flushed 9 t = ((cfg0.win 9).blk t).view.read (Elt Ideal) (result m c) := by
  rw [Value.flushed9]
  refine Dense.ext2 (n := 512) (m := 1024) fun r j => ?_
  show out0_9 (iblk m c 0 t) (iblk m c 1 t) (iblk m c 2 t) (iblk m c 3 t) (iblk m c 4 t) (iblk m c 5 t) (iblk m c 6 t)
      (iblk m c 7 t) (iblk m c 8 t) (ix2 r j) = result m c (((cfg0.win 9).blk t).view.emb (ix2 r j))
  rw [out_apply, emb_out]
  unfold blockRow result Dense.tailOdd
  have e0 : ∀ k, row (iblk m c 0 t) r k = _ := fun k => iblk0 m c t r k
  have e2 : row (iblk m c 2 t) r = _ := funext fun k => iblk2 m c t r k
  rw [iblk1, iblk3, iblk4, iblk5, iblk6, iblk7, iblk8, V_v0, V_v3, V_v4, e2, funext (V_v1 m c), funext (V_v2 m c),
    funext (V_v5 m c), funext (V_v6 m c)]
  simp only [e0]
  rfl

/-- The blocks cover the array. -/
theorem cover (i : S16384x1024.Idx) :
    ∃ t : Fin cfg0.N, (cfg0.win 9).flush t = true ∧ i ∈ ((cfg0.win 9).blk t).view.set := by
  have h0 : (i 0).val < 16384 := (i 0).isLt
  have h1 : (i 1).val < 1024 := (i 1).isLt
  let t : Fin cfg0.N := ⟨(i 0).val / 512, by show _ < 32; omega⟩
  refine ⟨t, flush0_9 t, ?_⟩
  have e := emb_out t ⟨(i 0).val % 512, by omega⟩ ⟨(i 1).val, h1⟩
  have : i = ((cfg0.win 9).blk t).view.emb (ix2 (⟨(i 0).val % 512, by omega⟩ : Fin 512) (⟨(i 1).val, h1⟩ : Fin 1024)) := by
    rw [e]
    funext a
    apply Fin.ext
    match a with
    | ⟨0, _⟩ => show (i 0).val = 512 * ((i 0).val / 512) + (i 0).val % 512; omega
    | ⟨1, _⟩ => rfl
  rw [this]
  exact View.emb_mem_set _ _

theorem array_eq : (dats m 0 c).arrAt 9 cfg0.N = result m c :=
  (dats m 0 c).arrAt_eq_of_cover 9 (result m c) (fun t _ => flushed_eq m c t) cover

end Cert.TailOddIdeal.Final

end
-- ==== Proof.Dense.RefTailOdd.lean ====
module

public import proofs.«01_k».proof.Proof.Gen.RefTailOddIdeal.Read
public import proofs.«01_k».proof.Proof.Dense.Row

/-!
The reference of the call that follows the DeltaNet mixer, read as the mathematics of its argument arrays.
-/

@[expose] public section

noncomputable section

namespace Cert.RefTailOddIdeal.Final

open Cert.RefTailOddIdeal Cert.RefTailOddIdeal.Gen Cert.RefTailOddIdeal.Read Idealize.ShloMosaic Idealize.ShloMosaic.StableHlo

variable (x0 : Vec Ideal S16384x1024 .bf16) (x1 : Vec Ideal S16384x1024 .f32) (x2 : Vec Ideal S1024x1024 .f32)
  (x3 x4 : Vec Ideal S1024 .f32) (x5 : Vec Ideal S1024x4096 .f32) (x6 : Vec Ideal S4096x1024 .f32) (x7 x8 : Vec Ideal S1024 .f32)

/-- The first residual sum. -/
theorem sum1_apply (r : Fin 16384) (j : Fin 1024) :
    val_main_v4 (F := Ideal) x0 x1 x2 (ix2 r j)
      = Dense.alpha * x1 (ix2 r j) + ∑ k : Fin 1024, x0 (ix2 r k) * x2 (ix2 k j) := by
  unfold val_main_v4 val_main_v3 val_main_v2 val_main_v1 val_main_v0 val_main_cst Dense.alpha
  pointwise [dot_S16384x1024_S1024x1024_S16384x1024_1_0_0_1_n_n]

/-- The first normalisation. -/
theorem norm1_apply (r : Fin 16384) (j : Fin 1024) :
    val_main_v28 (F := Ideal) x0 x1 x2 x3 x4 (ix2 r j)
      = Dense.norm (fun j => x3 (ix1 j)) (fun j => x4 (ix1 j)) (fun k => val_main_v4 (F := Ideal) x0 x1 x2 (ix2 r k)) j := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v9 val_main_v8 val_main_v7 val_main_v6 val_main_v5 val_main_cst_0 val_main_cst_1 val_main_cst_2
    val_main_cst_3 val_main_cst_4 Dense.norm Dense.mean
  generalize val_main_v4 (F := Ideal) x0 x1 x2 = X
  pointwise

/-- The second residual sum. -/
theorem sum2_apply (r : Fin 16384) (j : Fin 1024) :
    val_main_v35 (F := Ideal) x0 x1 x2 x3 x4 x5 x6 (ix2 r j)
      = Dense.alpha * val_main_v28 (F := Ideal) x0 x1 x2 x3 x4 (ix2 r j)
        + Dense.mlp (fun k n => x5 (ix2 k n)) (fun n j => x6 (ix2 n j))
            (fun k => val_main_v28 (F := Ideal) x0 x1 x2 x3 x4 (ix2 r k)) j := by
  unfold val_main_v35 val_main_v34 val_main_v33 val_main_v32 val_main_v31 val_main_v30 val_main_v29 val_main_cst_5
    val_main_call0_v0 val_main_call0_cst Dense.mlp Dense.hidden Dense.sqRelu Dense.alpha
  generalize val_main_v28 (F := Ideal) x0 x1 x2 x3 x4 = X
  pointwise [dot_S16384x1024_S1024x4096_S16384x4096_1_0_0_1_n_n, dot_S16384x4096_S4096x1024_S16384x1024_1_0_0_1_n_n]

/-- The second normalisation. -/
theorem norm2_apply (r : Fin 16384) (j : Fin 1024) :
    val_main_v59 (F := Ideal) x0 x1 x2 x3 x4 x5 x6 x7 x8 (ix2 r j)
      = Dense.norm (fun j => x7 (ix1 j)) (fun j => x8 (ix1 j))
          (fun k => val_main_v35 (F := Ideal) x0 x1 x2 x3 x4 x5 x6 (ix2 r k)) j := by
  unfold val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42
    val_main_v41 val_main_v40 val_main_v39 val_main_v38 val_main_v37 val_main_v36 val_main_cst_6 val_main_cst_7 val_main_cst_8
    val_main_cst_9 val_main_cst_10 Dense.norm Dense.mean
  generalize val_main_v35 (F := Ideal) x0 x1 x2 x3 x4 x5 x6 = X
  pointwise

/-- The reference's result. -/
theorem result_eq : val_main_v59 (F := Ideal) x0 x1 x2 x3 x4 x5 x6 x7 x8 = Dense.tailOdd x0 x1 x2 x3 x4 x5 x6 x7 x8 := by
  refine Dense.ext2 (n := 16384) (m := 1024) fun r j => ?_
  rw [norm2_apply]
  simp only [sum2_apply, norm1_apply, sum1_apply]
  rfl

end Cert.RefTailOddIdeal.Final

end
-- ==== Proof.Dense.TailOddClaim.lean ====
module

public import proofs.«01_k».proof.Defs
public import proofs.«01_k».proof.Proof.Dense.TailOdd
public import proofs.«01_k».proof.Proof.Dense.RefTailOdd
public import proofs.«01_k».proof.Proof.Gen.TailOdd.Frame

/-!
The claims about the call that follows the DeltaNet mixer.
-/

@[expose] public section

noncomputable section

namespace Cert.TailOddClaim

open Idealize.ShloMosaic Idealize.ShloMosaic.TcCoe Idealize.SL.Sem

/-- The reference runs, and declares no semaphore. -/
theorem frame_ref [Cert.RefTailOddIdeal.Facts] : Cert.quiescent_RefTailOddIdeal := fun m ρ _ =>
  (θ_run Cert.RefTailOddIdeal.defs _ _).mono (fun r h => ⟨fun c => (h c).2, sem_eq_zero_of_no_sems (by decide) r.2⟩)
    (Cert.RefTailOddIdeal.Value.run (F := Ideal) m ρ)

/-- Kernel and reference leave the same array. -/
theorem algebraic [Cert.TailOddIdeal.Facts] [Cert.RefTailOddIdeal.Facts] : Cert.algebraic_TailOddIdeal_RefTailOddIdeal := by
  intro m ρ m' ρ' _ hag
  refine ⟨fun c => Cert.TailOddIdeal.Final.result m c, ?_, ?_⟩
  · exact (θ_run Cert.TailOddIdeal.defs _ _).mono (fun r h c => ⟨(h c).1.trans (Cert.TailOddIdeal.Final.array_eq m c), (h c).2⟩)
      (Cert.TailOddIdeal.Value.run_blocks m ρ)
  · refine (θ_run Cert.RefTailOddIdeal.defs _ _).mono (fun r h c => ⟨(h c).1.trans ?_, (h c).2⟩)
      (Cert.RefTailOddIdeal.Value.run m' ρ')
    obtain ⟨h0, h1, h2, h3, h4, h5, h6, h7, h8⟩ := hag c
    rw [Cert.RefTailOddIdeal.Read.val_main_v59_eq, h0, h1, h2, h3, h4, h5, h6, h7, h8]
    exact Cert.RefTailOddIdeal.Final.result_eq _ _ _ _ _ _ _ _ _

end Cert.TailOddClaim

end
-- ==== Proof.Dense.TailEvenBody.lean ====
module

public import proofs.«01_k».proof.Proof.Gen.TailEvenIdeal.Frame
public import proofs.«01_k».proof.Proof.Dense.Row

/-!
The body of the call that follows the attention and the state space branch, its stored values read at an index as the
mathematics of a row.
-/

@[expose] public section

noncomputable section

namespace Cert.TailEvenIdeal.Body

open Cert.TailEvenIdeal Cert.TailEvenIdeal.Gen Idealize.ShloMosaic

/-- Row `r` of a block. -/
abbrev row {n k : Nat} (v : (⟨2, ![n, k]⟩ : Shape).Idx → EReal) (r : Fin n) (j : Fin k) : EReal := v (ix2 r j)

/-- The state space branch, gated. -/
theorem pay2_apply (y : Vec Ideal S512x512 .f32) (d : Vec Ideal S1x512 .f32) (u : Vec Ideal S512x512 .f32)
    (wg : Vec Ideal S512x512 .bf16) (bg : Vec Ideal S1x512 .f32) (r j : Fin 512) :
    k0_pay2 y d u wg bg (ix2 r j) = Dense.gated (row d 0) (row bg 0) (row wg) (row y r) (row u r) j := by
  unfold k0_pay2 Dense.gated Dense.gelu Dense.sigmoid
  pointwise [dot_S512x512_S512x512_S512x512_1_0_0_1_n_n]
  simp only [zero_sub]

/-- The two branches' projection, the weight given in two halves. -/
theorem pay3_apply (s : Vec Ideal S512x512 .f32) (a : Vec Ideal S512x512 .bf16) (w w' : Vec Ideal S512x1024 .bf16)
    (r : Fin 512) (j : Fin 1024) :
    k0_pay3 s a w w' (ix2 r j) = ∑ k : Fin 512, a (ix2 r k) * w (ix2 k j) + ∑ k : Fin 512, s (ix2 r k) * w' (ix2 k j) := by
  unfold k0_pay3
  pointwise [dot_S512x512_S512x1024_S512x1024_1_0_0_1_n_n]

/-! ## The upper half of a block's rows -/

theorem pay4_apply (s : Vec Ideal S512x512 .f32) (a : Vec Ideal S512x512 .bf16) (w w' : Vec Ideal S512x1024 .bf16)
    (x : Vec Ideal S256x1024 .f32) (g b : Vec Ideal S1x1024 .f32) (r : Fin 256) (j : Fin 1024) :
    k0_pay4 s a w w' x g b (ix2 r j)
      = Dense.first (row g 0) (row b 0) (row x r) (row (k0_pay3 s a w w') ⟨r, by omega⟩) j := by
  unfold k0_pay4 Dense.first Dense.norm Dense.mean Dense.alpha
  generalize k0_pay3 s a w w' = mix
  pointwise

theorem pay5_apply (s : Vec Ideal S512x512 .f32) (a : Vec Ideal S512x512 .bf16) (w w' : Vec Ideal S512x1024 .bf16)
    (x : Vec Ideal S256x1024 .f32) (g b : Vec Ideal S1x1024 .f32) (i : S256x1024.Idx) :
    k0_pay5 s a w w' x g b i = k0_pay4 s a w w' x g b i := by
  unfold k0_pay5
  generalize k0_pay4 s a w w' x g b = y
  pointwise

theorem pay8_apply (x : Vec Ideal S256x1024 .bf16) (u0 d0 u1 d1 u2 d2 : Vec Ideal S1024x1024 .bf16)
    (r : Fin 256) (j : Fin 1024) :
    k0_pay8 x (k0_pay6 (F := Ideal)) (k0_pay7 u0) d0 u1 d1 u2 d2 (ix2 r j)
      = ∑ q : Fin 1024, Dense.sqRelu (∑ k : Fin 1024, x (ix2 r k) * u0 (ix2 k q)) * d0 (ix2 q j)
        + ∑ q : Fin 1024, Dense.sqRelu (∑ k : Fin 1024, x (ix2 r k) * u1 (ix2 k q)) * d1 (ix2 q j)
        + ∑ q : Fin 1024, Dense.sqRelu (∑ k : Fin 1024, x (ix2 r k) * u2 (ix2 k q)) * d2 (ix2 q j) := by
  unfold k0_pay8 k0_pay7 k0_pay6 Dense.sqRelu
  pointwise [dot_S256x1024_S1024x1024_S256x1024_1_0_0_1_n_n]

theorem pay9_apply (x : Vec Ideal S256x1024 .bf16) (u : Vec Ideal S1024x1024 .bf16) (r : Fin 256) (q : Fin 1024) :
    k0_pay9 x u (ix2 r q) = Dense.sqRelu (∑ k : Fin 1024, x (ix2 r k) * u (ix2 k q)) := by
  unfold k0_pay9 Dense.sqRelu
  pointwise [dot_S256x1024_S1024x1024_S256x1024_1_0_0_1_n_n]

theorem pay10_apply (x acc : Vec Ideal S256x1024 .f32) (h : Vec Ideal S256x1024 .bf16) (d : Vec Ideal S1024x1024 .bf16)
    (g b : Vec Ideal S1x1024 .f32) (r : Fin 256) (j : Fin 1024) :
    k0_pay10 x acc h d g b (ix2 r j)
      = Dense.norm (row g 0) (row b 0)
          (fun k => Dense.alpha * x (ix2 r k) + (acc (ix2 r k) + ∑ q : Fin 1024, h (ix2 r q) * d (ix2 q k))) j := by
  unfold k0_pay10 Dense.norm Dense.mean Dense.alpha
  pointwise [dot_S256x1024_S1024x1024_S256x1024_1_0_0_1_n_n]

/-! ## The lower half -/

theorem pay11_apply (mix : Vec Ideal S512x1024 .f32) (x : Vec Ideal S256x1024 .f32) (r : Fin 256) (j : Fin 1024) :
    k0_pay11 mix x (ix2 r j) = Dense.alpha * x (ix2 r j) + mix (ix2 ⟨256 + r, by omega⟩ j) := by
  unfold k0_pay11 Dense.alpha
  pointwise

theorem pay12_apply (s : Vec Ideal S256x1024 .f32) (g b : Vec Ideal S1x1024 .f32) (r : Fin 256) (j : Fin 1024) :
    k0_pay12 s g b (ix2 r j) = Dense.norm (row g 0) (row b 0) (row s r) j := by
  unfold k0_pay12 Dense.norm Dense.mean
  pointwise

theorem pay13_apply (s : Vec Ideal S256x1024 .f32) (g b : Vec Ideal S1x1024 .f32) (i : S256x1024.Idx) :
    k0_pay13 s g b i = k0_pay12 s g b i := by
  unfold k0_pay13
  generalize k0_pay12 s g b = y
  pointwise

theorem pay14_apply (s : Vec Ideal S256x1024 .f32) (g b : Vec Ideal S1x1024 .f32) (u d : Vec Ideal S1024x1024 .bf16)
    (r : Fin 256) (j : Fin 1024) :
    k0_pay14 s g b u d (ix2 r j)
      = ∑ q : Fin 1024, Dense.sqRelu (∑ k : Fin 1024, k0_pay13 s g b (ix2 r k) * u (ix2 k q)) * d (ix2 q j) := by
  unfold k0_pay14 Dense.sqRelu
  generalize k0_pay13 s g b = y
  pointwise [dot_S256x1024_S1024x1024_S256x1024_1_0_0_1_n_n]

theorem pay15_apply (s : Vec Ideal S256x1024 .f32) (g b : Vec Ideal S1x1024 .f32) (u : Vec Ideal S1024x1024 .bf16)
    (r : Fin 256) (q : Fin 1024) :
    k0_pay15 s g b u (ix2 r q) = max (∑ k : Fin 1024, k0_pay13 s g b (ix2 r k) * u (ix2 k q)) 0 := by
  unfold k0_pay15
  generalize k0_pay13 s g b = y
  pointwise [dot_S256x1024_S1024x1024_S256x1024_1_0_0_1_n_n]

theorem pay16_apply (x : Vec Ideal S256x1024 .f32) (y : Vec Ideal S256x1024 .bf16) (acc : Vec Ideal S256x1024 .f32)
    (h : Vec Ideal S256x1024 .f32) (d1 u2 d2 u3 d3 : Vec Ideal S1024x1024 .bf16) (r : Fin 256) (j : Fin 1024) :
    k0_pay16 x y acc h d1 u2 d2 u3 d3 (ix2 r j)
      = Dense.alpha * x (ix2 r j)
        + (acc (ix2 r j) + ∑ q : Fin 1024, h (ix2 r q) * h (ix2 r q) * d1 (ix2 q j)
          + ∑ q : Fin 1024, Dense.sqRelu (∑ k : Fin 1024, y (ix2 r k) * u2 (ix2 k q)) * d2 (ix2 q j)
          + ∑ q : Fin 1024, Dense.sqRelu (∑ k : Fin 1024, y (ix2 r k) * u3 (ix2 k q)) * d3 (ix2 q j)) := by
  unfold k0_pay16 Dense.sqRelu Dense.alpha
  pointwise [dot_S256x1024_S1024x1024_S256x1024_1_0_0_1_n_n]

theorem pay1_apply (x : Vec Ideal S256x1024 .f32) (y : Vec Ideal S256x1024 .bf16) (acc : Vec Ideal S256x1024 .f32)
    (h : Vec Ideal S256x1024 .f32) (d1 u2 d2 u3 d3 : Vec Ideal S1024x1024 .bf16) (g b : Vec Ideal S1x1024 .f32)
    (r : Fin 256) (j : Fin 1024) :
    k0_pay1 (k0_pay16 x y acc h d1 u2 d2 u3 d3) (k0_pay17 g) (k0_pay18 b) (k0_pay19 x y acc h d1 u2 d2 u3 d3) (ix2 r j)
      = Dense.norm (row g 0) (row b 0) (row (k0_pay16 x y acc h d1 u2 d2 u3 d3) r) j := by
  unfold k0_pay19 k0_pay1 k0_pay17 k0_pay18 Dense.norm Dense.mean
  generalize k0_pay16 x y acc h d1 u2 d2 u3 d3 = s
  pointwise

/-! ## What the body stores -/

section Out

variable (x0 : Vec Ideal S512x512 .bf16) (x1 x2 : Vec Ideal S512x512 .f32) (x3 : Vec Ideal S1x512 .f32)
  (x4 : Vec Ideal S512x512 .bf16) (x5 : Vec Ideal S1x512 .f32) (x6 : Vec Ideal S1024x1024 .bf16)
  (x7 : Vec Ideal S512x1024 .f32) (x8 x9 : Vec Ideal S1x1024 .f32) (x10 : Vec Ideal S1024x4096 .bf16)
  (x11 : Vec Ideal S4096x1024 .bf16) (x12 x13 : Vec Ideal S1x1024 .f32)

/-- The two branches' projection at a row of the block. -/
def mixRow (r : Fin 512) : Fin 1024 → EReal :=
  Dense.project (row x6) (row x0 r) (Dense.gated (row x3 0) (row x5 0) (row x4) (row x1 r) (row x2 r))

/-- A block's result at a row, as the mathematics of the row. -/
def blockRow (r : Fin 512) : Fin 1024 → EReal :=
  Dense.tail (row x8 0) (row x9 0) (row x10) (row x11) (row x12 0) (row x13 0) (row x7 r) (mixRow x0 x1 x2 x3 x4 x5 x6 r)

theorem ld_attn (v : Vec Ideal S512x512 .bf16) : View.ld v r0_0 = v := Dense.ld_all _ v
theorem ld_state (v : Vec Ideal S512x512 .f32) : View.ld v r0_0 = v := Dense.ld_all _ v
theorem ld_skip (v : Vec Ideal S1x512 .f32) : View.ld v r0_1 = v := Dense.ld_all _ v
theorem ld_row (v : Vec Ideal S1x1024 .f32) : View.ld v r0_5 = v := Dense.ld_all _ v

/-- The first and the last 512 rows of the projection's weight. -/
def halfUp (v : Vec Ideal S1024x1024 .bf16) : Vec Ideal S512x1024 .bf16 := fun i => row v (⟨(i 0).val, Nat.lt_trans (i 0).isLt (by decide)⟩) (i 1)
def halfDown (v : Vec Ideal S1024x1024 .bf16) : Vec Ideal S512x1024 .bf16 := fun i => row v (⟨512 + (i 0).val, Nat.add_lt_add_left (i 0).isLt 512⟩) (i 1)
theorem halfUp_apply (v : Vec Ideal S1024x1024 .bf16) (k : Fin 512) (j : Fin 1024) : halfUp v (ix2 k j) = row v ⟨k.val, by omega⟩ j := rfl
theorem halfDown_apply (v : Vec Ideal S1024x1024 .bf16) (k : Fin 512) (j : Fin 1024) : halfDown v (ix2 k j) = row v ⟨512 + k.val, by omega⟩ j := rfl
theorem ld_halfUp (v : Vec Ideal S1024x1024 .bf16) : View.ld v r0_2 = halfUp v :=
  Dense.ext2 fun k q => (Dense.ld_rect _ (by decide) (by decide) v k q).trans (congrArg v (congrArg₂ ix2 (Fin.ext (by simp)) (Fin.ext (by simp))))
theorem ld_halfDown (v : Vec Ideal S1024x1024 .bf16) : View.ld v r0_3 = halfDown v :=
  Dense.ext2 fun k q => (Dense.ld_rect _ (by decide) (by decide) v k q).trans (congrArg v (congrArg₂ ix2 (Fin.ext (by simp)) (Fin.ext (by simp))))

theorem ld_upper (v : Vec Ideal S512x1024 .f32) (r : Fin 256) :
    row (View.ld v r0_4) r = row v ⟨r, by omega⟩ :=
  funext fun j => (Dense.ld_rect _ (by decide) (by decide) v r j).trans (by simp only [Nat.zero_add])
theorem ld_lower (v : Vec Ideal S512x1024 .f32) (r : Fin 256) (j : Fin 1024) :
    View.ld v r0_14 (ix2 r j) = row v ⟨256 + r, by omega⟩ j :=
  (Dense.ld_rect _ (by decide) (by decide) v r j).trans (by simp only [Nat.zero_add])

/-- A quarter of the columns of the first feed-forward weight. -/
def chunkUp (v : Vec Ideal S1024x4096 .bf16) (p : Fin 4) : Vec Ideal S1024x1024 .bf16 := fun i => row v (i 0) (Dense.quarter p (i 1))
/-- A quarter of the rows of the second feed-forward weight. -/
def chunkDown (v : Vec Ideal S4096x1024 .bf16) (p : Fin 4) : Vec Ideal S1024x1024 .bf16 := fun i => row v (Dense.quarter p (i 0)) (i 1)
theorem chunkUp_apply (v : Vec Ideal S1024x4096 .bf16) (p : Fin 4) (k q : Fin 1024) : chunkUp v p (ix2 k q) = row v k (Dense.quarter p q) := rfl
theorem chunkDown_apply (v : Vec Ideal S4096x1024 .bf16) (p : Fin 4) (q j : Fin 1024) : chunkDown v p (ix2 q j) = row v (Dense.quarter p q) j := rfl

theorem ld_up0 (v : Vec Ideal S1024x4096 .bf16) : View.ld v r0_6 = chunkUp v 0 :=
  Dense.ext2 fun k q => (Dense.ld_rect _ (by decide) (by decide) v k q).trans (congrArg v (congrArg₂ ix2 (Fin.ext (by simp [Dense.quarter])) (Fin.ext (by simp [Dense.quarter]))))
theorem ld_down0 (v : Vec Ideal S4096x1024 .bf16) : View.ld v r0_7 = chunkDown v 0 :=
  Dense.ext2 fun k q => (Dense.ld_rect _ (by decide) (by decide) v k q).trans (congrArg v (congrArg₂ ix2 (Fin.ext (by simp [Dense.quarter])) (Fin.ext (by simp [Dense.quarter]))))
theorem ld_up1 (v : Vec Ideal S1024x4096 .bf16) : View.ld v r0_8 = chunkUp v 1 :=
  Dense.ext2 fun k q => (Dense.ld_rect _ (by decide) (by decide) v k q).trans (congrArg v (congrArg₂ ix2 (Fin.ext (by simp [Dense.quarter])) (Fin.ext (by simp [Dense.quarter]))))
theorem ld_down1 (v : Vec Ideal S4096x1024 .bf16) : View.ld v r0_9 = chunkDown v 1 :=
  Dense.ext2 fun k q => (Dense.ld_rect _ (by decide) (by decide) v k q).trans (congrArg v (congrArg₂ ix2 (Fin.ext (by simp [Dense.quarter])) (Fin.ext (by simp [Dense.quarter]))))
theorem ld_up2 (v : Vec Ideal S1024x4096 .bf16) : View.ld v r0_10 = chunkUp v 2 :=
  Dense.ext2 fun k q => (Dense.ld_rect _ (by decide) (by decide) v k q).trans (congrArg v (congrArg₂ ix2 (Fin.ext (by simp [Dense.quarter])) (Fin.ext (by simp [Dense.quarter]))))
theorem ld_down2 (v : Vec Ideal S4096x1024 .bf16) : View.ld v r0_11 = chunkDown v 2 :=
  Dense.ext2 fun k q => (Dense.ld_rect _ (by decide) (by decide) v k q).trans (congrArg v (congrArg₂ ix2 (Fin.ext (by simp [Dense.quarter])) (Fin.ext (by simp [Dense.quarter]))))
theorem ld_up3 (v : Vec Ideal S1024x4096 .bf16) : View.ld v r0_12 = chunkUp v 3 :=
  Dense.ext2 fun k q => (Dense.ld_rect _ (by decide) (by decide) v k q).trans (congrArg v (congrArg₂ ix2 (Fin.ext (by simp [Dense.quarter])) (Fin.ext (by simp [Dense.quarter]))))
theorem ld_down3 (v : Vec Ideal S4096x1024 .bf16) : View.ld v r0_13 = chunkDown v 3 :=
  Dense.ext2 fun k q => (Dense.ld_rect _ (by decide) (by decide) v k q).trans (congrArg v (congrArg₂ ix2 (Fin.ext (by simp [Dense.quarter])) (Fin.ext (by simp [Dense.quarter]))))

theorem mix_row (r : Fin 512) :
    row (k0_pay3 (k0_pay20 x0 x1 x2 x3 x4 x5 x6 x7 x8 x9 x10 x11 x12 x13) x0 (halfUp x6) (halfDown x6)) r = mixRow x0 x1 x2 x3 x4 x5 x6 r := by
  funext j
  show k0_pay3 _ _ _ _ (ix2 r j) = _
  unfold k0_pay20
  rw [ld_state, ld_skip, ld_state, ld_attn, ld_skip, pay3_apply]
  simp only [pay2_apply, halfUp_apply, halfDown_apply]
  rfl

theorem upper (r : Fin 256) (j : Fin 1024) :
    out0_14 x0 x1 x2 x3 x4 x5 x6 x7 x8 x9 x10 x11 x12 x13 (ix2 ⟨r, by omega⟩ j) = blockRow x0 x1 x2 x3 x4 x5 x6 x7 x8 x9 x10 x11 x12 x13 ⟨r, by omega⟩ j := by
  unfold out0_14
  rw [View.canon_cons_of_not_mem]
  · rw [show (ix2 (⟨r, by omega⟩ : Fin 512) j : S512x1024.Idx) = r0_4.emb (ix2 r j) from
      ((Dense.emb_rect _ (by decide) (by decide) r j).trans (by simp only [Nat.zero_add])).symm]
    rw [View.canon_cons_emb]
    unfold blockRow Dense.tail k0_pay21
    simp only [ld_attn, ld_halfUp, ld_halfDown, ld_up0, ld_up1, ld_up2, ld_up3, ld_down0, ld_down1, ld_down2, ld_down3]
    rw [pay10_apply]
    simp only [pay8_apply, pay9_apply, pay5_apply, pay4_apply, ld_row, mix_row, ld_upper,
      chunkUp_apply, chunkDown_apply, Dense.mlp_quarters]
  · intro h
    have h' : (ix2 (⟨r, by omega⟩ : Fin 512) j : S512x1024.Idx) ∈ r0_14.set := h
    rw [Rect.mem_set_unit] at h'
    have := (h' 0).1
    have hr := r.isLt
    change 256 ≤ r.val at this
    omega

theorem lower (r : Fin 256) (j : Fin 1024) :
    out0_14 x0 x1 x2 x3 x4 x5 x6 x7 x8 x9 x10 x11 x12 x13 (ix2 ⟨256 + r, by omega⟩ j)
      = blockRow x0 x1 x2 x3 x4 x5 x6 x7 x8 x9 x10 x11 x12 x13 ⟨256 + r, by omega⟩ j := by
  unfold out0_14
  rw [show (ix2 (⟨256 + r, by omega⟩ : Fin 512) j : S512x1024.Idx) = r0_14.emb (ix2 r j) from
    ((Dense.emb_rect _ (by decide) (by decide) r j).trans (by simp only [Nat.zero_add])).symm]
  rw [View.canon_cons_emb, pay1_apply]
  have e11 (k : Fin 1024) : k0_pay22 x0 x1 x2 x3 x4 x5 x6 x7 x8 x9 x10 x11 x12 x13 (ix2 r k)
      = Dense.alpha * row x7 ⟨256 + r, by omega⟩ k + mixRow x0 x1 x2 x3 x4 x5 x6 ⟨256 + r, by omega⟩ k := by
    unfold k0_pay22
    rw [ld_attn, ld_halfUp, ld_halfDown, pay11_apply, ld_lower]
    exact congrArg (_ + ·) (congrFun (mix_row x0 x1 x2 x3 x4 x5 x6 x7 x8 x9 x10 x11 x12 x13 _) k)
  have e12 (k : Fin 1024) : k0_pay23 x0 x1 x2 x3 x4 x5 x6 x7 x8 x9 x10 x11 x12 x13 (ix2 r k)
      = Dense.first (row x8 0) (row x9 0) (row x7 ⟨256 + r, by omega⟩) (mixRow x0 x1 x2 x3 x4 x5 x6 ⟨256 + r, by omega⟩) k := by
    unfold k0_pay23 Dense.first
    rw [pay12_apply, ld_row, ld_row]
    congr 1
    exact funext e11
  have e13 (k : Fin 1024) : k0_pay24 x0 x1 x2 x3 x4 x5 x6 x7 x8 x9 x10 x11 x12 x13 (ix2 r k) = k0_pay23 x0 x1 x2 x3 x4 x5 x6 x7 x8 x9 x10 x11 x12 x13 (ix2 r k) := by
    unfold k0_pay24 k0_pay23
    exact pay13_apply _ _ _ _
  have e13' (k : Fin 1024) : k0_pay13 (k0_pay22 x0 x1 x2 x3 x4 x5 x6 x7 x8 x9 x10 x11 x12 x13) (View.ld x8 r0_5) (View.ld x9 r0_5) (ix2 r k)
      = k0_pay23 x0 x1 x2 x3 x4 x5 x6 x7 x8 x9 x10 x11 x12 x13 (ix2 r k) := by
    unfold k0_pay23
    exact pay13_apply _ _ _ _
  have e16 : row (k0_pay16 (k0_pay23 x0 x1 x2 x3 x4 x5 x6 x7 x8 x9 x10 x11 x12 x13) (k0_pay24 x0 x1 x2 x3 x4 x5 x6 x7 x8 x9 x10 x11 x12 x13)
      (k0_pay25 x0 x1 x2 x3 x4 x5 x6 x7 x8 x9 x10 x11 x12 x13) (k0_pay26 x0 x1 x2 x3 x4 x5 x6 x7 x8 x9 x10 x11 x12 x13) (View.ld x11 r0_9) (View.ld x10 r0_10)
      (View.ld x11 r0_11) (View.ld x10 r0_12) (View.ld x11 r0_13)) r
      = fun k => Dense.alpha * Dense.first (row x8 0) (row x9 0) (row x7 ⟨256 + r, by omega⟩) (mixRow x0 x1 x2 x3 x4 x5 x6 ⟨256 + r, by omega⟩) k
          + Dense.mlp (row x10) (row x11) (Dense.first (row x8 0) (row x9 0) (row x7 ⟨256 + r, by omega⟩)
              (mixRow x0 x1 x2 x3 x4 x5 x6 ⟨256 + r, by omega⟩)) k := by
    funext k
    show k0_pay16 _ _ _ _ _ _ _ _ _ (ix2 r k) = _
    rw [ld_down1, ld_up2, ld_down2, ld_up3, ld_down3, pay16_apply]
    unfold k0_pay25 k0_pay26
    simp only [pay14_apply, pay15_apply, e13, e13', e12, ld_up0, ld_up1, ld_up2, ld_up3, ld_down0, ld_down1, ld_down2,
      ld_down3, chunkUp_apply, chunkDown_apply, Dense.mlp_quarters, Dense.sqRelu]
  rw [e16, ld_row, ld_row]
  rfl

/-- What the body leaves in the output block, row by row. -/
theorem out_apply (r : Fin 512) (j : Fin 1024) :
    out0_14 x0 x1 x2 x3 x4 x5 x6 x7 x8 x9 x10 x11 x12 x13 (ix2 r j) = blockRow x0 x1 x2 x3 x4 x5 x6 x7 x8 x9 x10 x11 x12 x13 r j := by
  by_cases h : r.val < 256
  · exact upper x0 x1 x2 x3 x4 x5 x6 x7 x8 x9 x10 x11 x12 x13 ⟨r.val, h⟩ j
  · have e : r = ⟨256 + (⟨r.val - 256, by omega⟩ : Fin 256).val, by dsimp only; omega⟩ := Fin.ext (by dsimp only; omega)
    rw [e]
    exact lower x0 x1 x2 x3 x4 x5 x6 x7 x8 x9 x10 x11 x12 x13 ⟨r.val - 256, by omega⟩ j

end Out

end Cert.TailEvenIdeal.Body

end
-- ==== Proof.Dense.TailEven.lean ====
module

public import proofs.«01_k».proof.Proof.Dense.TailEvenBody
public import proofs.«01_k».proof.Proof.Gen.TailEvenIdeal.Value

/-!
The result array of the call that follows the attention and the state space branch, as the mathematics of its argument arrays.
-/

@[expose] public section

noncomputable section

namespace Cert.TailEvenIdeal.Final

open Cert.TailEvenIdeal Cert.TailEvenIdeal.Gen Cert.TailEvenIdeal.Body Idealize.ShloMosaic Idealize.ShloMosaic.TcCoe Idealize.SL.Sem

variable (m : (ℓ : Loc nD τ sig) → Buf (Elt Ideal) ℓ) (ρ : Dev nD → PrngReg) (c : Dev nD)

/-! ## The arrays the host prepares -/

theorem V_v0 (j : Fin 512) : row (V m c main_v0) (0 : Fin 1) j = m ((c : Thread nD τ).loc main_arg4) (ix1 j) := by
  unfold V
  after_results_simp
  exact shapeCast_apply _ shapeCasts_S512_S1x512 (ix2 (0 : Fin 1) j) (ix1 j) (by
    rw [Shape.rowMajor_val_two, Shape.rowMajor_val_one]; show j.val = 0 * 512 + j.val; omega)

theorem V_v1 : V m c main_v1 = m ((c : Thread nD τ).loc main_arg5) := by
  unfold V
  after_results_simp
  rfl

theorem V_v2 (j : Fin 512) : row (V m c main_v2) (0 : Fin 1) j = m ((c : Thread nD τ).loc main_arg6) (ix1 j) := by
  unfold V
  after_results_simp
  exact shapeCast_apply _ shapeCasts_S512_S1x512 (ix2 (0 : Fin 1) j) (ix1 j) (by
    rw [Shape.rowMajor_val_two, Shape.rowMajor_val_one]; show j.val = 0 * 512 + j.val; omega)

theorem V_v3 : V m c main_v3 = m ((c : Thread nD τ).loc main_arg7) := by
  unfold V
  after_results_simp
  rfl

theorem V_v4 (j : Fin 1024) : row (V m c main_v4) (0 : Fin 1) j = m ((c : Thread nD τ).loc main_arg8) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v5 (j : Fin 1024) : row (V m c main_v5) (0 : Fin 1) j = m ((c : Thread nD τ).loc main_arg9) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v6 : V m c main_v6 = m ((c : Thread nD τ).loc main_arg10) := by
  unfold V
  after_results_simp
  rfl

theorem V_v7 : V m c main_v7 = m ((c : Thread nD τ).loc main_arg11) := by
  unfold V
  after_results_simp
  rfl

theorem V_v8 (j : Fin 1024) : row (V m c main_v8) (0 : Fin 1) j = m ((c : Thread nD τ).loc main_arg12) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

theorem V_v9 (j : Fin 1024) : row (V m c main_v9) (0 : Fin 1) j = m ((c : Thread nD τ).loc main_arg13) (ix1 j) := by
  unfold V
  after_results_simp
  exact shapeCast_apply _ shapeCasts_S1024_S1x1024 (ix2 (0 : Fin 1) j) (ix1 j) (by
    rw [Shape.rowMajor_val_two, Shape.rowMajor_val_one]; show j.val = 0 * 1024 + j.val; omega)

/-! ## The blocks the body reads: 512 rows of the operands that have a row per token, the whole of each other -/

theorem idx_facts : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = t.val ∧ win0_14.index t 1 = 0) :=
  (by decide +kernel : ∀ t : Fin grid0.N, _)

/-- Row `r` of block `t`, in the array. -/
def at_ (t : Fin cfg0.N) (r : Fin 512) : Fin 16384 :=
  ⟨512 * t.val + r.val, by have : t.val < 32 := t.isLt; omega⟩

theorem iblk0 (t : Fin cfg0.N) (r : Fin 512) (j : Fin 512) :
    (iblk m c 0 t : Vec Ideal S512x512 .bf16) (ix2 r j) = m ((c : Thread nD τ).loc main_arg0) (ix2 (at_ t r) j) := by
  have hi := (idx_facts t).1
  show V m c main_arg0 (((cfg0.win 0).blk t).view.emb (ix2 r j)) = _
  rw [V_main_arg0]
  congr 1
  funext a
  apply Fin.ext
  match a with
  | ⟨0, _⟩ => show win0_0.index t 0 * 512 + 1 * r.val = 512 * t.val + r.val; omega
  | ⟨1, _⟩ => show win0_0.index t 1 * 512 + 1 * j.val = j.val; omega

theorem iblk1 (t : Fin cfg0.N) (r : Fin 512) (j : Fin 512) :
    (iblk m c 1 t : Vec Ideal S512x512 .f32) (ix2 r j) = m ((c : Thread nD τ).loc main_arg1) (ix2 (at_ t r) j) := by
  have hi := (idx_facts t).2.1
  show V m c main_arg1 (((cfg0.win 1).blk t).view.emb (ix2 r j)) = _
  rw [V_main_arg1]
  congr 1
  funext a
  apply Fin.ext
  match a with
  | ⟨0, _⟩ => show win0_1.index t 0 * 512 + 1 * r.val = 512 * t.val + r.val; omega
  | ⟨1, _⟩ => show win0_1.index t 1 * 512 + 1 * j.val = j.val; omega

theorem iblk2 (t : Fin cfg0.N) (r : Fin 512) (j : Fin 512) :
    (iblk m c 2 t : Vec Ideal S512x512 .f32) (ix2 r j) = m ((c : Thread nD τ).loc main_arg2) (ix2 (at_ t r) j) := by
  have hi := (idx_facts t).2.2.1
  show V m c main_arg2 (((cfg0.win 2).blk t).view.emb (ix2 r j)) = _
  rw [V_main_arg2]
  congr 1
  funext a
  apply Fin.ext
  match a with
  | ⟨0, _⟩ => show win0_2.index t 0 * 512 + 1 * r.val = 512 * t.val + r.val; omega
  | ⟨1, _⟩ => show win0_2.index t 1 * 512 + 1 * j.val = j.val; omega

theorem iblk3 (t : Fin cfg0.N) : (iblk m c 3 t : Vec Ideal S1x512 .f32) = V m c main_v0 := by
  have hi := (idx_facts t).2.2.2.1
  funext i
  show V m c main_v0 (((cfg0.win 3).blk t).view.emb i) = _
  congr 1
  funext a
  apply Fin.ext
  match a with
  | ⟨0, _⟩ => show win0_3.index t 0 * 1 + 1 * (i 0).val = (i 0).val; omega
  | ⟨1, _⟩ => show win0_3.index t 1 * 512 + 1 * (i 1).val = (i 1).val; omega

theorem iblk4 (t : Fin cfg0.N) : (iblk m c 4 t : Vec Ideal S512x512 .bf16) = V m c main_v1 := by
  have hi := (idx_facts t).2.2.2.2.1
  funext i
  show V m c main_v1 (((cfg0.win 4).blk t).view.emb i) = _
  congr 1
  funext a
  apply Fin.ext
  match a with
  | ⟨0, _⟩ => show win0_4.index t 0 * 512 + 1 * (i 0).val = (i 0).val; omega
  | ⟨1, _⟩ => show win0_4.index t 1 * 512 + 1 * (i 1).val = (i 1).val; omega

theorem iblk5 (t : Fin cfg0.N) : (iblk m c 5 t : Vec Ideal S1x512 .f32) = V m c main_v2 := by
  have hi := (idx_facts t).2.2.2.2.2.1
  funext i
  show V m c main_v2 (((cfg0.win 5).blk t).view.emb i) = _
  congr 1
  funext a
  apply Fin.ext
  match a with
  | ⟨0, _⟩ => show win0_5.index t 0 * 1 + 1 * (i 0).val = (i 0).val; omega
  | ⟨1, _⟩ => show win0_5.index t 1 * 512 + 1 * (i 1).val = (i 1).val; omega

theorem iblk6 (t : Fin cfg0.N) : (iblk m c 6 t : Vec Ideal S1024x1024 .bf16) = V m c main_v3 := by
  have hi := (idx_facts t).2.2.2.2.2.2.1
  funext i
  show V m c main_v3 (((cfg0.win 6).blk t).view.emb i) = _
  congr 1
  funext a
  apply Fin.ext
  match a with
  | ⟨0, _⟩ => show win0_6.index t 0 * 1024 + 1 * (i 0).val = (i 0).val; omega
  | ⟨1, _⟩ => show win0_6.index t 1 * 1024 + 1 * (i 1).val = (i 1).val; omega

theorem iblk7 (t : Fin cfg0.N) (r : Fin 512) (j : Fin 1024) :
    (iblk m c 7 t : Vec Ideal S512x1024 .f32) (ix2 r j) = m ((c : Thread nD τ).loc main_arg3) (ix2 (at_ t r) j) := by
  have hi := (idx_facts t).2.2.2.2.2.2.2.1
  show V m c main_arg3 (((cfg0.win 7).blk t).view.emb (ix2 r j)) = _
  rw [V_main_arg3]
  congr 1
  funext a
  apply Fin.ext
  match a with
  | ⟨0, _⟩ => show win0_7.index t 0 * 512 + 1 * r.val = 512 * t.val + r.val; omega
  | ⟨1, _⟩ => show win0_7.index t 1 * 1024 + 1 * j.val = j.val; omega

theorem iblk8 (t : Fin cfg0.N) : (iblk m c 8 t : Vec Ideal S1x1024 .f32) = V m c main_v4 := by
  have hi := (idx_facts t).2.2.2.2.2.2.2.2.1
  funext i
  show V m c main_v4 (((cfg0.win 8).blk t).view.emb i) = _
  congr 1
  funext a
  apply Fin.ext
  match a with
  | ⟨0, _⟩ => show win0_8.index t 0 * 1 + 1 * (i 0).val = (i 0).val; omega
  | ⟨1, _⟩ => show win0_8.index t 1 * 1024 + 1 * (i 1).val = (i 1).val; omega

theorem iblk9 (t : Fin cfg0.N) : (iblk m c 9 t : Vec Ideal S1x1024 .f32) = V m c main_v5 := by
  have hi := (idx_facts t).2.2.2.2.2.2.2.2.2.1
  funext i
  show V m c main_v5 (((cfg0.win 9).blk t).view.emb i) = _
  congr 1
  funext a
  apply Fin.ext
  match a with
  | ⟨0, _⟩ => show win0_9.index t 0 * 1 + 1 * (i 0).val = (i 0).val; omega
  | ⟨1, _⟩ => show win0_9.index t 1 * 1024 + 1 * (i 1).val = (i 1).val; omega

theorem iblk10 (t : Fin cfg0.N) : (iblk m c 10 t : Vec Ideal S1024x4096 .bf16) = V m c main_v6 := by
  have hi := (idx_facts t).2.2.2.2.2.2.2.2.2.2.1
  funext i
  show V m c main_v6 (((cfg0.win 10).blk t).view.emb i) = _
  congr 1
  funext a
  apply Fin.ext
  match a with
  | ⟨0, _⟩ => show win0_10.index t 0 * 1024 + 1 * (i 0).val = (i 0).val; omega
  | ⟨1, _⟩ => show win0_10.index t 1 * 4096 + 1 * (i 1).val = (i 1).val; omega

theorem iblk11 (t : Fin cfg0.N) : (iblk m c 11 t : Vec Ideal S4096x1024 .bf16) = V m c main_v7 := by
  have hi := (idx_facts t).2.2.2.2.2.2.2.2.2.2.2.1
  funext i
  show V m c main_v7 (((cfg0.win 11).blk t).view.emb i) = _
  congr 1
  funext a
  apply Fin.ext
  match a with
  | ⟨0, _⟩ => show win0_11.index t 0 * 4096 + 1 * (i 0).val = (i 0).val; omega
  | ⟨1, _⟩ => show win0_11.index t 1 * 1024 + 1 * (i 1).val = (i 1).val; omega

theorem iblk12 (t : Fin cfg0.N) : (iblk m c 12 t : Vec Ideal S1x1024 .f32) = V m c main_v8 := by
  have hi := (idx_facts t).2.2.2.2.2.2.2.2.2.2.2.2.1
  funext i
  show V m c main_v8 (((cfg0.win 12).blk t).view.emb i) = _
  congr 1
  funext a
  apply Fin.ext
  match a with
  | ⟨0, _⟩ => show win0_12.index t 0 * 1 + 1 * (i 0).val = (i 0).val; omega
  | ⟨1, _⟩ => show win0_12.index t 1 * 1024 + 1 * (i 1).val = (i 1).val; omega

theorem iblk13 (t : Fin cfg0.N) : (iblk m c 13 t : Vec Ideal S1x1024 .f32) = V m c main_v9 := by
  have hi := (idx_facts t).2.2.2.2.2.2.2.2.2.2.2.2.2.1
  funext i
  show V m c main_v9 (((cfg0.win 13).blk t).view.emb i) = _
  congr 1
  funext a
  apply Fin.ext
  match a with
  | ⟨0, _⟩ => show win0_13.index t 0 * 1 + 1 * (i 0).val = (i 0).val; omega
  | ⟨1, _⟩ => show win0_13.index t 1 * 1024 + 1 * (i 1).val = (i 1).val; omega

/-! ## The result -/

/-- The result array: each token's row, as the mathematics of that row. -/
def result : Buf (Elt Ideal) ((c : Thread nD τ).loc main_v10) :=
  Dense.tailEven (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))

theorem emb_out (t : Fin cfg0.N) (r : Fin 512) (j : Fin 1024) :
    ((cfg0.win 14).blk t).view.emb (ix2 r j) = (ix2 (at_ t r) j : S16384x1024.Idx) := by
  have hi := (idx_facts t).2.2.2.2.2.2.2.2.2.2.2.2.2.2
  funext a
  apply Fin.ext
  match a with
  | ⟨0, _⟩ => show win0_14.index t 0 * 512 + 1 * r.val = 512 * t.val + r.val; omega
  | ⟨1, _⟩ => show win0_14.index t 1 * 1024 + 1 * j.val = j.val; omega

/-- What a point writes back is its block of the result. -/
theorem flushed_eq (t : Fin cfg0.N) :
    (dats m 0 c).flushed 14 t = ((cfg0.win 14).blk t).view.read (Elt Ideal) (result m c) := by
  rw [Value.flushed14]
  refine Dense.ext2 (n := 512) (m := 1024) fun r j => ?_
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = result m c (((cfg0.win 14).blk t).view.emb (ix2 r j))
  rw [out_apply, emb_out]
  unfold blockRow mixRow result Dense.tailEven
  have e0 : row (iblk m c 0 t) r = _ := funext fun k => iblk0 m c t r k
  have e1 : row (iblk m c 1 t) r = _ := funext fun k => iblk1 m c t r k
  have e2 : row (iblk m c 2 t) r = _ := funext fun k => iblk2 m c t r k
  have e7 : row (iblk m c 7 t) r = _ := funext fun k => iblk7 m c t r k
  rw [iblk3, iblk4, iblk5, iblk6, iblk8, iblk9, iblk10, iblk11, iblk12, iblk13, V_v1, V_v3, V_v6, V_v7, e0, e1, e2, e7,
    funext (V_v0 m c), funext (V_v2 m c), funext (V_v4 m c), funext (V_v5 m c), funext (V_v8 m c), funext (V_v9 m c)]
  rfl

/-- The blocks cover the array. -/
theorem cover (i : S16384x1024.Idx) :
    ∃ t : Fin cfg0.N, (cfg0.win 14).flush t = true ∧ i ∈ ((cfg0.win 14).blk t).view.set := by
  have h0 : (i 0).val < 16384 := (i 0).isLt
  have h1 : (i 1).val < 1024 := (i 1).isLt
  let t : Fin cfg0.N := ⟨(i 0).val / 512, by show _ < 32; omega⟩
  refine ⟨t, flush0_14 t, ?_⟩
  have e := emb_out t ⟨(i 0).val % 512, by omega⟩ ⟨(i 1).val, h1⟩
  have : i = ((cfg0.win 14).blk t).view.emb (ix2 (⟨(i 0).val % 512, by omega⟩ : Fin 512) (⟨(i 1).val, h1⟩ : Fin 1024)) := by
    rw [e]
    funext a
    apply Fin.ext
    match a with
    | ⟨0, _⟩ => show (i 0).val = 512 * ((i 0).val / 512) + (i 0).val % 512; omega
    | ⟨1, _⟩ => rfl
  rw [this]
  exact View.emb_mem_set _ _

theorem array_eq : (dats m 0 c).arrAt 14 cfg0.N = result m c :=
  (dats m 0 c).arrAt_eq_of_cover 14 (result m c) (fun t _ => flushed_eq m c t) cover

end Cert.TailEvenIdeal.Final

end
-- ==== Proof.Dense.RefTailEven.lean ====
module

public import proofs.«01_k».proof.Proof.Gen.RefTailEvenIdeal.Read
public import proofs.«01_k».proof.Proof.Dense.Row

/-!
The reference of the call that follows the attention and the state space branch, read as the mathematics of its
argument arrays.
-/

@[expose] public section

noncomputable section

namespace Cert.RefTailEvenIdeal.Final

open Cert.RefTailEvenIdeal Cert.RefTailEvenIdeal.Gen Cert.RefTailEvenIdeal.Read Idealize.ShloMosaic Idealize.ShloMosaic.StableHlo

variable (x0 : Vec Ideal S16384x512 .bf16) (x1 x2 : Vec Ideal S16384x512 .f32) (x3 : Vec Ideal S16384x1024 .f32)
  (x4 : Vec Ideal S512 .f32) (x5 : Vec Ideal S512x512 .f32) (x6 : Vec Ideal S512 .f32) (x7 : Vec Ideal S1024x1024 .f32)
  (x8 x9 : Vec Ideal S1024 .f32) (x10 : Vec Ideal S1024x4096 .f32) (x11 : Vec Ideal S4096x1024 .f32) (x12 x13 : Vec Ideal S1024 .f32)

/-- The state with its skip connection. -/
theorem skip_apply (r : Fin 16384) (k : Fin 512) :
    val_main_v3 (F := Ideal) x1 x2 x4 (ix2 r k) = x1 (ix2 r k) + x4 (ix1 k) * x2 (ix2 r k) := by
  unfold val_main_v3 val_main_v2 val_main_v1 val_main_v0
  pointwise

/-- Its activation. -/
theorem gelu_apply (r : Fin 16384) (k : Fin 512) :
    val_main_v16 (F := Ideal) x1 x2 x4 (ix2 r k) = Dense.gelu (val_main_v3 (F := Ideal) x1 x2 x4 (ix2 r k)) := by
  unfold val_main_v16 val_main_v15 val_main_v14 val_main_v13 val_main_v12 val_main_v11 val_main_v10 val_main_v9 val_main_v8 val_main_v7 val_main_v6 val_main_v5 val_main_v4 val_main_cst val_main_cst_0 val_main_cst_1 val_main_cst_2 Dense.gelu
  generalize val_main_v3 (F := Ideal) x1 x2 x4 = X
  rw [mul_comm (Ideal.ofBits .f32 0x3F000000#32), mul_assoc]
  pointwise

/-- The activation, gated. -/
theorem gated_apply (r : Fin 16384) (j : Fin 512) :
    val_main_v27 (F := Ideal) x1 x2 x4 x5 x6 (ix2 r j)
      = val_main_v16 (F := Ideal) x1 x2 x4 (ix2 r j)
        * Dense.sigmoid (∑ k : Fin 512, val_main_v16 (F := Ideal) x1 x2 x4 (ix2 r k) * x5 (ix2 k j) + x6 (ix1 j)) := by
  unfold val_main_v27 val_main_v26 val_main_v25 val_main_v24 val_main_v23 val_main_v22 val_main_v21 val_main_v20 val_main_v19 val_main_v18 val_main_v17 val_main_cst_3 val_main_cst_4 Dense.sigmoid
  generalize val_main_v16 (F := Ideal) x1 x2 x4 = X
  pointwise [dot_S16384x512_S512x512_S16384x512_1_0_0_1_n_n]

/-- The two branches side by side: the attention's half. -/
theorem left_apply (r : Fin 16384) (k : Fin 512) :
    val_main_v29 (F := Ideal) x0 x1 x2 x4 x5 x6 (ix2 r (⟨k.val, by omega⟩ : Fin 1024)) = x0 (ix2 r k) := by
  unfold val_main_v29 val_main_v28
  refine (concatenate_pair_apply_left (s₁ := S16384x512) (s₂ := S16384x512) (t := S16384x1024) 1 _ _ _ _ rfl (ix2 r k) fun b => ?_).trans ?_
  · fin_cases b <;> rfl
  · pointwise

/-- … and the state space branch's half. -/
theorem right_apply (r : Fin 16384) (k : Fin 512) :
    val_main_v29 (F := Ideal) x0 x1 x2 x4 x5 x6 (ix2 r (⟨512 + k.val, by omega⟩ : Fin 1024)) = val_main_v27 (F := Ideal) x1 x2 x4 x5 x6 (ix2 r k) := by
  unfold val_main_v29
  refine concatenate_pair_apply_right (s₁ := S16384x512) (s₂ := S16384x512) (t := S16384x1024) 1 _ _ _ _ rfl rfl (ix2 r k) (fun b hb => ?_) ?_
  · fin_cases b
    · rfl
    · exact absurd rfl hb
  · show k.val + 512 = 512 + k.val
    omega

/-- The projection of both. -/
theorem project_apply (r : Fin 16384) (j : Fin 1024) :
    val_main_v30 (F := Ideal) x0 x1 x2 x4 x5 x6 x7 (ix2 r j)
      = Dense.project (fun k j => x7 (ix2 k j)) (fun k => x0 (ix2 r k))
          (fun k => val_main_v27 (F := Ideal) x1 x2 x4 x5 x6 (ix2 r k)) j := by
  have h : val_main_v30 (F := Ideal) x0 x1 x2 x4 x5 x6 x7 (ix2 r j)
      = ∑ k : Fin 1024, val_main_v29 (F := Ideal) x0 x1 x2 x4 x5 x6 (ix2 r k) * x7 (ix2 k j) := by
    unfold val_main_v30
    generalize val_main_v29 (F := Ideal) x0 x1 x2 x4 x5 x6 = X
    pointwise [dot_S16384x1024_S1024x1024_S16384x1024_1_0_0_1_n_n]
  rw [h, Dense.sum_halves]
  simp only [left_apply, right_apply]
  rfl

/-- The first residual sum. -/
theorem sum1_apply (r : Fin 16384) (j : Fin 1024) :
    val_main_v33 (F := Ideal) x0 x1 x2 x3 x4 x5 x6 x7 (ix2 r j)
      = Dense.alpha * x3 (ix2 r j) + val_main_v30 (F := Ideal) x0 x1 x2 x4 x5 x6 x7 (ix2 r j) := by
  unfold val_main_v33 val_main_v32 val_main_v31 val_main_cst_5 Dense.alpha
  generalize val_main_v30 (F := Ideal) x0 x1 x2 x4 x5 x6 x7 = X
  pointwise

/-- The first normalisation. -/
theorem norm1_apply (r : Fin 16384) (j : Fin 1024) :
    val_main_v57 (F := Ideal) x0 x1 x2 x3 x4 x5 x6 x7 x8 x9 (ix2 r j)
      = Dense.norm (fun j => x8 (ix1 j)) (fun j => x9 (ix1 j))
          (fun k => val_main_v33 (F := Ideal) x0 x1 x2 x3 x4 x5 x6 x7 (ix2 r k)) j := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_6 val_main_cst_7 val_main_cst_8 val_main_cst_9
    val_main_cst_10 Dense.norm Dense.mean
  generalize val_main_v33 (F := Ideal) x0 x1 x2 x3 x4 x5 x6 x7 = X
  pointwise

/-- The second residual sum. -/
theorem sum2_apply (r : Fin 16384) (j : Fin 1024) :
    val_main_v64 (F := Ideal) x0 x1 x2 x3 x4 x5 x6 x7 x8 x9 x10 x11 (ix2 r j)
      = Dense.alpha * val_main_v57 (F := Ideal) x0 x1 x2 x3 x4 x5 x6 x7 x8 x9 (ix2 r j)
        + Dense.mlp (fun k n => x10 (ix2 k n)) (fun n j => x11 (ix2 n j))
            (fun k => val_main_v57 (F := Ideal) x0 x1 x2 x3 x4 x5 x6 x7 x8 x9 (ix2 r k)) j := by
  unfold val_main_v64 val_main_v63 val_main_v62 val_main_v61 val_main_v60 val_main_v59 val_main_v58 val_main_cst_11
    val_main_call0_v0 val_main_call0_cst Dense.mlp Dense.hidden Dense.sqRelu Dense.alpha
  generalize val_main_v57 (F := Ideal) x0 x1 x2 x3 x4 x5 x6 x7 x8 x9 = X
  pointwise [dot_S16384x1024_S1024x4096_S16384x4096_1_0_0_1_n_n, dot_S16384x4096_S4096x1024_S16384x1024_1_0_0_1_n_n]

/-- The second normalisation. -/
theorem norm2_apply (r : Fin 16384) (j : Fin 1024) :
    val_main_v88 (F := Ideal) x0 x1 x2 x3 x4 x5 x6 x7 x8 x9 x10 x11 x12 x13 (ix2 r j)
      = Dense.norm (fun j => x12 (ix1 j)) (fun j => x13 (ix1 j))
          (fun k => val_main_v64 (F := Ideal) x0 x1 x2 x3 x4 x5 x6 x7 x8 x9 x10 x11 (ix2 r k)) j := by
  unfold val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_cst_12 val_main_cst_13 val_main_cst_14
    val_main_cst_15 val_main_cst_16 Dense.norm Dense.mean
  generalize val_main_v64 (F := Ideal) x0 x1 x2 x3 x4 x5 x6 x7 x8 x9 x10 x11 = X
  pointwise

/-- The reference's result. -/
theorem result_eq :
    val_main_v88 (F := Ideal) x0 x1 x2 x3 x4 x5 x6 x7 x8 x9 x10 x11 x12 x13
      = Dense.tailEven x0 x1 x2 x3 x4 x5 x6 x7 x8 x9 x10 x11 x12 x13 := by
  refine Dense.ext2 (n := 16384) (m := 1024) fun r j => ?_
  rw [norm2_apply]
  simp only [sum2_apply, norm1_apply, sum1_apply, project_apply, gated_apply, gelu_apply, skip_apply]
  rfl

end Cert.RefTailEvenIdeal.Final

end
-- ==== Proof.Dense.TailEvenClaim.lean ====
module

public import proofs.«01_k».proof.Defs
public import proofs.«01_k».proof.Proof.Dense.TailEven
public import proofs.«01_k».proof.Proof.Dense.RefTailEven
public import proofs.«01_k».proof.Proof.Gen.TailEven.Frame

/-!
The claims about the call that follows the attention and the state space branch.
-/

@[expose] public section

noncomputable section

namespace Cert.TailEvenClaim

open Idealize.ShloMosaic Idealize.ShloMosaic.TcCoe Idealize.SL.Sem

/-- The reference runs, and declares no semaphore. -/
theorem frame_ref [Cert.RefTailEvenIdeal.Facts] : Cert.quiescent_RefTailEvenIdeal := fun m ρ _ =>
  (θ_run Cert.RefTailEvenIdeal.defs _ _).mono (fun r h => ⟨fun c => (h c).2, sem_eq_zero_of_no_sems (by decide) r.2⟩)
    (Cert.RefTailEvenIdeal.Value.run (F := Ideal) m ρ)

/-- Kernel and reference leave the same array. -/
theorem algebraic [Cert.TailEvenIdeal.Facts] [Cert.RefTailEvenIdeal.Facts] : Cert.algebraic_TailEvenIdeal_RefTailEvenIdeal := by
  intro m ρ m' ρ' _ hag
  refine ⟨fun c => Cert.TailEvenIdeal.Final.result m c, ?_, ?_⟩
  · exact (θ_run Cert.TailEvenIdeal.defs _ _).mono (fun r h c => ⟨(h c).1.trans (Cert.TailEvenIdeal.Final.array_eq m c), (h c).2⟩)
      (Cert.TailEvenIdeal.Value.run_blocks m ρ)
  · refine (θ_run Cert.RefTailEvenIdeal.defs _ _).mono (fun r h c => ⟨(h c).1.trans ?_, (h c).2⟩)
      (Cert.RefTailEvenIdeal.Value.run m' ρ')
    obtain ⟨h0, h1, h2, h3, h4, h5, h6, h7, h8, h9, h10, h11, h12, h13⟩ := hag c
    refine ((Cert.RefTailEvenIdeal.Read.val_main_v88_eq _).trans (Cert.RefTailEvenIdeal.Final.result_eq _ _ _ _ _ _ _ _ _ _ _ _ _ _)).trans ?_
    show Dense.tailEven (m' ((c.tc : Thread Cert.RefTailEvenIdeal.nD Cert.RefTailEvenIdeal.τ).loc Cert.RefTailEvenIdeal.main_arg0))
      (m' ((c.tc : Thread Cert.RefTailEvenIdeal.nD Cert.RefTailEvenIdeal.τ).loc Cert.RefTailEvenIdeal.main_arg1))
      (m' ((c.tc : Thread Cert.RefTailEvenIdeal.nD Cert.RefTailEvenIdeal.τ).loc Cert.RefTailEvenIdeal.main_arg2))
      (m' ((c.tc : Thread Cert.RefTailEvenIdeal.nD Cert.RefTailEvenIdeal.τ).loc Cert.RefTailEvenIdeal.main_arg3))
      (m' ((c.tc : Thread Cert.RefTailEvenIdeal.nD Cert.RefTailEvenIdeal.τ).loc Cert.RefTailEvenIdeal.main_arg4))
      (m' ((c.tc : Thread Cert.RefTailEvenIdeal.nD Cert.RefTailEvenIdeal.τ).loc Cert.RefTailEvenIdeal.main_arg5))
      (m' ((c.tc : Thread Cert.RefTailEvenIdeal.nD Cert.RefTailEvenIdeal.τ).loc Cert.RefTailEvenIdeal.main_arg6))
      (m' ((c.tc : Thread Cert.RefTailEvenIdeal.nD Cert.RefTailEvenIdeal.τ).loc Cert.RefTailEvenIdeal.main_arg7))
      (m' ((c.tc : Thread Cert.RefTailEvenIdeal.nD Cert.RefTailEvenIdeal.τ).loc Cert.RefTailEvenIdeal.main_arg8))
      (m' ((c.tc : Thread Cert.RefTailEvenIdeal.nD Cert.RefTailEvenIdeal.τ).loc Cert.RefTailEvenIdeal.main_arg9))
      (m' ((c.tc : Thread Cert.RefTailEvenIdeal.nD Cert.RefTailEvenIdeal.τ).loc Cert.RefTailEvenIdeal.main_arg10))
      (m' ((c.tc : Thread Cert.RefTailEvenIdeal.nD Cert.RefTailEvenIdeal.τ).loc Cert.RefTailEvenIdeal.main_arg11))
      (m' ((c.tc : Thread Cert.RefTailEvenIdeal.nD Cert.RefTailEvenIdeal.τ).loc Cert.RefTailEvenIdeal.main_arg12))
      (m' ((c.tc : Thread Cert.RefTailEvenIdeal.nD Cert.RefTailEvenIdeal.τ).loc Cert.RefTailEvenIdeal.main_arg13)) = _
    rw [h0, h1, h2, h3, h4, h5, h6, h7, h8, h9, h10, h11, h12, h13]
    rfl

end Cert.TailEvenClaim

end
-- ==== Proof.Dense.Product.lean ====
module

public import proofs.«01_k».proof.Proof.Dense.Row
public import Idealize.ShloMosaic.Lib.Pipeline.FrameBody
public import Idealize.ShloMosaic.Lib.KernelVsHost

/-!
Products of matrices over the extended reals, and the padding of a matrix by columns of zeros.
-/

@[expose] public section

noncomputable section

namespace Dense

open Idealize.ShloMosaic

variable {n k m p : Nat}

/-- The product of two matrices. -/
def product (x : (⟨2, ![n, k]⟩ : Shape).Idx → EReal) (w : (⟨2, ![k, m]⟩ : Shape).Idx → EReal) (i : (⟨2, ![n, m]⟩ : Shape).Idx) : EReal :=
  ∑ q : Fin k, x (ix2 (i 0 : Fin n) q) * w (ix2 q (i 1 : Fin m))

/-- A matrix of `m` columns, with zeros for the further columns up to `p`. -/
def padded (w : (⟨2, ![n, m]⟩ : Shape).Idx → EReal) (i : (⟨2, ![n, p]⟩ : Shape).Idx) : EReal :=
  if h : (i 1).val < m then w (ix2 (i 0 : Fin n) (⟨(i 1).val, h⟩ : Fin m)) else 0

/-- Padding the right factor pads the product: whatever is multiplied by zero is zero. -/
theorem product_padded (x : (⟨2, ![n, k]⟩ : Shape).Idx → EReal) (w : (⟨2, ![k, m]⟩ : Shape).Idx → EReal) :
    product x (padded (p := p) w) = padded (product x w) := by
  refine ext2 fun r j => ?_
  show ∑ q : Fin k, x (ix2 r q) * padded (p := p) w (ix2 q j) = _
  unfold padded
  by_cases h : j.val < m
  · rw [dif_pos (show (ix2 r j (1 : Fin 2)).val < m from h)]
    refine Finset.sum_congr rfl fun q _ => ?_
    rw [dif_pos (show (ix2 q j (1 : Fin 2)).val < m from h)]
    rfl
  · rw [dif_neg (show ¬(ix2 r j (1 : Fin 2)).val < m from h)]
    refine Finset.sum_eq_zero fun q _ => ?_
    rw [dif_neg (show ¬(ix2 q j (1 : Fin 2)).val < m from h), mul_zero]

/-- The integer zero, converted. -/
theorem sitofp_zero : FloatOps.sitofp (F := Ideal) .f32 (0#32) = (0 : EReal) := by
  show ((((0#32 : BitVec 32).toInt : ℤ) : ℝ) : EReal) = 0
  simp

/-- The host's padding of a matrix on the right by zeros. -/
theorem pad_eq_padded {d : Nat} (w : (⟨2, ![n, m]⟩ : Shape).Idx → EReal) {u : Shape} (v : u.Idx → EReal) (hv : ∀ i, v i = 0)
    (h : (⟨2, ![n, m]⟩ : Shape).Pads ![0, 0] ![0, d] ![0, 0] (⟨2, ![n, p]⟩ : Shape)) (hu : 0 < u.numel) :
    pad (⟨2, ![n, p]⟩ : Shape) ![0, 0] ![0, d] ![0, 0] w v h hu = padded w := by
  refine ext2 fun r j => ?_
  unfold padded
  by_cases hj : j.val < m
  · rw [dif_pos (show (ix2 r j (1 : Fin 2)).val < m from hj)]
    refine pad_apply_of_inside _ _ _ _ _ h hu (ix2 r j) (ix2 r (⟨j.val, hj⟩ : Fin m)) fun a => ?_
    match a with
    | ⟨0, _⟩ => show r.val = 0 + r.val * (0 + 1); omega
    | ⟨1, _⟩ => show j.val = 0 + j.val * (0 + 1); omega
  · rw [dif_neg (show ¬(ix2 r j (1 : Fin 2)).val < m from hj)]
    refine (pad_apply_of_not_inside _ _ _ _ _ h hu (ix2 r j) 1 fun hin => hj ?_).trans (hv _)
    have := hin.2.2
    have e : (j.val - 0) / (0 + 1) < m := this
    simpa using e

/-- The columns of a matrix from column `o` on. -/
def columns {α : Type} (o : Nat) (h : o + p ≤ m) (y : (⟨2, ![n, m]⟩ : Shape).Idx → α) (i : (⟨2, ![n, p]⟩ : Shape).Idx) : α :=
  y (ix2 (i 0 : Fin n) (⟨o + (i 1).val, by have : (i 1).val < p := (i 1).isLt; omega⟩ : Fin m))

/-- A rectangle that keeps all rows reads columns. -/
theorem columns_emb {α : Type} {o : Nat} (inb) (h : o + p ≤ m) (y : (⟨2, ![n, m]⟩ : Shape).Idx → α) (i : (⟨2, ![n, p]⟩ : Shape).Idx) :
    y ((Rect.unit (s := (⟨2, ![n, m]⟩ : Shape)) ![0, o] (⟨2, ![n, p]⟩ : Shape).size inb).emb i) = columns o h y i := by
  obtain ⟨r, j, rfl⟩ : ∃ (r : Fin n) (j : Fin p), i = ix2 r j := ⟨i 0, i 1, by funext a; fin_cases a <;> rfl⟩
  rw [emb_rect inb (by omega) h]
  refine congrArg y (congrArg₂ ix2 (Fin.ext ?_) rfl)
  show 0 + r.val = r.val; omega

/-- Columns of columns are columns. -/
theorem columns_columns {α : Type} {o o' l : Nat} (h : o + p ≤ m) (h' : o' + l ≤ p) (y : (⟨2, ![n, m]⟩ : Shape).Idx → α) :
    columns (p := l) o' h' (columns (p := p) o h y) = columns (o + o') (by omega) y := by
  funext i
  refine congrArg y (congrArg₂ ix2 rfl (Fin.ext ?_))
  show o + (o' + (i 1).val) = o + o' + (i 1).val
  omega

/-- The product with columns of the right factor: columns of the product. -/
theorem product_columns {o : Nat} (h : o + p ≤ m) (x : (⟨2, ![n, k]⟩ : Shape).Idx → EReal) (w : (⟨2, ![k, m]⟩ : Shape).Idx → EReal) :
    product x (columns (p := p) o h w) = columns o h (product x w) := rfl

/-- The product of a loaded matrix with loaded columns: columns of the product. -/
theorem product_cols {o : Nat} (x : (⟨2, ![n, k]⟩ : Shape).Idx → EReal) (w : (⟨2, ![k, m]⟩ : Shape).Idx → EReal) (inb inb')
    (h : o + p ≤ m) :
    product (m := p) (View.ld (Val := fun _ => EReal) (e' := .f32) x (Rect.unit (s := (⟨2, ![n, k]⟩ : Shape)) ![0, 0] (⟨2, ![n, k]⟩ : Shape).size inb'))
        (View.ld (Val := fun _ => EReal) (e' := .f32) w (Rect.unit (s := (⟨2, ![k, m]⟩ : Shape)) ![0, o] (⟨2, ![k, p]⟩ : Shape).size inb))
      = columns o h (product x w) := by
  rw [ld_all, ← product_columns h]
  exact congrArg (product x) (funext fun i => columns_emb inb h w i)

end Dense

end
-- ==== Proof.Dense.InProj.lean ====
module

public import proofs.«01_k».proof.Proof.Dense.Product
public import proofs.«01_k».proof.Proof.Gen.InProjIdeal.Value

/-!
The result array of the DeltaNet layer's input projection, as the padded product of its argument arrays.
-/

@[expose] public section

noncomputable section

namespace Cert.InProjIdeal.Final

open Cert.InProjIdeal Cert.InProjIdeal.Gen Idealize.ShloMosaic Idealize.ShloMosaic.TcCoe Idealize.SL.Sem

variable (m : (ℓ : Loc nD τ sig) → Buf (Elt Ideal) ℓ) (ρ : Dev nD → PrngReg) (c : Dev nD)

/-! ## The body: five stores, each a tile of columns of the block's product -/

theorem pay2_eq (x w : Vec Ideal S1024x1024 _) : k0_pay2 (F := Ideal) x w = Dense.product x w := by
  refine Dense.ext2 (n := 1024) (m := 1024) fun r j => ?_
  unfold k0_pay2 k0_pay1 Dense.product
  pointwise [dot_S1024x1024_S1024x1024_S1024x1024_1_0_0_1_n_n]

theorem pay3_eq (x w : Vec Ideal S1024x1024 _) : k0_pay3 (F := Ideal) x w = Dense.product x w := pay2_eq x w
theorem pay4_eq (x w : Vec Ideal S1024x1024 _) : k0_pay4 (F := Ideal) x w = Dense.product x w := pay2_eq x w
theorem pay5_eq (x w : Vec Ideal S1024x1024 _) : k0_pay5 (F := Ideal) x w = Dense.product x w := pay2_eq x w

theorem pay6_eq (x : Vec Ideal S1024x1024 .f32) (w : Vec Ideal S1024x128 .bf16) : k0_pay6 (F := Ideal) x w = Dense.product x w := by
  refine Dense.ext2 (n := 1024) (m := 128) fun r j => ?_
  unfold k0_pay6 k0_pay1 Dense.product
  pointwise [dot_S1024x1024_S1024x128_S1024x128_1_0_0_1_n_n]

/-- A load of a whole memref that holds `X` is a load of `X`. -/
theorem load {S : Shape} {e : EltTy} {a : Memref sig .tc .vmem S e} (h : a.IsWhole) (X : Vec Ideal S e) (R : Rect S) :
    View.readAt (Elt Ideal) a.view R.toLoadRect (h.unread X) = View.ld X R :=
  congrArg (fun Y => View.ld Y R) (h.read_unread X)

/-- What the body leaves of its two blocks is their product. -/
theorem out_eq (i : grid0.Coords) (a1 : Memref sig .tc .vmem S1024x1024 .f32) (h1 : a1.IsWhole) (a2 : Memref sig .tc .vmem S1024x4224 .bf16)
    (h2 : a2.IsWhole) (a3 : Memref sig .tc .vmem S1024x4224 .f32) (h3 : a3.IsWhole) (x : Vec Ideal S1024x1024 .f32) (w : Vec Ideal S1024x4224 .bf16) :
    out0_A_2 (F := Ideal) c i a1 h1 a2 h2 a3 h3 x w = Dense.product (n := 1024) (k := 1024) (m := 4224) x w := by
  funext y
  unfold out0_A_2
  rw [View.read_writes_junk_apply_eq_canon]
  refine View.canon_apply_of_pieces (Dense.product (n := 1024) (k := 1024) (m := 4224) x w) _ ?_ y (cover0_A_2 c i a1 h1 a2 h2 a3 h3 x w y)
  intro p hp z
  unfold kernelRun0_A at hp
  simp only [List.mem_cons, List.not_mem_nil, or_false] at hp
  rcases hp with rfl | rfl | rfl | rfl | rfl
  · exact (congrFun (((congrArg₂ k0_pay6 (load h1 x _) (load h2 w _)).trans (pay6_eq _ _)).trans (Dense.product_cols x w _ _ (by omega))) z).trans
      (Dense.columns_emb inb_S1024x4224_S1024x128_0_4096 (by omega) _ z).symm
  · exact (congrFun (((congrArg₂ k0_pay5 (load h1 x _) (load h2 w _)).trans (pay5_eq _ _)).trans (Dense.product_cols x w _ _ (by omega))) z).trans
      (Dense.columns_emb inb_S1024x4224_S1024x1024_0_3072 (by omega) _ z).symm
  · exact (congrFun (((congrArg₂ k0_pay4 (load h1 x _) (load h2 w _)).trans (pay4_eq _ _)).trans (Dense.product_cols x w _ _ (by omega))) z).trans
      (Dense.columns_emb inb_S1024x4224_S1024x1024_0_2048 (by omega) _ z).symm
  · exact (congrFun (((congrArg₂ k0_pay3 (load h1 x _) (load h2 w _)).trans (pay3_eq _ _)).trans (Dense.product_cols x w _ _ (by omega))) z).trans
      (Dense.columns_emb inb_S1024x4224_S1024x1024_0_1024 (by omega) _ z).symm
  · exact (congrFun (((congrArg₂ k0_pay2 (load h1 x _) (load h2 w _)).trans (pay2_eq _ _)).trans (Dense.product_cols x w _ _ (by omega))) z).trans
      (Dense.columns_emb inb_S1024x4224_S1024x1024_0_0 (by omega) _ z).symm

/-! ## The arrays the host prepares, and the blocks the body reads: 1024 rows of the left factor, the whole right factor -/

theorem V_v1 : V m c main_v1 = Dense.padded (m := 4112) (p := 4224) (m ((c : Thread nD τ).loc main_arg1)) := by
  unfold V
  simp only [List.flatten_cons, List.flatten_nil, List.append_nil, List.cons_append, List.nil_append]
  after_results_simp
  exact Dense.pad_eq_padded _ _ (fun _ => Dense.sitofp_zero) pads_S1024x4112_S1024x4224_000_01120 h_S_

theorem idx_facts : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- Row `r` of block `t`, in the array. -/
def at_ (t : Fin cfg0.N) (r : Fin 1024) : Fin 16384 :=
  ⟨1024 * t.val + r.val, by have : t.val < 16 := t.isLt; omega⟩

theorem iblk0 (t : Fin cfg0.N) (r : Fin 1024) (j : Fin 1024) :
    (iblk m c 0 t : Vec Ideal S1024x1024 .f32) (ix2 r j) = m ((c : Thread nD τ).loc main_arg0) (ix2 (at_ t r) j) := by
  have hi := (idx_facts t).1
  show V m c main_arg0 (((cfg0.win 0).blk t).view.emb (ix2 r j)) = _
  rw [V_main_arg0]
  congr 1
  funext a
  apply Fin.ext
  match a with
  | ⟨0, _⟩ => show win0_0.index t 0 * 1024 + 1 * r.val = 1024 * t.val + r.val; omega
  | ⟨1, _⟩ => show win0_0.index t 1 * 1024 + 1 * j.val = j.val; omega

theorem iblk1 (t : Fin cfg0.N) : (iblk m c 1 t : Vec Ideal S1024x4224 .bf16) = V m c main_v1 := by
  have hi := (idx_facts t).2.1
  funext i
  show V m c main_v1 (((cfg0.win 1).blk t).view.emb i) = _
  congr 1
  funext a
  apply Fin.ext
  match a with
  | ⟨0, _⟩ => show win0_1.index t 0 * 1024 + 1 * (i 0).val = (i 0).val; omega
  | ⟨1, _⟩ => show win0_1.index t 1 * 4224 + 1 * (i 1).val = (i 1).val; omega

/-! ## The result -/

/-- The result array: the product, padded. -/
def result : Buf (Elt Ideal) ((c : Thread nD τ).loc main_v2) :=
  Dense.padded (n := 16384) (m := 4112) (p := 4224)
    (Dense.product (n := 16384) (k := 1024) (m := 4112) (m ((c : Thread nD τ).loc main_arg0)) (m ((c : Thread nD τ).loc main_arg1)))

theorem emb_out (t : Fin cfg0.N) (r : Fin 1024) (j : Fin 4224) :
    ((cfg0.win 2).blk t).view.emb (ix2 r j) = (ix2 (at_ t r) j : S16384x4224.Idx) := by
  have hi := (idx_facts t).2.2
  funext a
  apply Fin.ext
  match a with
  | ⟨0, _⟩ => show win0_2.index t 0 * 1024 + 1 * r.val = 1024 * t.val + r.val; omega
  | ⟨1, _⟩ => show win0_2.index t 1 * 4224 + 1 * j.val = j.val; omega

/-- What a point writes back is its block of the result. -/
theorem flushed_eq (t : Fin cfg0.N) :
    (dats m 0 c).flushed 2 t = ((cfg0.win 2).blk t).view.read (Elt Ideal) (result m c) := by
  rw [Value.flushed2_A, out_eq]
  refine Dense.ext2 (n := 1024) (m := 4224) fun r j => ?_
  show Dense.product (n := 1024) (k := 1024) (m := 4224) (iblk m c 0 t) (iblk m c 1 t) (ix2 r j) = result m c (((cfg0.win 2).blk t).view.emb (ix2 r j))
  rw [emb_out, iblk1, V_v1]
  unfold result
  rw [← Dense.product_padded]
  exact Finset.sum_congr rfl fun q _ => congrArg (· * _) (iblk0 m c t r q)

/-- The blocks cover the array. -/
theorem cover (i : S16384x4224.Idx) :
    ∃ t : Fin cfg0.N, (cfg0.win 2).flush t = true ∧ i ∈ ((cfg0.win 2).blk t).view.set := by
  have h0 : (i 0).val < 16384 := (i 0).isLt
  have h1 : (i 1).val < 4224 := (i 1).isLt
  let t : Fin cfg0.N := ⟨(i 0).val / 1024, by show _ < 16; omega⟩
  refine ⟨t, flush0_2 t, ?_⟩
  have e := emb_out t ⟨(i 0).val % 1024, by omega⟩ ⟨(i 1).val, h1⟩
  have : i = ((cfg0.win 2).blk t).view.emb (ix2 (⟨(i 0).val % 1024, by omega⟩ : Fin 1024) (⟨(i 1).val, h1⟩ : Fin 4224)) := by
    rw [e]
    funext a
    apply Fin.ext
    match a with
    | ⟨0, _⟩ => show (i 0).val = 1024 * ((i 0).val / 1024) + (i 0).val % 1024; omega
    | ⟨1, _⟩ => rfl
  rw [this]
  exact View.emb_mem_set _ _

theorem array_eq : (dats m 0 c).arrAt 2 cfg0.N = result m c :=
  (dats m 0 c).arrAt_eq_of_cover 2 (result m c) (fun t _ => flushed_eq m c t) cover

end Cert.InProjIdeal.Final

end
-- ==== Proof.Dense.RefInProj.lean ====
module

public import proofs.«01_k».proof.Proof.Gen.RefInProjIdeal.Read
public import proofs.«01_k».proof.Proof.Dense.Product

/-!
The reference of the DeltaNet layer's input projection, read as the padded product of its argument arrays.
-/

@[expose] public section

noncomputable section

namespace Cert.RefInProjIdeal.Final

open Cert.RefInProjIdeal Cert.RefInProjIdeal.Gen Cert.RefInProjIdeal.Read Idealize.ShloMosaic Idealize.ShloMosaic.StableHlo

variable (x : Vec Ideal S16384x1024 .f32) (w : Vec Ideal S1024x4112 .f32)

theorem product_eq : val_main_v0 (F := Ideal) x w = Dense.product (n := 16384) (k := 1024) (m := 4112) x w := by
  refine Dense.ext2 (n := 16384) (m := 4112) fun r j => ?_
  unfold val_main_v0 Dense.product
  pointwise [dot_S16384x1024_S1024x4112_S16384x4112_1_0_0_1_n_n]

theorem result_eq : val_main_v1 (F := Ideal) x w
    = Dense.padded (n := 16384) (m := 4112) (p := 4224) (Dense.product (n := 16384) (k := 1024) (m := 4112) x w) := by
  unfold val_main_v1
  rw [product_eq]
  exact Dense.pad_eq_padded _ _ (fun _ => Dense.sitofp_zero) pads_S16384x4112_S16384x4224_000_01120 h_S_

end Cert.RefInProjIdeal.Final

end
-- ==== Proof.Dense.InProjClaim.lean ====
module

public import proofs.«01_k».proof.Defs
public import proofs.«01_k».proof.Proof.Dense.InProj
public import proofs.«01_k».proof.Proof.Dense.RefInProj
public import proofs.«01_k».proof.Proof.Gen.InProj.Frame

/-!
The claims about the DeltaNet layer's input projection.
-/

@[expose] public section

noncomputable section

namespace Cert.InProjClaim

open Idealize.ShloMosaic Idealize.ShloMosaic.TcCoe Idealize.SL.Sem

/-- The reference runs, and declares no semaphore. -/
theorem frame_ref [Cert.RefInProjIdeal.Facts] : Cert.quiescent_RefInProjIdeal := fun m ρ _ =>
  (θ_run Cert.RefInProjIdeal.defs _ _).mono (fun r h => ⟨fun c => (h c).2, sem_eq_zero_of_no_sems (by decide) r.2⟩)
    (Cert.RefInProjIdeal.Value.run (F := Ideal) m ρ)

/-- Kernel and reference leave the same array. -/
theorem algebraic [Cert.InProjIdeal.Facts] [Cert.RefInProjIdeal.Facts] : Cert.algebraic_InProjIdeal_RefInProjIdeal := by
  intro m ρ m' ρ' _ hag
  refine ⟨fun c => Cert.InProjIdeal.Final.result m c, ?_, ?_⟩
  · exact (θ_run Cert.InProjIdeal.defs _ _).mono (fun r h c => ⟨(h c).1.trans (Cert.InProjIdeal.Final.array_eq m c), (h c).2⟩)
      (Cert.InProjIdeal.Value.run_blocks m ρ)
  · refine (θ_run Cert.RefInProjIdeal.defs _ _).mono (fun r h c => ⟨(h c).1.trans ?_, (h c).2⟩)
      (Cert.RefInProjIdeal.Value.run m' ρ')
    obtain ⟨h0, h1⟩ := hag c
    refine ((Cert.RefInProjIdeal.Read.val_main_v1_eq _ _).trans (Cert.RefInProjIdeal.Final.result_eq _ _)).trans ?_
    show Dense.padded (n := 16384) (m := 4112) (p := 4224) (Dense.product (n := 16384) (k := 1024) (m := 4112)
      (m' ((c.tc : Thread Cert.RefInProjIdeal.nD Cert.RefInProjIdeal.τ).loc Cert.RefInProjIdeal.main_arg0))
      (m' ((c.tc : Thread Cert.RefInProjIdeal.nD Cert.RefInProjIdeal.τ).loc Cert.RefInProjIdeal.main_arg1))) = _
    rw [h0, h1]
    rfl

end Cert.InProjClaim

end
-- ==== Proof.Dense.InProjSplit.lean ====
module

public import proofs.«01_k».proof.Proof.Dense.Product
public import proofs.«01_k».proof.Proof.Gen.InProjSplitIdeal.Value

/-!
The two result arrays of the attention layer's input projection, as columns of the product of its argument arrays.
-/

@[expose] public section

noncomputable section

namespace Cert.InProjSplitIdeal.Final

open Cert.InProjSplitIdeal Cert.InProjSplitIdeal.Gen Idealize.ShloMosaic Idealize.ShloMosaic.TcCoe Idealize.SL.Sem

variable (m : (ℓ : Loc nD τ sig) → Buf (Elt Ideal) ℓ) (ρ : Dev nD → PrngReg) (c : Dev nD)

/-! ## The body: three stores, each a tile of columns of the block's product -/

theorem pay2_eq (x : Vec Ideal S1024x1024 .f32) (w : Vec Ideal S1024x1024 .bf16) : k0_pay2 (F := Ideal) x w = Dense.product x w := by
  refine Dense.ext2 (n := 1024) (m := 1024) fun r j => ?_
  unfold k0_pay2 k0_pay1 Dense.product
  pointwise [dot_S1024x1024_S1024x1024_S1024x1024_1_0_0_1_n_n]

theorem pay4_eq (x : Vec Ideal S1024x1024 .f32) (w : Vec Ideal S1024x512 .bf16) : k0_pay4 (F := Ideal) x w = Dense.product x w := by
  refine Dense.ext2 (n := 1024) (m := 512) fun r j => ?_
  unfold k0_pay4 k0_pay1 Dense.product
  pointwise [dot_S1024x1024_S1024x512_S1024x512_1_0_0_1_n_n]

theorem pay3_eq (x : Vec Ideal S1024x1024 .f32) (w : Vec Ideal S1024x512 .bf16) : k0_pay3 (F := Ideal) x w = Dense.product x w := pay4_eq x w

/-- A load of a whole memref that holds `X` is a load of `X`. -/
theorem load {S : Shape} {e : EltTy} {a : Memref sig .tc .vmem S e} (h : a.IsWhole) (X : Vec Ideal S e) (R : Rect S) :
    View.readAt (Elt Ideal) a.view R.toLoadRect (h.unread X) = View.ld X R :=
  congrArg (fun Y => View.ld Y R) (h.read_unread X)

section Body

variable (i : grid0.Coords) (a1 : Memref sig .tc .vmem S1024x1024 .f32) (h1 : a1.IsWhole) (a2 : Memref sig .tc .vmem S1024x2048 .bf16)
    (h2 : a2.IsWhole) (a3 : Memref sig .tc .vmem S1024x1536 .bf16) (h3 : a3.IsWhole) (a4 : Memref sig .tc .vmem S1024x512 .f32)
    (h4 : a4.IsWhole) (x : Vec Ideal S1024x1024 .f32) (w : Vec Ideal S1024x2048 .bf16)

/-- What the body leaves in its first output: the first 1536 columns of the blocks' product. -/
theorem out2_eq : out0_A_2 (F := Ideal) c i a1 h1 a2 h2 a3 h3 a4 h4 x w
    = Dense.columns (p := 1536) 0 (by omega) (Dense.product (n := 1024) (k := 1024) (m := 2048) x w) := by
  funext y
  unfold out0_A_2
  rw [View.read_writes_junk_apply_eq_canon]
  refine View.canon_apply_of_pieces (Dense.columns (p := 1536) 0 (by omega) (Dense.product (n := 1024) (k := 1024) (m := 2048) x w)) _ ?_ y
    (cover0_A_2 c i a1 h1 a2 h2 a3 h3 a4 h4 x w y)
  intro p hp z
  unfold kernelRun0_A at hp
  simp only [List.mem_cons, List.not_mem_nil, or_false] at hp
  rcases hp with rfl | rfl
  · exact (congrFun (((congrArg₂ k0_pay3 (load h1 x _) (load h2 w _)).trans (pay3_eq _ _)).trans (Dense.product_cols x w _ _ (by omega))) z).trans
      ((Dense.columns_emb inb_S1024x1536_S1024x512_0_1024 (by omega) _ z).trans (congrFun (Dense.columns_columns (by omega) (by omega) _) z)).symm
  · exact (congrFun (((congrArg₂ k0_pay2 (load h1 x _) (load h2 w _)).trans (pay2_eq _ _)).trans (Dense.product_cols x w _ _ (by omega))) z).trans
      ((Dense.columns_emb inb_S1024x1536_S1024x1024_0_0 (by omega) _ z).trans (congrFun (Dense.columns_columns (by omega) (by omega) _) z)).symm

/-- What the body leaves in its second output: the other 512 columns. -/
theorem out3_eq : out0_A_3 (F := Ideal) c i a1 h1 a2 h2 a3 h3 a4 h4 x w
    = Dense.columns (p := 512) 1536 (by omega) (Dense.product (n := 1024) (k := 1024) (m := 2048) x w) := by
  funext y
  unfold out0_A_3
  rw [View.read_writes_junk_apply_eq_canon]
  refine View.canon_apply_of_pieces (Dense.columns (p := 512) 1536 (by omega) (Dense.product (n := 1024) (k := 1024) (m := 2048) x w)) _ ?_ y
    (cover0_A_3 c i a1 h1 a2 h2 a3 h3 a4 h4 x w y)
  intro p hp z
  unfold kernelRun0_A at hp
  simp only [List.mem_cons, List.not_mem_nil, or_false] at hp
  rcases hp with rfl
  exact (congrFun (((congrArg₂ k0_pay4 (load h1 x _) (load h2 w _)).trans (pay4_eq _ _)).trans (Dense.product_cols x w _ _ (by omega))) z).trans
    ((Dense.columns_emb inb_S1024x512_S1024x512_0_0 (by omega) _ z).trans (congrFun (Dense.columns_columns (by omega) (by omega) _) z)).symm

end Body

/-! ## The array the host prepares, and the blocks the body reads: 1024 rows of the left factor, the whole right factor -/

theorem V_v0 : V m c main_v0 = m ((c : Thread nD τ).loc main_arg1) := by
  unfold V
  after_results_simp
  rfl

theorem idx_facts : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0) :=
  (by decide +kernel : ∀ t : Fin grid0.N, _)

/-- Row `r` of block `t`, in the array. -/
def at_ (t : Fin cfg0.N) (r : Fin 1024) : Fin 16384 :=
  ⟨1024 * t.val + r.val, by have : t.val < 16 := t.isLt; omega⟩

theorem iblk0 (t : Fin cfg0.N) (r : Fin 1024) (j : Fin 1024) :
    (iblk m c 0 t : Vec Ideal S1024x1024 .f32) (ix2 r j) = m ((c : Thread nD τ).loc main_arg0) (ix2 (at_ t r) j) := by
  have hi := (idx_facts t).1
  show V m c main_arg0 (((cfg0.win 0).blk t).view.emb (ix2 r j)) = _
  rw [V_main_arg0]
  congr 1
  funext a
  apply Fin.ext
  match a with
  | ⟨0, _⟩ => show win0_0.index t 0 * 1024 + 1 * r.val = 1024 * t.val + r.val; omega
  | ⟨1, _⟩ => show win0_0.index t 1 * 1024 + 1 * j.val = j.val; omega

theorem iblk1 (t : Fin cfg0.N) : (iblk m c 1 t : Vec Ideal S1024x2048 .bf16) = V m c main_v0 := by
  have hi := (idx_facts t).2.1
  funext i
  show V m c main_v0 (((cfg0.win 1).blk t).view.emb i) = _
  congr 1
  funext a
  apply Fin.ext
  match a with
  | ⟨0, _⟩ => show win0_1.index t 0 * 1024 + 1 * (i 0).val = (i 0).val; omega
  | ⟨1, _⟩ => show win0_1.index t 1 * 2048 + 1 * (i 1).val = (i 1).val; omega

/-! ## The results -/

/-- The product of the argument arrays. -/
abbrev prod : (⟨2, ![16384, 2048]⟩ : Shape).Idx → EReal :=
  Dense.product (n := 16384) (k := 1024) (m := 2048) (m ((c : Thread nD τ).loc main_arg0)) (m ((c : Thread nD τ).loc main_arg1))

/-- The product of the blocks is the block of the product. -/
theorem prod_block (t : Fin cfg0.N) (r : Fin 1024) (j : Fin 2048) :
    Dense.product (n := 1024) (k := 1024) (m := 2048) (iblk m c 0 t) (iblk m c 1 t) (ix2 r j) = prod m c (ix2 (at_ t r) j) := by
  rw [iblk1, V_v0]
  exact Finset.sum_congr rfl fun q _ => congrArg (· * _) (iblk0 m c t r q)

/-- The first result array. -/
def result2 : Buf (Elt Ideal) ((c : Thread nD τ).loc main_v1_0) :=
  Dense.columns (p := 1536) 0 (by omega) (prod m c)

theorem emb_out2 (t : Fin cfg0.N) (r : Fin 1024) (j : Fin 1536) :
    ((cfg0.win 2).blk t).view.emb (ix2 r j) = (ix2 (at_ t r) j : S16384x1536.Idx) := by
  have hi := (idx_facts t).2.2.1
  funext a
  apply Fin.ext
  match a with
  | ⟨0, _⟩ => show win0_2.index t 0 * 1024 + 1 * r.val = 1024 * t.val + r.val; omega
  | ⟨1, _⟩ => show win0_2.index t 1 * 1536 + 1 * j.val = j.val; omega

/-- What a point writes back is its block of the result. -/
theorem flushed2_eq (t : Fin cfg0.N) :
    (dats m 0 c).flushed 2 t = ((cfg0.win 2).blk t).view.read (Elt Ideal) (result2 m c) := by
  rw [Value.flushed2_A, out2_eq]
  refine Dense.ext2 (n := 1024) (m := 1536) fun r j => ?_
  show Dense.product (n := 1024) (k := 1024) (m := 2048) (iblk m c 0 t) (iblk m c 1 t) (ix2 r (⟨0 + j.val, by omega⟩ : Fin 2048))
    = result2 m c (((cfg0.win 2).blk t).view.emb (ix2 r j))
  rw [emb_out2, prod_block]
  rfl

/-- The blocks cover the array. -/
theorem cover2 (i : S16384x1536.Idx) :
    ∃ t : Fin cfg0.N, (cfg0.win 2).flush t = true ∧ i ∈ ((cfg0.win 2).blk t).view.set := by
  have h0 : (i 0).val < 16384 := (i 0).isLt
  have h1 : (i 1).val < 1536 := (i 1).isLt
  let t : Fin cfg0.N := ⟨(i 0).val / 1024, by show _ < 16; omega⟩
  refine ⟨t, flush0_2 t, ?_⟩
  have e := emb_out2 t ⟨(i 0).val % 1024, by omega⟩ ⟨(i 1).val, h1⟩
  have : i = ((cfg0.win 2).blk t).view.emb (ix2 (⟨(i 0).val % 1024, by omega⟩ : Fin 1024) (⟨(i 1).val, h1⟩ : Fin 1536)) := by
    rw [e]
    funext a
    apply Fin.ext
    match a with
    | ⟨0, _⟩ => show (i 0).val = 1024 * ((i 0).val / 1024) + (i 0).val % 1024; omega
    | ⟨1, _⟩ => rfl
  rw [this]
  exact View.emb_mem_set _ _

theorem array2_eq : (dats m 0 c).arrAt 2 cfg0.N = result2 m c :=
  (dats m 0 c).arrAt_eq_of_cover 2 (result2 m c) (fun t _ => flushed2_eq m c t) cover2

/-- The second result array. -/
def result3 : Buf (Elt Ideal) ((c : Thread nD τ).loc main_v1_1) :=
  Dense.columns (p := 512) 1536 (by omega) (prod m c)

theorem emb_out3 (t : Fin cfg0.N) (r : Fin 1024) (j : Fin 512) :
    ((cfg0.win 3).blk t).view.emb (ix2 r j) = (ix2 (at_ t r) j : S16384x512.Idx) := by
  have hi := (idx_facts t).2.2.2
  funext a
  apply Fin.ext
  match a with
  | ⟨0, _⟩ => show win0_3.index t 0 * 1024 + 1 * r.val = 1024 * t.val + r.val; omega
  | ⟨1, _⟩ => show win0_3.index t 1 * 512 + 1 * j.val = j.val; omega

/-- What a point writes back is its block of the result. -/
theorem flushed3_eq (t : Fin cfg0.N) :
    (dats m 0 c).flushed 3 t = ((cfg0.win 3).blk t).view.read (Elt Ideal) (result3 m c) := by
  rw [Value.flushed3_A, out3_eq]
  refine Dense.ext2 (n := 1024) (m := 512) fun r j => ?_
  show Dense.product (n := 1024) (k := 1024) (m := 2048) (iblk m c 0 t) (iblk m c 1 t) (ix2 r (⟨1536 + j.val, by omega⟩ : Fin 2048))
    = result3 m c (((cfg0.win 3).blk t).view.emb (ix2 r j))
  rw [emb_out3, prod_block]
  rfl

/-- The blocks cover the array. -/
theorem cover3 (i : S16384x512.Idx) :
    ∃ t : Fin cfg0.N, (cfg0.win 3).flush t = true ∧ i ∈ ((cfg0.win 3).blk t).view.set := by
  have h0 : (i 0).val < 16384 := (i 0).isLt
  have h1 : (i 1).val < 512 := (i 1).isLt
  let t : Fin cfg0.N := ⟨(i 0).val / 1024, by show _ < 16; omega⟩
  refine ⟨t, flush0_3 t, ?_⟩
  have e := emb_out3 t ⟨(i 0).val % 1024, by omega⟩ ⟨(i 1).val, h1⟩
  have : i = ((cfg0.win 3).blk t).view.emb (ix2 (⟨(i 0).val % 1024, by omega⟩ : Fin 1024) (⟨(i 1).val, h1⟩ : Fin 512)) := by
    rw [e]
    funext a
    apply Fin.ext
    match a with
    | ⟨0, _⟩ => show (i 0).val = 1024 * ((i 0).val / 1024) + (i 0).val % 1024; omega
    | ⟨1, _⟩ => rfl
  rw [this]
  exact View.emb_mem_set _ _

theorem array3_eq : (dats m 0 c).arrAt 3 cfg0.N = result3 m c :=
  (dats m 0 c).arrAt_eq_of_cover 3 (result3 m c) (fun t _ => flushed3_eq m c t) cover3

end Cert.InProjSplitIdeal.Final

end
-- ==== Proof.Dense.RefInProjSplit.lean ====
module

public import proofs.«01_k».proof.Proof.Gen.RefInProjSplitIdeal.Read
public import proofs.«01_k».proof.Proof.Dense.Product

/-!
The reference of the attention layer's input projection, read as columns of the product of its argument arrays.
-/

@[expose] public section

noncomputable section

namespace Cert.RefInProjSplitIdeal.Final

open Cert.RefInProjSplitIdeal Cert.RefInProjSplitIdeal.Gen Cert.RefInProjSplitIdeal.Read Idealize.ShloMosaic Idealize.ShloMosaic.StableHlo

variable (x : Vec Ideal S16384x1024 .f32) (w : Vec Ideal S1024x2048 .f32)

theorem product_eq : val_main_v0 (F := Ideal) x w = Dense.product (n := 16384) (k := 1024) (m := 2048) x w := by
  refine Dense.ext2 (n := 16384) (m := 2048) fun r j => ?_
  unfold val_main_v0 Dense.product
  pointwise [dot_S16384x1024_S1024x2048_S16384x2048_1_0_0_1_n_n]

theorem result2_eq : val_main_v2 (F := Ideal) x w
    = Dense.columns (p := 1536) 0 (by omega) (Dense.product (n := 16384) (k := 1024) (m := 2048) x w) := by
  refine Dense.ext2 (n := 16384) (m := 1536) fun r j => ?_
  rw [val_main_v2_apply, val_main_v1_apply, product_eq]
  refine congrArg (Dense.product (n := 16384) (k := 1024) (m := 2048) x w) ?_
  funext a
  apply Fin.ext
  match a with
  | ⟨0, _⟩ => rfl
  | ⟨1, _⟩ => show j.val = 0 + j.val; omega

theorem result3_eq : val_main_v3 (F := Ideal) x w
    = Dense.columns (p := 512) 1536 (by omega) (Dense.product (n := 16384) (k := 1024) (m := 2048) x w) := by
  refine Dense.ext2 (n := 16384) (m := 512) fun r j => ?_
  rw [val_main_v3_apply, product_eq]
  refine congrArg (Dense.product (n := 16384) (k := 1024) (m := 2048) x w) ?_
  funext a
  apply Fin.ext
  match a with
  | ⟨0, _⟩ => rfl
  | ⟨1, _⟩ => rfl

end Cert.RefInProjSplitIdeal.Final

end
-- ==== Proof.Dense.InProjSplitClaim.lean ====
module

public import proofs.«01_k».proof.Defs
public import proofs.«01_k».proof.Proof.Dense.InProjSplit
public import proofs.«01_k».proof.Proof.Dense.RefInProjSplit
public import proofs.«01_k».proof.Proof.Gen.InProjSplit.Frame

/-!
The claims about the attention layer's input projection.
-/

@[expose] public section

noncomputable section

namespace Cert.InProjSplitClaim

open Idealize.ShloMosaic Idealize.ShloMosaic.TcCoe Idealize.SL.Sem

/-- The reference runs, and declares no semaphore. -/
theorem frame_ref [Cert.RefInProjSplitIdeal.Facts] : Cert.quiescent_RefInProjSplitIdeal := fun m ρ _ =>
  (θ_run Cert.RefInProjSplitIdeal.defs _ _).mono (fun r h => ⟨fun c => (h c).2.2, sem_eq_zero_of_no_sems (by decide) r.2⟩)
    (Cert.RefInProjSplitIdeal.Value.run (F := Ideal) m ρ)

/-- Kernel and reference leave the same two arrays. -/
theorem algebraic [Cert.InProjSplitIdeal.Facts] [Cert.RefInProjSplitIdeal.Facts] : Cert.algebraic_InProjSplitIdeal_RefInProjSplitIdeal := by
  intro m ρ m' ρ' _ hag
  refine ⟨fun c => Cert.InProjSplitIdeal.Final.result2 m c, fun c => Cert.InProjSplitIdeal.Final.result3 m c, ?_, ?_⟩
  · exact (θ_run Cert.InProjSplitIdeal.defs _ _).mono
      (fun r h c => ⟨(h c).1.trans (Cert.InProjSplitIdeal.Final.array2_eq m c), (h c).2.1.trans (Cert.InProjSplitIdeal.Final.array3_eq m c), (h c).2.2⟩)
      (Cert.InProjSplitIdeal.Value.run_blocks m ρ)
  · refine (θ_run Cert.RefInProjSplitIdeal.defs _ _).mono (fun r h c => ?_) (Cert.RefInProjSplitIdeal.Value.run m' ρ')
    obtain ⟨h0, h1⟩ := hag c
    refine ⟨(h c).1.trans ?_, (h c).2.1.trans ?_, (h c).2.2⟩
    · refine ((Cert.RefInProjSplitIdeal.Read.val_main_v2_eq _ _).trans (Cert.RefInProjSplitIdeal.Final.result2_eq _ _)).trans ?_
      show Dense.columns (p := 1536) 0 _ (Dense.product (n := 16384) (k := 1024) (m := 2048)
        (m' ((c.tc : Thread Cert.RefInProjSplitIdeal.nD Cert.RefInProjSplitIdeal.τ).loc Cert.RefInProjSplitIdeal.main_arg0))
        (m' ((c.tc : Thread Cert.RefInProjSplitIdeal.nD Cert.RefInProjSplitIdeal.τ).loc Cert.RefInProjSplitIdeal.main_arg1))) = _
      rw [h0, h1]
      rfl
    · refine ((Cert.RefInProjSplitIdeal.Read.val_main_v3_eq _ _).trans (Cert.RefInProjSplitIdeal.Final.result3_eq _ _)).trans ?_
      show Dense.columns (p := 512) 1536 _ (Dense.product (n := 16384) (k := 1024) (m := 2048)
        (m' ((c.tc : Thread Cert.RefInProjSplitIdeal.nD Cert.RefInProjSplitIdeal.τ).loc Cert.RefInProjSplitIdeal.main_arg0))
        (m' ((c.tc : Thread Cert.RefInProjSplitIdeal.nD Cert.RefInProjSplitIdeal.τ).loc Cert.RefInProjSplitIdeal.main_arg1))) = _
      rw [h0, h1]
      rfl

end Cert.InProjSplitClaim

end
-- ==== Proof.lean ====
/-
  The certificate: of the block attention kernel (Proof/Moba), the frames of the kernel, of its idealization and of
  the reference, what the named constants stand for, and that kernel and reference leave the same array; and, of
  the four calls around the mixers (Proof/Dense), the frames and that each leaves what its reference leaves.
-/
module

public import proofs.«01_k».proof.Defs
public import proofs.«01_k».proof.Proof.Moba.KernelFrame
public import proofs.«01_k».proof.Proof.Moba.IdealFrame
public import proofs.«01_k».proof.Proof.Moba.Claim
public import proofs.«01_k».proof.Proof.Dense.TailOddClaim
public import proofs.«01_k».proof.Proof.Dense.TailEvenClaim
public import proofs.«01_k».proof.Proof.Dense.InProjClaim
public import proofs.«01_k».proof.Proof.Dense.InProjSplitClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.TailOdd.Gen.facts, Cert.TailOddIdeal.Gen.facts, Cert.RefTailOddIdeal.Gen.facts,
  Cert.TailEven.Gen.facts, Cert.TailEvenIdeal.Gen.facts, Cert.RefTailEvenIdeal.Gen.facts,
  Cert.InProj.Gen.facts, Cert.InProjIdeal.Gen.facts, Cert.RefInProjIdeal.Gen.facts,
  Cert.InProjSplit.Gen.facts, Cert.InProjSplitIdeal.Gen.facts, Cert.RefInProjSplitIdeal.Gen.facts, Cert.MobaClaim.pre_facts,
  fun m ρ _ => Cert.Kernel.Run.frame_main (F := Bits) m ρ,
  fun m ρ _ => Cert.KernelIdeal.Run.frame_main (F := Ideal) m ρ,
  @Cert.MobaClaim.frame_pre _ Cert.MobaClaim.pre_facts,
  Cert.MobaClaim.frame_ref, @Cert.MobaClaim.frame_ref_pre _ Cert.MobaClaim.pre_facts,
  fun m ρ _ => Cert.TailOdd.Gen.frame m ρ, fun m ρ _ => Cert.TailOddIdeal.Gen.frame m ρ, Cert.TailOddClaim.frame_ref,
  fun m ρ _ => Cert.TailEven.Gen.frame m ρ, fun m ρ _ => Cert.TailEvenIdeal.Gen.frame m ρ, Cert.TailEvenClaim.frame_ref,
  fun m ρ _ => Cert.InProj.Gen.frame m ρ, fun m ρ _ => Cert.InProjIdeal.Gen.frame m ρ, Cert.InProjClaim.frame_ref,
  fun m ρ _ => Cert.InProjSplit.Gen.frame m ρ, fun m ρ _ => Cert.InProjSplitIdeal.Gen.frame m ρ, Cert.InProjSplitClaim.frame_ref,
  Cert.MobaClaim.preserves, @Cert.MobaClaim.algebraic _ _ Cert.MobaClaim.pre_facts,
  trivial, Cert.TailOddClaim.algebraic,
  trivial, Cert.TailEvenClaim.algebraic,
  trivial, Cert.InProjClaim.algebraic,
  trivial, Cert.InProjSplitClaim.algebraic⟩

end Cert.Proof

end
